-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v32)) (v1 : (c : Dev Cert.KernelIdeal.nD) → Buf (Elt Ideal) ((c.tc : Thread Cert.KernelIdeal.nD Cert.KernelIdeal.τ).loc Cert.KernelIdeal.main_v26_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_v26_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x4096x1024 : Shape := ⟨3, ![4, 4096, 1024]⟩
abbrev S1024x1024 : Shape := ⟨2, ![1024, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg5 : FVec F S1024x1024 .f32) (main_arg6 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg5
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg6
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S4x4096x1024 .f32) (main_arg1 : FVec F S4x4096x1024 .f32) (main_arg2 : FVec F S4x4096x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x4096x1024 .f32 := Host.absf main_arg1
  let main_cst_0 : FVec F S_ .f32 := constant S_ .f32 0x7F800000#32
  let main_v5 : FVec F S4x4096x1024 .f32 := broadcastInDim S4x4096x1024 ![] bcast_S_S4x4096x1024 main_cst_0
  let main_v6 : IVec S4x4096x1024 1 := cmpf .olt main_v4 main_v5
  let main_c_1 : IVec S_ 1 := constantI S_ 1 1#1
  let main_v7 : IVec S_ 1 := (fun x v => Host.reduce IntOp.andi x v reducesTo_S4x4096x1024_S_d0_1_2 h_S_) main_v6 main_c_1
  let main_v8 : IVec S_ 1 := andi main_v3 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg5 main_arg6 main_v13 main_v16
-- ==== Kernel.lean ====
abbrev S4x4096x1024 : Shape := ⟨3, ![4, 4096, 1024]⟩
abbrev S1024x1024 : Shape := ⟨2, ![1024, 1024]⟩
abbrev S1024 : Shape := ⟨1, ![1024]⟩
abbrev S_ : Shape := ⟨0, ![]⟩
abbrev S1 : Shape := ⟨1, ![1]⟩
abbrev S2 : Shape := ⟨1, ![2]⟩
abbrev S4096 : Shape := ⟨1, ![4096]⟩
abbrev S2x1 : Shape := ⟨2, ![2, 1]⟩
abbrev S2x2 : Shape := ⟨2, ![2, 2]⟩
abbrev S1x2 : Shape := ⟨2, ![1, 2]⟩
abbrev S45 : Shape := ⟨1, ![45]⟩
abbrev S45x1 : Shape := ⟨2, ![45, 1]⟩
abbrev S4x45x1024 : Shape := ⟨3, ![4, 45, 1024]⟩
abbrev S4x48x1024 : Shape := ⟨3, ![4, 48, 1024]⟩
abbrev S4x96x1024 : Shape := ⟨3, ![4, 96, 1024]⟩
abbrev S1x1024 : Shape := ⟨2, ![1, 1024]⟩
abbrev S1x96x1024 : Shape := ⟨3, ![1, 96, 1024]⟩
abbrev S96x1024 : Shape := ⟨2, ![96, 1024]⟩
abbrev S4x96x16x64 : Shape := ⟨4, ![4, 96, 16, 64]⟩
abbrev S4x16x96x64 : Shape := ⟨4, ![4, 16, 96, 64]⟩
abbrev S4x1024x4096 : Shape := ⟨3, ![4, 1024, 4096]⟩
abbrev S1x1024x1024 : Shape := ⟨3, ![1, 1024, 1024]⟩
abbrev S4x16x45x4096 : Shape := ⟨4, ![4, 16, 45, 4096]⟩
abbrev S4x16x48x64 : Shape := ⟨4, ![4, 16, 48, 64]⟩
abbrev S1x1x96x64 : Shape := ⟨4, ![1, 1, 96, 64]⟩
abbrev S1x64x4096 : Shape := ⟨3, ![1, 64, 4096]⟩
abbrev S1x1x45x4096 : Shape := ⟨4, ![1, 1, 45, 4096]⟩
abbrev S1x1x48x64 : Shape := ⟨4, ![1, 1, 48, 64]⟩
abbrev S96x64 : Shape := ⟨2, ![96, 64]⟩
abbrev S64x4096 : Shape := ⟨2, ![64, 4096]⟩
abbrev S48x64 : Shape := ⟨2, ![48, 64]⟩
abbrev S48x4096 : Shape := ⟨2, ![48, 4096]⟩
abbrev S48 : Shape := ⟨1, ![48]⟩
abbrev S48x1 : Shape := ⟨2, ![48, 1]⟩
abbrev S1x48 : Shape := ⟨2, ![1, 48]⟩
abbrev S48x48 : Shape := ⟨2, ![48, 48]⟩
abbrev S45x4096 : Shape := ⟨2, ![45, 4096]⟩
abbrev S4x48x16x64 : Shape := ⟨4, ![4, 48, 16, 64]⟩
abbrev S1x48x1024 : Shape := ⟨3, ![1, 48, 1024]⟩
abbrev S48x1024 : Shape := ⟨2, ![48, 1024]⟩

abbrev nBuf : Space → Nat
  | .hbm => 1014
  | .vmem => 33
  | .smem => 0
  | _ => 0

abbrev hbmTy0_0 (i : Nat) : BufTy := match i % 128 with
  | 0 => ⟨S4x4096x1024, .f32⟩
  | 1 => ⟨S4x4096x1024, .f32⟩
  | 2 => ⟨S4x4096x1024, .f32⟩
  | 3 => ⟨S1024x1024, .f32⟩
  | 4 => ⟨S1024, .f32⟩
  | 5 => ⟨S1024x1024, .f32⟩
  | 6 => ⟨S1024, .f32⟩
  | 7 => ⟨S1024x1024, .f32⟩
  | 8 => ⟨S1024, .f32⟩
  | 9 => ⟨S1024x1024, .f32⟩
  | 10 => ⟨S1024, .f32⟩
  | 11 => ⟨S_, .i32⟩
  | 12 => ⟨S_, .i32⟩
  | 13 => ⟨S_, .i32⟩
  | 14 => ⟨S_, .i32⟩
  | 15 => ⟨S1, .i32⟩
  | 16 => ⟨S_, .i32⟩
  | 17 => ⟨S_, .i32⟩
  | 18 => ⟨S_, .i32⟩
  | 19 => ⟨S1, .i32⟩
  | 20 => ⟨S2, .i32⟩
  | 21 => ⟨S4096, .i32⟩
  | 22 => ⟨S1, .i32⟩
  | 23 => ⟨S_, .i32⟩
  | 24 => ⟨S1, .i32⟩
  | 25 => ⟨S_, .i32⟩
  | 26 => ⟨S2, .i64⟩
  | 27 => ⟨S_, .i64⟩
  | 28 => ⟨S2, .i64⟩
  | 29 => ⟨S2, .i64⟩
  | 30 => ⟨S_, .i64⟩
  | 31 => ⟨S2, .i64⟩
  | 32 => ⟨S2, .i64⟩
  | 33 => ⟨S2, .i32⟩
  | 34 => ⟨S2, .i32⟩
  | 35 => ⟨S_, .i32⟩
  | 36 => ⟨S_, .i32⟩
  | 37 => ⟨S_, .i32⟩
  | 38 => ⟨S2, .i32⟩
  | 39 => ⟨S2, .i32⟩
  | 40 => ⟨S2, .i32⟩
  | 41 => ⟨S2, .i32⟩
  | 42 => ⟨S2, .i32⟩
  | 43 => ⟨S_, .i32⟩
  | 44 => ⟨S2, .i32⟩
  | 45 => ⟨S2, .i32⟩
  | 46 => ⟨S_, .i32⟩
  | 47 => ⟨S2, .i32⟩
  | 48 => ⟨S2, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S_, .i32⟩
  | 56 => ⟨S2, .i32⟩
  | 57 => ⟨S2, .i32⟩
  | 58 => ⟨S2, .i32⟩
  | 59 => ⟨S2, .i32⟩
  | 60 => ⟨S2, .i32⟩
  | 61 => ⟨S_, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S2, .i32⟩
  | 69 => ⟨S2, .i32⟩
  | 70 => ⟨S_, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S2, .i32⟩
  | 78 => ⟨S2, .i32⟩
  | 79 => ⟨S2, .i32⟩
  | 80 => ⟨S2, .i32⟩
  | 81 => ⟨S2, .i32⟩
  | 82 => ⟨S_, .i32⟩
  | 83 => ⟨S2, .i32⟩
  | 84 => ⟨S2, .i32⟩
  | 85 => ⟨S2, .i32⟩
  | 86 => ⟨S_, .i32⟩
  | 87 => ⟨S2, .i32⟩
  | 88 => ⟨S2, .i32⟩
  | 89 => ⟨S_, .i32⟩
  | 90 => ⟨S2, .i32⟩
  | 91 => ⟨S2, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S_, .i32⟩
  | 99 => ⟨S2, .i32⟩
  | 100 => ⟨S2, .i32⟩
  | 101 => ⟨S2, .i32⟩
  | 102 => ⟨S2, .i32⟩
  | 103 => ⟨S2, .i32⟩
  | 104 => ⟨S_, .i32⟩
  | 105 => ⟨S2, .i32⟩
  | 106 => ⟨S2, .i32⟩
  | 107 => ⟨S_, .i32⟩
  | 108 => ⟨S2, .i32⟩
  | 109 => ⟨S2, .i32⟩
  | 110 => ⟨S2, .i32⟩
  | 111 => ⟨S2, .i32⟩
  | 112 => ⟨S2, .i32⟩
  | 113 => ⟨S_, .i32⟩
  | 114 => ⟨S2, .i32⟩
  | 115 => ⟨S2, .i32⟩
  | 116 => ⟨S_, .i32⟩
  | 117 => ⟨S2, .i32⟩
  | 118 => ⟨S2, .i32⟩
  | 119 => ⟨S2, .i32⟩
  | 120 => ⟨S2, .i32⟩
  | 121 => ⟨S2, .i32⟩
  | 122 => ⟨S2, .i32⟩
  | 123 => ⟨S2, .i32⟩
  | 124 => ⟨S2, .i32⟩
  | 125 => ⟨S_, .i32⟩
  | 126 => ⟨S2, .i32⟩
  | 127 => ⟨S2, .i32⟩
  | _ => ⟨S4x4096x1024, .f32⟩

abbrev hbmTy0_1 (i : Nat) : BufTy := match i % 128 with
  | 0 => ⟨S2, .i32⟩
  | 1 => ⟨S_, .i32⟩
  | 2 => ⟨S2, .i32⟩
  | 3 => ⟨S2, .i32⟩
  | 4 => ⟨S_, .i32⟩
  | 5 => ⟨S2, .i32⟩
  | 6 => ⟨S2, .i32⟩
  | 7 => ⟨S2, .i32⟩
  | 8 => ⟨S2, .i32⟩
  | 9 => ⟨S2, .i32⟩
  | 10 => ⟨S_, .i32⟩
  | 11 => ⟨S2, .i32⟩
  | 12 => ⟨S2, .i32⟩
  | 13 => ⟨S_, .i32⟩
  | 14 => ⟨S2, .i32⟩
  | 15 => ⟨S2, .i32⟩
  | 16 => ⟨S2, .i32⟩
  | 17 => ⟨S2, .i32⟩
  | 18 => ⟨S2, .i32⟩
  | 19 => ⟨S_, .i32⟩
  | 20 => ⟨S2, .i32⟩
  | 21 => ⟨S2, .i32⟩
  | 22 => ⟨S_, .i32⟩
  | 23 => ⟨S2, .i32⟩
  | 24 => ⟨S2, .i32⟩
  | 25 => ⟨S2, .i32⟩
  | 26 => ⟨S2, .i32⟩
  | 27 => ⟨S2, .i32⟩
  | 28 => ⟨S_, .i32⟩
  | 29 => ⟨S2, .i32⟩
  | 30 => ⟨S2, .i32⟩
  | 31 => ⟨S_, .i32⟩
  | 32 => ⟨S2, .i32⟩
  | 33 => ⟨S2, .i32⟩
  | 34 => ⟨S2, .i32⟩
  | 35 => ⟨S2, .i32⟩
  | 36 => ⟨S2, .i32⟩
  | 37 => ⟨S2, .i32⟩
  | 38 => ⟨S2, .i32⟩
  | 39 => ⟨S2, .i32⟩
  | 40 => ⟨S_, .i32⟩
  | 41 => ⟨S2, .i32⟩
  | 42 => ⟨S2, .i32⟩
  | 43 => ⟨S2, .i32⟩
  | 44 => ⟨S_, .i32⟩
  | 45 => ⟨S2, .i32⟩
  | 46 => ⟨S2, .i32⟩
  | 47 => ⟨S_, .i32⟩
  | 48 => ⟨S2, .i32⟩
  | 49 => ⟨S2, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S2, .i32⟩
  | 61 => ⟨S2, .i32⟩
  | 62 => ⟨S_, .i32⟩
  | 63 => ⟨S2, .i32⟩
  | 64 => ⟨S2, .i32⟩
  | 65 => ⟨S_, .i32⟩
  | 66 => ⟨S2, .i32⟩
  | 67 => ⟨S2, .i32⟩
  | 68 => ⟨S2, .i32⟩
  | 69 => ⟨S2, .i32⟩
  | 70 => ⟨S2, .i32⟩
  | 71 => ⟨S_, .i32⟩
  | 72 => ⟨S2, .i32⟩
  | 73 => ⟨S2, .i32⟩
  | 74 => ⟨S_, .i32⟩
  | 75 => ⟨S2, .i32⟩
  | 76 => ⟨S2, .i32⟩
  | 77 => ⟨S2, .i32⟩
  | 78 => ⟨S2, .i32⟩
  | 79 => ⟨S2, .i32⟩
  | 80 => ⟨S2, .i32⟩
  | 81 => ⟨S2, .i32⟩
  | 82 => ⟨S2, .i32⟩
  | 83 => ⟨S_, .i32⟩
  | 84 => ⟨S2, .i32⟩
  | 85 => ⟨S2, .i32⟩
  | 86 => ⟨S2, .i32⟩
  | 87 => ⟨S_, .i32⟩
  | 88 => ⟨S2, .i32⟩
  | 89 => ⟨S2, .i32⟩
  | 90 => ⟨S_, .i32⟩
  | 91 => ⟨S2, .i32⟩
  | 92 => ⟨S2, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S2, .i32⟩
  | 104 => ⟨S2, .i32⟩
  | 105 => ⟨S_, .i32⟩
  | 106 => ⟨S2, .i32⟩
  | 107 => ⟨S2, .i32⟩
  | 108 => ⟨S_, .i32⟩
  | 109 => ⟨S2, .i32⟩
  | 110 => ⟨S2, .i32⟩
  | 111 => ⟨S2, .i32⟩
  | 112 => ⟨S2, .i32⟩
  | 113 => ⟨S2, .i32⟩
  | 114 => ⟨S_, .i32⟩
  | 115 => ⟨S2, .i32⟩
  | 116 => ⟨S2, .i32⟩
  | 117 => ⟨S_, .i32⟩
  | 118 => ⟨S2, .i32⟩
  | 119 => ⟨S2, .i32⟩
  | 120 => ⟨S2, .i32⟩
  | 121 => ⟨S2, .i32⟩
  | 122 => ⟨S2, .i32⟩
  | 123 => ⟨S2, .i32⟩
  | 124 => ⟨S2, .i32⟩
  | 125 => ⟨S2, .i32⟩
  | 126 => ⟨S_, .i32⟩
  | 127 => ⟨S2, .i32⟩
  | _ => ⟨S4x4096x1024, .f32⟩

abbrev hbmTy0_2 (i : Nat) : BufTy := match i % 128 with
  | 0 => ⟨S2, .i32⟩
  | 1 => ⟨S2x1, .i32⟩
  | 2 => ⟨S2x1, .i32⟩
  | 3 => ⟨S2x2, .i32⟩
  | 4 => ⟨S1x2, .i32⟩
  | 5 => ⟨S2, .i32⟩
  | 6 => ⟨S1x2, .i32⟩
  | 7 => ⟨S2, .i32⟩
  | 8 => ⟨S1, .i32⟩
  | 9 => ⟨S_, .i32⟩
  | 10 => ⟨S1, .i32⟩
  | 11 => ⟨S_, .i32⟩
  | 12 => ⟨S4096, .i64⟩
  | 13 => ⟨S_, .i64⟩
  | 14 => ⟨S4096, .i64⟩
  | 15 => ⟨S4096, .i64⟩
  | 16 => ⟨S_, .i64⟩
  | 17 => ⟨S4096, .i64⟩
  | 18 => ⟨S4096, .i64⟩
  | 19 => ⟨S4096, .i32⟩
  | 20 => ⟨S4096, .i32⟩
  | 21 => ⟨S_, .i32⟩
  | 22 => ⟨S_, .i32⟩
  | 23 => ⟨S_, .i32⟩
  | 24 => ⟨S4096, .i32⟩
  | 25 => ⟨S4096, .i32⟩
  | 26 => ⟨S4096, .i32⟩
  | 27 => ⟨S4096, .i32⟩
  | 28 => ⟨S4096, .i32⟩
  | 29 => ⟨S_, .i32⟩
  | 30 => ⟨S4096, .i32⟩
  | 31 => ⟨S4096, .i32⟩
  | 32 => ⟨S_, .i32⟩
  | 33 => ⟨S4096, .i32⟩
  | 34 => ⟨S4096, .i32⟩
  | 35 => ⟨S4096, .i32⟩
  | 36 => ⟨S4096, .i32⟩
  | 37 => ⟨S4096, .i32⟩
  | 38 => ⟨S_, .i32⟩
  | 39 => ⟨S4096, .i32⟩
  | 40 => ⟨S4096, .i32⟩
  | 41 => ⟨S_, .i32⟩
  | 42 => ⟨S4096, .i32⟩
  | 43 => ⟨S4096, .i32⟩
  | 44 => ⟨S4096, .i32⟩
  | 45 => ⟨S4096, .i32⟩
  | 46 => ⟨S4096, .i32⟩
  | 47 => ⟨S_, .i32⟩
  | 48 => ⟨S4096, .i32⟩
  | 49 => ⟨S4096, .i32⟩
  | 50 => ⟨S_, .i32⟩
  | 51 => ⟨S4096, .i32⟩
  | 52 => ⟨S4096, .i32⟩
  | 53 => ⟨S4096, .i32⟩
  | 54 => ⟨S4096, .i32⟩
  | 55 => ⟨S4096, .i32⟩
  | 56 => ⟨S_, .i32⟩
  | 57 => ⟨S4096, .i32⟩
  | 58 => ⟨S4096, .i32⟩
  | 59 => ⟨S_, .i32⟩
  | 60 => ⟨S4096, .i32⟩
  | 61 => ⟨S4096, .i32⟩
  | 62 => ⟨S4096, .i32⟩
  | 63 => ⟨S4096, .i32⟩
  | 64 => ⟨S4096, .i32⟩
  | 65 => ⟨S4096, .i32⟩
  | 66 => ⟨S4096, .i32⟩
  | 67 => ⟨S4096, .i32⟩
  | 68 => ⟨S_, .i32⟩
  | 69 => ⟨S4096, .i32⟩
  | 70 => ⟨S4096, .i32⟩
  | 71 => ⟨S4096, .i32⟩
  | 72 => ⟨S_, .i32⟩
  | 73 => ⟨S4096, .i32⟩
  | 74 => ⟨S4096, .i32⟩
  | 75 => ⟨S_, .i32⟩
  | 76 => ⟨S4096, .i32⟩
  | 77 => ⟨S4096, .i32⟩
  | 78 => ⟨S4096, .i32⟩
  | 79 => ⟨S4096, .i32⟩
  | 80 => ⟨S4096, .i32⟩
  | 81 => ⟨S_, .i32⟩
  | 82 => ⟨S4096, .i32⟩
  | 83 => ⟨S4096, .i32⟩
  | 84 => ⟨S_, .i32⟩
  | 85 => ⟨S4096, .i32⟩
  | 86 => ⟨S4096, .i32⟩
  | 87 => ⟨S4096, .i32⟩
  | 88 => ⟨S4096, .i32⟩
  | 89 => ⟨S4096, .i32⟩
  | 90 => ⟨S_, .i32⟩
  | 91 => ⟨S4096, .i32⟩
  | 92 => ⟨S4096, .i32⟩
  | 93 => ⟨S_, .i32⟩
  | 94 => ⟨S4096, .i32⟩
  | 95 => ⟨S4096, .i32⟩
  | 96 => ⟨S4096, .i32⟩
  | 97 => ⟨S4096, .i32⟩
  | 98 => ⟨S4096, .i32⟩
  | 99 => ⟨S_, .i32⟩
  | 100 => ⟨S4096, .i32⟩
  | 101 => ⟨S4096, .i32⟩
  | 102 => ⟨S_, .i32⟩
  | 103 => ⟨S4096, .i32⟩
  | 104 => ⟨S4096, .i32⟩
  | 105 => ⟨S4096, .i32⟩
  | 106 => ⟨S4096, .i32⟩
  | 107 => ⟨S4096, .i32⟩
  | 108 => ⟨S4096, .i32⟩
  | 109 => ⟨S4096, .i32⟩
  | 110 => ⟨S4096, .i32⟩
  | 111 => ⟨S_, .i32⟩
  | 112 => ⟨S4096, .i32⟩
  | 113 => ⟨S4096, .i32⟩
  | 114 => ⟨S4096, .i32⟩
  | 115 => ⟨S_, .i32⟩
  | 116 => ⟨S4096, .i32⟩
  | 117 => ⟨S4096, .i32⟩
  | 118 => ⟨S_, .i32⟩
  | 119 => ⟨S4096, .i32⟩
  | 120 => ⟨S4096, .i32⟩
  | 121 => ⟨S4096, .i32⟩
  | 122 => ⟨S4096, .i32⟩
  | 123 => ⟨S4096, .i32⟩
  | 124 => ⟨S_, .i32⟩
  | 125 => ⟨S4096, .i32⟩
  | 126 => ⟨S4096, .i32⟩
  | 127 => ⟨S_, .i32⟩
  | _ => ⟨S4x4096x1024, .f32⟩

abbrev hbmTy0_3 (i : Nat) : BufTy := match i % 128 with
  | 0 => ⟨S4096, .i32⟩
  | 1 => ⟨S4096, .i32⟩
  | 2 => ⟨S4096, .i32⟩
  | 3 => ⟨S4096, .i32⟩
  | 4 => ⟨S4096, .i32⟩
  | 5 => ⟨S_, .i32⟩
  | 6 => ⟨S4096, .i32⟩
  | 7 => ⟨S4096, .i32⟩
  | 8 => ⟨S_, .i32⟩
  | 9 => ⟨S4096, .i32⟩
  | 10 => ⟨S4096, .i32⟩
  | 11 => ⟨S4096, .i32⟩
  | 12 => ⟨S4096, .i32⟩
  | 13 => ⟨S4096, .i32⟩
  | 14 => ⟨S_, .i32⟩
  | 15 => ⟨S4096, .i32⟩
  | 16 => ⟨S4096, .i32⟩
  | 17 => ⟨S_, .i32⟩
  | 18 => ⟨S4096, .i32⟩
  | 19 => ⟨S4096, .i32⟩
  | 20 => ⟨S4096, .i32⟩
  | 21 => ⟨S4096, .i32⟩
  | 22 => ⟨S4096, .i32⟩
  | 23 => ⟨S4096, .i32⟩
  | 24 => ⟨S4096, .i32⟩
  | 25 => ⟨S4096, .i32⟩
  | 26 => ⟨S_, .i32⟩
  | 27 => ⟨S4096, .i32⟩
  | 28 => ⟨S4096, .i32⟩
  | 29 => ⟨S4096, .i32⟩
  | 30 => ⟨S_, .i32⟩
  | 31 => ⟨S4096, .i32⟩
  | 32 => ⟨S4096, .i32⟩
  | 33 => ⟨S_, .i32⟩
  | 34 => ⟨S4096, .i32⟩
  | 35 => ⟨S4096, .i32⟩
  | 36 => ⟨S4096, .i32⟩
  | 37 => ⟨S4096, .i32⟩
  | 38 => ⟨S4096, .i32⟩
  | 39 => ⟨S_, .i32⟩
  | 40 => ⟨S4096, .i32⟩
  | 41 => ⟨S4096, .i32⟩
  | 42 => ⟨S_, .i32⟩
  | 43 => ⟨S4096, .i32⟩
  | 44 => ⟨S4096, .i32⟩
  | 45 => ⟨S4096, .i32⟩
  | 46 => ⟨S4096, .i32⟩
  | 47 => ⟨S4096, .i32⟩
  | 48 => ⟨S_, .i32⟩
  | 49 => ⟨S4096, .i32⟩
  | 50 => ⟨S4096, .i32⟩
  | 51 => ⟨S_, .i32⟩
  | 52 => ⟨S4096, .i32⟩
  | 53 => ⟨S4096, .i32⟩
  | 54 => ⟨S4096, .i32⟩
  | 55 => ⟨S4096, .i32⟩
  | 56 => ⟨S4096, .i32⟩
  | 57 => ⟨S_, .i32⟩
  | 58 => ⟨S4096, .i32⟩
  | 59 => ⟨S4096, .i32⟩
  | 60 => ⟨S_, .i32⟩
  | 61 => ⟨S4096, .i32⟩
  | 62 => ⟨S4096, .i32⟩
  | 63 => ⟨S4096, .i32⟩
  | 64 => ⟨S4096, .i32⟩
  | 65 => ⟨S4096, .i32⟩
  | 66 => ⟨S4096, .i32⟩
  | 67 => ⟨S4096, .i32⟩
  | 68 => ⟨S4096, .i32⟩
  | 69 => ⟨S_, .i32⟩
  | 70 => ⟨S4096, .i32⟩
  | 71 => ⟨S4096, .i32⟩
  | 72 => ⟨S4096, .i32⟩
  | 73 => ⟨S_, .i32⟩
  | 74 => ⟨S4096, .i32⟩
  | 75 => ⟨S4096, .i32⟩
  | 76 => ⟨S_, .i32⟩
  | 77 => ⟨S4096, .i32⟩
  | 78 => ⟨S4096, .i32⟩
  | 79 => ⟨S4096, .i32⟩
  | 80 => ⟨S4096, .i32⟩
  | 81 => ⟨S4096, .i32⟩
  | 82 => ⟨S_, .i32⟩
  | 83 => ⟨S4096, .i32⟩
  | 84 => ⟨S4096, .i32⟩
  | 85 => ⟨S_, .i32⟩
  | 86 => ⟨S4096, .i32⟩
  | 87 => ⟨S4096, .i32⟩
  | 88 => ⟨S4096, .i32⟩
  | 89 => ⟨S4096, .i32⟩
  | 90 => ⟨S4096, .i32⟩
  | 91 => ⟨S_, .i32⟩
  | 92 => ⟨S4096, .i32⟩
  | 93 => ⟨S4096, .i32⟩
  | 94 => ⟨S_, .i32⟩
  | 95 => ⟨S4096, .i32⟩
  | 96 => ⟨S4096, .i32⟩
  | 97 => ⟨S4096, .i32⟩
  | 98 => ⟨S4096, .i32⟩
  | 99 => ⟨S4096, .i32⟩
  | 100 => ⟨S_, .i32⟩
  | 101 => ⟨S4096, .i32⟩
  | 102 => ⟨S4096, .i32⟩
  | 103 => ⟨S_, .i32⟩
  | 104 => ⟨S4096, .i32⟩
  | 105 => ⟨S4096, .i32⟩
  | 106 => ⟨S4096, .i32⟩
  | 107 => ⟨S4096, .i32⟩
  | 108 => ⟨S4096, .i32⟩
  | 109 => ⟨S4096, .i32⟩
  | 110 => ⟨S4096, .i32⟩
  | 111 => ⟨S4096, .i32⟩
  | 112 => ⟨S_, .i32⟩
  | 113 => ⟨S4096, .i32⟩
  | 114 => ⟨S4096, .i32⟩
  | 115 => ⟨S4096, .i32⟩
  | 116 => ⟨S4096, .i32⟩
  | 117 => ⟨S4096, .i32⟩
  | 118 => ⟨S1, .i32⟩
  | 119 => ⟨S_, .i32⟩
  | 120 => ⟨S1, .i32⟩
  | 121 => ⟨S_, .i32⟩
  | 122 => ⟨S2, .i64⟩
  | 123 => ⟨S_, .i64⟩
  | 124 => ⟨S2, .i64⟩
  | 125 => ⟨S2, .i64⟩
  | 126 => ⟨S_, .i64⟩
  | 127 => ⟨S2, .i64⟩
  | _ => ⟨S4x4096x1024, .f32⟩

abbrev hbmTy0_4 (i : Nat) : BufTy := match i % 128 with
  | 0 => ⟨S2, .i64⟩
  | 1 => ⟨S2, .i32⟩
  | 2 => ⟨S2, .i32⟩
  | 3 => ⟨S_, .i32⟩
  | 4 => ⟨S_, .i32⟩
  | 5 => ⟨S_, .i32⟩
  | 6 => ⟨S2, .i32⟩
  | 7 => ⟨S2, .i32⟩
  | 8 => ⟨S2, .i32⟩
  | 9 => ⟨S2, .i32⟩
  | 10 => ⟨S2, .i32⟩
  | 11 => ⟨S_, .i32⟩
  | 12 => ⟨S2, .i32⟩
  | 13 => ⟨S2, .i32⟩
  | 14 => ⟨S_, .i32⟩
  | 15 => ⟨S2, .i32⟩
  | 16 => ⟨S2, .i32⟩
  | 17 => ⟨S2, .i32⟩
  | 18 => ⟨S2, .i32⟩
  | 19 => ⟨S2, .i32⟩
  | 20 => ⟨S_, .i32⟩
  | 21 => ⟨S2, .i32⟩
  | 22 => ⟨S2, .i32⟩
  | 23 => ⟨S_, .i32⟩
  | 24 => ⟨S2, .i32⟩
  | 25 => ⟨S2, .i32⟩
  | 26 => ⟨S2, .i32⟩
  | 27 => ⟨S2, .i32⟩
  | 28 => ⟨S2, .i32⟩
  | 29 => ⟨S_, .i32⟩
  | 30 => ⟨S2, .i32⟩
  | 31 => ⟨S2, .i32⟩
  | 32 => ⟨S_, .i32⟩
  | 33 => ⟨S2, .i32⟩
  | 34 => ⟨S2, .i32⟩
  | 35 => ⟨S2, .i32⟩
  | 36 => ⟨S2, .i32⟩
  | 37 => ⟨S2, .i32⟩
  | 38 => ⟨S_, .i32⟩
  | 39 => ⟨S2, .i32⟩
  | 40 => ⟨S2, .i32⟩
  | 41 => ⟨S_, .i32⟩
  | 42 => ⟨S2, .i32⟩
  | 43 => ⟨S2, .i32⟩
  | 44 => ⟨S2, .i32⟩
  | 45 => ⟨S2, .i32⟩
  | 46 => ⟨S2, .i32⟩
  | 47 => ⟨S2, .i32⟩
  | 48 => ⟨S2, .i32⟩
  | 49 => ⟨S2, .i32⟩
  | 50 => ⟨S_, .i32⟩
  | 51 => ⟨S2, .i32⟩
  | 52 => ⟨S2, .i32⟩
  | 53 => ⟨S2, .i32⟩
  | 54 => ⟨S_, .i32⟩
  | 55 => ⟨S2, .i32⟩
  | 56 => ⟨S2, .i32⟩
  | 57 => ⟨S_, .i32⟩
  | 58 => ⟨S2, .i32⟩
  | 59 => ⟨S2, .i32⟩
  | 60 => ⟨S2, .i32⟩
  | 61 => ⟨S2, .i32⟩
  | 62 => ⟨S2, .i32⟩
  | 63 => ⟨S_, .i32⟩
  | 64 => ⟨S2, .i32⟩
  | 65 => ⟨S2, .i32⟩
  | 66 => ⟨S_, .i32⟩
  | 67 => ⟨S2, .i32⟩
  | 68 => ⟨S2, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S_, .i32⟩
  | 76 => ⟨S2, .i32⟩
  | 77 => ⟨S2, .i32⟩
  | 78 => ⟨S2, .i32⟩
  | 79 => ⟨S2, .i32⟩
  | 80 => ⟨S2, .i32⟩
  | 81 => ⟨S_, .i32⟩
  | 82 => ⟨S2, .i32⟩
  | 83 => ⟨S2, .i32⟩
  | 84 => ⟨S_, .i32⟩
  | 85 => ⟨S2, .i32⟩
  | 86 => ⟨S2, .i32⟩
  | 87 => ⟨S2, .i32⟩
  | 88 => ⟨S2, .i32⟩
  | 89 => ⟨S2, .i32⟩
  | 90 => ⟨S2, .i32⟩
  | 91 => ⟨S2, .i32⟩
  | 92 => ⟨S2, .i32⟩
  | 93 => ⟨S_, .i32⟩
  | 94 => ⟨S2, .i32⟩
  | 95 => ⟨S2, .i32⟩
  | 96 => ⟨S2, .i32⟩
  | 97 => ⟨S_, .i32⟩
  | 98 => ⟨S2, .i32⟩
  | 99 => ⟨S2, .i32⟩
  | 100 => ⟨S_, .i32⟩
  | 101 => ⟨S2, .i32⟩
  | 102 => ⟨S2, .i32⟩
  | 103 => ⟨S2, .i32⟩
  | 104 => ⟨S2, .i32⟩
  | 105 => ⟨S2, .i32⟩
  | 106 => ⟨S_, .i32⟩
  | 107 => ⟨S2, .i32⟩
  | 108 => ⟨S2, .i32⟩
  | 109 => ⟨S_, .i32⟩
  | 110 => ⟨S2, .i32⟩
  | 111 => ⟨S2, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S_, .i32⟩
  | 119 => ⟨S2, .i32⟩
  | 120 => ⟨S2, .i32⟩
  | 121 => ⟨S2, .i32⟩
  | 122 => ⟨S2, .i32⟩
  | 123 => ⟨S2, .i32⟩
  | 124 => ⟨S_, .i32⟩
  | 125 => ⟨S2, .i32⟩
  | 126 => ⟨S2, .i32⟩
  | 127 => ⟨S_, .i32⟩
  | _ => ⟨S4x4096x1024, .f32⟩

abbrev hbmTy0_5 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S2, .i32⟩
  | 6 => ⟨S2, .i32⟩
  | 7 => ⟨S2, .i32⟩
  | 8 => ⟨S_, .i32⟩
  | 9 => ⟨S2, .i32⟩
  | 10 => ⟨S2, .i32⟩
  | 11 => ⟨S2, .i32⟩
  | 12 => ⟨S_, .i32⟩
  | 13 => ⟨S2, .i32⟩
  | 14 => ⟨S2, .i32⟩
  | 15 => ⟨S_, .i32⟩
  | 16 => ⟨S2, .i32⟩
  | 17 => ⟨S2, .i32⟩
  | 18 => ⟨S2, .i32⟩
  | 19 => ⟨S2, .i32⟩
  | 20 => ⟨S2, .i32⟩
  | 21 => ⟨S_, .i32⟩
  | 22 => ⟨S2, .i32⟩
  | 23 => ⟨S2, .i32⟩
  | 24 => ⟨S_, .i32⟩
  | 25 => ⟨S2, .i32⟩
  | 26 => ⟨S2, .i32⟩
  | 27 => ⟨S2, .i32⟩
  | 28 => ⟨S2, .i32⟩
  | 29 => ⟨S2, .i32⟩
  | 30 => ⟨S_, .i32⟩
  | 31 => ⟨S2, .i32⟩
  | 32 => ⟨S2, .i32⟩
  | 33 => ⟨S_, .i32⟩
  | 34 => ⟨S2, .i32⟩
  | 35 => ⟨S2, .i32⟩
  | 36 => ⟨S2, .i32⟩
  | 37 => ⟨S2, .i32⟩
  | 38 => ⟨S2, .i32⟩
  | 39 => ⟨S_, .i32⟩
  | 40 => ⟨S2, .i32⟩
  | 41 => ⟨S2, .i32⟩
  | 42 => ⟨S_, .i32⟩
  | 43 => ⟨S2, .i32⟩
  | 44 => ⟨S2, .i32⟩
  | 45 => ⟨S2, .i32⟩
  | 46 => ⟨S2, .i32⟩
  | 47 => ⟨S2, .i32⟩
  | 48 => ⟨S2, .i32⟩
  | 49 => ⟨S2, .i32⟩
  | 50 => ⟨S2, .i32⟩
  | 51 => ⟨S_, .i32⟩
  | 52 => ⟨S2, .i32⟩
  | 53 => ⟨S2, .i32⟩
  | 54 => ⟨S2, .i32⟩
  | 55 => ⟨S_, .i32⟩
  | 56 => ⟨S2, .i32⟩
  | 57 => ⟨S2, .i32⟩
  | 58 => ⟨S_, .i32⟩
  | 59 => ⟨S2, .i32⟩
  | 60 => ⟨S2, .i32⟩
  | 61 => ⟨S2, .i32⟩
  | 62 => ⟨S2, .i32⟩
  | 63 => ⟨S2, .i32⟩
  | 64 => ⟨S_, .i32⟩
  | 65 => ⟨S2, .i32⟩
  | 66 => ⟨S2, .i32⟩
  | 67 => ⟨S_, .i32⟩
  | 68 => ⟨S2, .i32⟩
  | 69 => ⟨S2, .i32⟩
  | 70 => ⟨S2, .i32⟩
  | 71 => ⟨S2, .i32⟩
  | 72 => ⟨S2, .i32⟩
  | 73 => ⟨S_, .i32⟩
  | 74 => ⟨S2, .i32⟩
  | 75 => ⟨S2, .i32⟩
  | 76 => ⟨S_, .i32⟩
  | 77 => ⟨S2, .i32⟩
  | 78 => ⟨S2, .i32⟩
  | 79 => ⟨S2, .i32⟩
  | 80 => ⟨S2, .i32⟩
  | 81 => ⟨S2, .i32⟩
  | 82 => ⟨S_, .i32⟩
  | 83 => ⟨S2, .i32⟩
  | 84 => ⟨S2, .i32⟩
  | 85 => ⟨S_, .i32⟩
  | 86 => ⟨S2, .i32⟩
  | 87 => ⟨S2, .i32⟩
  | 88 => ⟨S2, .i32⟩
  | 89 => ⟨S2, .i32⟩
  | 90 => ⟨S2, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S2x1, .i32⟩
  | 98 => ⟨S2x1, .i32⟩
  | 99 => ⟨S2x2, .i32⟩
  | 100 => ⟨S1x2, .i32⟩
  | 101 => ⟨S2, .i32⟩
  | 102 => ⟨S1x2, .i32⟩
  | 103 => ⟨S2, .i32⟩
  | 104 => ⟨S1, .i32⟩
  | 105 => ⟨S_, .i32⟩
  | 106 => ⟨S1, .i32⟩
  | 107 => ⟨S_, .i32⟩
  | 108 => ⟨S4096, .i64⟩
  | 109 => ⟨S_, .i64⟩
  | 110 => ⟨S4096, .i64⟩
  | 111 => ⟨S4096, .i64⟩
  | 112 => ⟨S_, .i64⟩
  | 113 => ⟨S4096, .i64⟩
  | 114 => ⟨S4096, .i64⟩
  | 115 => ⟨S4096, .i32⟩
  | 116 => ⟨S4096, .i32⟩
  | 117 => ⟨S_, .i32⟩
  | 118 => ⟨S_, .i32⟩
  | 119 => ⟨S_, .i32⟩
  | 120 => ⟨S4096, .i32⟩
  | 121 => ⟨S4096, .i32⟩
  | 122 => ⟨S4096, .i32⟩
  | 123 => ⟨S4096, .i32⟩
  | 124 => ⟨S4096, .i32⟩
  | 125 => ⟨S_, .i32⟩
  | 126 => ⟨S4096, .i32⟩
  | 127 => ⟨S4096, .i32⟩
  | _ => ⟨S4x4096x1024, .f32⟩

abbrev hbmTy0_6 (i : Nat) : BufTy := match i % 128 with
  | 0 => ⟨S_, .i32⟩
  | 1 => ⟨S4096, .i32⟩
  | 2 => ⟨S4096, .i32⟩
  | 3 => ⟨S4096, .i32⟩
  | 4 => ⟨S4096, .i32⟩
  | 5 => ⟨S4096, .i32⟩
  | 6 => ⟨S_, .i32⟩
  | 7 => ⟨S4096, .i32⟩
  | 8 => ⟨S4096, .i32⟩
  | 9 => ⟨S_, .i32⟩
  | 10 => ⟨S4096, .i32⟩
  | 11 => ⟨S4096, .i32⟩
  | 12 => ⟨S4096, .i32⟩
  | 13 => ⟨S4096, .i32⟩
  | 14 => ⟨S4096, .i32⟩
  | 15 => ⟨S_, .i32⟩
  | 16 => ⟨S4096, .i32⟩
  | 17 => ⟨S4096, .i32⟩
  | 18 => ⟨S_, .i32⟩
  | 19 => ⟨S4096, .i32⟩
  | 20 => ⟨S4096, .i32⟩
  | 21 => ⟨S4096, .i32⟩
  | 22 => ⟨S4096, .i32⟩
  | 23 => ⟨S4096, .i32⟩
  | 24 => ⟨S_, .i32⟩
  | 25 => ⟨S4096, .i32⟩
  | 26 => ⟨S4096, .i32⟩
  | 27 => ⟨S_, .i32⟩
  | 28 => ⟨S4096, .i32⟩
  | 29 => ⟨S4096, .i32⟩
  | 30 => ⟨S4096, .i32⟩
  | 31 => ⟨S4096, .i32⟩
  | 32 => ⟨S4096, .i32⟩
  | 33 => ⟨S4096, .i32⟩
  | 34 => ⟨S4096, .i32⟩
  | 35 => ⟨S4096, .i32⟩
  | 36 => ⟨S_, .i32⟩
  | 37 => ⟨S4096, .i32⟩
  | 38 => ⟨S4096, .i32⟩
  | 39 => ⟨S4096, .i32⟩
  | 40 => ⟨S_, .i32⟩
  | 41 => ⟨S4096, .i32⟩
  | 42 => ⟨S4096, .i32⟩
  | 43 => ⟨S_, .i32⟩
  | 44 => ⟨S4096, .i32⟩
  | 45 => ⟨S4096, .i32⟩
  | 46 => ⟨S4096, .i32⟩
  | 47 => ⟨S4096, .i32⟩
  | 48 => ⟨S4096, .i32⟩
  | 49 => ⟨S_, .i32⟩
  | 50 => ⟨S4096, .i32⟩
  | 51 => ⟨S4096, .i32⟩
  | 52 => ⟨S_, .i32⟩
  | 53 => ⟨S4096, .i32⟩
  | 54 => ⟨S4096, .i32⟩
  | 55 => ⟨S4096, .i32⟩
  | 56 => ⟨S4096, .i32⟩
  | 57 => ⟨S4096, .i32⟩
  | 58 => ⟨S_, .i32⟩
  | 59 => ⟨S4096, .i32⟩
  | 60 => ⟨S4096, .i32⟩
  | 61 => ⟨S_, .i32⟩
  | 62 => ⟨S4096, .i32⟩
  | 63 => ⟨S4096, .i32⟩
  | 64 => ⟨S4096, .i32⟩
  | 65 => ⟨S4096, .i32⟩
  | 66 => ⟨S4096, .i32⟩
  | 67 => ⟨S_, .i32⟩
  | 68 => ⟨S4096, .i32⟩
  | 69 => ⟨S4096, .i32⟩
  | 70 => ⟨S_, .i32⟩
  | 71 => ⟨S4096, .i32⟩
  | 72 => ⟨S4096, .i32⟩
  | 73 => ⟨S4096, .i32⟩
  | 74 => ⟨S4096, .i32⟩
  | 75 => ⟨S4096, .i32⟩
  | 76 => ⟨S4096, .i32⟩
  | 77 => ⟨S4096, .i32⟩
  | 78 => ⟨S4096, .i32⟩
  | 79 => ⟨S_, .i32⟩
  | 80 => ⟨S4096, .i32⟩
  | 81 => ⟨S4096, .i32⟩
  | 82 => ⟨S4096, .i32⟩
  | 83 => ⟨S_, .i32⟩
  | 84 => ⟨S4096, .i32⟩
  | 85 => ⟨S4096, .i32⟩
  | 86 => ⟨S_, .i32⟩
  | 87 => ⟨S4096, .i32⟩
  | 88 => ⟨S4096, .i32⟩
  | 89 => ⟨S4096, .i32⟩
  | 90 => ⟨S4096, .i32⟩
  | 91 => ⟨S4096, .i32⟩
  | 92 => ⟨S_, .i32⟩
  | 93 => ⟨S4096, .i32⟩
  | 94 => ⟨S4096, .i32⟩
  | 95 => ⟨S_, .i32⟩
  | 96 => ⟨S4096, .i32⟩
  | 97 => ⟨S4096, .i32⟩
  | 98 => ⟨S4096, .i32⟩
  | 99 => ⟨S4096, .i32⟩
  | 100 => ⟨S4096, .i32⟩
  | 101 => ⟨S_, .i32⟩
  | 102 => ⟨S4096, .i32⟩
  | 103 => ⟨S4096, .i32⟩
  | 104 => ⟨S_, .i32⟩
  | 105 => ⟨S4096, .i32⟩
  | 106 => ⟨S4096, .i32⟩
  | 107 => ⟨S4096, .i32⟩
  | 108 => ⟨S4096, .i32⟩
  | 109 => ⟨S4096, .i32⟩
  | 110 => ⟨S_, .i32⟩
  | 111 => ⟨S4096, .i32⟩
  | 112 => ⟨S4096, .i32⟩
  | 113 => ⟨S_, .i32⟩
  | 114 => ⟨S4096, .i32⟩
  | 115 => ⟨S4096, .i32⟩
  | 116 => ⟨S4096, .i32⟩
  | 117 => ⟨S4096, .i32⟩
  | 118 => ⟨S4096, .i32⟩
  | 119 => ⟨S4096, .i32⟩
  | 120 => ⟨S4096, .i32⟩
  | 121 => ⟨S4096, .i32⟩
  | 122 => ⟨S_, .i32⟩
  | 123 => ⟨S4096, .i32⟩
  | 124 => ⟨S4096, .i32⟩
  | 125 => ⟨S4096, .i32⟩
  | 126 => ⟨S_, .i32⟩
  | 127 => ⟨S4096, .i32⟩
  | _ => ⟨S4x4096x1024, .f32⟩

abbrev hbmTy0_7 (i : Nat) : BufTy := match i % 128 with
  | 0 => ⟨S4096, .i32⟩
  | 1 => ⟨S_, .i32⟩
  | 2 => ⟨S4096, .i32⟩
  | 3 => ⟨S4096, .i32⟩
  | 4 => ⟨S4096, .i32⟩
  | 5 => ⟨S4096, .i32⟩
  | 6 => ⟨S4096, .i32⟩
  | 7 => ⟨S_, .i32⟩
  | 8 => ⟨S4096, .i32⟩
  | 9 => ⟨S4096, .i32⟩
  | 10 => ⟨S_, .i32⟩
  | 11 => ⟨S4096, .i32⟩
  | 12 => ⟨S4096, .i32⟩
  | 13 => ⟨S4096, .i32⟩
  | 14 => ⟨S4096, .i32⟩
  | 15 => ⟨S4096, .i32⟩
  | 16 => ⟨S_, .i32⟩
  | 17 => ⟨S4096, .i32⟩
  | 18 => ⟨S4096, .i32⟩
  | 19 => ⟨S_, .i32⟩
  | 20 => ⟨S4096, .i32⟩
  | 21 => ⟨S4096, .i32⟩
  | 22 => ⟨S4096, .i32⟩
  | 23 => ⟨S4096, .i32⟩
  | 24 => ⟨S4096, .i32⟩
  | 25 => ⟨S_, .i32⟩
  | 26 => ⟨S4096, .i32⟩
  | 27 => ⟨S4096, .i32⟩
  | 28 => ⟨S_, .i32⟩
  | 29 => ⟨S4096, .i32⟩
  | 30 => ⟨S4096, .i32⟩
  | 31 => ⟨S4096, .i32⟩
  | 32 => ⟨S4096, .i32⟩
  | 33 => ⟨S4096, .i32⟩
  | 34 => ⟨S4096, .i32⟩
  | 35 => ⟨S4096, .i32⟩
  | 36 => ⟨S4096, .i32⟩
  | 37 => ⟨S_, .i32⟩
  | 38 => ⟨S4096, .i32⟩
  | 39 => ⟨S4096, .i32⟩
  | 40 => ⟨S4096, .i32⟩
  | 41 => ⟨S_, .i32⟩
  | 42 => ⟨S4096, .i32⟩
  | 43 => ⟨S4096, .i32⟩
  | 44 => ⟨S_, .i32⟩
  | 45 => ⟨S4096, .i32⟩
  | 46 => ⟨S4096, .i32⟩
  | 47 => ⟨S4096, .i32⟩
  | 48 => ⟨S4096, .i32⟩
  | 49 => ⟨S4096, .i32⟩
  | 50 => ⟨S_, .i32⟩
  | 51 => ⟨S4096, .i32⟩
  | 52 => ⟨S4096, .i32⟩
  | 53 => ⟨S_, .i32⟩
  | 54 => ⟨S4096, .i32⟩
  | 55 => ⟨S4096, .i32⟩
  | 56 => ⟨S4096, .i32⟩
  | 57 => ⟨S4096, .i32⟩
  | 58 => ⟨S4096, .i32⟩
  | 59 => ⟨S_, .i32⟩
  | 60 => ⟨S4096, .i32⟩
  | 61 => ⟨S4096, .i32⟩
  | 62 => ⟨S_, .i32⟩
  | 63 => ⟨S4096, .i32⟩
  | 64 => ⟨S4096, .i32⟩
  | 65 => ⟨S4096, .i32⟩
  | 66 => ⟨S4096, .i32⟩
  | 67 => ⟨S4096, .i32⟩
  | 68 => ⟨S_, .i32⟩
  | 69 => ⟨S4096, .i32⟩
  | 70 => ⟨S4096, .i32⟩
  | 71 => ⟨S_, .i32⟩
  | 72 => ⟨S4096, .i32⟩
  | 73 => ⟨S4096, .i32⟩
  | 74 => ⟨S4096, .i32⟩
  | 75 => ⟨S4096, .i32⟩
  | 76 => ⟨S4096, .i32⟩
  | 77 => ⟨S4096, .i32⟩
  | 78 => ⟨S4096, .i32⟩
  | 79 => ⟨S4096, .i32⟩
  | 80 => ⟨S_, .i32⟩
  | 81 => ⟨S4096, .i32⟩
  | 82 => ⟨S4096, .i32⟩
  | 83 => ⟨S4096, .i32⟩
  | 84 => ⟨S4096, .i32⟩
  | 85 => ⟨S4096, .i32⟩
  | 86 => ⟨S45, .i32⟩
  | 87 => ⟨S_, .i32⟩
  | 88 => ⟨S45, .i32⟩
  | 89 => ⟨S45, .i1⟩
  | 90 => ⟨S_, .i32⟩
  | 91 => ⟨S45, .i32⟩
  | 92 => ⟨S45, .i32⟩
  | 93 => ⟨S45, .i32⟩
  | 94 => ⟨S45x1, .i32⟩
  | 95 => ⟨S4x45x1024, .f32⟩
  | 96 => ⟨S_, .i32⟩
  | 97 => ⟨S_, .f32⟩
  | 98 => ⟨S4x48x1024, .f32⟩
  | 99 => ⟨S4x45x1024, .f32⟩
  | 100 => ⟨S_, .i32⟩
  | 101 => ⟨S_, .f32⟩
  | 102 => ⟨S4x48x1024, .f32⟩
  | 103 => ⟨S4x96x1024, .f32⟩
  | 104 => ⟨S1x1024, .f32⟩
  | 105 => ⟨S4x96x1024, .f32⟩
  | 106 => ⟨S4x96x16x64, .f32⟩
  | 107 => ⟨S4x16x96x64, .f32⟩
  | 108 => ⟨S4x1024x4096, .f32⟩
  | 109 => ⟨S4x1024x4096, .bf16⟩
  | 110 => ⟨S4x16x45x4096, .f32⟩
  | 111 => ⟨S4x16x48x64, .f32⟩
  | 112 => ⟨S4x48x16x64, .f32⟩
  | 113 => ⟨S4x48x1024, .f32⟩
  | 114 => ⟨S1x1024, .f32⟩
  | 115 => ⟨S1x1024, .f32⟩
  | 116 => ⟨S4x48x1024, .f32⟩
  | 117 => ⟨S4x45x1024, .f32⟩
  | _ => ⟨S4x4096x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S4x4096x1024, .f32⟩

abbrev bufTy : (tb : Table) → Fin (tcTables nBuf tb) → BufTy
  | .hbm, ⟨i, _⟩ => hbmTy i
  | .local _ .vmem, ⟨0, _⟩ => ⟨S1x96x1024, .f32⟩
  | .local _ .vmem, ⟨1, _⟩ => ⟨S1x96x1024, .f32⟩
  | .local _ .vmem, ⟨2, _⟩ => ⟨S1024x1024, .f32⟩
  | .local _ .vmem, ⟨3, _⟩ => ⟨S1x1024, .f32⟩
  | .local _ .vmem, ⟨4, _⟩ => ⟨S1x96x1024, .f32⟩
  | .local _ .vmem, ⟨5, _⟩ => ⟨S1x96x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1024x1024, .f32⟩
  | .local _ .vmem, ⟨11, _⟩ => ⟨S1024x1024, .f32⟩
  | .local _ .vmem, ⟨12, _⟩ => ⟨S1x1024x1024, .f32⟩
  | .local _ .vmem, ⟨13, _⟩ => ⟨S1x1024x1024, .f32⟩
  | .local _ .vmem, ⟨14, _⟩ => ⟨S1x1024x1024, .bf16⟩
  | .local _ .vmem, ⟨15, _⟩ => ⟨S1x1024x1024, .bf16⟩
  | .local _ .vmem, ⟨16, _⟩ => ⟨S1x1x96x64, .f32⟩
  | .local _ .vmem, ⟨17, _⟩ => ⟨S1x1x96x64, .f32⟩
  | .local _ .vmem, ⟨18, _⟩ => ⟨S1x64x4096, .f32⟩
  | .local _ .vmem, ⟨19, _⟩ => ⟨S1x64x4096, .f32⟩
  | .local _ .vmem, ⟨20, _⟩ => ⟨S1x64x4096, .bf16⟩
  | .local _ .vmem, ⟨21, _⟩ => ⟨S1x64x4096, .bf16⟩
  | .local _ .vmem, ⟨22, _⟩ => ⟨S1x1x45x4096, .f32⟩
  | .local _ .vmem, ⟨23, _⟩ => ⟨S1x1x45x4096, .f32⟩
  | .local _ .vmem, ⟨24, _⟩ => ⟨S1x1x48x64, .f32⟩
  | .local _ .vmem, ⟨25, _⟩ => ⟨S1x1x48x64, .f32⟩
  | .local _ .vmem, ⟨26, _⟩ => ⟨S1x48x1024, .f32⟩
  | .local _ .vmem, ⟨27, _⟩ => ⟨S1x48x1024, .f32⟩
  | .local _ .vmem, ⟨28, _⟩ => ⟨S1024x1024, .f32⟩
  | .local _ .vmem, ⟨29, _⟩ => ⟨S1x1024, .f32⟩
  | .local _ .vmem, ⟨30, _⟩ => ⟨S1x1024, .f32⟩
  | .local _ .vmem, ⟨31, _⟩ => ⟨S1x48x1024, .f32⟩
  | .local _ .vmem, ⟨32, _⟩ => ⟨S1x48x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_c_0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_c_1 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_c : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_c_0 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_call0_v0 : Ref sig .tc := ⟨.hbm, 35, rfl⟩
abbrev main_call0_call0_call0_c : Ref sig .tc := ⟨.hbm, 36, rfl⟩
abbrev main_call0_call0_call0_v1 : Ref sig .tc := ⟨.hbm, 37, rfl⟩
abbrev main_call0_call0_call0_v2 : Ref sig .tc := ⟨.hbm, 38, rfl⟩
abbrev main_call0_call0_call0_v3 : Ref sig .tc := ⟨.hbm, 39, rfl⟩
abbrev main_call0_call0_call0_v4 : Ref sig .tc := ⟨.hbm, 40, rfl⟩
abbrev main_call0_call0_call0_v5 : Ref sig .tc := ⟨.hbm, 41, rfl⟩
abbrev main_call0_call0_call0_v6 : Ref sig .tc := ⟨.hbm, 42, rfl⟩
abbrev main_call0_call0_call0_c_0 : Ref sig .tc := ⟨.hbm, 43, rfl⟩
abbrev main_call0_call0_call0_v7 : Ref sig .tc := ⟨.hbm, 44, rfl⟩
abbrev main_call0_call0_call0_v8 : Ref sig .tc := ⟨.hbm, 45, rfl⟩
abbrev main_call0_call0_call0_c_1 : Ref sig .tc := ⟨.hbm, 46, rfl⟩
abbrev main_call0_call0_call0_v9 : Ref sig .tc := ⟨.hbm, 47, rfl⟩
abbrev main_call0_call0_call0_v10 : Ref sig .tc := ⟨.hbm, 48, rfl⟩
abbrev main_call0_call0_call0_v11 : Ref sig .tc := ⟨.hbm, 49, rfl⟩
abbrev main_call0_call0_call0_v12 : Ref sig .tc := ⟨.hbm, 50, rfl⟩
abbrev main_call0_call0_call0_v13 : Ref sig .tc := ⟨.hbm, 51, rfl⟩
abbrev main_call0_call0_call0_c_2 : Ref sig .tc := ⟨.hbm, 52, rfl⟩
abbrev main_call0_call0_call0_v14 : Ref sig .tc := ⟨.hbm, 53, rfl⟩
abbrev main_call0_call0_call0_v15 : Ref sig .tc := ⟨.hbm, 54, rfl⟩
abbrev main_call0_call0_call0_c_3 : Ref sig .tc := ⟨.hbm, 55, rfl⟩
abbrev main_call0_call0_call0_v16 : Ref sig .tc := ⟨.hbm, 56, rfl⟩
abbrev main_call0_call0_call0_v17 : Ref sig .tc := ⟨.hbm, 57, rfl⟩
abbrev main_call0_call0_call0_v18 : Ref sig .tc := ⟨.hbm, 58, rfl⟩
abbrev main_call0_call0_call0_v19 : Ref sig .tc := ⟨.hbm, 59, rfl⟩
abbrev main_call0_call0_call0_v20 : Ref sig .tc := ⟨.hbm, 60, rfl⟩
abbrev main_call0_call0_call0_c_4 : Ref sig .tc := ⟨.hbm, 61, rfl⟩
abbrev main_call0_call0_call0_v21 : Ref sig .tc := ⟨.hbm, 62, rfl⟩
abbrev main_call0_call0_call0_v22 : Ref sig .tc := ⟨.hbm, 63, rfl⟩
abbrev main_call0_call0_call0_c_5 : Ref sig .tc := ⟨.hbm, 64, rfl⟩
abbrev main_call0_call0_call0_v23 : Ref sig .tc := ⟨.hbm, 65, rfl⟩
abbrev main_call0_call0_call0_v24 : Ref sig .tc := ⟨.hbm, 66, rfl⟩
abbrev main_call0_call0_call0_v25 : Ref sig .tc := ⟨.hbm, 67, rfl⟩
abbrev main_call0_call0_call0_v26 : Ref sig .tc := ⟨.hbm, 68, rfl⟩
abbrev main_call0_call0_call0_v27 : Ref sig .tc := ⟨.hbm, 69, rfl⟩
abbrev main_call0_call0_call0_c_6 : Ref sig .tc := ⟨.hbm, 70, rfl⟩
abbrev main_call0_call0_call0_v28 : Ref sig .tc := ⟨.hbm, 71, rfl⟩
abbrev main_call0_call0_call0_v29 : Ref sig .tc := ⟨.hbm, 72, rfl⟩
abbrev main_call0_call0_call0_c_7 : Ref sig .tc := ⟨.hbm, 73, rfl⟩
abbrev main_call0_call0_call0_v30 : Ref sig .tc := ⟨.hbm, 74, rfl⟩
abbrev main_call0_call0_call0_v31 : Ref sig .tc := ⟨.hbm, 75, rfl⟩
abbrev main_call0_call0_call0_v32 : Ref sig .tc := ⟨.hbm, 76, rfl⟩
abbrev main_call0_call0_call0_v33 : Ref sig .tc := ⟨.hbm, 77, rfl⟩
abbrev main_call0_call0_call0_v34 : Ref sig .tc := ⟨.hbm, 78, rfl⟩
abbrev main_call0_call0_call0_v35 : Ref sig .tc := ⟨.hbm, 79, rfl⟩
abbrev main_call0_call0_call0_v36 : Ref sig .tc := ⟨.hbm, 80, rfl⟩
abbrev main_call0_call0_call0_v37 : Ref sig .tc := ⟨.hbm, 81, rfl⟩
abbrev main_call0_call0_call0_c_8 : Ref sig .tc := ⟨.hbm, 82, rfl⟩
abbrev main_call0_call0_call0_v38 : Ref sig .tc := ⟨.hbm, 83, rfl⟩
abbrev main_call0_call0_call0_v39 : Ref sig .tc := ⟨.hbm, 84, rfl⟩
abbrev main_call0_call0_call0_v40 : Ref sig .tc := ⟨.hbm, 85, rfl⟩
abbrev main_call0_call0_call0_c_9 : Ref sig .tc := ⟨.hbm, 86, rfl⟩
abbrev main_call0_call0_call0_v41 : Ref sig .tc := ⟨.hbm, 87, rfl⟩
abbrev main_call0_call0_call0_v42 : Ref sig .tc := ⟨.hbm, 88, rfl⟩
abbrev main_call0_call0_call0_c_10 : Ref sig .tc := ⟨.hbm, 89, rfl⟩
abbrev main_call0_call0_call0_v43 : Ref sig .tc := ⟨.hbm, 90, rfl⟩
abbrev main_call0_call0_call0_v44 : Ref sig .tc := ⟨.hbm, 91, rfl⟩
abbrev main_call0_call0_call0_v45 : Ref sig .tc := ⟨.hbm, 92, rfl⟩
abbrev main_call0_call0_call0_v46 : Ref sig .tc := ⟨.hbm, 93, rfl⟩
abbrev main_call0_call0_call0_v47 : Ref sig .tc := ⟨.hbm, 94, rfl⟩
abbrev main_call0_call0_call0_c_11 : Ref sig .tc := ⟨.hbm, 95, rfl⟩
abbrev main_call0_call0_call0_v48 : Ref sig .tc := ⟨.hbm, 96, rfl⟩
abbrev main_call0_call0_call0_v49 : Ref sig .tc := ⟨.hbm, 97, rfl⟩
abbrev main_call0_call0_call0_c_12 : Ref sig .tc := ⟨.hbm, 98, rfl⟩
abbrev main_call0_call0_call0_v50 : Ref sig .tc := ⟨.hbm, 99, rfl⟩
abbrev main_call0_call0_call0_v51 : Ref sig .tc := ⟨.hbm, 100, rfl⟩
abbrev main_call0_call0_call0_v52 : Ref sig .tc := ⟨.hbm, 101, rfl⟩
abbrev main_call0_call0_call0_v53 : Ref sig .tc := ⟨.hbm, 102, rfl⟩
abbrev main_call0_call0_call0_v54 : Ref sig .tc := ⟨.hbm, 103, rfl⟩
abbrev main_call0_call0_call0_c_13 : Ref sig .tc := ⟨.hbm, 104, rfl⟩
abbrev main_call0_call0_call0_v55 : Ref sig .tc := ⟨.hbm, 105, rfl⟩
abbrev main_call0_call0_call0_v56 : Ref sig .tc := ⟨.hbm, 106, rfl⟩
abbrev main_call0_call0_call0_c_14 : Ref sig .tc := ⟨.hbm, 107, rfl⟩
abbrev main_call0_call0_call0_v57 : Ref sig .tc := ⟨.hbm, 108, rfl⟩
abbrev main_call0_call0_call0_v58 : Ref sig .tc := ⟨.hbm, 109, rfl⟩
abbrev main_call0_call0_call0_v59 : Ref sig .tc := ⟨.hbm, 110, rfl⟩
abbrev main_call0_call0_call0_v60 : Ref sig .tc := ⟨.hbm, 111, rfl⟩
abbrev main_call0_call0_call0_v61 : Ref sig .tc := ⟨.hbm, 112, rfl⟩
abbrev main_call0_call0_call0_c_15 : Ref sig .tc := ⟨.hbm, 113, rfl⟩
abbrev main_call0_call0_call0_v62 : Ref sig .tc := ⟨.hbm, 114, rfl⟩
abbrev main_call0_call0_call0_v63 : Ref sig .tc := ⟨.hbm, 115, rfl⟩
abbrev main_call0_call0_call0_c_16 : Ref sig .tc := ⟨.hbm, 116, rfl⟩
abbrev main_call0_call0_call0_v64 : Ref sig .tc := ⟨.hbm, 117, rfl⟩
abbrev main_call0_call0_call0_v65 : Ref sig .tc := ⟨.hbm, 118, rfl⟩
abbrev main_call0_call0_call0_v66 : Ref sig .tc := ⟨.hbm, 119, rfl⟩
abbrev main_call0_call0_call0_v67 : Ref sig .tc := ⟨.hbm, 120, rfl⟩
abbrev main_call0_call0_call0_v68 : Ref sig .tc := ⟨.hbm, 121, rfl⟩
abbrev main_call0_call0_call0_v69 : Ref sig .tc := ⟨.hbm, 122, rfl⟩
abbrev main_call0_call0_call0_v70 : Ref sig .tc := ⟨.hbm, 123, rfl⟩
abbrev main_call0_call0_call0_v71 : Ref sig .tc := ⟨.hbm, 124, rfl⟩
abbrev main_call0_call0_call0_c_17 : Ref sig .tc := ⟨.hbm, 125, rfl⟩
abbrev main_call0_call0_call0_v72 : Ref sig .tc := ⟨.hbm, 126, rfl⟩
abbrev main_call0_call0_call0_v73 : Ref sig .tc := ⟨.hbm, 127, rfl⟩
abbrev main_call0_call0_call0_v74 : Ref sig .tc := ⟨.hbm, 128, rfl⟩
abbrev main_call0_call0_call0_c_18 : Ref sig .tc := ⟨.hbm, 129, rfl⟩
abbrev main_call0_call0_call0_v75 : Ref sig .tc := ⟨.hbm, 130, rfl⟩
abbrev main_call0_call0_call0_v76 : Ref sig .tc := ⟨.hbm, 131, rfl⟩
abbrev main_call0_call0_call0_c_19 : Ref sig .tc := ⟨.hbm, 132, rfl⟩
abbrev main_call0_call0_call0_v77 : Ref sig .tc := ⟨.hbm, 133, rfl⟩
abbrev main_call0_call0_call0_v78 : Ref sig .tc := ⟨.hbm, 134, rfl⟩
abbrev main_call0_call0_call0_v79 : Ref sig .tc := ⟨.hbm, 135, rfl⟩
abbrev main_call0_call0_call0_v80 : Ref sig .tc := ⟨.hbm, 136, rfl⟩
abbrev main_call0_call0_call0_v81 : Ref sig .tc := ⟨.hbm, 137, rfl⟩
abbrev main_call0_call0_call0_c_20 : Ref sig .tc := ⟨.hbm, 138, rfl⟩
abbrev main_call0_call0_call0_v82 : Ref sig .tc := ⟨.hbm, 139, rfl⟩
abbrev main_call0_call0_call0_v83 : Ref sig .tc := ⟨.hbm, 140, rfl⟩
abbrev main_call0_call0_call0_c_21 : Ref sig .tc := ⟨.hbm, 141, rfl⟩
abbrev main_call0_call0_call0_v84 : Ref sig .tc := ⟨.hbm, 142, rfl⟩
abbrev main_call0_call0_call0_v85 : Ref sig .tc := ⟨.hbm, 143, rfl⟩
abbrev main_call0_call0_call0_v86 : Ref sig .tc := ⟨.hbm, 144, rfl⟩
abbrev main_call0_call0_call0_v87 : Ref sig .tc := ⟨.hbm, 145, rfl⟩
abbrev main_call0_call0_call0_v88 : Ref sig .tc := ⟨.hbm, 146, rfl⟩
abbrev main_call0_call0_call0_c_22 : Ref sig .tc := ⟨.hbm, 147, rfl⟩
abbrev main_call0_call0_call0_v89 : Ref sig .tc := ⟨.hbm, 148, rfl⟩
abbrev main_call0_call0_call0_v90 : Ref sig .tc := ⟨.hbm, 149, rfl⟩
abbrev main_call0_call0_call0_c_23 : Ref sig .tc := ⟨.hbm, 150, rfl⟩
abbrev main_call0_call0_call0_v91 : Ref sig .tc := ⟨.hbm, 151, rfl⟩
abbrev main_call0_call0_call0_v92 : Ref sig .tc := ⟨.hbm, 152, rfl⟩
abbrev main_call0_call0_call0_v93 : Ref sig .tc := ⟨.hbm, 153, rfl⟩
abbrev main_call0_call0_call0_v94 : Ref sig .tc := ⟨.hbm, 154, rfl⟩
abbrev main_call0_call0_call0_v95 : Ref sig .tc := ⟨.hbm, 155, rfl⟩
abbrev main_call0_call0_call0_c_24 : Ref sig .tc := ⟨.hbm, 156, rfl⟩
abbrev main_call0_call0_call0_v96 : Ref sig .tc := ⟨.hbm, 157, rfl⟩
abbrev main_call0_call0_call0_v97 : Ref sig .tc := ⟨.hbm, 158, rfl⟩
abbrev main_call0_call0_call0_c_25 : Ref sig .tc := ⟨.hbm, 159, rfl⟩
abbrev main_call0_call0_call0_v98 : Ref sig .tc := ⟨.hbm, 160, rfl⟩
abbrev main_call0_call0_call0_v99 : Ref sig .tc := ⟨.hbm, 161, rfl⟩
abbrev main_call0_call0_call0_v100 : Ref sig .tc := ⟨.hbm, 162, rfl⟩
abbrev main_call0_call0_call0_v101 : Ref sig .tc := ⟨.hbm, 163, rfl⟩
abbrev main_call0_call0_call0_v102 : Ref sig .tc := ⟨.hbm, 164, rfl⟩
abbrev main_call0_call0_call0_v103 : Ref sig .tc := ⟨.hbm, 165, rfl⟩
abbrev main_call0_call0_call0_v104 : Ref sig .tc := ⟨.hbm, 166, rfl⟩
abbrev main_call0_call0_call0_v105 : Ref sig .tc := ⟨.hbm, 167, rfl⟩
abbrev main_call0_call0_call0_c_26 : Ref sig .tc := ⟨.hbm, 168, rfl⟩
abbrev main_call0_call0_call0_v106 : Ref sig .tc := ⟨.hbm, 169, rfl⟩
abbrev main_call0_call0_call0_v107 : Ref sig .tc := ⟨.hbm, 170, rfl⟩
abbrev main_call0_call0_call0_v108 : Ref sig .tc := ⟨.hbm, 171, rfl⟩
abbrev main_call0_call0_call0_c_27 : Ref sig .tc := ⟨.hbm, 172, rfl⟩
abbrev main_call0_call0_call0_v109 : Ref sig .tc := ⟨.hbm, 173, rfl⟩
abbrev main_call0_call0_call0_v110 : Ref sig .tc := ⟨.hbm, 174, rfl⟩
abbrev main_call0_call0_call0_c_28 : Ref sig .tc := ⟨.hbm, 175, rfl⟩
abbrev main_call0_call0_call0_v111 : Ref sig .tc := ⟨.hbm, 176, rfl⟩
abbrev main_call0_call0_call0_v112 : Ref sig .tc := ⟨.hbm, 177, rfl⟩
abbrev main_call0_call0_call0_v113 : Ref sig .tc := ⟨.hbm, 178, rfl⟩
abbrev main_call0_call0_call0_v114 : Ref sig .tc := ⟨.hbm, 179, rfl⟩
abbrev main_call0_call0_call0_v115 : Ref sig .tc := ⟨.hbm, 180, rfl⟩
abbrev main_call0_call0_call0_c_29 : Ref sig .tc := ⟨.hbm, 181, rfl⟩
abbrev main_call0_call0_call0_v116 : Ref sig .tc := ⟨.hbm, 182, rfl⟩
abbrev main_call0_call0_call0_v117 : Ref sig .tc := ⟨.hbm, 183, rfl⟩
abbrev main_call0_call0_call0_c_30 : Ref sig .tc := ⟨.hbm, 184, rfl⟩
abbrev main_call0_call0_call0_v118 : Ref sig .tc := ⟨.hbm, 185, rfl⟩
abbrev main_call0_call0_call0_v119 : Ref sig .tc := ⟨.hbm, 186, rfl⟩
abbrev main_call0_call0_call0_v120 : Ref sig .tc := ⟨.hbm, 187, rfl⟩
abbrev main_call0_call0_call0_v121 : Ref sig .tc := ⟨.hbm, 188, rfl⟩
abbrev main_call0_call0_call0_v122 : Ref sig .tc := ⟨.hbm, 189, rfl⟩
abbrev main_call0_call0_call0_c_31 : Ref sig .tc := ⟨.hbm, 190, rfl⟩
abbrev main_call0_call0_call0_v123 : Ref sig .tc := ⟨.hbm, 191, rfl⟩
abbrev main_call0_call0_call0_v124 : Ref sig .tc := ⟨.hbm, 192, rfl⟩
abbrev main_call0_call0_call0_c_32 : Ref sig .tc := ⟨.hbm, 193, rfl⟩
abbrev main_call0_call0_call0_v125 : Ref sig .tc := ⟨.hbm, 194, rfl⟩
abbrev main_call0_call0_call0_v126 : Ref sig .tc := ⟨.hbm, 195, rfl⟩
abbrev main_call0_call0_call0_v127 : Ref sig .tc := ⟨.hbm, 196, rfl⟩
abbrev main_call0_call0_call0_v128 : Ref sig .tc := ⟨.hbm, 197, rfl⟩
abbrev main_call0_call0_call0_v129 : Ref sig .tc := ⟨.hbm, 198, rfl⟩
abbrev main_call0_call0_call0_c_33 : Ref sig .tc := ⟨.hbm, 199, rfl⟩
abbrev main_call0_call0_call0_v130 : Ref sig .tc := ⟨.hbm, 200, rfl⟩
abbrev main_call0_call0_call0_v131 : Ref sig .tc := ⟨.hbm, 201, rfl⟩
abbrev main_call0_call0_call0_c_34 : Ref sig .tc := ⟨.hbm, 202, rfl⟩
abbrev main_call0_call0_call0_v132 : Ref sig .tc := ⟨.hbm, 203, rfl⟩
abbrev main_call0_call0_call0_v133 : Ref sig .tc := ⟨.hbm, 204, rfl⟩
abbrev main_call0_call0_call0_v134 : Ref sig .tc := ⟨.hbm, 205, rfl⟩
abbrev main_call0_call0_call0_v135 : Ref sig .tc := ⟨.hbm, 206, rfl⟩
abbrev main_call0_call0_call0_v136 : Ref sig .tc := ⟨.hbm, 207, rfl⟩
abbrev main_call0_call0_call0_v137 : Ref sig .tc := ⟨.hbm, 208, rfl⟩
abbrev main_call0_call0_call0_v138 : Ref sig .tc := ⟨.hbm, 209, rfl⟩
abbrev main_call0_call0_call0_v139 : Ref sig .tc := ⟨.hbm, 210, rfl⟩
abbrev main_call0_call0_call0_c_35 : Ref sig .tc := ⟨.hbm, 211, rfl⟩
abbrev main_call0_call0_call0_v140 : Ref sig .tc := ⟨.hbm, 212, rfl⟩
abbrev main_call0_call0_call0_v141 : Ref sig .tc := ⟨.hbm, 213, rfl⟩
abbrev main_call0_call0_call0_v142 : Ref sig .tc := ⟨.hbm, 214, rfl⟩
abbrev main_call0_call0_call0_c_36 : Ref sig .tc := ⟨.hbm, 215, rfl⟩
abbrev main_call0_call0_call0_v143 : Ref sig .tc := ⟨.hbm, 216, rfl⟩
abbrev main_call0_call0_call0_v144 : Ref sig .tc := ⟨.hbm, 217, rfl⟩
abbrev main_call0_call0_call0_c_37 : Ref sig .tc := ⟨.hbm, 218, rfl⟩
abbrev main_call0_call0_call0_v145 : Ref sig .tc := ⟨.hbm, 219, rfl⟩
abbrev main_call0_call0_call0_v146 : Ref sig .tc := ⟨.hbm, 220, rfl⟩
abbrev main_call0_call0_call0_v147 : Ref sig .tc := ⟨.hbm, 221, rfl⟩
abbrev main_call0_call0_call0_v148 : Ref sig .tc := ⟨.hbm, 222, rfl⟩
abbrev main_call0_call0_call0_v149 : Ref sig .tc := ⟨.hbm, 223, rfl⟩
abbrev main_call0_call0_call0_c_38 : Ref sig .tc := ⟨.hbm, 224, rfl⟩
abbrev main_call0_call0_call0_v150 : Ref sig .tc := ⟨.hbm, 225, rfl⟩
abbrev main_call0_call0_call0_v151 : Ref sig .tc := ⟨.hbm, 226, rfl⟩
abbrev main_call0_call0_call0_c_39 : Ref sig .tc := ⟨.hbm, 227, rfl⟩
abbrev main_call0_call0_call0_v152 : Ref sig .tc := ⟨.hbm, 228, rfl⟩
abbrev main_call0_call0_call0_v153 : Ref sig .tc := ⟨.hbm, 229, rfl⟩
abbrev main_call0_call0_call0_v154 : Ref sig .tc := ⟨.hbm, 230, rfl⟩
abbrev main_call0_call0_call0_v155 : Ref sig .tc := ⟨.hbm, 231, rfl⟩
abbrev main_call0_call0_call0_v156 : Ref sig .tc := ⟨.hbm, 232, rfl⟩
abbrev main_call0_call0_call0_c_40 : Ref sig .tc := ⟨.hbm, 233, rfl⟩
abbrev main_call0_call0_call0_v157 : Ref sig .tc := ⟨.hbm, 234, rfl⟩
abbrev main_call0_call0_call0_v158 : Ref sig .tc := ⟨.hbm, 235, rfl⟩
abbrev main_call0_call0_call0_c_41 : Ref sig .tc := ⟨.hbm, 236, rfl⟩
abbrev main_call0_call0_call0_v159 : Ref sig .tc := ⟨.hbm, 237, rfl⟩
abbrev main_call0_call0_call0_v160 : Ref sig .tc := ⟨.hbm, 238, rfl⟩
abbrev main_call0_call0_call0_v161 : Ref sig .tc := ⟨.hbm, 239, rfl⟩
abbrev main_call0_call0_call0_v162 : Ref sig .tc := ⟨.hbm, 240, rfl⟩
abbrev main_call0_call0_call0_v163 : Ref sig .tc := ⟨.hbm, 241, rfl⟩
abbrev main_call0_call0_call0_c_42 : Ref sig .tc := ⟨.hbm, 242, rfl⟩
abbrev main_call0_call0_call0_v164 : Ref sig .tc := ⟨.hbm, 243, rfl⟩
abbrev main_call0_call0_call0_v165 : Ref sig .tc := ⟨.hbm, 244, rfl⟩
abbrev main_call0_call0_call0_c_43 : Ref sig .tc := ⟨.hbm, 245, rfl⟩
abbrev main_call0_call0_call0_v166 : Ref sig .tc := ⟨.hbm, 246, rfl⟩
abbrev main_call0_call0_call0_v167 : Ref sig .tc := ⟨.hbm, 247, rfl⟩
abbrev main_call0_call0_call0_v168 : Ref sig .tc := ⟨.hbm, 248, rfl⟩
abbrev main_call0_call0_call0_v169 : Ref sig .tc := ⟨.hbm, 249, rfl⟩
abbrev main_call0_call0_call0_v170 : Ref sig .tc := ⟨.hbm, 250, rfl⟩
abbrev main_call0_call0_v11_0 : Ref sig .tc := ⟨.hbm, 251, rfl⟩
abbrev main_call0_call0_call0_v172 : Ref sig .tc := ⟨.hbm, 252, rfl⟩
abbrev main_call0_call0_call0_v173 : Ref sig .tc := ⟨.hbm, 253, rfl⟩
abbrev main_call0_call0_call0_c_44 : Ref sig .tc := ⟨.hbm, 254, rfl⟩
abbrev main_call0_call0_call0_v174 : Ref sig .tc := ⟨.hbm, 255, rfl⟩
abbrev main_call0_call0_v11_1 : Ref sig .tc := ⟨.hbm, 256, rfl⟩
abbrev main_call0_call0_v12 : Ref sig .tc := ⟨.hbm, 257, rfl⟩
abbrev main_call0_call0_v13 : Ref sig .tc := ⟨.hbm, 258, rfl⟩
abbrev main_call0_v0 : Ref sig .tc := ⟨.hbm, 259, rfl⟩
abbrev main_call0_v1 : Ref sig .tc := ⟨.hbm, 260, rfl⟩
abbrev main_call0_v2 : Ref sig .tc := ⟨.hbm, 261, rfl⟩
abbrev main_call0_v3 : Ref sig .tc := ⟨.hbm, 262, rfl⟩
abbrev main_call0_v4 : Ref sig .tc := ⟨.hbm, 263, rfl⟩
abbrev main_call0_v5 : Ref sig .tc := ⟨.hbm, 264, rfl⟩
abbrev main_call0_v6 : Ref sig .tc := ⟨.hbm, 265, rfl⟩
abbrev main_call0_v7 : Ref sig .tc := ⟨.hbm, 266, rfl⟩
abbrev main_call0_v8 : Ref sig .tc := ⟨.hbm, 267, rfl⟩
abbrev main_call0_v9 : Ref sig .tc := ⟨.hbm, 268, rfl⟩
abbrev main_call0_c : Ref sig .tc := ⟨.hbm, 269, rfl⟩
abbrev main_call0_v10 : Ref sig .tc := ⟨.hbm, 270, rfl⟩
abbrev main_call0_v11 : Ref sig .tc := ⟨.hbm, 271, rfl⟩
abbrev main_call0_c_0 : Ref sig .tc := ⟨.hbm, 272, rfl⟩
abbrev main_call0_v12 : Ref sig .tc := ⟨.hbm, 273, rfl⟩
abbrev main_call0_v13 : Ref sig .tc := ⟨.hbm, 274, rfl⟩
abbrev main_call0_v14 : Ref sig .tc := ⟨.hbm, 275, rfl⟩
abbrev main_call0_v15 : Ref sig .tc := ⟨.hbm, 276, rfl⟩
abbrev main_call0_call1_v0 : Ref sig .tc := ⟨.hbm, 277, rfl⟩
abbrev main_call0_call1_c : Ref sig .tc := ⟨.hbm, 278, rfl⟩
abbrev main_call0_call1_v1 : Ref sig .tc := ⟨.hbm, 279, rfl⟩
abbrev main_call0_call1_v2 : Ref sig .tc := ⟨.hbm, 280, rfl⟩
abbrev main_call0_call1_v3 : Ref sig .tc := ⟨.hbm, 281, rfl⟩
abbrev main_call0_call1_v4 : Ref sig .tc := ⟨.hbm, 282, rfl⟩
abbrev main_call0_call1_v5 : Ref sig .tc := ⟨.hbm, 283, rfl⟩
abbrev main_call0_call1_v6 : Ref sig .tc := ⟨.hbm, 284, rfl⟩
abbrev main_call0_call1_c_0 : Ref sig .tc := ⟨.hbm, 285, rfl⟩
abbrev main_call0_call1_v7 : Ref sig .tc := ⟨.hbm, 286, rfl⟩
abbrev main_call0_call1_v8 : Ref sig .tc := ⟨.hbm, 287, rfl⟩
abbrev main_call0_call1_c_1 : Ref sig .tc := ⟨.hbm, 288, rfl⟩
abbrev main_call0_call1_v9 : Ref sig .tc := ⟨.hbm, 289, rfl⟩
abbrev main_call0_call1_v10 : Ref sig .tc := ⟨.hbm, 290, rfl⟩
abbrev main_call0_call1_v11 : Ref sig .tc := ⟨.hbm, 291, rfl⟩
abbrev main_call0_call1_v12 : Ref sig .tc := ⟨.hbm, 292, rfl⟩
abbrev main_call0_call1_v13 : Ref sig .tc := ⟨.hbm, 293, rfl⟩
abbrev main_call0_call1_c_2 : Ref sig .tc := ⟨.hbm, 294, rfl⟩
abbrev main_call0_call1_v14 : Ref sig .tc := ⟨.hbm, 295, rfl⟩
abbrev main_call0_call1_v15 : Ref sig .tc := ⟨.hbm, 296, rfl⟩
abbrev main_call0_call1_c_3 : Ref sig .tc := ⟨.hbm, 297, rfl⟩
abbrev main_call0_call1_v16 : Ref sig .tc := ⟨.hbm, 298, rfl⟩
abbrev main_call0_call1_v17 : Ref sig .tc := ⟨.hbm, 299, rfl⟩
abbrev main_call0_call1_v18 : Ref sig .tc := ⟨.hbm, 300, rfl⟩
abbrev main_call0_call1_v19 : Ref sig .tc := ⟨.hbm, 301, rfl⟩
abbrev main_call0_call1_v20 : Ref sig .tc := ⟨.hbm, 302, rfl⟩
abbrev main_call0_call1_c_4 : Ref sig .tc := ⟨.hbm, 303, rfl⟩
abbrev main_call0_call1_v21 : Ref sig .tc := ⟨.hbm, 304, rfl⟩
abbrev main_call0_call1_v22 : Ref sig .tc := ⟨.hbm, 305, rfl⟩
abbrev main_call0_call1_c_5 : Ref sig .tc := ⟨.hbm, 306, rfl⟩
abbrev main_call0_call1_v23 : Ref sig .tc := ⟨.hbm, 307, rfl⟩
abbrev main_call0_call1_v24 : Ref sig .tc := ⟨.hbm, 308, rfl⟩
abbrev main_call0_call1_v25 : Ref sig .tc := ⟨.hbm, 309, rfl⟩
abbrev main_call0_call1_v26 : Ref sig .tc := ⟨.hbm, 310, rfl⟩
abbrev main_call0_call1_v27 : Ref sig .tc := ⟨.hbm, 311, rfl⟩
abbrev main_call0_call1_c_6 : Ref sig .tc := ⟨.hbm, 312, rfl⟩
abbrev main_call0_call1_v28 : Ref sig .tc := ⟨.hbm, 313, rfl⟩
abbrev main_call0_call1_v29 : Ref sig .tc := ⟨.hbm, 314, rfl⟩
abbrev main_call0_call1_c_7 : Ref sig .tc := ⟨.hbm, 315, rfl⟩
abbrev main_call0_call1_v30 : Ref sig .tc := ⟨.hbm, 316, rfl⟩
abbrev main_call0_call1_v31 : Ref sig .tc := ⟨.hbm, 317, rfl⟩
abbrev main_call0_call1_v32 : Ref sig .tc := ⟨.hbm, 318, rfl⟩
abbrev main_call0_call1_v33 : Ref sig .tc := ⟨.hbm, 319, rfl⟩
abbrev main_call0_call1_v34 : Ref sig .tc := ⟨.hbm, 320, rfl⟩
abbrev main_call0_call1_v35 : Ref sig .tc := ⟨.hbm, 321, rfl⟩
abbrev main_call0_call1_v36 : Ref sig .tc := ⟨.hbm, 322, rfl⟩
abbrev main_call0_call1_v37 : Ref sig .tc := ⟨.hbm, 323, rfl⟩
abbrev main_call0_call1_c_8 : Ref sig .tc := ⟨.hbm, 324, rfl⟩
abbrev main_call0_call1_v38 : Ref sig .tc := ⟨.hbm, 325, rfl⟩
abbrev main_call0_call1_v39 : Ref sig .tc := ⟨.hbm, 326, rfl⟩
abbrev main_call0_call1_v40 : Ref sig .tc := ⟨.hbm, 327, rfl⟩
abbrev main_call0_call1_c_9 : Ref sig .tc := ⟨.hbm, 328, rfl⟩
abbrev main_call0_call1_v41 : Ref sig .tc := ⟨.hbm, 329, rfl⟩
abbrev main_call0_call1_v42 : Ref sig .tc := ⟨.hbm, 330, rfl⟩
abbrev main_call0_call1_c_10 : Ref sig .tc := ⟨.hbm, 331, rfl⟩
abbrev main_call0_call1_v43 : Ref sig .tc := ⟨.hbm, 332, rfl⟩
abbrev main_call0_call1_v44 : Ref sig .tc := ⟨.hbm, 333, rfl⟩
abbrev main_call0_call1_v45 : Ref sig .tc := ⟨.hbm, 334, rfl⟩
abbrev main_call0_call1_v46 : Ref sig .tc := ⟨.hbm, 335, rfl⟩
abbrev main_call0_call1_v47 : Ref sig .tc := ⟨.hbm, 336, rfl⟩
abbrev main_call0_call1_c_11 : Ref sig .tc := ⟨.hbm, 337, rfl⟩
abbrev main_call0_call1_v48 : Ref sig .tc := ⟨.hbm, 338, rfl⟩
abbrev main_call0_call1_v49 : Ref sig .tc := ⟨.hbm, 339, rfl⟩
abbrev main_call0_call1_c_12 : Ref sig .tc := ⟨.hbm, 340, rfl⟩
abbrev main_call0_call1_v50 : Ref sig .tc := ⟨.hbm, 341, rfl⟩
abbrev main_call0_call1_v51 : Ref sig .tc := ⟨.hbm, 342, rfl⟩
abbrev main_call0_call1_v52 : Ref sig .tc := ⟨.hbm, 343, rfl⟩
abbrev main_call0_call1_v53 : Ref sig .tc := ⟨.hbm, 344, rfl⟩
abbrev main_call0_call1_v54 : Ref sig .tc := ⟨.hbm, 345, rfl⟩
abbrev main_call0_call1_c_13 : Ref sig .tc := ⟨.hbm, 346, rfl⟩
abbrev main_call0_call1_v55 : Ref sig .tc := ⟨.hbm, 347, rfl⟩
abbrev main_call0_call1_v56 : Ref sig .tc := ⟨.hbm, 348, rfl⟩
abbrev main_call0_call1_c_14 : Ref sig .tc := ⟨.hbm, 349, rfl⟩
abbrev main_call0_call1_v57 : Ref sig .tc := ⟨.hbm, 350, rfl⟩
abbrev main_call0_call1_v58 : Ref sig .tc := ⟨.hbm, 351, rfl⟩
abbrev main_call0_call1_v59 : Ref sig .tc := ⟨.hbm, 352, rfl⟩
abbrev main_call0_call1_v60 : Ref sig .tc := ⟨.hbm, 353, rfl⟩
abbrev main_call0_call1_v61 : Ref sig .tc := ⟨.hbm, 354, rfl⟩
abbrev main_call0_call1_c_15 : Ref sig .tc := ⟨.hbm, 355, rfl⟩
abbrev main_call0_call1_v62 : Ref sig .tc := ⟨.hbm, 356, rfl⟩
abbrev main_call0_call1_v63 : Ref sig .tc := ⟨.hbm, 357, rfl⟩
abbrev main_call0_call1_c_16 : Ref sig .tc := ⟨.hbm, 358, rfl⟩
abbrev main_call0_call1_v64 : Ref sig .tc := ⟨.hbm, 359, rfl⟩
abbrev main_call0_call1_v65 : Ref sig .tc := ⟨.hbm, 360, rfl⟩
abbrev main_call0_call1_v66 : Ref sig .tc := ⟨.hbm, 361, rfl⟩
abbrev main_call0_call1_v67 : Ref sig .tc := ⟨.hbm, 362, rfl⟩
abbrev main_call0_call1_v68 : Ref sig .tc := ⟨.hbm, 363, rfl⟩
abbrev main_call0_call1_v69 : Ref sig .tc := ⟨.hbm, 364, rfl⟩
abbrev main_call0_call1_v70 : Ref sig .tc := ⟨.hbm, 365, rfl⟩
abbrev main_call0_call1_v71 : Ref sig .tc := ⟨.hbm, 366, rfl⟩
abbrev main_call0_call1_c_17 : Ref sig .tc := ⟨.hbm, 367, rfl⟩
abbrev main_call0_call1_v72 : Ref sig .tc := ⟨.hbm, 368, rfl⟩
abbrev main_call0_call1_v73 : Ref sig .tc := ⟨.hbm, 369, rfl⟩
abbrev main_call0_call1_v74 : Ref sig .tc := ⟨.hbm, 370, rfl⟩
abbrev main_call0_call1_c_18 : Ref sig .tc := ⟨.hbm, 371, rfl⟩
abbrev main_call0_call1_v75 : Ref sig .tc := ⟨.hbm, 372, rfl⟩
abbrev main_call0_call1_v76 : Ref sig .tc := ⟨.hbm, 373, rfl⟩
abbrev main_call0_call1_c_19 : Ref sig .tc := ⟨.hbm, 374, rfl⟩
abbrev main_call0_call1_v77 : Ref sig .tc := ⟨.hbm, 375, rfl⟩
abbrev main_call0_call1_v78 : Ref sig .tc := ⟨.hbm, 376, rfl⟩
abbrev main_call0_call1_v79 : Ref sig .tc := ⟨.hbm, 377, rfl⟩
abbrev main_call0_call1_v80 : Ref sig .tc := ⟨.hbm, 378, rfl⟩
abbrev main_call0_call1_v81 : Ref sig .tc := ⟨.hbm, 379, rfl⟩
abbrev main_call0_call1_c_20 : Ref sig .tc := ⟨.hbm, 380, rfl⟩
abbrev main_call0_call1_v82 : Ref sig .tc := ⟨.hbm, 381, rfl⟩
abbrev main_call0_call1_v83 : Ref sig .tc := ⟨.hbm, 382, rfl⟩
abbrev main_call0_call1_c_21 : Ref sig .tc := ⟨.hbm, 383, rfl⟩
abbrev main_call0_call1_v84 : Ref sig .tc := ⟨.hbm, 384, rfl⟩
abbrev main_call0_call1_v85 : Ref sig .tc := ⟨.hbm, 385, rfl⟩
abbrev main_call0_call1_v86 : Ref sig .tc := ⟨.hbm, 386, rfl⟩
abbrev main_call0_call1_v87 : Ref sig .tc := ⟨.hbm, 387, rfl⟩
abbrev main_call0_call1_v88 : Ref sig .tc := ⟨.hbm, 388, rfl⟩
abbrev main_call0_call1_c_22 : Ref sig .tc := ⟨.hbm, 389, rfl⟩
abbrev main_call0_call1_v89 : Ref sig .tc := ⟨.hbm, 390, rfl⟩
abbrev main_call0_call1_v90 : Ref sig .tc := ⟨.hbm, 391, rfl⟩
abbrev main_call0_call1_c_23 : Ref sig .tc := ⟨.hbm, 392, rfl⟩
abbrev main_call0_call1_v91 : Ref sig .tc := ⟨.hbm, 393, rfl⟩
abbrev main_call0_call1_v92 : Ref sig .tc := ⟨.hbm, 394, rfl⟩
abbrev main_call0_call1_v93 : Ref sig .tc := ⟨.hbm, 395, rfl⟩
abbrev main_call0_call1_v94 : Ref sig .tc := ⟨.hbm, 396, rfl⟩
abbrev main_call0_call1_v95 : Ref sig .tc := ⟨.hbm, 397, rfl⟩
abbrev main_call0_call1_c_24 : Ref sig .tc := ⟨.hbm, 398, rfl⟩
abbrev main_call0_call1_v96 : Ref sig .tc := ⟨.hbm, 399, rfl⟩
abbrev main_call0_call1_v97 : Ref sig .tc := ⟨.hbm, 400, rfl⟩
abbrev main_call0_call1_c_25 : Ref sig .tc := ⟨.hbm, 401, rfl⟩
abbrev main_call0_call1_v98 : Ref sig .tc := ⟨.hbm, 402, rfl⟩
abbrev main_call0_call1_v99 : Ref sig .tc := ⟨.hbm, 403, rfl⟩
abbrev main_call0_call1_v100 : Ref sig .tc := ⟨.hbm, 404, rfl⟩
abbrev main_call0_call1_v101 : Ref sig .tc := ⟨.hbm, 405, rfl⟩
abbrev main_call0_call1_v102 : Ref sig .tc := ⟨.hbm, 406, rfl⟩
abbrev main_call0_call1_v103 : Ref sig .tc := ⟨.hbm, 407, rfl⟩
abbrev main_call0_call1_v104 : Ref sig .tc := ⟨.hbm, 408, rfl⟩
abbrev main_call0_call1_v105 : Ref sig .tc := ⟨.hbm, 409, rfl⟩
abbrev main_call0_call1_c_26 : Ref sig .tc := ⟨.hbm, 410, rfl⟩
abbrev main_call0_call1_v106 : Ref sig .tc := ⟨.hbm, 411, rfl⟩
abbrev main_call0_call1_v107 : Ref sig .tc := ⟨.hbm, 412, rfl⟩
abbrev main_call0_call1_v108 : Ref sig .tc := ⟨.hbm, 413, rfl⟩
abbrev main_call0_call1_c_27 : Ref sig .tc := ⟨.hbm, 414, rfl⟩
abbrev main_call0_call1_v109 : Ref sig .tc := ⟨.hbm, 415, rfl⟩
abbrev main_call0_call1_v110 : Ref sig .tc := ⟨.hbm, 416, rfl⟩
abbrev main_call0_call1_c_28 : Ref sig .tc := ⟨.hbm, 417, rfl⟩
abbrev main_call0_call1_v111 : Ref sig .tc := ⟨.hbm, 418, rfl⟩
abbrev main_call0_call1_v112 : Ref sig .tc := ⟨.hbm, 419, rfl⟩
abbrev main_call0_call1_v113 : Ref sig .tc := ⟨.hbm, 420, rfl⟩
abbrev main_call0_call1_v114 : Ref sig .tc := ⟨.hbm, 421, rfl⟩
abbrev main_call0_call1_v115 : Ref sig .tc := ⟨.hbm, 422, rfl⟩
abbrev main_call0_call1_c_29 : Ref sig .tc := ⟨.hbm, 423, rfl⟩
abbrev main_call0_call1_v116 : Ref sig .tc := ⟨.hbm, 424, rfl⟩
abbrev main_call0_call1_v117 : Ref sig .tc := ⟨.hbm, 425, rfl⟩
abbrev main_call0_call1_c_30 : Ref sig .tc := ⟨.hbm, 426, rfl⟩
abbrev main_call0_call1_v118 : Ref sig .tc := ⟨.hbm, 427, rfl⟩
abbrev main_call0_call1_v119 : Ref sig .tc := ⟨.hbm, 428, rfl⟩
abbrev main_call0_call1_v120 : Ref sig .tc := ⟨.hbm, 429, rfl⟩
abbrev main_call0_call1_v121 : Ref sig .tc := ⟨.hbm, 430, rfl⟩
abbrev main_call0_call1_v122 : Ref sig .tc := ⟨.hbm, 431, rfl⟩
abbrev main_call0_call1_c_31 : Ref sig .tc := ⟨.hbm, 432, rfl⟩
abbrev main_call0_call1_v123 : Ref sig .tc := ⟨.hbm, 433, rfl⟩
abbrev main_call0_call1_v124 : Ref sig .tc := ⟨.hbm, 434, rfl⟩
abbrev main_call0_call1_c_32 : Ref sig .tc := ⟨.hbm, 435, rfl⟩
abbrev main_call0_call1_v125 : Ref sig .tc := ⟨.hbm, 436, rfl⟩
abbrev main_call0_call1_v126 : Ref sig .tc := ⟨.hbm, 437, rfl⟩
abbrev main_call0_call1_v127 : Ref sig .tc := ⟨.hbm, 438, rfl⟩
abbrev main_call0_call1_v128 : Ref sig .tc := ⟨.hbm, 439, rfl⟩
abbrev main_call0_call1_v129 : Ref sig .tc := ⟨.hbm, 440, rfl⟩
abbrev main_call0_call1_c_33 : Ref sig .tc := ⟨.hbm, 441, rfl⟩
abbrev main_call0_call1_v130 : Ref sig .tc := ⟨.hbm, 442, rfl⟩
abbrev main_call0_call1_v131 : Ref sig .tc := ⟨.hbm, 443, rfl⟩
abbrev main_call0_call1_c_34 : Ref sig .tc := ⟨.hbm, 444, rfl⟩
abbrev main_call0_call1_v132 : Ref sig .tc := ⟨.hbm, 445, rfl⟩
abbrev main_call0_call1_v133 : Ref sig .tc := ⟨.hbm, 446, rfl⟩
abbrev main_call0_call1_v134 : Ref sig .tc := ⟨.hbm, 447, rfl⟩
abbrev main_call0_call1_v135 : Ref sig .tc := ⟨.hbm, 448, rfl⟩
abbrev main_call0_call1_v136 : Ref sig .tc := ⟨.hbm, 449, rfl⟩
abbrev main_call0_call1_v137 : Ref sig .tc := ⟨.hbm, 450, rfl⟩
abbrev main_call0_call1_v138 : Ref sig .tc := ⟨.hbm, 451, rfl⟩
abbrev main_call0_call1_v139 : Ref sig .tc := ⟨.hbm, 452, rfl⟩
abbrev main_call0_call1_c_35 : Ref sig .tc := ⟨.hbm, 453, rfl⟩
abbrev main_call0_call1_v140 : Ref sig .tc := ⟨.hbm, 454, rfl⟩
abbrev main_call0_call1_v141 : Ref sig .tc := ⟨.hbm, 455, rfl⟩
abbrev main_call0_call1_v142 : Ref sig .tc := ⟨.hbm, 456, rfl⟩
abbrev main_call0_call1_c_36 : Ref sig .tc := ⟨.hbm, 457, rfl⟩
abbrev main_call0_call1_v143 : Ref sig .tc := ⟨.hbm, 458, rfl⟩
abbrev main_call0_call1_v144 : Ref sig .tc := ⟨.hbm, 459, rfl⟩
abbrev main_call0_call1_c_37 : Ref sig .tc := ⟨.hbm, 460, rfl⟩
abbrev main_call0_call1_v145 : Ref sig .tc := ⟨.hbm, 461, rfl⟩
abbrev main_call0_call1_v146 : Ref sig .tc := ⟨.hbm, 462, rfl⟩
abbrev main_call0_call1_v147 : Ref sig .tc := ⟨.hbm, 463, rfl⟩
abbrev main_call0_call1_v148 : Ref sig .tc := ⟨.hbm, 464, rfl⟩
abbrev main_call0_call1_v149 : Ref sig .tc := ⟨.hbm, 465, rfl⟩
abbrev main_call0_call1_c_38 : Ref sig .tc := ⟨.hbm, 466, rfl⟩
abbrev main_call0_call1_v150 : Ref sig .tc := ⟨.hbm, 467, rfl⟩
abbrev main_call0_call1_v151 : Ref sig .tc := ⟨.hbm, 468, rfl⟩
abbrev main_call0_call1_c_39 : Ref sig .tc := ⟨.hbm, 469, rfl⟩
abbrev main_call0_call1_v152 : Ref sig .tc := ⟨.hbm, 470, rfl⟩
abbrev main_call0_call1_v153 : Ref sig .tc := ⟨.hbm, 471, rfl⟩
abbrev main_call0_call1_v154 : Ref sig .tc := ⟨.hbm, 472, rfl⟩
abbrev main_call0_call1_v155 : Ref sig .tc := ⟨.hbm, 473, rfl⟩
abbrev main_call0_call1_v156 : Ref sig .tc := ⟨.hbm, 474, rfl⟩
abbrev main_call0_call1_c_40 : Ref sig .tc := ⟨.hbm, 475, rfl⟩
abbrev main_call0_call1_v157 : Ref sig .tc := ⟨.hbm, 476, rfl⟩
abbrev main_call0_call1_v158 : Ref sig .tc := ⟨.hbm, 477, rfl⟩
abbrev main_call0_call1_c_41 : Ref sig .tc := ⟨.hbm, 478, rfl⟩
abbrev main_call0_call1_v159 : Ref sig .tc := ⟨.hbm, 479, rfl⟩
abbrev main_call0_call1_v160 : Ref sig .tc := ⟨.hbm, 480, rfl⟩
abbrev main_call0_call1_v161 : Ref sig .tc := ⟨.hbm, 481, rfl⟩
abbrev main_call0_call1_v162 : Ref sig .tc := ⟨.hbm, 482, rfl⟩
abbrev main_call0_call1_v163 : Ref sig .tc := ⟨.hbm, 483, rfl⟩
abbrev main_call0_call1_c_42 : Ref sig .tc := ⟨.hbm, 484, rfl⟩
abbrev main_call0_call1_v164 : Ref sig .tc := ⟨.hbm, 485, rfl⟩
abbrev main_call0_call1_v165 : Ref sig .tc := ⟨.hbm, 486, rfl⟩
abbrev main_call0_call1_c_43 : Ref sig .tc := ⟨.hbm, 487, rfl⟩
abbrev main_call0_call1_v166 : Ref sig .tc := ⟨.hbm, 488, rfl⟩
abbrev main_call0_call1_v167 : Ref sig .tc := ⟨.hbm, 489, rfl⟩
abbrev main_call0_call1_v168 : Ref sig .tc := ⟨.hbm, 490, rfl⟩
abbrev main_call0_call1_v169 : Ref sig .tc := ⟨.hbm, 491, rfl⟩
abbrev main_call0_call1_v170 : Ref sig .tc := ⟨.hbm, 492, rfl⟩
abbrev main_call0_v16_0 : Ref sig .tc := ⟨.hbm, 493, rfl⟩
abbrev main_call0_call1_v172 : Ref sig .tc := ⟨.hbm, 494, rfl⟩
abbrev main_call0_call1_v173 : Ref sig .tc := ⟨.hbm, 495, rfl⟩
abbrev main_call0_call1_c_44 : Ref sig .tc := ⟨.hbm, 496, rfl⟩
abbrev main_call0_call1_v174 : Ref sig .tc := ⟨.hbm, 497, rfl⟩
abbrev main_call0_v16_1 : Ref sig .tc := ⟨.hbm, 498, rfl⟩
abbrev main_call0_v17 : Ref sig .tc := ⟨.hbm, 499, rfl⟩
abbrev main_call0_v18_0 : Ref sig .tc := ⟨.hbm, 500, rfl⟩
abbrev main_call0_v18_1 : Ref sig .tc := ⟨.hbm, 501, rfl⟩
abbrev main_call0_call2_v0 : Ref sig .tc := ⟨.hbm, 502, rfl⟩
abbrev main_call0_call2_v1 : Ref sig .tc := ⟨.hbm, 503, rfl⟩
abbrev main_call0_call2_v2 : Ref sig .tc := ⟨.hbm, 504, rfl⟩
abbrev main_call0_call2_v3 : Ref sig .tc := ⟨.hbm, 505, rfl⟩
abbrev main_call0_call2_v4 : Ref sig .tc := ⟨.hbm, 506, rfl⟩
abbrev main_call0_call2_c : Ref sig .tc := ⟨.hbm, 507, rfl⟩
abbrev main_call0_call2_v5 : Ref sig .tc := ⟨.hbm, 508, rfl⟩
abbrev main_call0_call2_v6 : Ref sig .tc := ⟨.hbm, 509, rfl⟩
abbrev main_call0_call2_c_0 : Ref sig .tc := ⟨.hbm, 510, rfl⟩
abbrev main_call0_call2_v7 : Ref sig .tc := ⟨.hbm, 511, rfl⟩
abbrev main_call0_call2_v8 : Ref sig .tc := ⟨.hbm, 512, rfl⟩
abbrev main_call0_call2_v9 : Ref sig .tc := ⟨.hbm, 513, rfl⟩
abbrev main_call0_call2_v10 : Ref sig .tc := ⟨.hbm, 514, rfl⟩
abbrev main_call0_call2_call0_v0 : Ref sig .tc := ⟨.hbm, 515, rfl⟩
abbrev main_call0_call2_call0_c : Ref sig .tc := ⟨.hbm, 516, rfl⟩
abbrev main_call0_call2_call0_v1 : Ref sig .tc := ⟨.hbm, 517, rfl⟩
abbrev main_call0_call2_call0_v2 : Ref sig .tc := ⟨.hbm, 518, rfl⟩
abbrev main_call0_call2_call0_v3 : Ref sig .tc := ⟨.hbm, 519, rfl⟩
abbrev main_call0_call2_call0_v4 : Ref sig .tc := ⟨.hbm, 520, rfl⟩
abbrev main_call0_call2_call0_v5 : Ref sig .tc := ⟨.hbm, 521, rfl⟩
abbrev main_call0_call2_call0_v6 : Ref sig .tc := ⟨.hbm, 522, rfl⟩
abbrev main_call0_call2_call0_c_0 : Ref sig .tc := ⟨.hbm, 523, rfl⟩
abbrev main_call0_call2_call0_v7 : Ref sig .tc := ⟨.hbm, 524, rfl⟩
abbrev main_call0_call2_call0_v8 : Ref sig .tc := ⟨.hbm, 525, rfl⟩
abbrev main_call0_call2_call0_c_1 : Ref sig .tc := ⟨.hbm, 526, rfl⟩
abbrev main_call0_call2_call0_v9 : Ref sig .tc := ⟨.hbm, 527, rfl⟩
abbrev main_call0_call2_call0_v10 : Ref sig .tc := ⟨.hbm, 528, rfl⟩
abbrev main_call0_call2_call0_v11 : Ref sig .tc := ⟨.hbm, 529, rfl⟩
abbrev main_call0_call2_call0_v12 : Ref sig .tc := ⟨.hbm, 530, rfl⟩
abbrev main_call0_call2_call0_v13 : Ref sig .tc := ⟨.hbm, 531, rfl⟩
abbrev main_call0_call2_call0_c_2 : Ref sig .tc := ⟨.hbm, 532, rfl⟩
abbrev main_call0_call2_call0_v14 : Ref sig .tc := ⟨.hbm, 533, rfl⟩
abbrev main_call0_call2_call0_v15 : Ref sig .tc := ⟨.hbm, 534, rfl⟩
abbrev main_call0_call2_call0_c_3 : Ref sig .tc := ⟨.hbm, 535, rfl⟩
abbrev main_call0_call2_call0_v16 : Ref sig .tc := ⟨.hbm, 536, rfl⟩
abbrev main_call0_call2_call0_v17 : Ref sig .tc := ⟨.hbm, 537, rfl⟩
abbrev main_call0_call2_call0_v18 : Ref sig .tc := ⟨.hbm, 538, rfl⟩
abbrev main_call0_call2_call0_v19 : Ref sig .tc := ⟨.hbm, 539, rfl⟩
abbrev main_call0_call2_call0_v20 : Ref sig .tc := ⟨.hbm, 540, rfl⟩
abbrev main_call0_call2_call0_c_4 : Ref sig .tc := ⟨.hbm, 541, rfl⟩
abbrev main_call0_call2_call0_v21 : Ref sig .tc := ⟨.hbm, 542, rfl⟩
abbrev main_call0_call2_call0_v22 : Ref sig .tc := ⟨.hbm, 543, rfl⟩
abbrev main_call0_call2_call0_c_5 : Ref sig .tc := ⟨.hbm, 544, rfl⟩
abbrev main_call0_call2_call0_v23 : Ref sig .tc := ⟨.hbm, 545, rfl⟩
abbrev main_call0_call2_call0_v24 : Ref sig .tc := ⟨.hbm, 546, rfl⟩
abbrev main_call0_call2_call0_v25 : Ref sig .tc := ⟨.hbm, 547, rfl⟩
abbrev main_call0_call2_call0_v26 : Ref sig .tc := ⟨.hbm, 548, rfl⟩
abbrev main_call0_call2_call0_v27 : Ref sig .tc := ⟨.hbm, 549, rfl⟩
abbrev main_call0_call2_call0_c_6 : Ref sig .tc := ⟨.hbm, 550, rfl⟩
abbrev main_call0_call2_call0_v28 : Ref sig .tc := ⟨.hbm, 551, rfl⟩
abbrev main_call0_call2_call0_v29 : Ref sig .tc := ⟨.hbm, 552, rfl⟩
abbrev main_call0_call2_call0_c_7 : Ref sig .tc := ⟨.hbm, 553, rfl⟩
abbrev main_call0_call2_call0_v30 : Ref sig .tc := ⟨.hbm, 554, rfl⟩
abbrev main_call0_call2_call0_v31 : Ref sig .tc := ⟨.hbm, 555, rfl⟩
abbrev main_call0_call2_call0_v32 : Ref sig .tc := ⟨.hbm, 556, rfl⟩
abbrev main_call0_call2_call0_v33 : Ref sig .tc := ⟨.hbm, 557, rfl⟩
abbrev main_call0_call2_call0_v34 : Ref sig .tc := ⟨.hbm, 558, rfl⟩
abbrev main_call0_call2_call0_v35 : Ref sig .tc := ⟨.hbm, 559, rfl⟩
abbrev main_call0_call2_call0_v36 : Ref sig .tc := ⟨.hbm, 560, rfl⟩
abbrev main_call0_call2_call0_v37 : Ref sig .tc := ⟨.hbm, 561, rfl⟩
abbrev main_call0_call2_call0_c_8 : Ref sig .tc := ⟨.hbm, 562, rfl⟩
abbrev main_call0_call2_call0_v38 : Ref sig .tc := ⟨.hbm, 563, rfl⟩
abbrev main_call0_call2_call0_v39 : Ref sig .tc := ⟨.hbm, 564, rfl⟩
abbrev main_call0_call2_call0_v40 : Ref sig .tc := ⟨.hbm, 565, rfl⟩
abbrev main_call0_call2_call0_c_9 : Ref sig .tc := ⟨.hbm, 566, rfl⟩
abbrev main_call0_call2_call0_v41 : Ref sig .tc := ⟨.hbm, 567, rfl⟩
abbrev main_call0_call2_call0_v42 : Ref sig .tc := ⟨.hbm, 568, rfl⟩
abbrev main_call0_call2_call0_c_10 : Ref sig .tc := ⟨.hbm, 569, rfl⟩
abbrev main_call0_call2_call0_v43 : Ref sig .tc := ⟨.hbm, 570, rfl⟩
abbrev main_call0_call2_call0_v44 : Ref sig .tc := ⟨.hbm, 571, rfl⟩
abbrev main_call0_call2_call0_v45 : Ref sig .tc := ⟨.hbm, 572, rfl⟩
abbrev main_call0_call2_call0_v46 : Ref sig .tc := ⟨.hbm, 573, rfl⟩
abbrev main_call0_call2_call0_v47 : Ref sig .tc := ⟨.hbm, 574, rfl⟩
abbrev main_call0_call2_call0_c_11 : Ref sig .tc := ⟨.hbm, 575, rfl⟩
abbrev main_call0_call2_call0_v48 : Ref sig .tc := ⟨.hbm, 576, rfl⟩
abbrev main_call0_call2_call0_v49 : Ref sig .tc := ⟨.hbm, 577, rfl⟩
abbrev main_call0_call2_call0_c_12 : Ref sig .tc := ⟨.hbm, 578, rfl⟩
abbrev main_call0_call2_call0_v50 : Ref sig .tc := ⟨.hbm, 579, rfl⟩
abbrev main_call0_call2_call0_v51 : Ref sig .tc := ⟨.hbm, 580, rfl⟩
abbrev main_call0_call2_call0_v52 : Ref sig .tc := ⟨.hbm, 581, rfl⟩
abbrev main_call0_call2_call0_v53 : Ref sig .tc := ⟨.hbm, 582, rfl⟩
abbrev main_call0_call2_call0_v54 : Ref sig .tc := ⟨.hbm, 583, rfl⟩
abbrev main_call0_call2_call0_c_13 : Ref sig .tc := ⟨.hbm, 584, rfl⟩
abbrev main_call0_call2_call0_v55 : Ref sig .tc := ⟨.hbm, 585, rfl⟩
abbrev main_call0_call2_call0_v56 : Ref sig .tc := ⟨.hbm, 586, rfl⟩
abbrev main_call0_call2_call0_c_14 : Ref sig .tc := ⟨.hbm, 587, rfl⟩
abbrev main_call0_call2_call0_v57 : Ref sig .tc := ⟨.hbm, 588, rfl⟩
abbrev main_call0_call2_call0_v58 : Ref sig .tc := ⟨.hbm, 589, rfl⟩
abbrev main_call0_call2_call0_v59 : Ref sig .tc := ⟨.hbm, 590, rfl⟩
abbrev main_call0_call2_call0_v60 : Ref sig .tc := ⟨.hbm, 591, rfl⟩
abbrev main_call0_call2_call0_v61 : Ref sig .tc := ⟨.hbm, 592, rfl⟩
abbrev main_call0_call2_call0_c_15 : Ref sig .tc := ⟨.hbm, 593, rfl⟩
abbrev main_call0_call2_call0_v62 : Ref sig .tc := ⟨.hbm, 594, rfl⟩
abbrev main_call0_call2_call0_v63 : Ref sig .tc := ⟨.hbm, 595, rfl⟩
abbrev main_call0_call2_call0_c_16 : Ref sig .tc := ⟨.hbm, 596, rfl⟩
abbrev main_call0_call2_call0_v64 : Ref sig .tc := ⟨.hbm, 597, rfl⟩
abbrev main_call0_call2_call0_v65 : Ref sig .tc := ⟨.hbm, 598, rfl⟩
abbrev main_call0_call2_call0_v66 : Ref sig .tc := ⟨.hbm, 599, rfl⟩
abbrev main_call0_call2_call0_v67 : Ref sig .tc := ⟨.hbm, 600, rfl⟩
abbrev main_call0_call2_call0_v68 : Ref sig .tc := ⟨.hbm, 601, rfl⟩
abbrev main_call0_call2_call0_v69 : Ref sig .tc := ⟨.hbm, 602, rfl⟩
abbrev main_call0_call2_call0_v70 : Ref sig .tc := ⟨.hbm, 603, rfl⟩
abbrev main_call0_call2_call0_v71 : Ref sig .tc := ⟨.hbm, 604, rfl⟩
abbrev main_call0_call2_call0_c_17 : Ref sig .tc := ⟨.hbm, 605, rfl⟩
abbrev main_call0_call2_call0_v72 : Ref sig .tc := ⟨.hbm, 606, rfl⟩
abbrev main_call0_call2_call0_v73 : Ref sig .tc := ⟨.hbm, 607, rfl⟩
abbrev main_call0_call2_call0_v74 : Ref sig .tc := ⟨.hbm, 608, rfl⟩
abbrev main_call0_call2_call0_c_18 : Ref sig .tc := ⟨.hbm, 609, rfl⟩
abbrev main_call0_call2_call0_v75 : Ref sig .tc := ⟨.hbm, 610, rfl⟩
abbrev main_call0_call2_call0_v76 : Ref sig .tc := ⟨.hbm, 611, rfl⟩
abbrev main_call0_call2_call0_c_19 : Ref sig .tc := ⟨.hbm, 612, rfl⟩
abbrev main_call0_call2_call0_v77 : Ref sig .tc := ⟨.hbm, 613, rfl⟩
abbrev main_call0_call2_call0_v78 : Ref sig .tc := ⟨.hbm, 614, rfl⟩
abbrev main_call0_call2_call0_v79 : Ref sig .tc := ⟨.hbm, 615, rfl⟩
abbrev main_call0_call2_call0_v80 : Ref sig .tc := ⟨.hbm, 616, rfl⟩
abbrev main_call0_call2_call0_v81 : Ref sig .tc := ⟨.hbm, 617, rfl⟩
abbrev main_call0_call2_call0_c_20 : Ref sig .tc := ⟨.hbm, 618, rfl⟩
abbrev main_call0_call2_call0_v82 : Ref sig .tc := ⟨.hbm, 619, rfl⟩
abbrev main_call0_call2_call0_v83 : Ref sig .tc := ⟨.hbm, 620, rfl⟩
abbrev main_call0_call2_call0_c_21 : Ref sig .tc := ⟨.hbm, 621, rfl⟩
abbrev main_call0_call2_call0_v84 : Ref sig .tc := ⟨.hbm, 622, rfl⟩
abbrev main_call0_call2_call0_v85 : Ref sig .tc := ⟨.hbm, 623, rfl⟩
abbrev main_call0_call2_call0_v86 : Ref sig .tc := ⟨.hbm, 624, rfl⟩
abbrev main_call0_call2_call0_v87 : Ref sig .tc := ⟨.hbm, 625, rfl⟩
abbrev main_call0_call2_call0_v88 : Ref sig .tc := ⟨.hbm, 626, rfl⟩
abbrev main_call0_call2_call0_c_22 : Ref sig .tc := ⟨.hbm, 627, rfl⟩
abbrev main_call0_call2_call0_v89 : Ref sig .tc := ⟨.hbm, 628, rfl⟩
abbrev main_call0_call2_call0_v90 : Ref sig .tc := ⟨.hbm, 629, rfl⟩
abbrev main_call0_call2_call0_c_23 : Ref sig .tc := ⟨.hbm, 630, rfl⟩
abbrev main_call0_call2_call0_v91 : Ref sig .tc := ⟨.hbm, 631, rfl⟩
abbrev main_call0_call2_call0_v92 : Ref sig .tc := ⟨.hbm, 632, rfl⟩
abbrev main_call0_call2_call0_v93 : Ref sig .tc := ⟨.hbm, 633, rfl⟩
abbrev main_call0_call2_call0_v94 : Ref sig .tc := ⟨.hbm, 634, rfl⟩
abbrev main_call0_call2_call0_v95 : Ref sig .tc := ⟨.hbm, 635, rfl⟩
abbrev main_call0_call2_call0_c_24 : Ref sig .tc := ⟨.hbm, 636, rfl⟩
abbrev main_call0_call2_call0_v96 : Ref sig .tc := ⟨.hbm, 637, rfl⟩
abbrev main_call0_call2_call0_v97 : Ref sig .tc := ⟨.hbm, 638, rfl⟩
abbrev main_call0_call2_call0_c_25 : Ref sig .tc := ⟨.hbm, 639, rfl⟩
abbrev main_call0_call2_call0_v98 : Ref sig .tc := ⟨.hbm, 640, rfl⟩
abbrev main_call0_call2_call0_v99 : Ref sig .tc := ⟨.hbm, 641, rfl⟩
abbrev main_call0_call2_call0_v100 : Ref sig .tc := ⟨.hbm, 642, rfl⟩
abbrev main_call0_call2_call0_v101 : Ref sig .tc := ⟨.hbm, 643, rfl⟩
abbrev main_call0_call2_call0_v102 : Ref sig .tc := ⟨.hbm, 644, rfl⟩
abbrev main_call0_call2_call0_v103 : Ref sig .tc := ⟨.hbm, 645, rfl⟩
abbrev main_call0_call2_call0_v104 : Ref sig .tc := ⟨.hbm, 646, rfl⟩
abbrev main_call0_call2_call0_v105 : Ref sig .tc := ⟨.hbm, 647, rfl⟩
abbrev main_call0_call2_call0_c_26 : Ref sig .tc := ⟨.hbm, 648, rfl⟩
abbrev main_call0_call2_call0_v106 : Ref sig .tc := ⟨.hbm, 649, rfl⟩
abbrev main_call0_call2_call0_v107 : Ref sig .tc := ⟨.hbm, 650, rfl⟩
abbrev main_call0_call2_call0_v108 : Ref sig .tc := ⟨.hbm, 651, rfl⟩
abbrev main_call0_call2_call0_c_27 : Ref sig .tc := ⟨.hbm, 652, rfl⟩
abbrev main_call0_call2_call0_v109 : Ref sig .tc := ⟨.hbm, 653, rfl⟩
abbrev main_call0_call2_call0_v110 : Ref sig .tc := ⟨.hbm, 654, rfl⟩
abbrev main_call0_call2_call0_c_28 : Ref sig .tc := ⟨.hbm, 655, rfl⟩
abbrev main_call0_call2_call0_v111 : Ref sig .tc := ⟨.hbm, 656, rfl⟩
abbrev main_call0_call2_call0_v112 : Ref sig .tc := ⟨.hbm, 657, rfl⟩
abbrev main_call0_call2_call0_v113 : Ref sig .tc := ⟨.hbm, 658, rfl⟩
abbrev main_call0_call2_call0_v114 : Ref sig .tc := ⟨.hbm, 659, rfl⟩
abbrev main_call0_call2_call0_v115 : Ref sig .tc := ⟨.hbm, 660, rfl⟩
abbrev main_call0_call2_call0_c_29 : Ref sig .tc := ⟨.hbm, 661, rfl⟩
abbrev main_call0_call2_call0_v116 : Ref sig .tc := ⟨.hbm, 662, rfl⟩
abbrev main_call0_call2_call0_v117 : Ref sig .tc := ⟨.hbm, 663, rfl⟩
abbrev main_call0_call2_call0_c_30 : Ref sig .tc := ⟨.hbm, 664, rfl⟩
abbrev main_call0_call2_call0_v118 : Ref sig .tc := ⟨.hbm, 665, rfl⟩
abbrev main_call0_call2_call0_v119 : Ref sig .tc := ⟨.hbm, 666, rfl⟩
abbrev main_call0_call2_call0_v120 : Ref sig .tc := ⟨.hbm, 667, rfl⟩
abbrev main_call0_call2_call0_v121 : Ref sig .tc := ⟨.hbm, 668, rfl⟩
abbrev main_call0_call2_call0_v122 : Ref sig .tc := ⟨.hbm, 669, rfl⟩
abbrev main_call0_call2_call0_c_31 : Ref sig .tc := ⟨.hbm, 670, rfl⟩
abbrev main_call0_call2_call0_v123 : Ref sig .tc := ⟨.hbm, 671, rfl⟩
abbrev main_call0_call2_call0_v124 : Ref sig .tc := ⟨.hbm, 672, rfl⟩
abbrev main_call0_call2_call0_c_32 : Ref sig .tc := ⟨.hbm, 673, rfl⟩
abbrev main_call0_call2_call0_v125 : Ref sig .tc := ⟨.hbm, 674, rfl⟩
abbrev main_call0_call2_call0_v126 : Ref sig .tc := ⟨.hbm, 675, rfl⟩
abbrev main_call0_call2_call0_v127 : Ref sig .tc := ⟨.hbm, 676, rfl⟩
abbrev main_call0_call2_call0_v128 : Ref sig .tc := ⟨.hbm, 677, rfl⟩
abbrev main_call0_call2_call0_v129 : Ref sig .tc := ⟨.hbm, 678, rfl⟩
abbrev main_call0_call2_call0_c_33 : Ref sig .tc := ⟨.hbm, 679, rfl⟩
abbrev main_call0_call2_call0_v130 : Ref sig .tc := ⟨.hbm, 680, rfl⟩
abbrev main_call0_call2_call0_v131 : Ref sig .tc := ⟨.hbm, 681, rfl⟩
abbrev main_call0_call2_call0_c_34 : Ref sig .tc := ⟨.hbm, 682, rfl⟩
abbrev main_call0_call2_call0_v132 : Ref sig .tc := ⟨.hbm, 683, rfl⟩
abbrev main_call0_call2_call0_v133 : Ref sig .tc := ⟨.hbm, 684, rfl⟩
abbrev main_call0_call2_call0_v134 : Ref sig .tc := ⟨.hbm, 685, rfl⟩
abbrev main_call0_call2_call0_v135 : Ref sig .tc := ⟨.hbm, 686, rfl⟩
abbrev main_call0_call2_call0_v136 : Ref sig .tc := ⟨.hbm, 687, rfl⟩
abbrev main_call0_call2_call0_v137 : Ref sig .tc := ⟨.hbm, 688, rfl⟩
abbrev main_call0_call2_call0_v138 : Ref sig .tc := ⟨.hbm, 689, rfl⟩
abbrev main_call0_call2_call0_v139 : Ref sig .tc := ⟨.hbm, 690, rfl⟩
abbrev main_call0_call2_call0_c_35 : Ref sig .tc := ⟨.hbm, 691, rfl⟩
abbrev main_call0_call2_call0_v140 : Ref sig .tc := ⟨.hbm, 692, rfl⟩
abbrev main_call0_call2_call0_v141 : Ref sig .tc := ⟨.hbm, 693, rfl⟩
abbrev main_call0_call2_call0_v142 : Ref sig .tc := ⟨.hbm, 694, rfl⟩
abbrev main_call0_call2_call0_c_36 : Ref sig .tc := ⟨.hbm, 695, rfl⟩
abbrev main_call0_call2_call0_v143 : Ref sig .tc := ⟨.hbm, 696, rfl⟩
abbrev main_call0_call2_call0_v144 : Ref sig .tc := ⟨.hbm, 697, rfl⟩
abbrev main_call0_call2_call0_c_37 : Ref sig .tc := ⟨.hbm, 698, rfl⟩
abbrev main_call0_call2_call0_v145 : Ref sig .tc := ⟨.hbm, 699, rfl⟩
abbrev main_call0_call2_call0_v146 : Ref sig .tc := ⟨.hbm, 700, rfl⟩
abbrev main_call0_call2_call0_v147 : Ref sig .tc := ⟨.hbm, 701, rfl⟩
abbrev main_call0_call2_call0_v148 : Ref sig .tc := ⟨.hbm, 702, rfl⟩
abbrev main_call0_call2_call0_v149 : Ref sig .tc := ⟨.hbm, 703, rfl⟩
abbrev main_call0_call2_call0_c_38 : Ref sig .tc := ⟨.hbm, 704, rfl⟩
abbrev main_call0_call2_call0_v150 : Ref sig .tc := ⟨.hbm, 705, rfl⟩
abbrev main_call0_call2_call0_v151 : Ref sig .tc := ⟨.hbm, 706, rfl⟩
abbrev main_call0_call2_call0_c_39 : Ref sig .tc := ⟨.hbm, 707, rfl⟩
abbrev main_call0_call2_call0_v152 : Ref sig .tc := ⟨.hbm, 708, rfl⟩
abbrev main_call0_call2_call0_v153 : Ref sig .tc := ⟨.hbm, 709, rfl⟩
abbrev main_call0_call2_call0_v154 : Ref sig .tc := ⟨.hbm, 710, rfl⟩
abbrev main_call0_call2_call0_v155 : Ref sig .tc := ⟨.hbm, 711, rfl⟩
abbrev main_call0_call2_call0_v156 : Ref sig .tc := ⟨.hbm, 712, rfl⟩
abbrev main_call0_call2_call0_c_40 : Ref sig .tc := ⟨.hbm, 713, rfl⟩
abbrev main_call0_call2_call0_v157 : Ref sig .tc := ⟨.hbm, 714, rfl⟩
abbrev main_call0_call2_call0_v158 : Ref sig .tc := ⟨.hbm, 715, rfl⟩
abbrev main_call0_call2_call0_c_41 : Ref sig .tc := ⟨.hbm, 716, rfl⟩
abbrev main_call0_call2_call0_v159 : Ref sig .tc := ⟨.hbm, 717, rfl⟩
abbrev main_call0_call2_call0_v160 : Ref sig .tc := ⟨.hbm, 718, rfl⟩
abbrev main_call0_call2_call0_v161 : Ref sig .tc := ⟨.hbm, 719, rfl⟩
abbrev main_call0_call2_call0_v162 : Ref sig .tc := ⟨.hbm, 720, rfl⟩
abbrev main_call0_call2_call0_v163 : Ref sig .tc := ⟨.hbm, 721, rfl⟩
abbrev main_call0_call2_call0_c_42 : Ref sig .tc := ⟨.hbm, 722, rfl⟩
abbrev main_call0_call2_call0_v164 : Ref sig .tc := ⟨.hbm, 723, rfl⟩
abbrev main_call0_call2_call0_v165 : Ref sig .tc := ⟨.hbm, 724, rfl⟩
abbrev main_call0_call2_call0_c_43 : Ref sig .tc := ⟨.hbm, 725, rfl⟩
abbrev main_call0_call2_call0_v166 : Ref sig .tc := ⟨.hbm, 726, rfl⟩
abbrev main_call0_call2_call0_v167 : Ref sig .tc := ⟨.hbm, 727, rfl⟩
abbrev main_call0_call2_call0_v168 : Ref sig .tc := ⟨.hbm, 728, rfl⟩
abbrev main_call0_call2_call0_v169 : Ref sig .tc := ⟨.hbm, 729, rfl⟩
abbrev main_call0_call2_call0_v170 : Ref sig .tc := ⟨.hbm, 730, rfl⟩
abbrev main_call0_call2_v11_0 : Ref sig .tc := ⟨.hbm, 731, rfl⟩
abbrev main_call0_call2_call0_v172 : Ref sig .tc := ⟨.hbm, 732, rfl⟩
abbrev main_call0_call2_call0_v173 : Ref sig .tc := ⟨.hbm, 733, rfl⟩
abbrev main_call0_call2_call0_c_44 : Ref sig .tc := ⟨.hbm, 734, rfl⟩
abbrev main_call0_call2_call0_v174 : Ref sig .tc := ⟨.hbm, 735, rfl⟩
abbrev main_call0_call2_v11_1 : Ref sig .tc := ⟨.hbm, 736, rfl⟩
abbrev main_call0_call2_v12 : Ref sig .tc := ⟨.hbm, 737, rfl⟩
abbrev main_call0_call2_v13 : Ref sig .tc := ⟨.hbm, 738, rfl⟩
abbrev main_call0_v19 : Ref sig .tc := ⟨.hbm, 739, rfl⟩
abbrev main_call0_v20 : Ref sig .tc := ⟨.hbm, 740, rfl⟩
abbrev main_call0_v21 : Ref sig .tc := ⟨.hbm, 741, rfl⟩
abbrev main_call0_v22 : Ref sig .tc := ⟨.hbm, 742, rfl⟩
abbrev main_call0_v23 : Ref sig .tc := ⟨.hbm, 743, rfl⟩
abbrev main_call0_v24 : Ref sig .tc := ⟨.hbm, 744, rfl⟩
abbrev main_call0_v25 : Ref sig .tc := ⟨.hbm, 745, rfl⟩
abbrev main_call0_v26 : Ref sig .tc := ⟨.hbm, 746, rfl⟩
abbrev main_call0_v27 : Ref sig .tc := ⟨.hbm, 747, rfl⟩
abbrev main_call0_v28 : Ref sig .tc := ⟨.hbm, 748, rfl⟩
abbrev main_call0_c_1 : Ref sig .tc := ⟨.hbm, 749, rfl⟩
abbrev main_call0_v29 : Ref sig .tc := ⟨.hbm, 750, rfl⟩
abbrev main_call0_v30 : Ref sig .tc := ⟨.hbm, 751, rfl⟩
abbrev main_call0_c_2 : Ref sig .tc := ⟨.hbm, 752, rfl⟩
abbrev main_call0_v31 : Ref sig .tc := ⟨.hbm, 753, rfl⟩
abbrev main_call0_v32 : Ref sig .tc := ⟨.hbm, 754, rfl⟩
abbrev main_call0_v33 : Ref sig .tc := ⟨.hbm, 755, rfl⟩
abbrev main_call0_v34 : Ref sig .tc := ⟨.hbm, 756, rfl⟩
abbrev main_call0_call3_v0 : Ref sig .tc := ⟨.hbm, 757, rfl⟩
abbrev main_call0_call3_c : Ref sig .tc := ⟨.hbm, 758, rfl⟩
abbrev main_call0_call3_v1 : Ref sig .tc := ⟨.hbm, 759, rfl⟩
abbrev main_call0_call3_v2 : Ref sig .tc := ⟨.hbm, 760, rfl⟩
abbrev main_call0_call3_v3 : Ref sig .tc := ⟨.hbm, 761, rfl⟩
abbrev main_call0_call3_v4 : Ref sig .tc := ⟨.hbm, 762, rfl⟩
abbrev main_call0_call3_v5 : Ref sig .tc := ⟨.hbm, 763, rfl⟩
abbrev main_call0_call3_v6 : Ref sig .tc := ⟨.hbm, 764, rfl⟩
abbrev main_call0_call3_c_0 : Ref sig .tc := ⟨.hbm, 765, rfl⟩
abbrev main_call0_call3_v7 : Ref sig .tc := ⟨.hbm, 766, rfl⟩
abbrev main_call0_call3_v8 : Ref sig .tc := ⟨.hbm, 767, rfl⟩
abbrev main_call0_call3_c_1 : Ref sig .tc := ⟨.hbm, 768, rfl⟩
abbrev main_call0_call3_v9 : Ref sig .tc := ⟨.hbm, 769, rfl⟩
abbrev main_call0_call3_v10 : Ref sig .tc := ⟨.hbm, 770, rfl⟩
abbrev main_call0_call3_v11 : Ref sig .tc := ⟨.hbm, 771, rfl⟩
abbrev main_call0_call3_v12 : Ref sig .tc := ⟨.hbm, 772, rfl⟩
abbrev main_call0_call3_v13 : Ref sig .tc := ⟨.hbm, 773, rfl⟩
abbrev main_call0_call3_c_2 : Ref sig .tc := ⟨.hbm, 774, rfl⟩
abbrev main_call0_call3_v14 : Ref sig .tc := ⟨.hbm, 775, rfl⟩
abbrev main_call0_call3_v15 : Ref sig .tc := ⟨.hbm, 776, rfl⟩
abbrev main_call0_call3_c_3 : Ref sig .tc := ⟨.hbm, 777, rfl⟩
abbrev main_call0_call3_v16 : Ref sig .tc := ⟨.hbm, 778, rfl⟩
abbrev main_call0_call3_v17 : Ref sig .tc := ⟨.hbm, 779, rfl⟩
abbrev main_call0_call3_v18 : Ref sig .tc := ⟨.hbm, 780, rfl⟩
abbrev main_call0_call3_v19 : Ref sig .tc := ⟨.hbm, 781, rfl⟩
abbrev main_call0_call3_v20 : Ref sig .tc := ⟨.hbm, 782, rfl⟩
abbrev main_call0_call3_c_4 : Ref sig .tc := ⟨.hbm, 783, rfl⟩
abbrev main_call0_call3_v21 : Ref sig .tc := ⟨.hbm, 784, rfl⟩
abbrev main_call0_call3_v22 : Ref sig .tc := ⟨.hbm, 785, rfl⟩
abbrev main_call0_call3_c_5 : Ref sig .tc := ⟨.hbm, 786, rfl⟩
abbrev main_call0_call3_v23 : Ref sig .tc := ⟨.hbm, 787, rfl⟩
abbrev main_call0_call3_v24 : Ref sig .tc := ⟨.hbm, 788, rfl⟩
abbrev main_call0_call3_v25 : Ref sig .tc := ⟨.hbm, 789, rfl⟩
abbrev main_call0_call3_v26 : Ref sig .tc := ⟨.hbm, 790, rfl⟩
abbrev main_call0_call3_v27 : Ref sig .tc := ⟨.hbm, 791, rfl⟩
abbrev main_call0_call3_c_6 : Ref sig .tc := ⟨.hbm, 792, rfl⟩
abbrev main_call0_call3_v28 : Ref sig .tc := ⟨.hbm, 793, rfl⟩
abbrev main_call0_call3_v29 : Ref sig .tc := ⟨.hbm, 794, rfl⟩
abbrev main_call0_call3_c_7 : Ref sig .tc := ⟨.hbm, 795, rfl⟩
abbrev main_call0_call3_v30 : Ref sig .tc := ⟨.hbm, 796, rfl⟩
abbrev main_call0_call3_v31 : Ref sig .tc := ⟨.hbm, 797, rfl⟩
abbrev main_call0_call3_v32 : Ref sig .tc := ⟨.hbm, 798, rfl⟩
abbrev main_call0_call3_v33 : Ref sig .tc := ⟨.hbm, 799, rfl⟩
abbrev main_call0_call3_v34 : Ref sig .tc := ⟨.hbm, 800, rfl⟩
abbrev main_call0_call3_v35 : Ref sig .tc := ⟨.hbm, 801, rfl⟩
abbrev main_call0_call3_v36 : Ref sig .tc := ⟨.hbm, 802, rfl⟩
abbrev main_call0_call3_v37 : Ref sig .tc := ⟨.hbm, 803, rfl⟩
abbrev main_call0_call3_c_8 : Ref sig .tc := ⟨.hbm, 804, rfl⟩
abbrev main_call0_call3_v38 : Ref sig .tc := ⟨.hbm, 805, rfl⟩
abbrev main_call0_call3_v39 : Ref sig .tc := ⟨.hbm, 806, rfl⟩
abbrev main_call0_call3_v40 : Ref sig .tc := ⟨.hbm, 807, rfl⟩
abbrev main_call0_call3_c_9 : Ref sig .tc := ⟨.hbm, 808, rfl⟩
abbrev main_call0_call3_v41 : Ref sig .tc := ⟨.hbm, 809, rfl⟩
abbrev main_call0_call3_v42 : Ref sig .tc := ⟨.hbm, 810, rfl⟩
abbrev main_call0_call3_c_10 : Ref sig .tc := ⟨.hbm, 811, rfl⟩
abbrev main_call0_call3_v43 : Ref sig .tc := ⟨.hbm, 812, rfl⟩
abbrev main_call0_call3_v44 : Ref sig .tc := ⟨.hbm, 813, rfl⟩
abbrev main_call0_call3_v45 : Ref sig .tc := ⟨.hbm, 814, rfl⟩
abbrev main_call0_call3_v46 : Ref sig .tc := ⟨.hbm, 815, rfl⟩
abbrev main_call0_call3_v47 : Ref sig .tc := ⟨.hbm, 816, rfl⟩
abbrev main_call0_call3_c_11 : Ref sig .tc := ⟨.hbm, 817, rfl⟩
abbrev main_call0_call3_v48 : Ref sig .tc := ⟨.hbm, 818, rfl⟩
abbrev main_call0_call3_v49 : Ref sig .tc := ⟨.hbm, 819, rfl⟩
abbrev main_call0_call3_c_12 : Ref sig .tc := ⟨.hbm, 820, rfl⟩
abbrev main_call0_call3_v50 : Ref sig .tc := ⟨.hbm, 821, rfl⟩
abbrev main_call0_call3_v51 : Ref sig .tc := ⟨.hbm, 822, rfl⟩
abbrev main_call0_call3_v52 : Ref sig .tc := ⟨.hbm, 823, rfl⟩
abbrev main_call0_call3_v53 : Ref sig .tc := ⟨.hbm, 824, rfl⟩
abbrev main_call0_call3_v54 : Ref sig .tc := ⟨.hbm, 825, rfl⟩
abbrev main_call0_call3_c_13 : Ref sig .tc := ⟨.hbm, 826, rfl⟩
abbrev main_call0_call3_v55 : Ref sig .tc := ⟨.hbm, 827, rfl⟩
abbrev main_call0_call3_v56 : Ref sig .tc := ⟨.hbm, 828, rfl⟩
abbrev main_call0_call3_c_14 : Ref sig .tc := ⟨.hbm, 829, rfl⟩
abbrev main_call0_call3_v57 : Ref sig .tc := ⟨.hbm, 830, rfl⟩
abbrev main_call0_call3_v58 : Ref sig .tc := ⟨.hbm, 831, rfl⟩
abbrev main_call0_call3_v59 : Ref sig .tc := ⟨.hbm, 832, rfl⟩
abbrev main_call0_call3_v60 : Ref sig .tc := ⟨.hbm, 833, rfl⟩
abbrev main_call0_call3_v61 : Ref sig .tc := ⟨.hbm, 834, rfl⟩
abbrev main_call0_call3_c_15 : Ref sig .tc := ⟨.hbm, 835, rfl⟩
abbrev main_call0_call3_v62 : Ref sig .tc := ⟨.hbm, 836, rfl⟩
abbrev main_call0_call3_v63 : Ref sig .tc := ⟨.hbm, 837, rfl⟩
abbrev main_call0_call3_c_16 : Ref sig .tc := ⟨.hbm, 838, rfl⟩
abbrev main_call0_call3_v64 : Ref sig .tc := ⟨.hbm, 839, rfl⟩
abbrev main_call0_call3_v65 : Ref sig .tc := ⟨.hbm, 840, rfl⟩
abbrev main_call0_call3_v66 : Ref sig .tc := ⟨.hbm, 841, rfl⟩
abbrev main_call0_call3_v67 : Ref sig .tc := ⟨.hbm, 842, rfl⟩
abbrev main_call0_call3_v68 : Ref sig .tc := ⟨.hbm, 843, rfl⟩
abbrev main_call0_call3_v69 : Ref sig .tc := ⟨.hbm, 844, rfl⟩
abbrev main_call0_call3_v70 : Ref sig .tc := ⟨.hbm, 845, rfl⟩
abbrev main_call0_call3_v71 : Ref sig .tc := ⟨.hbm, 846, rfl⟩
abbrev main_call0_call3_c_17 : Ref sig .tc := ⟨.hbm, 847, rfl⟩
abbrev main_call0_call3_v72 : Ref sig .tc := ⟨.hbm, 848, rfl⟩
abbrev main_call0_call3_v73 : Ref sig .tc := ⟨.hbm, 849, rfl⟩
abbrev main_call0_call3_v74 : Ref sig .tc := ⟨.hbm, 850, rfl⟩
abbrev main_call0_call3_c_18 : Ref sig .tc := ⟨.hbm, 851, rfl⟩
abbrev main_call0_call3_v75 : Ref sig .tc := ⟨.hbm, 852, rfl⟩
abbrev main_call0_call3_v76 : Ref sig .tc := ⟨.hbm, 853, rfl⟩
abbrev main_call0_call3_c_19 : Ref sig .tc := ⟨.hbm, 854, rfl⟩
abbrev main_call0_call3_v77 : Ref sig .tc := ⟨.hbm, 855, rfl⟩
abbrev main_call0_call3_v78 : Ref sig .tc := ⟨.hbm, 856, rfl⟩
abbrev main_call0_call3_v79 : Ref sig .tc := ⟨.hbm, 857, rfl⟩
abbrev main_call0_call3_v80 : Ref sig .tc := ⟨.hbm, 858, rfl⟩
abbrev main_call0_call3_v81 : Ref sig .tc := ⟨.hbm, 859, rfl⟩
abbrev main_call0_call3_c_20 : Ref sig .tc := ⟨.hbm, 860, rfl⟩
abbrev main_call0_call3_v82 : Ref sig .tc := ⟨.hbm, 861, rfl⟩
abbrev main_call0_call3_v83 : Ref sig .tc := ⟨.hbm, 862, rfl⟩
abbrev main_call0_call3_c_21 : Ref sig .tc := ⟨.hbm, 863, rfl⟩
abbrev main_call0_call3_v84 : Ref sig .tc := ⟨.hbm, 864, rfl⟩
abbrev main_call0_call3_v85 : Ref sig .tc := ⟨.hbm, 865, rfl⟩
abbrev main_call0_call3_v86 : Ref sig .tc := ⟨.hbm, 866, rfl⟩
abbrev main_call0_call3_v87 : Ref sig .tc := ⟨.hbm, 867, rfl⟩
abbrev main_call0_call3_v88 : Ref sig .tc := ⟨.hbm, 868, rfl⟩
abbrev main_call0_call3_c_22 : Ref sig .tc := ⟨.hbm, 869, rfl⟩
abbrev main_call0_call3_v89 : Ref sig .tc := ⟨.hbm, 870, rfl⟩
abbrev main_call0_call3_v90 : Ref sig .tc := ⟨.hbm, 871, rfl⟩
abbrev main_call0_call3_c_23 : Ref sig .tc := ⟨.hbm, 872, rfl⟩
abbrev main_call0_call3_v91 : Ref sig .tc := ⟨.hbm, 873, rfl⟩
abbrev main_call0_call3_v92 : Ref sig .tc := ⟨.hbm, 874, rfl⟩
abbrev main_call0_call3_v93 : Ref sig .tc := ⟨.hbm, 875, rfl⟩
abbrev main_call0_call3_v94 : Ref sig .tc := ⟨.hbm, 876, rfl⟩
abbrev main_call0_call3_v95 : Ref sig .tc := ⟨.hbm, 877, rfl⟩
abbrev main_call0_call3_c_24 : Ref sig .tc := ⟨.hbm, 878, rfl⟩
abbrev main_call0_call3_v96 : Ref sig .tc := ⟨.hbm, 879, rfl⟩
abbrev main_call0_call3_v97 : Ref sig .tc := ⟨.hbm, 880, rfl⟩
abbrev main_call0_call3_c_25 : Ref sig .tc := ⟨.hbm, 881, rfl⟩
abbrev main_call0_call3_v98 : Ref sig .tc := ⟨.hbm, 882, rfl⟩
abbrev main_call0_call3_v99 : Ref sig .tc := ⟨.hbm, 883, rfl⟩
abbrev main_call0_call3_v100 : Ref sig .tc := ⟨.hbm, 884, rfl⟩
abbrev main_call0_call3_v101 : Ref sig .tc := ⟨.hbm, 885, rfl⟩
abbrev main_call0_call3_v102 : Ref sig .tc := ⟨.hbm, 886, rfl⟩
abbrev main_call0_call3_v103 : Ref sig .tc := ⟨.hbm, 887, rfl⟩
abbrev main_call0_call3_v104 : Ref sig .tc := ⟨.hbm, 888, rfl⟩
abbrev main_call0_call3_v105 : Ref sig .tc := ⟨.hbm, 889, rfl⟩
abbrev main_call0_call3_c_26 : Ref sig .tc := ⟨.hbm, 890, rfl⟩
abbrev main_call0_call3_v106 : Ref sig .tc := ⟨.hbm, 891, rfl⟩
abbrev main_call0_call3_v107 : Ref sig .tc := ⟨.hbm, 892, rfl⟩
abbrev main_call0_call3_v108 : Ref sig .tc := ⟨.hbm, 893, rfl⟩
abbrev main_call0_call3_c_27 : Ref sig .tc := ⟨.hbm, 894, rfl⟩
abbrev main_call0_call3_v109 : Ref sig .tc := ⟨.hbm, 895, rfl⟩
abbrev main_call0_call3_v110 : Ref sig .tc := ⟨.hbm, 896, rfl⟩
abbrev main_call0_call3_c_28 : Ref sig .tc := ⟨.hbm, 897, rfl⟩
abbrev main_call0_call3_v111 : Ref sig .tc := ⟨.hbm, 898, rfl⟩
abbrev main_call0_call3_v112 : Ref sig .tc := ⟨.hbm, 899, rfl⟩
abbrev main_call0_call3_v113 : Ref sig .tc := ⟨.hbm, 900, rfl⟩
abbrev main_call0_call3_v114 : Ref sig .tc := ⟨.hbm, 901, rfl⟩
abbrev main_call0_call3_v115 : Ref sig .tc := ⟨.hbm, 902, rfl⟩
abbrev main_call0_call3_c_29 : Ref sig .tc := ⟨.hbm, 903, rfl⟩
abbrev main_call0_call3_v116 : Ref sig .tc := ⟨.hbm, 904, rfl⟩
abbrev main_call0_call3_v117 : Ref sig .tc := ⟨.hbm, 905, rfl⟩
abbrev main_call0_call3_c_30 : Ref sig .tc := ⟨.hbm, 906, rfl⟩
abbrev main_call0_call3_v118 : Ref sig .tc := ⟨.hbm, 907, rfl⟩
abbrev main_call0_call3_v119 : Ref sig .tc := ⟨.hbm, 908, rfl⟩
abbrev main_call0_call3_v120 : Ref sig .tc := ⟨.hbm, 909, rfl⟩
abbrev main_call0_call3_v121 : Ref sig .tc := ⟨.hbm, 910, rfl⟩
abbrev main_call0_call3_v122 : Ref sig .tc := ⟨.hbm, 911, rfl⟩
abbrev main_call0_call3_c_31 : Ref sig .tc := ⟨.hbm, 912, rfl⟩
abbrev main_call0_call3_v123 : Ref sig .tc := ⟨.hbm, 913, rfl⟩
abbrev main_call0_call3_v124 : Ref sig .tc := ⟨.hbm, 914, rfl⟩
abbrev main_call0_call3_c_32 : Ref sig .tc := ⟨.hbm, 915, rfl⟩
abbrev main_call0_call3_v125 : Ref sig .tc := ⟨.hbm, 916, rfl⟩
abbrev main_call0_call3_v126 : Ref sig .tc := ⟨.hbm, 917, rfl⟩
abbrev main_call0_call3_v127 : Ref sig .tc := ⟨.hbm, 918, rfl⟩
abbrev main_call0_call3_v128 : Ref sig .tc := ⟨.hbm, 919, rfl⟩
abbrev main_call0_call3_v129 : Ref sig .tc := ⟨.hbm, 920, rfl⟩
abbrev main_call0_call3_c_33 : Ref sig .tc := ⟨.hbm, 921, rfl⟩
abbrev main_call0_call3_v130 : Ref sig .tc := ⟨.hbm, 922, rfl⟩
abbrev main_call0_call3_v131 : Ref sig .tc := ⟨.hbm, 923, rfl⟩
abbrev main_call0_call3_c_34 : Ref sig .tc := ⟨.hbm, 924, rfl⟩
abbrev main_call0_call3_v132 : Ref sig .tc := ⟨.hbm, 925, rfl⟩
abbrev main_call0_call3_v133 : Ref sig .tc := ⟨.hbm, 926, rfl⟩
abbrev main_call0_call3_v134 : Ref sig .tc := ⟨.hbm, 927, rfl⟩
abbrev main_call0_call3_v135 : Ref sig .tc := ⟨.hbm, 928, rfl⟩
abbrev main_call0_call3_v136 : Ref sig .tc := ⟨.hbm, 929, rfl⟩
abbrev main_call0_call3_v137 : Ref sig .tc := ⟨.hbm, 930, rfl⟩
abbrev main_call0_call3_v138 : Ref sig .tc := ⟨.hbm, 931, rfl⟩
abbrev main_call0_call3_v139 : Ref sig .tc := ⟨.hbm, 932, rfl⟩
abbrev main_call0_call3_c_35 : Ref sig .tc := ⟨.hbm, 933, rfl⟩
abbrev main_call0_call3_v140 : Ref sig .tc := ⟨.hbm, 934, rfl⟩
abbrev main_call0_call3_v141 : Ref sig .tc := ⟨.hbm, 935, rfl⟩
abbrev main_call0_call3_v142 : Ref sig .tc := ⟨.hbm, 936, rfl⟩
abbrev main_call0_call3_c_36 : Ref sig .tc := ⟨.hbm, 937, rfl⟩
abbrev main_call0_call3_v143 : Ref sig .tc := ⟨.hbm, 938, rfl⟩
abbrev main_call0_call3_v144 : Ref sig .tc := ⟨.hbm, 939, rfl⟩
abbrev main_call0_call3_c_37 : Ref sig .tc := ⟨.hbm, 940, rfl⟩
abbrev main_call0_call3_v145 : Ref sig .tc := ⟨.hbm, 941, rfl⟩
abbrev main_call0_call3_v146 : Ref sig .tc := ⟨.hbm, 942, rfl⟩
abbrev main_call0_call3_v147 : Ref sig .tc := ⟨.hbm, 943, rfl⟩
abbrev main_call0_call3_v148 : Ref sig .tc := ⟨.hbm, 944, rfl⟩
abbrev main_call0_call3_v149 : Ref sig .tc := ⟨.hbm, 945, rfl⟩
abbrev main_call0_call3_c_38 : Ref sig .tc := ⟨.hbm, 946, rfl⟩
abbrev main_call0_call3_v150 : Ref sig .tc := ⟨.hbm, 947, rfl⟩
abbrev main_call0_call3_v151 : Ref sig .tc := ⟨.hbm, 948, rfl⟩
abbrev main_call0_call3_c_39 : Ref sig .tc := ⟨.hbm, 949, rfl⟩
abbrev main_call0_call3_v152 : Ref sig .tc := ⟨.hbm, 950, rfl⟩
abbrev main_call0_call3_v153 : Ref sig .tc := ⟨.hbm, 951, rfl⟩
abbrev main_call0_call3_v154 : Ref sig .tc := ⟨.hbm, 952, rfl⟩
abbrev main_call0_call3_v155 : Ref sig .tc := ⟨.hbm, 953, rfl⟩
abbrev main_call0_call3_v156 : Ref sig .tc := ⟨.hbm, 954, rfl⟩
abbrev main_call0_call3_c_40 : Ref sig .tc := ⟨.hbm, 955, rfl⟩
abbrev main_call0_call3_v157 : Ref sig .tc := ⟨.hbm, 956, rfl⟩
abbrev main_call0_call3_v158 : Ref sig .tc := ⟨.hbm, 957, rfl⟩
abbrev main_call0_call3_c_41 : Ref sig .tc := ⟨.hbm, 958, rfl⟩
abbrev main_call0_call3_v159 : Ref sig .tc := ⟨.hbm, 959, rfl⟩
abbrev main_call0_call3_v160 : Ref sig .tc := ⟨.hbm, 960, rfl⟩
abbrev main_call0_call3_v161 : Ref sig .tc := ⟨.hbm, 961, rfl⟩
abbrev main_call0_call3_v162 : Ref sig .tc := ⟨.hbm, 962, rfl⟩
abbrev main_call0_call3_v163 : Ref sig .tc := ⟨.hbm, 963, rfl⟩
abbrev main_call0_call3_c_42 : Ref sig .tc := ⟨.hbm, 964, rfl⟩
abbrev main_call0_call3_v164 : Ref sig .tc := ⟨.hbm, 965, rfl⟩
abbrev main_call0_call3_v165 : Ref sig .tc := ⟨.hbm, 966, rfl⟩
abbrev main_call0_call3_c_43 : Ref sig .tc := ⟨.hbm, 967, rfl⟩
abbrev main_call0_call3_v166 : Ref sig .tc := ⟨.hbm, 968, rfl⟩
abbrev main_call0_call3_v167 : Ref sig .tc := ⟨.hbm, 969, rfl⟩
abbrev main_call0_call3_v168 : Ref sig .tc := ⟨.hbm, 970, rfl⟩
abbrev main_call0_call3_v169 : Ref sig .tc := ⟨.hbm, 971, rfl⟩
abbrev main_call0_call3_v170 : Ref sig .tc := ⟨.hbm, 972, rfl⟩
abbrev main_call0_v35_0 : Ref sig .tc := ⟨.hbm, 973, rfl⟩
abbrev main_call0_call3_v172 : Ref sig .tc := ⟨.hbm, 974, rfl⟩
abbrev main_call0_call3_v173 : Ref sig .tc := ⟨.hbm, 975, rfl⟩
abbrev main_call0_call3_c_44 : Ref sig .tc := ⟨.hbm, 976, rfl⟩
abbrev main_call0_call3_v174 : Ref sig .tc := ⟨.hbm, 977, rfl⟩
abbrev main_call0_v35_1 : Ref sig .tc := ⟨.hbm, 978, rfl⟩
abbrev main_call0_v36 : Ref sig .tc := ⟨.hbm, 979, rfl⟩
abbrev main_call0_v37_0 : Ref sig .tc := ⟨.hbm, 980, rfl⟩
abbrev main_v8 : Ref sig .tc := ⟨.hbm, 981, rfl⟩
abbrev main_v9 : Ref sig .tc := ⟨.hbm, 982, rfl⟩
abbrev main_c_2 : Ref sig .tc := ⟨.hbm, 983, rfl⟩
abbrev main_v10 : Ref sig .tc := ⟨.hbm, 984, rfl⟩
abbrev main_v11 : Ref sig .tc := ⟨.hbm, 985, rfl⟩
abbrev main_c_3 : Ref sig .tc := ⟨.hbm, 986, rfl⟩
abbrev main_v12 : Ref sig .tc := ⟨.hbm, 987, rfl⟩
abbrev main_v13 : Ref sig .tc := ⟨.hbm, 988, rfl⟩
abbrev main_v14 : Ref sig .tc := ⟨.hbm, 989, rfl⟩
abbrev main_v15 : Ref sig .tc := ⟨.hbm, 990, rfl⟩
abbrev main_v16 : Ref sig .tc := ⟨.hbm, 991, rfl⟩
abbrev main_c_4 : Ref sig .tc := ⟨.hbm, 992, rfl⟩
abbrev main_call1_v0 : Ref sig .tc := ⟨.hbm, 993, rfl⟩
abbrev main_v17 : Ref sig .tc := ⟨.hbm, 994, rfl⟩
abbrev main_v18 : Ref sig .tc := ⟨.hbm, 995, rfl⟩
abbrev main_c_5 : Ref sig .tc := ⟨.hbm, 996, rfl⟩
abbrev main_call2_v0 : Ref sig .tc := ⟨.hbm, 997, rfl⟩
abbrev main_v19 : Ref sig .tc := ⟨.hbm, 998, rfl⟩
abbrev main_v20 : Ref sig .tc := ⟨.hbm, 999, rfl⟩
abbrev main_v21 : Ref sig .tc := ⟨.hbm, 1000, rfl⟩
abbrev main_v22 : Ref sig .tc := ⟨.hbm, 1001, rfl⟩
abbrev main_v23 : Ref sig .tc := ⟨.hbm, 1002, rfl⟩
abbrev main_v24 : Ref sig .tc := ⟨.hbm, 1003, rfl⟩
abbrev main_v25_0 : Ref sig .tc := ⟨.hbm, 1004, rfl⟩
abbrev main_v25_1 : Ref sig .tc := ⟨.hbm, 1005, rfl⟩
abbrev main_v26_0 : Ref sig .tc := ⟨.hbm, 1006, rfl⟩
abbrev main_v26_1 : Ref sig .tc := ⟨.hbm, 1007, rfl⟩
abbrev main_v27 : Ref sig .tc := ⟨.hbm, 1008, rfl⟩
abbrev main_v28 : Ref sig .tc := ⟨.hbm, 1009, rfl⟩
abbrev main_v29 : Ref sig .tc := ⟨.hbm, 1010, rfl⟩
abbrev main_v30 : Ref sig .tc := ⟨.hbm, 1011, rfl⟩
abbrev main_v31 : Ref sig .tc := ⟨.hbm, 1012, rfl⟩
abbrev main_v32 : Ref sig .tc := ⟨.hbm, 1013, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg4_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem4_1 : DmaSem sig := 32

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x96x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x96x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1024x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1024x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1024x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![4, 16], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_4 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x1x96x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x64x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x64x4096 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1x45x4096 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x1x48x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨1, ![4], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x48x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1x48x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]
-- ==== KernelIdeal.lean ====
variable {F : FTy → Type} [FloatOps F] [Named F]
def κ : String → Option EReal := fun
  | "mask" => some ⊥
  | _ => none
-- ==== ReferenceIdeal.lean ====
abbrev S4x4096x1024 : Shape := ⟨3, ![4, 4096, 1024]⟩
abbrev S1024x1024 : Shape := ⟨2, ![1024, 1024]⟩
abbrev S1024 : Shape := ⟨1, ![1024]⟩
abbrev S1x1x1024 : Shape := ⟨3, ![1, 1, 1024]⟩
abbrev S4x4096x16x64 : Shape := ⟨4, ![4, 4096, 16, 64]⟩
abbrev S_ : Shape := ⟨0, ![]⟩
abbrev S1 : Shape := ⟨1, ![1]⟩
abbrev S2 : Shape := ⟨1, ![2]⟩
abbrev S4096 : Shape := ⟨1, ![4096]⟩
abbrev S2x1 : Shape := ⟨2, ![2, 1]⟩
abbrev S2x2 : Shape := ⟨2, ![2, 2]⟩
abbrev S1x2 : Shape := ⟨2, ![1, 2]⟩
abbrev S45 : Shape := ⟨1, ![45]⟩
abbrev S45x1 : Shape := ⟨2, ![45, 1]⟩
abbrev S4x45x16x64 : Shape := ⟨4, ![4, 45, 16, 64]⟩
abbrev S4x16x45x4096 : Shape := ⟨4, ![4, 16, 45, 4096]⟩
abbrev S4x16x45 : Shape := ⟨3, ![4, 16, 45]⟩
abbrev S4x16x4096x64 : Shape := ⟨4, ![4, 16, 4096, 64]⟩
abbrev S4x16x45x1 : Shape := ⟨4, ![4, 16, 45, 1]⟩
abbrev S1x1x1x1 : Shape := ⟨4, ![1, 1, 1, 1]⟩
abbrev S4x16x45x64 : Shape := ⟨4, ![4, 16, 45, 64]⟩
abbrev S4x16x64x45 : Shape := ⟨4, ![4, 16, 64, 45]⟩
abbrev S4x45x1024 : Shape := ⟨3, ![4, 45, 1024]⟩

abbrev nBuf : Space → Nat
  | .hbm => 1068
  | .vmem => 0
  | .smem => 0
  | _ => 0

abbrev hbmTy0_0 (i : Nat) : BufTy := match i % 128 with
  | 0 => ⟨S4x4096x1024, .f32⟩
  | 1 => ⟨S4x4096x1024, .f32⟩
  | 2 => ⟨S4x4096x1024, .f32⟩
  | 3 => ⟨S1024x1024, .f32⟩
  | 4 => ⟨S1024, .f32⟩
  | 5 => ⟨S1024x1024, .f32⟩
  | 6 => ⟨S1024, .f32⟩
  | 7 => ⟨S1024x1024, .f32⟩
  | 8 => ⟨S1024, .f32⟩
  | 9 => ⟨S1024x1024, .f32⟩
  | 10 => ⟨S1024, .f32⟩
  | 11 => ⟨S1024x1024, .f32⟩
  | 12 => ⟨S4x4096x1024, .f32⟩
  | 13 => ⟨S1x1x1024, .f32⟩
  | 14 => ⟨S4x4096x1024, .f32⟩
  | 15 => ⟨S4x4096x1024, .f32⟩
  | 16 => ⟨S4x4096x16x64, .f32⟩
  | 17 => ⟨S1024x1024, .f32⟩
  | 18 => ⟨S4x4096x1024, .f32⟩
  | 19 => ⟨S1x1x1024, .f32⟩
  | 20 => ⟨S4x4096x1024, .f32⟩
  | 21 => ⟨S4x4096x1024, .f32⟩
  | 22 => ⟨S4x4096x16x64, .f32⟩
  | 23 => ⟨S1024x1024, .f32⟩
  | 24 => ⟨S4x4096x1024, .f32⟩
  | 25 => ⟨S1x1x1024, .f32⟩
  | 26 => ⟨S4x4096x1024, .f32⟩
  | 27 => ⟨S4x4096x1024, .f32⟩
  | 28 => ⟨S4x4096x16x64, .f32⟩
  | 29 => ⟨S_, .i32⟩
  | 30 => ⟨S_, .i32⟩
  | 31 => ⟨S_, .i32⟩
  | 32 => ⟨S_, .i32⟩
  | 33 => ⟨S1, .i32⟩
  | 34 => ⟨S_, .i32⟩
  | 35 => ⟨S_, .i32⟩
  | 36 => ⟨S_, .i32⟩
  | 37 => ⟨S1, .i32⟩
  | 38 => ⟨S2, .i32⟩
  | 39 => ⟨S4096, .i32⟩
  | 40 => ⟨S1, .i32⟩
  | 41 => ⟨S_, .i32⟩
  | 42 => ⟨S1, .i32⟩
  | 43 => ⟨S_, .i32⟩
  | 44 => ⟨S2, .i64⟩
  | 45 => ⟨S_, .i64⟩
  | 46 => ⟨S2, .i64⟩
  | 47 => ⟨S2, .i64⟩
  | 48 => ⟨S_, .i64⟩
  | 49 => ⟨S2, .i64⟩
  | 50 => ⟨S2, .i64⟩
  | 51 => ⟨S2, .i32⟩
  | 52 => ⟨S2, .i32⟩
  | 53 => ⟨S_, .i32⟩
  | 54 => ⟨S_, .i32⟩
  | 55 => ⟨S_, .i32⟩
  | 56 => ⟨S2, .i32⟩
  | 57 => ⟨S2, .i32⟩
  | 58 => ⟨S2, .i32⟩
  | 59 => ⟨S2, .i32⟩
  | 60 => ⟨S2, .i32⟩
  | 61 => ⟨S_, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S2, .i32⟩
  | 69 => ⟨S2, .i32⟩
  | 70 => ⟨S_, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S2, .i32⟩
  | 78 => ⟨S2, .i32⟩
  | 79 => ⟨S_, .i32⟩
  | 80 => ⟨S2, .i32⟩
  | 81 => ⟨S2, .i32⟩
  | 82 => ⟨S_, .i32⟩
  | 83 => ⟨S2, .i32⟩
  | 84 => ⟨S2, .i32⟩
  | 85 => ⟨S2, .i32⟩
  | 86 => ⟨S2, .i32⟩
  | 87 => ⟨S2, .i32⟩
  | 88 => ⟨S_, .i32⟩
  | 89 => ⟨S2, .i32⟩
  | 90 => ⟨S2, .i32⟩
  | 91 => ⟨S_, .i32⟩
  | 92 => ⟨S2, .i32⟩
  | 93 => ⟨S2, .i32⟩
  | 94 => ⟨S2, .i32⟩
  | 95 => ⟨S2, .i32⟩
  | 96 => ⟨S2, .i32⟩
  | 97 => ⟨S2, .i32⟩
  | 98 => ⟨S2, .i32⟩
  | 99 => ⟨S2, .i32⟩
  | 100 => ⟨S_, .i32⟩
  | 101 => ⟨S2, .i32⟩
  | 102 => ⟨S2, .i32⟩
  | 103 => ⟨S2, .i32⟩
  | 104 => ⟨S_, .i32⟩
  | 105 => ⟨S2, .i32⟩
  | 106 => ⟨S2, .i32⟩
  | 107 => ⟨S_, .i32⟩
  | 108 => ⟨S2, .i32⟩
  | 109 => ⟨S2, .i32⟩
  | 110 => ⟨S2, .i32⟩
  | 111 => ⟨S2, .i32⟩
  | 112 => ⟨S2, .i32⟩
  | 113 => ⟨S_, .i32⟩
  | 114 => ⟨S2, .i32⟩
  | 115 => ⟨S2, .i32⟩
  | 116 => ⟨S_, .i32⟩
  | 117 => ⟨S2, .i32⟩
  | 118 => ⟨S2, .i32⟩
  | 119 => ⟨S2, .i32⟩
  | 120 => ⟨S2, .i32⟩
  | 121 => ⟨S2, .i32⟩
  | 122 => ⟨S_, .i32⟩
  | 123 => ⟨S2, .i32⟩
  | 124 => ⟨S2, .i32⟩
  | 125 => ⟨S_, .i32⟩
  | 126 => ⟨S2, .i32⟩
  | 127 => ⟨S2, .i32⟩
  | _ => ⟨S4x4096x1024, .f32⟩

abbrev hbmTy0_1 (i : Nat) : BufTy := match i % 128 with
  | 0 => ⟨S2, .i32⟩
  | 1 => ⟨S2, .i32⟩
  | 2 => ⟨S2, .i32⟩
  | 3 => ⟨S_, .i32⟩
  | 4 => ⟨S2, .i32⟩
  | 5 => ⟨S2, .i32⟩
  | 6 => ⟨S_, .i32⟩
  | 7 => ⟨S2, .i32⟩
  | 8 => ⟨S2, .i32⟩
  | 9 => ⟨S2, .i32⟩
  | 10 => ⟨S2, .i32⟩
  | 11 => ⟨S2, .i32⟩
  | 12 => ⟨S2, .i32⟩
  | 13 => ⟨S2, .i32⟩
  | 14 => ⟨S2, .i32⟩
  | 15 => ⟨S_, .i32⟩
  | 16 => ⟨S2, .i32⟩
  | 17 => ⟨S2, .i32⟩
  | 18 => ⟨S2, .i32⟩
  | 19 => ⟨S_, .i32⟩
  | 20 => ⟨S2, .i32⟩
  | 21 => ⟨S2, .i32⟩
  | 22 => ⟨S_, .i32⟩
  | 23 => ⟨S2, .i32⟩
  | 24 => ⟨S2, .i32⟩
  | 25 => ⟨S2, .i32⟩
  | 26 => ⟨S2, .i32⟩
  | 27 => ⟨S2, .i32⟩
  | 28 => ⟨S_, .i32⟩
  | 29 => ⟨S2, .i32⟩
  | 30 => ⟨S2, .i32⟩
  | 31 => ⟨S_, .i32⟩
  | 32 => ⟨S2, .i32⟩
  | 33 => ⟨S2, .i32⟩
  | 34 => ⟨S2, .i32⟩
  | 35 => ⟨S2, .i32⟩
  | 36 => ⟨S2, .i32⟩
  | 37 => ⟨S_, .i32⟩
  | 38 => ⟨S2, .i32⟩
  | 39 => ⟨S2, .i32⟩
  | 40 => ⟨S_, .i32⟩
  | 41 => ⟨S2, .i32⟩
  | 42 => ⟨S2, .i32⟩
  | 43 => ⟨S2, .i32⟩
  | 44 => ⟨S2, .i32⟩
  | 45 => ⟨S2, .i32⟩
  | 46 => ⟨S_, .i32⟩
  | 47 => ⟨S2, .i32⟩
  | 48 => ⟨S2, .i32⟩
  | 49 => ⟨S_, .i32⟩
  | 50 => ⟨S2, .i32⟩
  | 51 => ⟨S2, .i32⟩
  | 52 => ⟨S2, .i32⟩
  | 53 => ⟨S2, .i32⟩
  | 54 => ⟨S2, .i32⟩
  | 55 => ⟨S2, .i32⟩
  | 56 => ⟨S2, .i32⟩
  | 57 => ⟨S2, .i32⟩
  | 58 => ⟨S_, .i32⟩
  | 59 => ⟨S2, .i32⟩
  | 60 => ⟨S2, .i32⟩
  | 61 => ⟨S2, .i32⟩
  | 62 => ⟨S_, .i32⟩
  | 63 => ⟨S2, .i32⟩
  | 64 => ⟨S2, .i32⟩
  | 65 => ⟨S_, .i32⟩
  | 66 => ⟨S2, .i32⟩
  | 67 => ⟨S2, .i32⟩
  | 68 => ⟨S2, .i32⟩
  | 69 => ⟨S2, .i32⟩
  | 70 => ⟨S2, .i32⟩
  | 71 => ⟨S_, .i32⟩
  | 72 => ⟨S2, .i32⟩
  | 73 => ⟨S2, .i32⟩
  | 74 => ⟨S_, .i32⟩
  | 75 => ⟨S2, .i32⟩
  | 76 => ⟨S2, .i32⟩
  | 77 => ⟨S2, .i32⟩
  | 78 => ⟨S2, .i32⟩
  | 79 => ⟨S2, .i32⟩
  | 80 => ⟨S_, .i32⟩
  | 81 => ⟨S2, .i32⟩
  | 82 => ⟨S2, .i32⟩
  | 83 => ⟨S_, .i32⟩
  | 84 => ⟨S2, .i32⟩
  | 85 => ⟨S2, .i32⟩
  | 86 => ⟨S2, .i32⟩
  | 87 => ⟨S2, .i32⟩
  | 88 => ⟨S2, .i32⟩
  | 89 => ⟨S_, .i32⟩
  | 90 => ⟨S2, .i32⟩
  | 91 => ⟨S2, .i32⟩
  | 92 => ⟨S_, .i32⟩
  | 93 => ⟨S2, .i32⟩
  | 94 => ⟨S2, .i32⟩
  | 95 => ⟨S2, .i32⟩
  | 96 => ⟨S2, .i32⟩
  | 97 => ⟨S2, .i32⟩
  | 98 => ⟨S2, .i32⟩
  | 99 => ⟨S2, .i32⟩
  | 100 => ⟨S2, .i32⟩
  | 101 => ⟨S_, .i32⟩
  | 102 => ⟨S2, .i32⟩
  | 103 => ⟨S2, .i32⟩
  | 104 => ⟨S2, .i32⟩
  | 105 => ⟨S_, .i32⟩
  | 106 => ⟨S2, .i32⟩
  | 107 => ⟨S2, .i32⟩
  | 108 => ⟨S_, .i32⟩
  | 109 => ⟨S2, .i32⟩
  | 110 => ⟨S2, .i32⟩
  | 111 => ⟨S2, .i32⟩
  | 112 => ⟨S2, .i32⟩
  | 113 => ⟨S2, .i32⟩
  | 114 => ⟨S_, .i32⟩
  | 115 => ⟨S2, .i32⟩
  | 116 => ⟨S2, .i32⟩
  | 117 => ⟨S_, .i32⟩
  | 118 => ⟨S2, .i32⟩
  | 119 => ⟨S2, .i32⟩
  | 120 => ⟨S2, .i32⟩
  | 121 => ⟨S2, .i32⟩
  | 122 => ⟨S2, .i32⟩
  | 123 => ⟨S_, .i32⟩
  | 124 => ⟨S2, .i32⟩
  | 125 => ⟨S2, .i32⟩
  | 126 => ⟨S_, .i32⟩
  | 127 => ⟨S2, .i32⟩
  | _ => ⟨S4x4096x1024, .f32⟩

abbrev hbmTy0_2 (i : Nat) : BufTy := match i % 128 with
  | 0 => ⟨S2, .i32⟩
  | 1 => ⟨S2, .i32⟩
  | 2 => ⟨S2, .i32⟩
  | 3 => ⟨S2, .i32⟩
  | 4 => ⟨S_, .i32⟩
  | 5 => ⟨S2, .i32⟩
  | 6 => ⟨S2, .i32⟩
  | 7 => ⟨S_, .i32⟩
  | 8 => ⟨S2, .i32⟩
  | 9 => ⟨S2, .i32⟩
  | 10 => ⟨S2, .i32⟩
  | 11 => ⟨S2, .i32⟩
  | 12 => ⟨S2, .i32⟩
  | 13 => ⟨S2, .i32⟩
  | 14 => ⟨S2, .i32⟩
  | 15 => ⟨S2, .i32⟩
  | 16 => ⟨S_, .i32⟩
  | 17 => ⟨S2, .i32⟩
  | 18 => ⟨S2, .i32⟩
  | 19 => ⟨S2x1, .i32⟩
  | 20 => ⟨S2x1, .i32⟩
  | 21 => ⟨S2x2, .i32⟩
  | 22 => ⟨S1x2, .i32⟩
  | 23 => ⟨S2, .i32⟩
  | 24 => ⟨S1x2, .i32⟩
  | 25 => ⟨S2, .i32⟩
  | 26 => ⟨S1, .i32⟩
  | 27 => ⟨S_, .i32⟩
  | 28 => ⟨S1, .i32⟩
  | 29 => ⟨S_, .i32⟩
  | 30 => ⟨S4096, .i64⟩
  | 31 => ⟨S_, .i64⟩
  | 32 => ⟨S4096, .i64⟩
  | 33 => ⟨S4096, .i64⟩
  | 34 => ⟨S_, .i64⟩
  | 35 => ⟨S4096, .i64⟩
  | 36 => ⟨S4096, .i64⟩
  | 37 => ⟨S4096, .i32⟩
  | 38 => ⟨S4096, .i32⟩
  | 39 => ⟨S_, .i32⟩
  | 40 => ⟨S_, .i32⟩
  | 41 => ⟨S_, .i32⟩
  | 42 => ⟨S4096, .i32⟩
  | 43 => ⟨S4096, .i32⟩
  | 44 => ⟨S4096, .i32⟩
  | 45 => ⟨S4096, .i32⟩
  | 46 => ⟨S4096, .i32⟩
  | 47 => ⟨S_, .i32⟩
  | 48 => ⟨S4096, .i32⟩
  | 49 => ⟨S4096, .i32⟩
  | 50 => ⟨S_, .i32⟩
  | 51 => ⟨S4096, .i32⟩
  | 52 => ⟨S4096, .i32⟩
  | 53 => ⟨S4096, .i32⟩
  | 54 => ⟨S4096, .i32⟩
  | 55 => ⟨S4096, .i32⟩
  | 56 => ⟨S_, .i32⟩
  | 57 => ⟨S4096, .i32⟩
  | 58 => ⟨S4096, .i32⟩
  | 59 => ⟨S_, .i32⟩
  | 60 => ⟨S4096, .i32⟩
  | 61 => ⟨S4096, .i32⟩
  | 62 => ⟨S4096, .i32⟩
  | 63 => ⟨S4096, .i32⟩
  | 64 => ⟨S4096, .i32⟩
  | 65 => ⟨S_, .i32⟩
  | 66 => ⟨S4096, .i32⟩
  | 67 => ⟨S4096, .i32⟩
  | 68 => ⟨S_, .i32⟩
  | 69 => ⟨S4096, .i32⟩
  | 70 => ⟨S4096, .i32⟩
  | 71 => ⟨S4096, .i32⟩
  | 72 => ⟨S4096, .i32⟩
  | 73 => ⟨S4096, .i32⟩
  | 74 => ⟨S_, .i32⟩
  | 75 => ⟨S4096, .i32⟩
  | 76 => ⟨S4096, .i32⟩
  | 77 => ⟨S_, .i32⟩
  | 78 => ⟨S4096, .i32⟩
  | 79 => ⟨S4096, .i32⟩
  | 80 => ⟨S4096, .i32⟩
  | 81 => ⟨S4096, .i32⟩
  | 82 => ⟨S4096, .i32⟩
  | 83 => ⟨S4096, .i32⟩
  | 84 => ⟨S4096, .i32⟩
  | 85 => ⟨S4096, .i32⟩
  | 86 => ⟨S_, .i32⟩
  | 87 => ⟨S4096, .i32⟩
  | 88 => ⟨S4096, .i32⟩
  | 89 => ⟨S4096, .i32⟩
  | 90 => ⟨S_, .i32⟩
  | 91 => ⟨S4096, .i32⟩
  | 92 => ⟨S4096, .i32⟩
  | 93 => ⟨S_, .i32⟩
  | 94 => ⟨S4096, .i32⟩
  | 95 => ⟨S4096, .i32⟩
  | 96 => ⟨S4096, .i32⟩
  | 97 => ⟨S4096, .i32⟩
  | 98 => ⟨S4096, .i32⟩
  | 99 => ⟨S_, .i32⟩
  | 100 => ⟨S4096, .i32⟩
  | 101 => ⟨S4096, .i32⟩
  | 102 => ⟨S_, .i32⟩
  | 103 => ⟨S4096, .i32⟩
  | 104 => ⟨S4096, .i32⟩
  | 105 => ⟨S4096, .i32⟩
  | 106 => ⟨S4096, .i32⟩
  | 107 => ⟨S4096, .i32⟩
  | 108 => ⟨S_, .i32⟩
  | 109 => ⟨S4096, .i32⟩
  | 110 => ⟨S4096, .i32⟩
  | 111 => ⟨S_, .i32⟩
  | 112 => ⟨S4096, .i32⟩
  | 113 => ⟨S4096, .i32⟩
  | 114 => ⟨S4096, .i32⟩
  | 115 => ⟨S4096, .i32⟩
  | 116 => ⟨S4096, .i32⟩
  | 117 => ⟨S_, .i32⟩
  | 118 => ⟨S4096, .i32⟩
  | 119 => ⟨S4096, .i32⟩
  | 120 => ⟨S_, .i32⟩
  | 121 => ⟨S4096, .i32⟩
  | 122 => ⟨S4096, .i32⟩
  | 123 => ⟨S4096, .i32⟩
  | 124 => ⟨S4096, .i32⟩
  | 125 => ⟨S4096, .i32⟩
  | 126 => ⟨S4096, .i32⟩
  | 127 => ⟨S4096, .i32⟩
  | _ => ⟨S4x4096x1024, .f32⟩

abbrev hbmTy0_3 (i : Nat) : BufTy := match i % 128 with
  | 0 => ⟨S4096, .i32⟩
  | 1 => ⟨S_, .i32⟩
  | 2 => ⟨S4096, .i32⟩
  | 3 => ⟨S4096, .i32⟩
  | 4 => ⟨S4096, .i32⟩
  | 5 => ⟨S_, .i32⟩
  | 6 => ⟨S4096, .i32⟩
  | 7 => ⟨S4096, .i32⟩
  | 8 => ⟨S_, .i32⟩
  | 9 => ⟨S4096, .i32⟩
  | 10 => ⟨S4096, .i32⟩
  | 11 => ⟨S4096, .i32⟩
  | 12 => ⟨S4096, .i32⟩
  | 13 => ⟨S4096, .i32⟩
  | 14 => ⟨S_, .i32⟩
  | 15 => ⟨S4096, .i32⟩
  | 16 => ⟨S4096, .i32⟩
  | 17 => ⟨S_, .i32⟩
  | 18 => ⟨S4096, .i32⟩
  | 19 => ⟨S4096, .i32⟩
  | 20 => ⟨S4096, .i32⟩
  | 21 => ⟨S4096, .i32⟩
  | 22 => ⟨S4096, .i32⟩
  | 23 => ⟨S_, .i32⟩
  | 24 => ⟨S4096, .i32⟩
  | 25 => ⟨S4096, .i32⟩
  | 26 => ⟨S_, .i32⟩
  | 27 => ⟨S4096, .i32⟩
  | 28 => ⟨S4096, .i32⟩
  | 29 => ⟨S4096, .i32⟩
  | 30 => ⟨S4096, .i32⟩
  | 31 => ⟨S4096, .i32⟩
  | 32 => ⟨S_, .i32⟩
  | 33 => ⟨S4096, .i32⟩
  | 34 => ⟨S4096, .i32⟩
  | 35 => ⟨S_, .i32⟩
  | 36 => ⟨S4096, .i32⟩
  | 37 => ⟨S4096, .i32⟩
  | 38 => ⟨S4096, .i32⟩
  | 39 => ⟨S4096, .i32⟩
  | 40 => ⟨S4096, .i32⟩
  | 41 => ⟨S4096, .i32⟩
  | 42 => ⟨S4096, .i32⟩
  | 43 => ⟨S4096, .i32⟩
  | 44 => ⟨S_, .i32⟩
  | 45 => ⟨S4096, .i32⟩
  | 46 => ⟨S4096, .i32⟩
  | 47 => ⟨S4096, .i32⟩
  | 48 => ⟨S_, .i32⟩
  | 49 => ⟨S4096, .i32⟩
  | 50 => ⟨S4096, .i32⟩
  | 51 => ⟨S_, .i32⟩
  | 52 => ⟨S4096, .i32⟩
  | 53 => ⟨S4096, .i32⟩
  | 54 => ⟨S4096, .i32⟩
  | 55 => ⟨S4096, .i32⟩
  | 56 => ⟨S4096, .i32⟩
  | 57 => ⟨S_, .i32⟩
  | 58 => ⟨S4096, .i32⟩
  | 59 => ⟨S4096, .i32⟩
  | 60 => ⟨S_, .i32⟩
  | 61 => ⟨S4096, .i32⟩
  | 62 => ⟨S4096, .i32⟩
  | 63 => ⟨S4096, .i32⟩
  | 64 => ⟨S4096, .i32⟩
  | 65 => ⟨S4096, .i32⟩
  | 66 => ⟨S_, .i32⟩
  | 67 => ⟨S4096, .i32⟩
  | 68 => ⟨S4096, .i32⟩
  | 69 => ⟨S_, .i32⟩
  | 70 => ⟨S4096, .i32⟩
  | 71 => ⟨S4096, .i32⟩
  | 72 => ⟨S4096, .i32⟩
  | 73 => ⟨S4096, .i32⟩
  | 74 => ⟨S4096, .i32⟩
  | 75 => ⟨S_, .i32⟩
  | 76 => ⟨S4096, .i32⟩
  | 77 => ⟨S4096, .i32⟩
  | 78 => ⟨S_, .i32⟩
  | 79 => ⟨S4096, .i32⟩
  | 80 => ⟨S4096, .i32⟩
  | 81 => ⟨S4096, .i32⟩
  | 82 => ⟨S4096, .i32⟩
  | 83 => ⟨S4096, .i32⟩
  | 84 => ⟨S4096, .i32⟩
  | 85 => ⟨S4096, .i32⟩
  | 86 => ⟨S4096, .i32⟩
  | 87 => ⟨S_, .i32⟩
  | 88 => ⟨S4096, .i32⟩
  | 89 => ⟨S4096, .i32⟩
  | 90 => ⟨S4096, .i32⟩
  | 91 => ⟨S_, .i32⟩
  | 92 => ⟨S4096, .i32⟩
  | 93 => ⟨S4096, .i32⟩
  | 94 => ⟨S_, .i32⟩
  | 95 => ⟨S4096, .i32⟩
  | 96 => ⟨S4096, .i32⟩
  | 97 => ⟨S4096, .i32⟩
  | 98 => ⟨S4096, .i32⟩
  | 99 => ⟨S4096, .i32⟩
  | 100 => ⟨S_, .i32⟩
  | 101 => ⟨S4096, .i32⟩
  | 102 => ⟨S4096, .i32⟩
  | 103 => ⟨S_, .i32⟩
  | 104 => ⟨S4096, .i32⟩
  | 105 => ⟨S4096, .i32⟩
  | 106 => ⟨S4096, .i32⟩
  | 107 => ⟨S4096, .i32⟩
  | 108 => ⟨S4096, .i32⟩
  | 109 => ⟨S_, .i32⟩
  | 110 => ⟨S4096, .i32⟩
  | 111 => ⟨S4096, .i32⟩
  | 112 => ⟨S_, .i32⟩
  | 113 => ⟨S4096, .i32⟩
  | 114 => ⟨S4096, .i32⟩
  | 115 => ⟨S4096, .i32⟩
  | 116 => ⟨S4096, .i32⟩
  | 117 => ⟨S4096, .i32⟩
  | 118 => ⟨S_, .i32⟩
  | 119 => ⟨S4096, .i32⟩
  | 120 => ⟨S4096, .i32⟩
  | 121 => ⟨S_, .i32⟩
  | 122 => ⟨S4096, .i32⟩
  | 123 => ⟨S4096, .i32⟩
  | 124 => ⟨S4096, .i32⟩
  | 125 => ⟨S4096, .i32⟩
  | 126 => ⟨S4096, .i32⟩
  | 127 => ⟨S4096, .i32⟩
  | _ => ⟨S4x4096x1024, .f32⟩

abbrev hbmTy0_4 (i : Nat) : BufTy := match i % 128 with
  | 0 => ⟨S4096, .i32⟩
  | 1 => ⟨S4096, .i32⟩
  | 2 => ⟨S_, .i32⟩
  | 3 => ⟨S4096, .i32⟩
  | 4 => ⟨S4096, .i32⟩
  | 5 => ⟨S4096, .i32⟩
  | 6 => ⟨S4096, .i32⟩
  | 7 => ⟨S4096, .i32⟩
  | 8 => ⟨S1, .i32⟩
  | 9 => ⟨S_, .i32⟩
  | 10 => ⟨S1, .i32⟩
  | 11 => ⟨S_, .i32⟩
  | 12 => ⟨S2, .i64⟩
  | 13 => ⟨S_, .i64⟩
  | 14 => ⟨S2, .i64⟩
  | 15 => ⟨S2, .i64⟩
  | 16 => ⟨S_, .i64⟩
  | 17 => ⟨S2, .i64⟩
  | 18 => ⟨S2, .i64⟩
  | 19 => ⟨S2, .i32⟩
  | 20 => ⟨S2, .i32⟩
  | 21 => ⟨S_, .i32⟩
  | 22 => ⟨S_, .i32⟩
  | 23 => ⟨S_, .i32⟩
  | 24 => ⟨S2, .i32⟩
  | 25 => ⟨S2, .i32⟩
  | 26 => ⟨S2, .i32⟩
  | 27 => ⟨S2, .i32⟩
  | 28 => ⟨S2, .i32⟩
  | 29 => ⟨S_, .i32⟩
  | 30 => ⟨S2, .i32⟩
  | 31 => ⟨S2, .i32⟩
  | 32 => ⟨S_, .i32⟩
  | 33 => ⟨S2, .i32⟩
  | 34 => ⟨S2, .i32⟩
  | 35 => ⟨S2, .i32⟩
  | 36 => ⟨S2, .i32⟩
  | 37 => ⟨S2, .i32⟩
  | 38 => ⟨S_, .i32⟩
  | 39 => ⟨S2, .i32⟩
  | 40 => ⟨S2, .i32⟩
  | 41 => ⟨S_, .i32⟩
  | 42 => ⟨S2, .i32⟩
  | 43 => ⟨S2, .i32⟩
  | 44 => ⟨S2, .i32⟩
  | 45 => ⟨S2, .i32⟩
  | 46 => ⟨S2, .i32⟩
  | 47 => ⟨S_, .i32⟩
  | 48 => ⟨S2, .i32⟩
  | 49 => ⟨S2, .i32⟩
  | 50 => ⟨S_, .i32⟩
  | 51 => ⟨S2, .i32⟩
  | 52 => ⟨S2, .i32⟩
  | 53 => ⟨S2, .i32⟩
  | 54 => ⟨S2, .i32⟩
  | 55 => ⟨S2, .i32⟩
  | 56 => ⟨S_, .i32⟩
  | 57 => ⟨S2, .i32⟩
  | 58 => ⟨S2, .i32⟩
  | 59 => ⟨S_, .i32⟩
  | 60 => ⟨S2, .i32⟩
  | 61 => ⟨S2, .i32⟩
  | 62 => ⟨S2, .i32⟩
  | 63 => ⟨S2, .i32⟩
  | 64 => ⟨S2, .i32⟩
  | 65 => ⟨S2, .i32⟩
  | 66 => ⟨S2, .i32⟩
  | 67 => ⟨S2, .i32⟩
  | 68 => ⟨S_, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S_, .i32⟩
  | 76 => ⟨S2, .i32⟩
  | 77 => ⟨S2, .i32⟩
  | 78 => ⟨S2, .i32⟩
  | 79 => ⟨S2, .i32⟩
  | 80 => ⟨S2, .i32⟩
  | 81 => ⟨S_, .i32⟩
  | 82 => ⟨S2, .i32⟩
  | 83 => ⟨S2, .i32⟩
  | 84 => ⟨S_, .i32⟩
  | 85 => ⟨S2, .i32⟩
  | 86 => ⟨S2, .i32⟩
  | 87 => ⟨S2, .i32⟩
  | 88 => ⟨S2, .i32⟩
  | 89 => ⟨S2, .i32⟩
  | 90 => ⟨S_, .i32⟩
  | 91 => ⟨S2, .i32⟩
  | 92 => ⟨S2, .i32⟩
  | 93 => ⟨S_, .i32⟩
  | 94 => ⟨S2, .i32⟩
  | 95 => ⟨S2, .i32⟩
  | 96 => ⟨S2, .i32⟩
  | 97 => ⟨S2, .i32⟩
  | 98 => ⟨S2, .i32⟩
  | 99 => ⟨S_, .i32⟩
  | 100 => ⟨S2, .i32⟩
  | 101 => ⟨S2, .i32⟩
  | 102 => ⟨S_, .i32⟩
  | 103 => ⟨S2, .i32⟩
  | 104 => ⟨S2, .i32⟩
  | 105 => ⟨S2, .i32⟩
  | 106 => ⟨S2, .i32⟩
  | 107 => ⟨S2, .i32⟩
  | 108 => ⟨S2, .i32⟩
  | 109 => ⟨S2, .i32⟩
  | 110 => ⟨S2, .i32⟩
  | 111 => ⟨S_, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S_, .i32⟩
  | 119 => ⟨S2, .i32⟩
  | 120 => ⟨S2, .i32⟩
  | 121 => ⟨S2, .i32⟩
  | 122 => ⟨S2, .i32⟩
  | 123 => ⟨S2, .i32⟩
  | 124 => ⟨S_, .i32⟩
  | 125 => ⟨S2, .i32⟩
  | 126 => ⟨S2, .i32⟩
  | 127 => ⟨S_, .i32⟩
  | _ => ⟨S4x4096x1024, .f32⟩

abbrev hbmTy0_5 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S_, .i32⟩
  | 6 => ⟨S2, .i32⟩
  | 7 => ⟨S2, .i32⟩
  | 8 => ⟨S_, .i32⟩
  | 9 => ⟨S2, .i32⟩
  | 10 => ⟨S2, .i32⟩
  | 11 => ⟨S2, .i32⟩
  | 12 => ⟨S2, .i32⟩
  | 13 => ⟨S2, .i32⟩
  | 14 => ⟨S_, .i32⟩
  | 15 => ⟨S2, .i32⟩
  | 16 => ⟨S2, .i32⟩
  | 17 => ⟨S_, .i32⟩
  | 18 => ⟨S2, .i32⟩
  | 19 => ⟨S2, .i32⟩
  | 20 => ⟨S2, .i32⟩
  | 21 => ⟨S2, .i32⟩
  | 22 => ⟨S2, .i32⟩
  | 23 => ⟨S2, .i32⟩
  | 24 => ⟨S2, .i32⟩
  | 25 => ⟨S2, .i32⟩
  | 26 => ⟨S_, .i32⟩
  | 27 => ⟨S2, .i32⟩
  | 28 => ⟨S2, .i32⟩
  | 29 => ⟨S2, .i32⟩
  | 30 => ⟨S_, .i32⟩
  | 31 => ⟨S2, .i32⟩
  | 32 => ⟨S2, .i32⟩
  | 33 => ⟨S_, .i32⟩
  | 34 => ⟨S2, .i32⟩
  | 35 => ⟨S2, .i32⟩
  | 36 => ⟨S2, .i32⟩
  | 37 => ⟨S2, .i32⟩
  | 38 => ⟨S2, .i32⟩
  | 39 => ⟨S_, .i32⟩
  | 40 => ⟨S2, .i32⟩
  | 41 => ⟨S2, .i32⟩
  | 42 => ⟨S_, .i32⟩
  | 43 => ⟨S2, .i32⟩
  | 44 => ⟨S2, .i32⟩
  | 45 => ⟨S2, .i32⟩
  | 46 => ⟨S2, .i32⟩
  | 47 => ⟨S2, .i32⟩
  | 48 => ⟨S_, .i32⟩
  | 49 => ⟨S2, .i32⟩
  | 50 => ⟨S2, .i32⟩
  | 51 => ⟨S_, .i32⟩
  | 52 => ⟨S2, .i32⟩
  | 53 => ⟨S2, .i32⟩
  | 54 => ⟨S2, .i32⟩
  | 55 => ⟨S2, .i32⟩
  | 56 => ⟨S2, .i32⟩
  | 57 => ⟨S_, .i32⟩
  | 58 => ⟨S2, .i32⟩
  | 59 => ⟨S2, .i32⟩
  | 60 => ⟨S_, .i32⟩
  | 61 => ⟨S2, .i32⟩
  | 62 => ⟨S2, .i32⟩
  | 63 => ⟨S2, .i32⟩
  | 64 => ⟨S2, .i32⟩
  | 65 => ⟨S2, .i32⟩
  | 66 => ⟨S2, .i32⟩
  | 67 => ⟨S2, .i32⟩
  | 68 => ⟨S2, .i32⟩
  | 69 => ⟨S_, .i32⟩
  | 70 => ⟨S2, .i32⟩
  | 71 => ⟨S2, .i32⟩
  | 72 => ⟨S2, .i32⟩
  | 73 => ⟨S_, .i32⟩
  | 74 => ⟨S2, .i32⟩
  | 75 => ⟨S2, .i32⟩
  | 76 => ⟨S_, .i32⟩
  | 77 => ⟨S2, .i32⟩
  | 78 => ⟨S2, .i32⟩
  | 79 => ⟨S2, .i32⟩
  | 80 => ⟨S2, .i32⟩
  | 81 => ⟨S2, .i32⟩
  | 82 => ⟨S_, .i32⟩
  | 83 => ⟨S2, .i32⟩
  | 84 => ⟨S2, .i32⟩
  | 85 => ⟨S_, .i32⟩
  | 86 => ⟨S2, .i32⟩
  | 87 => ⟨S2, .i32⟩
  | 88 => ⟨S2, .i32⟩
  | 89 => ⟨S2, .i32⟩
  | 90 => ⟨S2, .i32⟩
  | 91 => ⟨S_, .i32⟩
  | 92 => ⟨S2, .i32⟩
  | 93 => ⟨S2, .i32⟩
  | 94 => ⟨S_, .i32⟩
  | 95 => ⟨S2, .i32⟩
  | 96 => ⟨S2, .i32⟩
  | 97 => ⟨S2, .i32⟩
  | 98 => ⟨S2, .i32⟩
  | 99 => ⟨S2, .i32⟩
  | 100 => ⟨S_, .i32⟩
  | 101 => ⟨S2, .i32⟩
  | 102 => ⟨S2, .i32⟩
  | 103 => ⟨S_, .i32⟩
  | 104 => ⟨S2, .i32⟩
  | 105 => ⟨S2, .i32⟩
  | 106 => ⟨S2, .i32⟩
  | 107 => ⟨S2, .i32⟩
  | 108 => ⟨S2, .i32⟩
  | 109 => ⟨S2, .i32⟩
  | 110 => ⟨S2, .i32⟩
  | 111 => ⟨S2, .i32⟩
  | 112 => ⟨S_, .i32⟩
  | 113 => ⟨S2, .i32⟩
  | 114 => ⟨S2, .i32⟩
  | 115 => ⟨S2x1, .i32⟩
  | 116 => ⟨S2x1, .i32⟩
  | 117 => ⟨S2x2, .i32⟩
  | 118 => ⟨S1x2, .i32⟩
  | 119 => ⟨S2, .i32⟩
  | 120 => ⟨S1x2, .i32⟩
  | 121 => ⟨S2, .i32⟩
  | 122 => ⟨S1, .i32⟩
  | 123 => ⟨S_, .i32⟩
  | 124 => ⟨S1, .i32⟩
  | 125 => ⟨S_, .i32⟩
  | 126 => ⟨S4096, .i64⟩
  | 127 => ⟨S_, .i64⟩
  | _ => ⟨S4x4096x1024, .f32⟩

abbrev hbmTy0_6 (i : Nat) : BufTy := match i % 128 with
  | 0 => ⟨S4096, .i64⟩
  | 1 => ⟨S4096, .i64⟩
  | 2 => ⟨S_, .i64⟩
  | 3 => ⟨S4096, .i64⟩
  | 4 => ⟨S4096, .i64⟩
  | 5 => ⟨S4096, .i32⟩
  | 6 => ⟨S4096, .i32⟩
  | 7 => ⟨S_, .i32⟩
  | 8 => ⟨S_, .i32⟩
  | 9 => ⟨S_, .i32⟩
  | 10 => ⟨S4096, .i32⟩
  | 11 => ⟨S4096, .i32⟩
  | 12 => ⟨S4096, .i32⟩
  | 13 => ⟨S4096, .i32⟩
  | 14 => ⟨S4096, .i32⟩
  | 15 => ⟨S_, .i32⟩
  | 16 => ⟨S4096, .i32⟩
  | 17 => ⟨S4096, .i32⟩
  | 18 => ⟨S_, .i32⟩
  | 19 => ⟨S4096, .i32⟩
  | 20 => ⟨S4096, .i32⟩
  | 21 => ⟨S4096, .i32⟩
  | 22 => ⟨S4096, .i32⟩
  | 23 => ⟨S4096, .i32⟩
  | 24 => ⟨S_, .i32⟩
  | 25 => ⟨S4096, .i32⟩
  | 26 => ⟨S4096, .i32⟩
  | 27 => ⟨S_, .i32⟩
  | 28 => ⟨S4096, .i32⟩
  | 29 => ⟨S4096, .i32⟩
  | 30 => ⟨S4096, .i32⟩
  | 31 => ⟨S4096, .i32⟩
  | 32 => ⟨S4096, .i32⟩
  | 33 => ⟨S_, .i32⟩
  | 34 => ⟨S4096, .i32⟩
  | 35 => ⟨S4096, .i32⟩
  | 36 => ⟨S_, .i32⟩
  | 37 => ⟨S4096, .i32⟩
  | 38 => ⟨S4096, .i32⟩
  | 39 => ⟨S4096, .i32⟩
  | 40 => ⟨S4096, .i32⟩
  | 41 => ⟨S4096, .i32⟩
  | 42 => ⟨S_, .i32⟩
  | 43 => ⟨S4096, .i32⟩
  | 44 => ⟨S4096, .i32⟩
  | 45 => ⟨S_, .i32⟩
  | 46 => ⟨S4096, .i32⟩
  | 47 => ⟨S4096, .i32⟩
  | 48 => ⟨S4096, .i32⟩
  | 49 => ⟨S4096, .i32⟩
  | 50 => ⟨S4096, .i32⟩
  | 51 => ⟨S4096, .i32⟩
  | 52 => ⟨S4096, .i32⟩
  | 53 => ⟨S4096, .i32⟩
  | 54 => ⟨S_, .i32⟩
  | 55 => ⟨S4096, .i32⟩
  | 56 => ⟨S4096, .i32⟩
  | 57 => ⟨S4096, .i32⟩
  | 58 => ⟨S_, .i32⟩
  | 59 => ⟨S4096, .i32⟩
  | 60 => ⟨S4096, .i32⟩
  | 61 => ⟨S_, .i32⟩
  | 62 => ⟨S4096, .i32⟩
  | 63 => ⟨S4096, .i32⟩
  | 64 => ⟨S4096, .i32⟩
  | 65 => ⟨S4096, .i32⟩
  | 66 => ⟨S4096, .i32⟩
  | 67 => ⟨S_, .i32⟩
  | 68 => ⟨S4096, .i32⟩
  | 69 => ⟨S4096, .i32⟩
  | 70 => ⟨S_, .i32⟩
  | 71 => ⟨S4096, .i32⟩
  | 72 => ⟨S4096, .i32⟩
  | 73 => ⟨S4096, .i32⟩
  | 74 => ⟨S4096, .i32⟩
  | 75 => ⟨S4096, .i32⟩
  | 76 => ⟨S_, .i32⟩
  | 77 => ⟨S4096, .i32⟩
  | 78 => ⟨S4096, .i32⟩
  | 79 => ⟨S_, .i32⟩
  | 80 => ⟨S4096, .i32⟩
  | 81 => ⟨S4096, .i32⟩
  | 82 => ⟨S4096, .i32⟩
  | 83 => ⟨S4096, .i32⟩
  | 84 => ⟨S4096, .i32⟩
  | 85 => ⟨S_, .i32⟩
  | 86 => ⟨S4096, .i32⟩
  | 87 => ⟨S4096, .i32⟩
  | 88 => ⟨S_, .i32⟩
  | 89 => ⟨S4096, .i32⟩
  | 90 => ⟨S4096, .i32⟩
  | 91 => ⟨S4096, .i32⟩
  | 92 => ⟨S4096, .i32⟩
  | 93 => ⟨S4096, .i32⟩
  | 94 => ⟨S4096, .i32⟩
  | 95 => ⟨S4096, .i32⟩
  | 96 => ⟨S4096, .i32⟩
  | 97 => ⟨S_, .i32⟩
  | 98 => ⟨S4096, .i32⟩
  | 99 => ⟨S4096, .i32⟩
  | 100 => ⟨S4096, .i32⟩
  | 101 => ⟨S_, .i32⟩
  | 102 => ⟨S4096, .i32⟩
  | 103 => ⟨S4096, .i32⟩
  | 104 => ⟨S_, .i32⟩
  | 105 => ⟨S4096, .i32⟩
  | 106 => ⟨S4096, .i32⟩
  | 107 => ⟨S4096, .i32⟩
  | 108 => ⟨S4096, .i32⟩
  | 109 => ⟨S4096, .i32⟩
  | 110 => ⟨S_, .i32⟩
  | 111 => ⟨S4096, .i32⟩
  | 112 => ⟨S4096, .i32⟩
  | 113 => ⟨S_, .i32⟩
  | 114 => ⟨S4096, .i32⟩
  | 115 => ⟨S4096, .i32⟩
  | 116 => ⟨S4096, .i32⟩
  | 117 => ⟨S4096, .i32⟩
  | 118 => ⟨S4096, .i32⟩
  | 119 => ⟨S_, .i32⟩
  | 120 => ⟨S4096, .i32⟩
  | 121 => ⟨S4096, .i32⟩
  | 122 => ⟨S_, .i32⟩
  | 123 => ⟨S4096, .i32⟩
  | 124 => ⟨S4096, .i32⟩
  | 125 => ⟨S4096, .i32⟩
  | 126 => ⟨S4096, .i32⟩
  | 127 => ⟨S4096, .i32⟩
  | _ => ⟨S4x4096x1024, .f32⟩

abbrev hbmTy0_7 (i : Nat) : BufTy := match i % 128 with
  | 0 => ⟨S_, .i32⟩
  | 1 => ⟨S4096, .i32⟩
  | 2 => ⟨S4096, .i32⟩
  | 3 => ⟨S_, .i32⟩
  | 4 => ⟨S4096, .i32⟩
  | 5 => ⟨S4096, .i32⟩
  | 6 => ⟨S4096, .i32⟩
  | 7 => ⟨S4096, .i32⟩
  | 8 => ⟨S4096, .i32⟩
  | 9 => ⟨S4096, .i32⟩
  | 10 => ⟨S4096, .i32⟩
  | 11 => ⟨S4096, .i32⟩
  | 12 => ⟨S_, .i32⟩
  | 13 => ⟨S4096, .i32⟩
  | 14 => ⟨S4096, .i32⟩
  | 15 => ⟨S4096, .i32⟩
  | 16 => ⟨S_, .i32⟩
  | 17 => ⟨S4096, .i32⟩
  | 18 => ⟨S4096, .i32⟩
  | 19 => ⟨S_, .i32⟩
  | 20 => ⟨S4096, .i32⟩
  | 21 => ⟨S4096, .i32⟩
  | 22 => ⟨S4096, .i32⟩
  | 23 => ⟨S4096, .i32⟩
  | 24 => ⟨S4096, .i32⟩
  | 25 => ⟨S_, .i32⟩
  | 26 => ⟨S4096, .i32⟩
  | 27 => ⟨S4096, .i32⟩
  | 28 => ⟨S_, .i32⟩
  | 29 => ⟨S4096, .i32⟩
  | 30 => ⟨S4096, .i32⟩
  | 31 => ⟨S4096, .i32⟩
  | 32 => ⟨S4096, .i32⟩
  | 33 => ⟨S4096, .i32⟩
  | 34 => ⟨S_, .i32⟩
  | 35 => ⟨S4096, .i32⟩
  | 36 => ⟨S4096, .i32⟩
  | 37 => ⟨S_, .i32⟩
  | 38 => ⟨S4096, .i32⟩
  | 39 => ⟨S4096, .i32⟩
  | 40 => ⟨S4096, .i32⟩
  | 41 => ⟨S4096, .i32⟩
  | 42 => ⟨S4096, .i32⟩
  | 43 => ⟨S_, .i32⟩
  | 44 => ⟨S4096, .i32⟩
  | 45 => ⟨S4096, .i32⟩
  | 46 => ⟨S_, .i32⟩
  | 47 => ⟨S4096, .i32⟩
  | 48 => ⟨S4096, .i32⟩
  | 49 => ⟨S4096, .i32⟩
  | 50 => ⟨S4096, .i32⟩
  | 51 => ⟨S4096, .i32⟩
  | 52 => ⟨S4096, .i32⟩
  | 53 => ⟨S4096, .i32⟩
  | 54 => ⟨S4096, .i32⟩
  | 55 => ⟨S_, .i32⟩
  | 56 => ⟨S4096, .i32⟩
  | 57 => ⟨S4096, .i32⟩
  | 58 => ⟨S4096, .i32⟩
  | 59 => ⟨S_, .i32⟩
  | 60 => ⟨S4096, .i32⟩
  | 61 => ⟨S4096, .i32⟩
  | 62 => ⟨S_, .i32⟩
  | 63 => ⟨S4096, .i32⟩
  | 64 => ⟨S4096, .i32⟩
  | 65 => ⟨S4096, .i32⟩
  | 66 => ⟨S4096, .i32⟩
  | 67 => ⟨S4096, .i32⟩
  | 68 => ⟨S_, .i32⟩
  | 69 => ⟨S4096, .i32⟩
  | 70 => ⟨S4096, .i32⟩
  | 71 => ⟨S_, .i32⟩
  | 72 => ⟨S4096, .i32⟩
  | 73 => ⟨S4096, .i32⟩
  | 74 => ⟨S4096, .i32⟩
  | 75 => ⟨S4096, .i32⟩
  | 76 => ⟨S4096, .i32⟩
  | 77 => ⟨S_, .i32⟩
  | 78 => ⟨S4096, .i32⟩
  | 79 => ⟨S4096, .i32⟩
  | 80 => ⟨S_, .i32⟩
  | 81 => ⟨S4096, .i32⟩
  | 82 => ⟨S4096, .i32⟩
  | 83 => ⟨S4096, .i32⟩
  | 84 => ⟨S4096, .i32⟩
  | 85 => ⟨S4096, .i32⟩
  | 86 => ⟨S_, .i32⟩
  | 87 => ⟨S4096, .i32⟩
  | 88 => ⟨S4096, .i32⟩
  | 89 => ⟨S_, .i32⟩
  | 90 => ⟨S4096, .i32⟩
  | 91 => ⟨S4096, .i32⟩
  | 92 => ⟨S4096, .i32⟩
  | 93 => ⟨S4096, .i32⟩
  | 94 => ⟨S4096, .i32⟩
  | 95 => ⟨S4096, .i32⟩
  | 96 => ⟨S4096, .i32⟩
  | 97 => ⟨S4096, .i32⟩
  | 98 => ⟨S_, .i32⟩
  | 99 => ⟨S4096, .i32⟩
  | 100 => ⟨S4096, .i32⟩
  | 101 => ⟨S4096, .i32⟩
  | 102 => ⟨S4096, .i32⟩
  | 103 => ⟨S4096, .i32⟩
  | 104 => ⟨S45, .i32⟩
  | 105 => ⟨S_, .i32⟩
  | 106 => ⟨S45, .i32⟩
  | 107 => ⟨S45, .i1⟩
  | 108 => ⟨S_, .i32⟩
  | 109 => ⟨S45, .i32⟩
  | 110 => ⟨S45, .i32⟩
  | 111 => ⟨S45, .i32⟩
  | 112 => ⟨S45x1, .i32⟩
  | 113 => ⟨S4x45x16x64, .f32⟩
  | 114 => ⟨S4x16x45x4096, .f32⟩
  | 115 => ⟨S_, .f32⟩
  | 116 => ⟨S4x16x45, .f32⟩
  | 117 => ⟨S_, .f32⟩
  | 118 => ⟨S4x16x45, .f32⟩
  | 119 => ⟨S_, .f32⟩
  | 120 => ⟨S4x16x45, .f32⟩
  | 121 => ⟨S4x16x45, .f32⟩
  | 122 => ⟨S4x16x45, .f32⟩
  | 123 => ⟨S4x16x45, .f32⟩
  | 124 => ⟨S4x16x45, .i32⟩
  | 125 => ⟨S4x16x4096x64, .f32⟩
  | 126 => ⟨S4x16x45x1, .i32⟩
  | 127 => ⟨S_, .i32⟩
  | _ => ⟨S4x4096x1024, .f32⟩

abbrev hbmTy0_8 (i : Nat) : BufTy := match i % 128 with
  | 0 => ⟨S4x16x45x1, .i32⟩
  | 1 => ⟨S4x16x45x1, .i1⟩
  | 2 => ⟨S_, .i32⟩
  | 3 => ⟨S4x16x45x1, .i32⟩
  | 4 => ⟨S4x16x45x1, .i32⟩
  | 5 => ⟨S4x16x45x1, .i32⟩
  | 6 => ⟨S1, .i32⟩
  | 7 => ⟨S_, .i32⟩
  | 8 => ⟨S4x16x45x1, .i32⟩
  | 9 => ⟨S4x16x45x1, .i1⟩
  | 10 => ⟨S1x1x1x1, .i32⟩
  | 11 => ⟨S4x16x45x1, .i32⟩
  | 12 => ⟨S4x16x45x1, .i1⟩
  | 13 => ⟨S4x16x45x1, .i1⟩
  | 14 => ⟨S_, .i1⟩
  | 15 => ⟨S4x16x45, .i1⟩
  | 16 => ⟨S4x16x45x64, .f32⟩
  | 17 => ⟨S4x16x45x64, .i1⟩
  | 18 => ⟨S_, .f32⟩
  | 19 => ⟨S4x16x45x64, .f32⟩
  | 20 => ⟨S4x16x45x64, .f32⟩
  | 21 => ⟨S4x16x45x4096, .f32⟩
  | 22 => ⟨S_, .f32⟩
  | 23 => ⟨S4x16x45, .f32⟩
  | 24 => ⟨S_, .f32⟩
  | 25 => ⟨S4x16x45, .f32⟩
  | 26 => ⟨S4x16x45, .f32⟩
  | 27 => ⟨S4x16x45x1, .f32⟩
  | 28 => ⟨S4x16x45x4096, .f32⟩
  | 29 => ⟨S4x16x45x4096, .f32⟩
  | 30 => ⟨S4x16x45x4096, .f32⟩
  | 31 => ⟨S_, .f32⟩
  | 32 => ⟨S4x16x45, .f32⟩
  | 33 => ⟨S4x16x45x1, .f32⟩
  | 34 => ⟨S4x16x45x4096, .f32⟩
  | 35 => ⟨S4x16x45x4096, .f32⟩
  | 36 => ⟨S4x16x64x45, .f32⟩
  | 37 => ⟨S4x45x16x64, .f32⟩
  | 38 => ⟨S4x45x1024, .f32⟩
  | 39 => ⟨S1024x1024, .f32⟩
  | 40 => ⟨S4x45x1024, .f32⟩
  | 41 => ⟨S1x1x1024, .f32⟩
  | 42 => ⟨S4x45x1024, .f32⟩
  | 43 => ⟨S4x45x1024, .f32⟩
  | _ => ⟨S4x4096x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c : Ref sig .tc := ⟨.hbm, 29, rfl⟩
abbrev main_c_0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_1 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_call0_call0_v0 : Ref sig .tc := ⟨.hbm, 40, rfl⟩
abbrev main_call0_call0_v1 : Ref sig .tc := ⟨.hbm, 41, rfl⟩
abbrev main_call0_call0_v2 : Ref sig .tc := ⟨.hbm, 42, rfl⟩
abbrev main_call0_call0_v3 : Ref sig .tc := ⟨.hbm, 43, rfl⟩
abbrev main_call0_call0_v4 : Ref sig .tc := ⟨.hbm, 44, rfl⟩
abbrev main_call0_call0_c : Ref sig .tc := ⟨.hbm, 45, rfl⟩
abbrev main_call0_call0_v5 : Ref sig .tc := ⟨.hbm, 46, rfl⟩
abbrev main_call0_call0_v6 : Ref sig .tc := ⟨.hbm, 47, rfl⟩
abbrev main_call0_call0_c_0 : Ref sig .tc := ⟨.hbm, 48, rfl⟩
abbrev main_call0_call0_v7 : Ref sig .tc := ⟨.hbm, 49, rfl⟩
abbrev main_call0_call0_v8 : Ref sig .tc := ⟨.hbm, 50, rfl⟩
abbrev main_call0_call0_v9 : Ref sig .tc := ⟨.hbm, 51, rfl⟩
abbrev main_call0_call0_v10 : Ref sig .tc := ⟨.hbm, 52, rfl⟩
abbrev main_call0_call0_call0_v0 : Ref sig .tc := ⟨.hbm, 53, rfl⟩
abbrev main_call0_call0_call0_c : Ref sig .tc := ⟨.hbm, 54, rfl⟩
abbrev main_call0_call0_call0_v1 : Ref sig .tc := ⟨.hbm, 55, rfl⟩
abbrev main_call0_call0_call0_v2 : Ref sig .tc := ⟨.hbm, 56, rfl⟩
abbrev main_call0_call0_call0_v3 : Ref sig .tc := ⟨.hbm, 57, rfl⟩
abbrev main_call0_call0_call0_v4 : Ref sig .tc := ⟨.hbm, 58, rfl⟩
abbrev main_call0_call0_call0_v5 : Ref sig .tc := ⟨.hbm, 59, rfl⟩
abbrev main_call0_call0_call0_v6 : Ref sig .tc := ⟨.hbm, 60, rfl⟩
abbrev main_call0_call0_call0_c_0 : Ref sig .tc := ⟨.hbm, 61, rfl⟩
abbrev main_call0_call0_call0_v7 : Ref sig .tc := ⟨.hbm, 62, rfl⟩
abbrev main_call0_call0_call0_v8 : Ref sig .tc := ⟨.hbm, 63, rfl⟩
abbrev main_call0_call0_call0_c_1 : Ref sig .tc := ⟨.hbm, 64, rfl⟩
abbrev main_call0_call0_call0_v9 : Ref sig .tc := ⟨.hbm, 65, rfl⟩
abbrev main_call0_call0_call0_v10 : Ref sig .tc := ⟨.hbm, 66, rfl⟩
abbrev main_call0_call0_call0_v11 : Ref sig .tc := ⟨.hbm, 67, rfl⟩
abbrev main_call0_call0_call0_v12 : Ref sig .tc := ⟨.hbm, 68, rfl⟩
abbrev main_call0_call0_call0_v13 : Ref sig .tc := ⟨.hbm, 69, rfl⟩
abbrev main_call0_call0_call0_c_2 : Ref sig .tc := ⟨.hbm, 70, rfl⟩
abbrev main_call0_call0_call0_v14 : Ref sig .tc := ⟨.hbm, 71, rfl⟩
abbrev main_call0_call0_call0_v15 : Ref sig .tc := ⟨.hbm, 72, rfl⟩
abbrev main_call0_call0_call0_c_3 : Ref sig .tc := ⟨.hbm, 73, rfl⟩
abbrev main_call0_call0_call0_v16 : Ref sig .tc := ⟨.hbm, 74, rfl⟩
abbrev main_call0_call0_call0_v17 : Ref sig .tc := ⟨.hbm, 75, rfl⟩
abbrev main_call0_call0_call0_v18 : Ref sig .tc := ⟨.hbm, 76, rfl⟩
abbrev main_call0_call0_call0_v19 : Ref sig .tc := ⟨.hbm, 77, rfl⟩
abbrev main_call0_call0_call0_v20 : Ref sig .tc := ⟨.hbm, 78, rfl⟩
abbrev main_call0_call0_call0_c_4 : Ref sig .tc := ⟨.hbm, 79, rfl⟩
abbrev main_call0_call0_call0_v21 : Ref sig .tc := ⟨.hbm, 80, rfl⟩
abbrev main_call0_call0_call0_v22 : Ref sig .tc := ⟨.hbm, 81, rfl⟩
abbrev main_call0_call0_call0_c_5 : Ref sig .tc := ⟨.hbm, 82, rfl⟩
abbrev main_call0_call0_call0_v23 : Ref sig .tc := ⟨.hbm, 83, rfl⟩
abbrev main_call0_call0_call0_v24 : Ref sig .tc := ⟨.hbm, 84, rfl⟩
abbrev main_call0_call0_call0_v25 : Ref sig .tc := ⟨.hbm, 85, rfl⟩
abbrev main_call0_call0_call0_v26 : Ref sig .tc := ⟨.hbm, 86, rfl⟩
abbrev main_call0_call0_call0_v27 : Ref sig .tc := ⟨.hbm, 87, rfl⟩
abbrev main_call0_call0_call0_c_6 : Ref sig .tc := ⟨.hbm, 88, rfl⟩
abbrev main_call0_call0_call0_v28 : Ref sig .tc := ⟨.hbm, 89, rfl⟩
abbrev main_call0_call0_call0_v29 : Ref sig .tc := ⟨.hbm, 90, rfl⟩
abbrev main_call0_call0_call0_c_7 : Ref sig .tc := ⟨.hbm, 91, rfl⟩
abbrev main_call0_call0_call0_v30 : Ref sig .tc := ⟨.hbm, 92, rfl⟩
abbrev main_call0_call0_call0_v31 : Ref sig .tc := ⟨.hbm, 93, rfl⟩
abbrev main_call0_call0_call0_v32 : Ref sig .tc := ⟨.hbm, 94, rfl⟩
abbrev main_call0_call0_call0_v33 : Ref sig .tc := ⟨.hbm, 95, rfl⟩
abbrev main_call0_call0_call0_v34 : Ref sig .tc := ⟨.hbm, 96, rfl⟩
abbrev main_call0_call0_call0_v35 : Ref sig .tc := ⟨.hbm, 97, rfl⟩
abbrev main_call0_call0_call0_v36 : Ref sig .tc := ⟨.hbm, 98, rfl⟩
abbrev main_call0_call0_call0_v37 : Ref sig .tc := ⟨.hbm, 99, rfl⟩
abbrev main_call0_call0_call0_c_8 : Ref sig .tc := ⟨.hbm, 100, rfl⟩
abbrev main_call0_call0_call0_v38 : Ref sig .tc := ⟨.hbm, 101, rfl⟩
abbrev main_call0_call0_call0_v39 : Ref sig .tc := ⟨.hbm, 102, rfl⟩
abbrev main_call0_call0_call0_v40 : Ref sig .tc := ⟨.hbm, 103, rfl⟩
abbrev main_call0_call0_call0_c_9 : Ref sig .tc := ⟨.hbm, 104, rfl⟩
abbrev main_call0_call0_call0_v41 : Ref sig .tc := ⟨.hbm, 105, rfl⟩
abbrev main_call0_call0_call0_v42 : Ref sig .tc := ⟨.hbm, 106, rfl⟩
abbrev main_call0_call0_call0_c_10 : Ref sig .tc := ⟨.hbm, 107, rfl⟩
abbrev main_call0_call0_call0_v43 : Ref sig .tc := ⟨.hbm, 108, rfl⟩
abbrev main_call0_call0_call0_v44 : Ref sig .tc := ⟨.hbm, 109, rfl⟩
abbrev main_call0_call0_call0_v45 : Ref sig .tc := ⟨.hbm, 110, rfl⟩
abbrev main_call0_call0_call0_v46 : Ref sig .tc := ⟨.hbm, 111, rfl⟩
abbrev main_call0_call0_call0_v47 : Ref sig .tc := ⟨.hbm, 112, rfl⟩
abbrev main_call0_call0_call0_c_11 : Ref sig .tc := ⟨.hbm, 113, rfl⟩
abbrev main_call0_call0_call0_v48 : Ref sig .tc := ⟨.hbm, 114, rfl⟩
abbrev main_call0_call0_call0_v49 : Ref sig .tc := ⟨.hbm, 115, rfl⟩
abbrev main_call0_call0_call0_c_12 : Ref sig .tc := ⟨.hbm, 116, rfl⟩
abbrev main_call0_call0_call0_v50 : Ref sig .tc := ⟨.hbm, 117, rfl⟩
abbrev main_call0_call0_call0_v51 : Ref sig .tc := ⟨.hbm, 118, rfl⟩
abbrev main_call0_call0_call0_v52 : Ref sig .tc := ⟨.hbm, 119, rfl⟩
abbrev main_call0_call0_call0_v53 : Ref sig .tc := ⟨.hbm, 120, rfl⟩
abbrev main_call0_call0_call0_v54 : Ref sig .tc := ⟨.hbm, 121, rfl⟩
abbrev main_call0_call0_call0_c_13 : Ref sig .tc := ⟨.hbm, 122, rfl⟩
abbrev main_call0_call0_call0_v55 : Ref sig .tc := ⟨.hbm, 123, rfl⟩
abbrev main_call0_call0_call0_v56 : Ref sig .tc := ⟨.hbm, 124, rfl⟩
abbrev main_call0_call0_call0_c_14 : Ref sig .tc := ⟨.hbm, 125, rfl⟩
abbrev main_call0_call0_call0_v57 : Ref sig .tc := ⟨.hbm, 126, rfl⟩
abbrev main_call0_call0_call0_v58 : Ref sig .tc := ⟨.hbm, 127, rfl⟩
abbrev main_call0_call0_call0_v59 : Ref sig .tc := ⟨.hbm, 128, rfl⟩
abbrev main_call0_call0_call0_v60 : Ref sig .tc := ⟨.hbm, 129, rfl⟩
abbrev main_call0_call0_call0_v61 : Ref sig .tc := ⟨.hbm, 130, rfl⟩
abbrev main_call0_call0_call0_c_15 : Ref sig .tc := ⟨.hbm, 131, rfl⟩
abbrev main_call0_call0_call0_v62 : Ref sig .tc := ⟨.hbm, 132, rfl⟩
abbrev main_call0_call0_call0_v63 : Ref sig .tc := ⟨.hbm, 133, rfl⟩
abbrev main_call0_call0_call0_c_16 : Ref sig .tc := ⟨.hbm, 134, rfl⟩
abbrev main_call0_call0_call0_v64 : Ref sig .tc := ⟨.hbm, 135, rfl⟩
abbrev main_call0_call0_call0_v65 : Ref sig .tc := ⟨.hbm, 136, rfl⟩
abbrev main_call0_call0_call0_v66 : Ref sig .tc := ⟨.hbm, 137, rfl⟩
abbrev main_call0_call0_call0_v67 : Ref sig .tc := ⟨.hbm, 138, rfl⟩
abbrev main_call0_call0_call0_v68 : Ref sig .tc := ⟨.hbm, 139, rfl⟩
abbrev main_call0_call0_call0_v69 : Ref sig .tc := ⟨.hbm, 140, rfl⟩
abbrev main_call0_call0_call0_v70 : Ref sig .tc := ⟨.hbm, 141, rfl⟩
abbrev main_call0_call0_call0_v71 : Ref sig .tc := ⟨.hbm, 142, rfl⟩
abbrev main_call0_call0_call0_c_17 : Ref sig .tc := ⟨.hbm, 143, rfl⟩
abbrev main_call0_call0_call0_v72 : Ref sig .tc := ⟨.hbm, 144, rfl⟩
abbrev main_call0_call0_call0_v73 : Ref sig .tc := ⟨.hbm, 145, rfl⟩
abbrev main_call0_call0_call0_v74 : Ref sig .tc := ⟨.hbm, 146, rfl⟩
abbrev main_call0_call0_call0_c_18 : Ref sig .tc := ⟨.hbm, 147, rfl⟩
abbrev main_call0_call0_call0_v75 : Ref sig .tc := ⟨.hbm, 148, rfl⟩
abbrev main_call0_call0_call0_v76 : Ref sig .tc := ⟨.hbm, 149, rfl⟩
abbrev main_call0_call0_call0_c_19 : Ref sig .tc := ⟨.hbm, 150, rfl⟩
abbrev main_call0_call0_call0_v77 : Ref sig .tc := ⟨.hbm, 151, rfl⟩
abbrev main_call0_call0_call0_v78 : Ref sig .tc := ⟨.hbm, 152, rfl⟩
abbrev main_call0_call0_call0_v79 : Ref sig .tc := ⟨.hbm, 153, rfl⟩
abbrev main_call0_call0_call0_v80 : Ref sig .tc := ⟨.hbm, 154, rfl⟩
abbrev main_call0_call0_call0_v81 : Ref sig .tc := ⟨.hbm, 155, rfl⟩
abbrev main_call0_call0_call0_c_20 : Ref sig .tc := ⟨.hbm, 156, rfl⟩
abbrev main_call0_call0_call0_v82 : Ref sig .tc := ⟨.hbm, 157, rfl⟩
abbrev main_call0_call0_call0_v83 : Ref sig .tc := ⟨.hbm, 158, rfl⟩
abbrev main_call0_call0_call0_c_21 : Ref sig .tc := ⟨.hbm, 159, rfl⟩
abbrev main_call0_call0_call0_v84 : Ref sig .tc := ⟨.hbm, 160, rfl⟩
abbrev main_call0_call0_call0_v85 : Ref sig .tc := ⟨.hbm, 161, rfl⟩
abbrev main_call0_call0_call0_v86 : Ref sig .tc := ⟨.hbm, 162, rfl⟩
abbrev main_call0_call0_call0_v87 : Ref sig .tc := ⟨.hbm, 163, rfl⟩
abbrev main_call0_call0_call0_v88 : Ref sig .tc := ⟨.hbm, 164, rfl⟩
abbrev main_call0_call0_call0_c_22 : Ref sig .tc := ⟨.hbm, 165, rfl⟩
abbrev main_call0_call0_call0_v89 : Ref sig .tc := ⟨.hbm, 166, rfl⟩
abbrev main_call0_call0_call0_v90 : Ref sig .tc := ⟨.hbm, 167, rfl⟩
abbrev main_call0_call0_call0_c_23 : Ref sig .tc := ⟨.hbm, 168, rfl⟩
abbrev main_call0_call0_call0_v91 : Ref sig .tc := ⟨.hbm, 169, rfl⟩
abbrev main_call0_call0_call0_v92 : Ref sig .tc := ⟨.hbm, 170, rfl⟩
abbrev main_call0_call0_call0_v93 : Ref sig .tc := ⟨.hbm, 171, rfl⟩
abbrev main_call0_call0_call0_v94 : Ref sig .tc := ⟨.hbm, 172, rfl⟩
abbrev main_call0_call0_call0_v95 : Ref sig .tc := ⟨.hbm, 173, rfl⟩
abbrev main_call0_call0_call0_c_24 : Ref sig .tc := ⟨.hbm, 174, rfl⟩
abbrev main_call0_call0_call0_v96 : Ref sig .tc := ⟨.hbm, 175, rfl⟩
abbrev main_call0_call0_call0_v97 : Ref sig .tc := ⟨.hbm, 176, rfl⟩
abbrev main_call0_call0_call0_c_25 : Ref sig .tc := ⟨.hbm, 177, rfl⟩
abbrev main_call0_call0_call0_v98 : Ref sig .tc := ⟨.hbm, 178, rfl⟩
abbrev main_call0_call0_call0_v99 : Ref sig .tc := ⟨.hbm, 179, rfl⟩
abbrev main_call0_call0_call0_v100 : Ref sig .tc := ⟨.hbm, 180, rfl⟩
abbrev main_call0_call0_call0_v101 : Ref sig .tc := ⟨.hbm, 181, rfl⟩
abbrev main_call0_call0_call0_v102 : Ref sig .tc := ⟨.hbm, 182, rfl⟩
abbrev main_call0_call0_call0_v103 : Ref sig .tc := ⟨.hbm, 183, rfl⟩
abbrev main_call0_call0_call0_v104 : Ref sig .tc := ⟨.hbm, 184, rfl⟩
abbrev main_call0_call0_call0_v105 : Ref sig .tc := ⟨.hbm, 185, rfl⟩
abbrev main_call0_call0_call0_c_26 : Ref sig .tc := ⟨.hbm, 186, rfl⟩
abbrev main_call0_call0_call0_v106 : Ref sig .tc := ⟨.hbm, 187, rfl⟩
abbrev main_call0_call0_call0_v107 : Ref sig .tc := ⟨.hbm, 188, rfl⟩
abbrev main_call0_call0_call0_v108 : Ref sig .tc := ⟨.hbm, 189, rfl⟩
abbrev main_call0_call0_call0_c_27 : Ref sig .tc := ⟨.hbm, 190, rfl⟩
abbrev main_call0_call0_call0_v109 : Ref sig .tc := ⟨.hbm, 191, rfl⟩
abbrev main_call0_call0_call0_v110 : Ref sig .tc := ⟨.hbm, 192, rfl⟩
abbrev main_call0_call0_call0_c_28 : Ref sig .tc := ⟨.hbm, 193, rfl⟩
abbrev main_call0_call0_call0_v111 : Ref sig .tc := ⟨.hbm, 194, rfl⟩
abbrev main_call0_call0_call0_v112 : Ref sig .tc := ⟨.hbm, 195, rfl⟩
abbrev main_call0_call0_call0_v113 : Ref sig .tc := ⟨.hbm, 196, rfl⟩
abbrev main_call0_call0_call0_v114 : Ref sig .tc := ⟨.hbm, 197, rfl⟩
abbrev main_call0_call0_call0_v115 : Ref sig .tc := ⟨.hbm, 198, rfl⟩
abbrev main_call0_call0_call0_c_29 : Ref sig .tc := ⟨.hbm, 199, rfl⟩
abbrev main_call0_call0_call0_v116 : Ref sig .tc := ⟨.hbm, 200, rfl⟩
abbrev main_call0_call0_call0_v117 : Ref sig .tc := ⟨.hbm, 201, rfl⟩
abbrev main_call0_call0_call0_c_30 : Ref sig .tc := ⟨.hbm, 202, rfl⟩
abbrev main_call0_call0_call0_v118 : Ref sig .tc := ⟨.hbm, 203, rfl⟩
abbrev main_call0_call0_call0_v119 : Ref sig .tc := ⟨.hbm, 204, rfl⟩
abbrev main_call0_call0_call0_v120 : Ref sig .tc := ⟨.hbm, 205, rfl⟩
abbrev main_call0_call0_call0_v121 : Ref sig .tc := ⟨.hbm, 206, rfl⟩
abbrev main_call0_call0_call0_v122 : Ref sig .tc := ⟨.hbm, 207, rfl⟩
abbrev main_call0_call0_call0_c_31 : Ref sig .tc := ⟨.hbm, 208, rfl⟩
abbrev main_call0_call0_call0_v123 : Ref sig .tc := ⟨.hbm, 209, rfl⟩
abbrev main_call0_call0_call0_v124 : Ref sig .tc := ⟨.hbm, 210, rfl⟩
abbrev main_call0_call0_call0_c_32 : Ref sig .tc := ⟨.hbm, 211, rfl⟩
abbrev main_call0_call0_call0_v125 : Ref sig .tc := ⟨.hbm, 212, rfl⟩
abbrev main_call0_call0_call0_v126 : Ref sig .tc := ⟨.hbm, 213, rfl⟩
abbrev main_call0_call0_call0_v127 : Ref sig .tc := ⟨.hbm, 214, rfl⟩
abbrev main_call0_call0_call0_v128 : Ref sig .tc := ⟨.hbm, 215, rfl⟩
abbrev main_call0_call0_call0_v129 : Ref sig .tc := ⟨.hbm, 216, rfl⟩
abbrev main_call0_call0_call0_c_33 : Ref sig .tc := ⟨.hbm, 217, rfl⟩
abbrev main_call0_call0_call0_v130 : Ref sig .tc := ⟨.hbm, 218, rfl⟩
abbrev main_call0_call0_call0_v131 : Ref sig .tc := ⟨.hbm, 219, rfl⟩
abbrev main_call0_call0_call0_c_34 : Ref sig .tc := ⟨.hbm, 220, rfl⟩
abbrev main_call0_call0_call0_v132 : Ref sig .tc := ⟨.hbm, 221, rfl⟩
abbrev main_call0_call0_call0_v133 : Ref sig .tc := ⟨.hbm, 222, rfl⟩
abbrev main_call0_call0_call0_v134 : Ref sig .tc := ⟨.hbm, 223, rfl⟩
abbrev main_call0_call0_call0_v135 : Ref sig .tc := ⟨.hbm, 224, rfl⟩
abbrev main_call0_call0_call0_v136 : Ref sig .tc := ⟨.hbm, 225, rfl⟩
abbrev main_call0_call0_call0_v137 : Ref sig .tc := ⟨.hbm, 226, rfl⟩
abbrev main_call0_call0_call0_v138 : Ref sig .tc := ⟨.hbm, 227, rfl⟩
abbrev main_call0_call0_call0_v139 : Ref sig .tc := ⟨.hbm, 228, rfl⟩
abbrev main_call0_call0_call0_c_35 : Ref sig .tc := ⟨.hbm, 229, rfl⟩
abbrev main_call0_call0_call0_v140 : Ref sig .tc := ⟨.hbm, 230, rfl⟩
abbrev main_call0_call0_call0_v141 : Ref sig .tc := ⟨.hbm, 231, rfl⟩
abbrev main_call0_call0_call0_v142 : Ref sig .tc := ⟨.hbm, 232, rfl⟩
abbrev main_call0_call0_call0_c_36 : Ref sig .tc := ⟨.hbm, 233, rfl⟩
abbrev main_call0_call0_call0_v143 : Ref sig .tc := ⟨.hbm, 234, rfl⟩
abbrev main_call0_call0_call0_v144 : Ref sig .tc := ⟨.hbm, 235, rfl⟩
abbrev main_call0_call0_call0_c_37 : Ref sig .tc := ⟨.hbm, 236, rfl⟩
abbrev main_call0_call0_call0_v145 : Ref sig .tc := ⟨.hbm, 237, rfl⟩
abbrev main_call0_call0_call0_v146 : Ref sig .tc := ⟨.hbm, 238, rfl⟩
abbrev main_call0_call0_call0_v147 : Ref sig .tc := ⟨.hbm, 239, rfl⟩
abbrev main_call0_call0_call0_v148 : Ref sig .tc := ⟨.hbm, 240, rfl⟩
abbrev main_call0_call0_call0_v149 : Ref sig .tc := ⟨.hbm, 241, rfl⟩
abbrev main_call0_call0_call0_c_38 : Ref sig .tc := ⟨.hbm, 242, rfl⟩
abbrev main_call0_call0_call0_v150 : Ref sig .tc := ⟨.hbm, 243, rfl⟩
abbrev main_call0_call0_call0_v151 : Ref sig .tc := ⟨.hbm, 244, rfl⟩
abbrev main_call0_call0_call0_c_39 : Ref sig .tc := ⟨.hbm, 245, rfl⟩
abbrev main_call0_call0_call0_v152 : Ref sig .tc := ⟨.hbm, 246, rfl⟩
abbrev main_call0_call0_call0_v153 : Ref sig .tc := ⟨.hbm, 247, rfl⟩
abbrev main_call0_call0_call0_v154 : Ref sig .tc := ⟨.hbm, 248, rfl⟩
abbrev main_call0_call0_call0_v155 : Ref sig .tc := ⟨.hbm, 249, rfl⟩
abbrev main_call0_call0_call0_v156 : Ref sig .tc := ⟨.hbm, 250, rfl⟩
abbrev main_call0_call0_call0_c_40 : Ref sig .tc := ⟨.hbm, 251, rfl⟩
abbrev main_call0_call0_call0_v157 : Ref sig .tc := ⟨.hbm, 252, rfl⟩
abbrev main_call0_call0_call0_v158 : Ref sig .tc := ⟨.hbm, 253, rfl⟩
abbrev main_call0_call0_call0_c_41 : Ref sig .tc := ⟨.hbm, 254, rfl⟩
abbrev main_call0_call0_call0_v159 : Ref sig .tc := ⟨.hbm, 255, rfl⟩
abbrev main_call0_call0_call0_v160 : Ref sig .tc := ⟨.hbm, 256, rfl⟩
abbrev main_call0_call0_call0_v161 : Ref sig .tc := ⟨.hbm, 257, rfl⟩
abbrev main_call0_call0_call0_v162 : Ref sig .tc := ⟨.hbm, 258, rfl⟩
abbrev main_call0_call0_call0_v163 : Ref sig .tc := ⟨.hbm, 259, rfl⟩
abbrev main_call0_call0_call0_c_42 : Ref sig .tc := ⟨.hbm, 260, rfl⟩
abbrev main_call0_call0_call0_v164 : Ref sig .tc := ⟨.hbm, 261, rfl⟩
abbrev main_call0_call0_call0_v165 : Ref sig .tc := ⟨.hbm, 262, rfl⟩
abbrev main_call0_call0_call0_c_43 : Ref sig .tc := ⟨.hbm, 263, rfl⟩
abbrev main_call0_call0_call0_v166 : Ref sig .tc := ⟨.hbm, 264, rfl⟩
abbrev main_call0_call0_call0_v167 : Ref sig .tc := ⟨.hbm, 265, rfl⟩
abbrev main_call0_call0_call0_v168 : Ref sig .tc := ⟨.hbm, 266, rfl⟩
abbrev main_call0_call0_call0_v169 : Ref sig .tc := ⟨.hbm, 267, rfl⟩
abbrev main_call0_call0_call0_v170 : Ref sig .tc := ⟨.hbm, 268, rfl⟩
abbrev main_call0_call0_v11_0 : Ref sig .tc := ⟨.hbm, 269, rfl⟩
abbrev main_call0_call0_call0_v172 : Ref sig .tc := ⟨.hbm, 270, rfl⟩
abbrev main_call0_call0_call0_v173 : Ref sig .tc := ⟨.hbm, 271, rfl⟩
abbrev main_call0_call0_call0_c_44 : Ref sig .tc := ⟨.hbm, 272, rfl⟩
abbrev main_call0_call0_call0_v174 : Ref sig .tc := ⟨.hbm, 273, rfl⟩
abbrev main_call0_call0_v11_1 : Ref sig .tc := ⟨.hbm, 274, rfl⟩
abbrev main_call0_call0_v12 : Ref sig .tc := ⟨.hbm, 275, rfl⟩
abbrev main_call0_call0_v13 : Ref sig .tc := ⟨.hbm, 276, rfl⟩
abbrev main_call0_v0 : Ref sig .tc := ⟨.hbm, 277, rfl⟩
abbrev main_call0_v1 : Ref sig .tc := ⟨.hbm, 278, rfl⟩
abbrev main_call0_v2 : Ref sig .tc := ⟨.hbm, 279, rfl⟩
abbrev main_call0_v3 : Ref sig .tc := ⟨.hbm, 280, rfl⟩
abbrev main_call0_v4 : Ref sig .tc := ⟨.hbm, 281, rfl⟩
abbrev main_call0_v5 : Ref sig .tc := ⟨.hbm, 282, rfl⟩
abbrev main_call0_v6 : Ref sig .tc := ⟨.hbm, 283, rfl⟩
abbrev main_call0_v7 : Ref sig .tc := ⟨.hbm, 284, rfl⟩
abbrev main_call0_v8 : Ref sig .tc := ⟨.hbm, 285, rfl⟩
abbrev main_call0_v9 : Ref sig .tc := ⟨.hbm, 286, rfl⟩
abbrev main_call0_c : Ref sig .tc := ⟨.hbm, 287, rfl⟩
abbrev main_call0_v10 : Ref sig .tc := ⟨.hbm, 288, rfl⟩
abbrev main_call0_v11 : Ref sig .tc := ⟨.hbm, 289, rfl⟩
abbrev main_call0_c_0 : Ref sig .tc := ⟨.hbm, 290, rfl⟩
abbrev main_call0_v12 : Ref sig .tc := ⟨.hbm, 291, rfl⟩
abbrev main_call0_v13 : Ref sig .tc := ⟨.hbm, 292, rfl⟩
abbrev main_call0_v14 : Ref sig .tc := ⟨.hbm, 293, rfl⟩
abbrev main_call0_v15 : Ref sig .tc := ⟨.hbm, 294, rfl⟩
abbrev main_call0_call1_v0 : Ref sig .tc := ⟨.hbm, 295, rfl⟩
abbrev main_call0_call1_c : Ref sig .tc := ⟨.hbm, 296, rfl⟩
abbrev main_call0_call1_v1 : Ref sig .tc := ⟨.hbm, 297, rfl⟩
abbrev main_call0_call1_v2 : Ref sig .tc := ⟨.hbm, 298, rfl⟩
abbrev main_call0_call1_v3 : Ref sig .tc := ⟨.hbm, 299, rfl⟩
abbrev main_call0_call1_v4 : Ref sig .tc := ⟨.hbm, 300, rfl⟩
abbrev main_call0_call1_v5 : Ref sig .tc := ⟨.hbm, 301, rfl⟩
abbrev main_call0_call1_v6 : Ref sig .tc := ⟨.hbm, 302, rfl⟩
abbrev main_call0_call1_c_0 : Ref sig .tc := ⟨.hbm, 303, rfl⟩
abbrev main_call0_call1_v7 : Ref sig .tc := ⟨.hbm, 304, rfl⟩
abbrev main_call0_call1_v8 : Ref sig .tc := ⟨.hbm, 305, rfl⟩
abbrev main_call0_call1_c_1 : Ref sig .tc := ⟨.hbm, 306, rfl⟩
abbrev main_call0_call1_v9 : Ref sig .tc := ⟨.hbm, 307, rfl⟩
abbrev main_call0_call1_v10 : Ref sig .tc := ⟨.hbm, 308, rfl⟩
abbrev main_call0_call1_v11 : Ref sig .tc := ⟨.hbm, 309, rfl⟩
abbrev main_call0_call1_v12 : Ref sig .tc := ⟨.hbm, 310, rfl⟩
abbrev main_call0_call1_v13 : Ref sig .tc := ⟨.hbm, 311, rfl⟩
abbrev main_call0_call1_c_2 : Ref sig .tc := ⟨.hbm, 312, rfl⟩
abbrev main_call0_call1_v14 : Ref sig .tc := ⟨.hbm, 313, rfl⟩
abbrev main_call0_call1_v15 : Ref sig .tc := ⟨.hbm, 314, rfl⟩
abbrev main_call0_call1_c_3 : Ref sig .tc := ⟨.hbm, 315, rfl⟩
abbrev main_call0_call1_v16 : Ref sig .tc := ⟨.hbm, 316, rfl⟩
abbrev main_call0_call1_v17 : Ref sig .tc := ⟨.hbm, 317, rfl⟩
abbrev main_call0_call1_v18 : Ref sig .tc := ⟨.hbm, 318, rfl⟩
abbrev main_call0_call1_v19 : Ref sig .tc := ⟨.hbm, 319, rfl⟩
abbrev main_call0_call1_v20 : Ref sig .tc := ⟨.hbm, 320, rfl⟩
abbrev main_call0_call1_c_4 : Ref sig .tc := ⟨.hbm, 321, rfl⟩
abbrev main_call0_call1_v21 : Ref sig .tc := ⟨.hbm, 322, rfl⟩
abbrev main_call0_call1_v22 : Ref sig .tc := ⟨.hbm, 323, rfl⟩
abbrev main_call0_call1_c_5 : Ref sig .tc := ⟨.hbm, 324, rfl⟩
abbrev main_call0_call1_v23 : Ref sig .tc := ⟨.hbm, 325, rfl⟩
abbrev main_call0_call1_v24 : Ref sig .tc := ⟨.hbm, 326, rfl⟩
abbrev main_call0_call1_v25 : Ref sig .tc := ⟨.hbm, 327, rfl⟩
abbrev main_call0_call1_v26 : Ref sig .tc := ⟨.hbm, 328, rfl⟩
abbrev main_call0_call1_v27 : Ref sig .tc := ⟨.hbm, 329, rfl⟩
abbrev main_call0_call1_c_6 : Ref sig .tc := ⟨.hbm, 330, rfl⟩
abbrev main_call0_call1_v28 : Ref sig .tc := ⟨.hbm, 331, rfl⟩
abbrev main_call0_call1_v29 : Ref sig .tc := ⟨.hbm, 332, rfl⟩
abbrev main_call0_call1_c_7 : Ref sig .tc := ⟨.hbm, 333, rfl⟩
abbrev main_call0_call1_v30 : Ref sig .tc := ⟨.hbm, 334, rfl⟩
abbrev main_call0_call1_v31 : Ref sig .tc := ⟨.hbm, 335, rfl⟩
abbrev main_call0_call1_v32 : Ref sig .tc := ⟨.hbm, 336, rfl⟩
abbrev main_call0_call1_v33 : Ref sig .tc := ⟨.hbm, 337, rfl⟩
abbrev main_call0_call1_v34 : Ref sig .tc := ⟨.hbm, 338, rfl⟩
abbrev main_call0_call1_v35 : Ref sig .tc := ⟨.hbm, 339, rfl⟩
abbrev main_call0_call1_v36 : Ref sig .tc := ⟨.hbm, 340, rfl⟩
abbrev main_call0_call1_v37 : Ref sig .tc := ⟨.hbm, 341, rfl⟩
abbrev main_call0_call1_c_8 : Ref sig .tc := ⟨.hbm, 342, rfl⟩
abbrev main_call0_call1_v38 : Ref sig .tc := ⟨.hbm, 343, rfl⟩
abbrev main_call0_call1_v39 : Ref sig .tc := ⟨.hbm, 344, rfl⟩
abbrev main_call0_call1_v40 : Ref sig .tc := ⟨.hbm, 345, rfl⟩
abbrev main_call0_call1_c_9 : Ref sig .tc := ⟨.hbm, 346, rfl⟩
abbrev main_call0_call1_v41 : Ref sig .tc := ⟨.hbm, 347, rfl⟩
abbrev main_call0_call1_v42 : Ref sig .tc := ⟨.hbm, 348, rfl⟩
abbrev main_call0_call1_c_10 : Ref sig .tc := ⟨.hbm, 349, rfl⟩
abbrev main_call0_call1_v43 : Ref sig .tc := ⟨.hbm, 350, rfl⟩
abbrev main_call0_call1_v44 : Ref sig .tc := ⟨.hbm, 351, rfl⟩
abbrev main_call0_call1_v45 : Ref sig .tc := ⟨.hbm, 352, rfl⟩
abbrev main_call0_call1_v46 : Ref sig .tc := ⟨.hbm, 353, rfl⟩
abbrev main_call0_call1_v47 : Ref sig .tc := ⟨.hbm, 354, rfl⟩
abbrev main_call0_call1_c_11 : Ref sig .tc := ⟨.hbm, 355, rfl⟩
abbrev main_call0_call1_v48 : Ref sig .tc := ⟨.hbm, 356, rfl⟩
abbrev main_call0_call1_v49 : Ref sig .tc := ⟨.hbm, 357, rfl⟩
abbrev main_call0_call1_c_12 : Ref sig .tc := ⟨.hbm, 358, rfl⟩
abbrev main_call0_call1_v50 : Ref sig .tc := ⟨.hbm, 359, rfl⟩
abbrev main_call0_call1_v51 : Ref sig .tc := ⟨.hbm, 360, rfl⟩
abbrev main_call0_call1_v52 : Ref sig .tc := ⟨.hbm, 361, rfl⟩
abbrev main_call0_call1_v53 : Ref sig .tc := ⟨.hbm, 362, rfl⟩
abbrev main_call0_call1_v54 : Ref sig .tc := ⟨.hbm, 363, rfl⟩
abbrev main_call0_call1_c_13 : Ref sig .tc := ⟨.hbm, 364, rfl⟩
abbrev main_call0_call1_v55 : Ref sig .tc := ⟨.hbm, 365, rfl⟩
abbrev main_call0_call1_v56 : Ref sig .tc := ⟨.hbm, 366, rfl⟩
abbrev main_call0_call1_c_14 : Ref sig .tc := ⟨.hbm, 367, rfl⟩
abbrev main_call0_call1_v57 : Ref sig .tc := ⟨.hbm, 368, rfl⟩
abbrev main_call0_call1_v58 : Ref sig .tc := ⟨.hbm, 369, rfl⟩
abbrev main_call0_call1_v59 : Ref sig .tc := ⟨.hbm, 370, rfl⟩
abbrev main_call0_call1_v60 : Ref sig .tc := ⟨.hbm, 371, rfl⟩
abbrev main_call0_call1_v61 : Ref sig .tc := ⟨.hbm, 372, rfl⟩
abbrev main_call0_call1_c_15 : Ref sig .tc := ⟨.hbm, 373, rfl⟩
abbrev main_call0_call1_v62 : Ref sig .tc := ⟨.hbm, 374, rfl⟩
abbrev main_call0_call1_v63 : Ref sig .tc := ⟨.hbm, 375, rfl⟩
abbrev main_call0_call1_c_16 : Ref sig .tc := ⟨.hbm, 376, rfl⟩
abbrev main_call0_call1_v64 : Ref sig .tc := ⟨.hbm, 377, rfl⟩
abbrev main_call0_call1_v65 : Ref sig .tc := ⟨.hbm, 378, rfl⟩
abbrev main_call0_call1_v66 : Ref sig .tc := ⟨.hbm, 379, rfl⟩
abbrev main_call0_call1_v67 : Ref sig .tc := ⟨.hbm, 380, rfl⟩
abbrev main_call0_call1_v68 : Ref sig .tc := ⟨.hbm, 381, rfl⟩
abbrev main_call0_call1_v69 : Ref sig .tc := ⟨.hbm, 382, rfl⟩
abbrev main_call0_call1_v70 : Ref sig .tc := ⟨.hbm, 383, rfl⟩
abbrev main_call0_call1_v71 : Ref sig .tc := ⟨.hbm, 384, rfl⟩
abbrev main_call0_call1_c_17 : Ref sig .tc := ⟨.hbm, 385, rfl⟩
abbrev main_call0_call1_v72 : Ref sig .tc := ⟨.hbm, 386, rfl⟩
abbrev main_call0_call1_v73 : Ref sig .tc := ⟨.hbm, 387, rfl⟩
abbrev main_call0_call1_v74 : Ref sig .tc := ⟨.hbm, 388, rfl⟩
abbrev main_call0_call1_c_18 : Ref sig .tc := ⟨.hbm, 389, rfl⟩
abbrev main_call0_call1_v75 : Ref sig .tc := ⟨.hbm, 390, rfl⟩
abbrev main_call0_call1_v76 : Ref sig .tc := ⟨.hbm, 391, rfl⟩
abbrev main_call0_call1_c_19 : Ref sig .tc := ⟨.hbm, 392, rfl⟩
abbrev main_call0_call1_v77 : Ref sig .tc := ⟨.hbm, 393, rfl⟩
abbrev main_call0_call1_v78 : Ref sig .tc := ⟨.hbm, 394, rfl⟩
abbrev main_call0_call1_v79 : Ref sig .tc := ⟨.hbm, 395, rfl⟩
abbrev main_call0_call1_v80 : Ref sig .tc := ⟨.hbm, 396, rfl⟩
abbrev main_call0_call1_v81 : Ref sig .tc := ⟨.hbm, 397, rfl⟩
abbrev main_call0_call1_c_20 : Ref sig .tc := ⟨.hbm, 398, rfl⟩
abbrev main_call0_call1_v82 : Ref sig .tc := ⟨.hbm, 399, rfl⟩
abbrev main_call0_call1_v83 : Ref sig .tc := ⟨.hbm, 400, rfl⟩
abbrev main_call0_call1_c_21 : Ref sig .tc := ⟨.hbm, 401, rfl⟩
abbrev main_call0_call1_v84 : Ref sig .tc := ⟨.hbm, 402, rfl⟩
abbrev main_call0_call1_v85 : Ref sig .tc := ⟨.hbm, 403, rfl⟩
abbrev main_call0_call1_v86 : Ref sig .tc := ⟨.hbm, 404, rfl⟩
abbrev main_call0_call1_v87 : Ref sig .tc := ⟨.hbm, 405, rfl⟩
abbrev main_call0_call1_v88 : Ref sig .tc := ⟨.hbm, 406, rfl⟩
abbrev main_call0_call1_c_22 : Ref sig .tc := ⟨.hbm, 407, rfl⟩
abbrev main_call0_call1_v89 : Ref sig .tc := ⟨.hbm, 408, rfl⟩
abbrev main_call0_call1_v90 : Ref sig .tc := ⟨.hbm, 409, rfl⟩
abbrev main_call0_call1_c_23 : Ref sig .tc := ⟨.hbm, 410, rfl⟩
abbrev main_call0_call1_v91 : Ref sig .tc := ⟨.hbm, 411, rfl⟩
abbrev main_call0_call1_v92 : Ref sig .tc := ⟨.hbm, 412, rfl⟩
abbrev main_call0_call1_v93 : Ref sig .tc := ⟨.hbm, 413, rfl⟩
abbrev main_call0_call1_v94 : Ref sig .tc := ⟨.hbm, 414, rfl⟩
abbrev main_call0_call1_v95 : Ref sig .tc := ⟨.hbm, 415, rfl⟩
abbrev main_call0_call1_c_24 : Ref sig .tc := ⟨.hbm, 416, rfl⟩
abbrev main_call0_call1_v96 : Ref sig .tc := ⟨.hbm, 417, rfl⟩
abbrev main_call0_call1_v97 : Ref sig .tc := ⟨.hbm, 418, rfl⟩
abbrev main_call0_call1_c_25 : Ref sig .tc := ⟨.hbm, 419, rfl⟩
abbrev main_call0_call1_v98 : Ref sig .tc := ⟨.hbm, 420, rfl⟩
abbrev main_call0_call1_v99 : Ref sig .tc := ⟨.hbm, 421, rfl⟩
abbrev main_call0_call1_v100 : Ref sig .tc := ⟨.hbm, 422, rfl⟩
abbrev main_call0_call1_v101 : Ref sig .tc := ⟨.hbm, 423, rfl⟩
abbrev main_call0_call1_v102 : Ref sig .tc := ⟨.hbm, 424, rfl⟩
abbrev main_call0_call1_v103 : Ref sig .tc := ⟨.hbm, 425, rfl⟩
abbrev main_call0_call1_v104 : Ref sig .tc := ⟨.hbm, 426, rfl⟩
abbrev main_call0_call1_v105 : Ref sig .tc := ⟨.hbm, 427, rfl⟩
abbrev main_call0_call1_c_26 : Ref sig .tc := ⟨.hbm, 428, rfl⟩
abbrev main_call0_call1_v106 : Ref sig .tc := ⟨.hbm, 429, rfl⟩
abbrev main_call0_call1_v107 : Ref sig .tc := ⟨.hbm, 430, rfl⟩
abbrev main_call0_call1_v108 : Ref sig .tc := ⟨.hbm, 431, rfl⟩
abbrev main_call0_call1_c_27 : Ref sig .tc := ⟨.hbm, 432, rfl⟩
abbrev main_call0_call1_v109 : Ref sig .tc := ⟨.hbm, 433, rfl⟩
abbrev main_call0_call1_v110 : Ref sig .tc := ⟨.hbm, 434, rfl⟩
abbrev main_call0_call1_c_28 : Ref sig .tc := ⟨.hbm, 435, rfl⟩
abbrev main_call0_call1_v111 : Ref sig .tc := ⟨.hbm, 436, rfl⟩
abbrev main_call0_call1_v112 : Ref sig .tc := ⟨.hbm, 437, rfl⟩
abbrev main_call0_call1_v113 : Ref sig .tc := ⟨.hbm, 438, rfl⟩
abbrev main_call0_call1_v114 : Ref sig .tc := ⟨.hbm, 439, rfl⟩
abbrev main_call0_call1_v115 : Ref sig .tc := ⟨.hbm, 440, rfl⟩
abbrev main_call0_call1_c_29 : Ref sig .tc := ⟨.hbm, 441, rfl⟩
abbrev main_call0_call1_v116 : Ref sig .tc := ⟨.hbm, 442, rfl⟩
abbrev main_call0_call1_v117 : Ref sig .tc := ⟨.hbm, 443, rfl⟩
abbrev main_call0_call1_c_30 : Ref sig .tc := ⟨.hbm, 444, rfl⟩
abbrev main_call0_call1_v118 : Ref sig .tc := ⟨.hbm, 445, rfl⟩
abbrev main_call0_call1_v119 : Ref sig .tc := ⟨.hbm, 446, rfl⟩
abbrev main_call0_call1_v120 : Ref sig .tc := ⟨.hbm, 447, rfl⟩
abbrev main_call0_call1_v121 : Ref sig .tc := ⟨.hbm, 448, rfl⟩
abbrev main_call0_call1_v122 : Ref sig .tc := ⟨.hbm, 449, rfl⟩
abbrev main_call0_call1_c_31 : Ref sig .tc := ⟨.hbm, 450, rfl⟩
abbrev main_call0_call1_v123 : Ref sig .tc := ⟨.hbm, 451, rfl⟩
abbrev main_call0_call1_v124 : Ref sig .tc := ⟨.hbm, 452, rfl⟩
abbrev main_call0_call1_c_32 : Ref sig .tc := ⟨.hbm, 453, rfl⟩
abbrev main_call0_call1_v125 : Ref sig .tc := ⟨.hbm, 454, rfl⟩
abbrev main_call0_call1_v126 : Ref sig .tc := ⟨.hbm, 455, rfl⟩
abbrev main_call0_call1_v127 : Ref sig .tc := ⟨.hbm, 456, rfl⟩
abbrev main_call0_call1_v128 : Ref sig .tc := ⟨.hbm, 457, rfl⟩
abbrev main_call0_call1_v129 : Ref sig .tc := ⟨.hbm, 458, rfl⟩
abbrev main_call0_call1_c_33 : Ref sig .tc := ⟨.hbm, 459, rfl⟩
abbrev main_call0_call1_v130 : Ref sig .tc := ⟨.hbm, 460, rfl⟩
abbrev main_call0_call1_v131 : Ref sig .tc := ⟨.hbm, 461, rfl⟩
abbrev main_call0_call1_c_34 : Ref sig .tc := ⟨.hbm, 462, rfl⟩
abbrev main_call0_call1_v132 : Ref sig .tc := ⟨.hbm, 463, rfl⟩
abbrev main_call0_call1_v133 : Ref sig .tc := ⟨.hbm, 464, rfl⟩
abbrev main_call0_call1_v134 : Ref sig .tc := ⟨.hbm, 465, rfl⟩
abbrev main_call0_call1_v135 : Ref sig .tc := ⟨.hbm, 466, rfl⟩
abbrev main_call0_call1_v136 : Ref sig .tc := ⟨.hbm, 467, rfl⟩
abbrev main_call0_call1_v137 : Ref sig .tc := ⟨.hbm, 468, rfl⟩
abbrev main_call0_call1_v138 : Ref sig .tc := ⟨.hbm, 469, rfl⟩
abbrev main_call0_call1_v139 : Ref sig .tc := ⟨.hbm, 470, rfl⟩
abbrev main_call0_call1_c_35 : Ref sig .tc := ⟨.hbm, 471, rfl⟩
abbrev main_call0_call1_v140 : Ref sig .tc := ⟨.hbm, 472, rfl⟩
abbrev main_call0_call1_v141 : Ref sig .tc := ⟨.hbm, 473, rfl⟩
abbrev main_call0_call1_v142 : Ref sig .tc := ⟨.hbm, 474, rfl⟩
abbrev main_call0_call1_c_36 : Ref sig .tc := ⟨.hbm, 475, rfl⟩
abbrev main_call0_call1_v143 : Ref sig .tc := ⟨.hbm, 476, rfl⟩
abbrev main_call0_call1_v144 : Ref sig .tc := ⟨.hbm, 477, rfl⟩
abbrev main_call0_call1_c_37 : Ref sig .tc := ⟨.hbm, 478, rfl⟩
abbrev main_call0_call1_v145 : Ref sig .tc := ⟨.hbm, 479, rfl⟩
abbrev main_call0_call1_v146 : Ref sig .tc := ⟨.hbm, 480, rfl⟩
abbrev main_call0_call1_v147 : Ref sig .tc := ⟨.hbm, 481, rfl⟩
abbrev main_call0_call1_v148 : Ref sig .tc := ⟨.hbm, 482, rfl⟩
abbrev main_call0_call1_v149 : Ref sig .tc := ⟨.hbm, 483, rfl⟩
abbrev main_call0_call1_c_38 : Ref sig .tc := ⟨.hbm, 484, rfl⟩
abbrev main_call0_call1_v150 : Ref sig .tc := ⟨.hbm, 485, rfl⟩
abbrev main_call0_call1_v151 : Ref sig .tc := ⟨.hbm, 486, rfl⟩
abbrev main_call0_call1_c_39 : Ref sig .tc := ⟨.hbm, 487, rfl⟩
abbrev main_call0_call1_v152 : Ref sig .tc := ⟨.hbm, 488, rfl⟩
abbrev main_call0_call1_v153 : Ref sig .tc := ⟨.hbm, 489, rfl⟩
abbrev main_call0_call1_v154 : Ref sig .tc := ⟨.hbm, 490, rfl⟩
abbrev main_call0_call1_v155 : Ref sig .tc := ⟨.hbm, 491, rfl⟩
abbrev main_call0_call1_v156 : Ref sig .tc := ⟨.hbm, 492, rfl⟩
abbrev main_call0_call1_c_40 : Ref sig .tc := ⟨.hbm, 493, rfl⟩
abbrev main_call0_call1_v157 : Ref sig .tc := ⟨.hbm, 494, rfl⟩
abbrev main_call0_call1_v158 : Ref sig .tc := ⟨.hbm, 495, rfl⟩
abbrev main_call0_call1_c_41 : Ref sig .tc := ⟨.hbm, 496, rfl⟩
abbrev main_call0_call1_v159 : Ref sig .tc := ⟨.hbm, 497, rfl⟩
abbrev main_call0_call1_v160 : Ref sig .tc := ⟨.hbm, 498, rfl⟩
abbrev main_call0_call1_v161 : Ref sig .tc := ⟨.hbm, 499, rfl⟩
abbrev main_call0_call1_v162 : Ref sig .tc := ⟨.hbm, 500, rfl⟩
abbrev main_call0_call1_v163 : Ref sig .tc := ⟨.hbm, 501, rfl⟩
abbrev main_call0_call1_c_42 : Ref sig .tc := ⟨.hbm, 502, rfl⟩
abbrev main_call0_call1_v164 : Ref sig .tc := ⟨.hbm, 503, rfl⟩
abbrev main_call0_call1_v165 : Ref sig .tc := ⟨.hbm, 504, rfl⟩
abbrev main_call0_call1_c_43 : Ref sig .tc := ⟨.hbm, 505, rfl⟩
abbrev main_call0_call1_v166 : Ref sig .tc := ⟨.hbm, 506, rfl⟩
abbrev main_call0_call1_v167 : Ref sig .tc := ⟨.hbm, 507, rfl⟩
abbrev main_call0_call1_v168 : Ref sig .tc := ⟨.hbm, 508, rfl⟩
abbrev main_call0_call1_v169 : Ref sig .tc := ⟨.hbm, 509, rfl⟩
abbrev main_call0_call1_v170 : Ref sig .tc := ⟨.hbm, 510, rfl⟩
abbrev main_call0_v16_0 : Ref sig .tc := ⟨.hbm, 511, rfl⟩
abbrev main_call0_call1_v172 : Ref sig .tc := ⟨.hbm, 512, rfl⟩
abbrev main_call0_call1_v173 : Ref sig .tc := ⟨.hbm, 513, rfl⟩
abbrev main_call0_call1_c_44 : Ref sig .tc := ⟨.hbm, 514, rfl⟩
abbrev main_call0_call1_v174 : Ref sig .tc := ⟨.hbm, 515, rfl⟩
abbrev main_call0_v16_1 : Ref sig .tc := ⟨.hbm, 516, rfl⟩
abbrev main_call0_v17 : Ref sig .tc := ⟨.hbm, 517, rfl⟩
abbrev main_call0_v18_0 : Ref sig .tc := ⟨.hbm, 518, rfl⟩
abbrev main_call0_v18_1 : Ref sig .tc := ⟨.hbm, 519, rfl⟩
abbrev main_call0_call2_v0 : Ref sig .tc := ⟨.hbm, 520, rfl⟩
abbrev main_call0_call2_v1 : Ref sig .tc := ⟨.hbm, 521, rfl⟩
abbrev main_call0_call2_v2 : Ref sig .tc := ⟨.hbm, 522, rfl⟩
abbrev main_call0_call2_v3 : Ref sig .tc := ⟨.hbm, 523, rfl⟩
abbrev main_call0_call2_v4 : Ref sig .tc := ⟨.hbm, 524, rfl⟩
abbrev main_call0_call2_c : Ref sig .tc := ⟨.hbm, 525, rfl⟩
abbrev main_call0_call2_v5 : Ref sig .tc := ⟨.hbm, 526, rfl⟩
abbrev main_call0_call2_v6 : Ref sig .tc := ⟨.hbm, 527, rfl⟩
abbrev main_call0_call2_c_0 : Ref sig .tc := ⟨.hbm, 528, rfl⟩
abbrev main_call0_call2_v7 : Ref sig .tc := ⟨.hbm, 529, rfl⟩
abbrev main_call0_call2_v8 : Ref sig .tc := ⟨.hbm, 530, rfl⟩
abbrev main_call0_call2_v9 : Ref sig .tc := ⟨.hbm, 531, rfl⟩
abbrev main_call0_call2_v10 : Ref sig .tc := ⟨.hbm, 532, rfl⟩
abbrev main_call0_call2_call0_v0 : Ref sig .tc := ⟨.hbm, 533, rfl⟩
abbrev main_call0_call2_call0_c : Ref sig .tc := ⟨.hbm, 534, rfl⟩
abbrev main_call0_call2_call0_v1 : Ref sig .tc := ⟨.hbm, 535, rfl⟩
abbrev main_call0_call2_call0_v2 : Ref sig .tc := ⟨.hbm, 536, rfl⟩
abbrev main_call0_call2_call0_v3 : Ref sig .tc := ⟨.hbm, 537, rfl⟩
abbrev main_call0_call2_call0_v4 : Ref sig .tc := ⟨.hbm, 538, rfl⟩
abbrev main_call0_call2_call0_v5 : Ref sig .tc := ⟨.hbm, 539, rfl⟩
abbrev main_call0_call2_call0_v6 : Ref sig .tc := ⟨.hbm, 540, rfl⟩
abbrev main_call0_call2_call0_c_0 : Ref sig .tc := ⟨.hbm, 541, rfl⟩
abbrev main_call0_call2_call0_v7 : Ref sig .tc := ⟨.hbm, 542, rfl⟩
abbrev main_call0_call2_call0_v8 : Ref sig .tc := ⟨.hbm, 543, rfl⟩
abbrev main_call0_call2_call0_c_1 : Ref sig .tc := ⟨.hbm, 544, rfl⟩
abbrev main_call0_call2_call0_v9 : Ref sig .tc := ⟨.hbm, 545, rfl⟩
abbrev main_call0_call2_call0_v10 : Ref sig .tc := ⟨.hbm, 546, rfl⟩
abbrev main_call0_call2_call0_v11 : Ref sig .tc := ⟨.hbm, 547, rfl⟩
abbrev main_call0_call2_call0_v12 : Ref sig .tc := ⟨.hbm, 548, rfl⟩
abbrev main_call0_call2_call0_v13 : Ref sig .tc := ⟨.hbm, 549, rfl⟩
abbrev main_call0_call2_call0_c_2 : Ref sig .tc := ⟨.hbm, 550, rfl⟩
abbrev main_call0_call2_call0_v14 : Ref sig .tc := ⟨.hbm, 551, rfl⟩
abbrev main_call0_call2_call0_v15 : Ref sig .tc := ⟨.hbm, 552, rfl⟩
abbrev main_call0_call2_call0_c_3 : Ref sig .tc := ⟨.hbm, 553, rfl⟩
abbrev main_call0_call2_call0_v16 : Ref sig .tc := ⟨.hbm, 554, rfl⟩
abbrev main_call0_call2_call0_v17 : Ref sig .tc := ⟨.hbm, 555, rfl⟩
abbrev main_call0_call2_call0_v18 : Ref sig .tc := ⟨.hbm, 556, rfl⟩
abbrev main_call0_call2_call0_v19 : Ref sig .tc := ⟨.hbm, 557, rfl⟩
abbrev main_call0_call2_call0_v20 : Ref sig .tc := ⟨.hbm, 558, rfl⟩
abbrev main_call0_call2_call0_c_4 : Ref sig .tc := ⟨.hbm, 559, rfl⟩
abbrev main_call0_call2_call0_v21 : Ref sig .tc := ⟨.hbm, 560, rfl⟩
abbrev main_call0_call2_call0_v22 : Ref sig .tc := ⟨.hbm, 561, rfl⟩
abbrev main_call0_call2_call0_c_5 : Ref sig .tc := ⟨.hbm, 562, rfl⟩
abbrev main_call0_call2_call0_v23 : Ref sig .tc := ⟨.hbm, 563, rfl⟩
abbrev main_call0_call2_call0_v24 : Ref sig .tc := ⟨.hbm, 564, rfl⟩
abbrev main_call0_call2_call0_v25 : Ref sig .tc := ⟨.hbm, 565, rfl⟩
abbrev main_call0_call2_call0_v26 : Ref sig .tc := ⟨.hbm, 566, rfl⟩
abbrev main_call0_call2_call0_v27 : Ref sig .tc := ⟨.hbm, 567, rfl⟩
abbrev main_call0_call2_call0_c_6 : Ref sig .tc := ⟨.hbm, 568, rfl⟩
abbrev main_call0_call2_call0_v28 : Ref sig .tc := ⟨.hbm, 569, rfl⟩
abbrev main_call0_call2_call0_v29 : Ref sig .tc := ⟨.hbm, 570, rfl⟩
abbrev main_call0_call2_call0_c_7 : Ref sig .tc := ⟨.hbm, 571, rfl⟩
abbrev main_call0_call2_call0_v30 : Ref sig .tc := ⟨.hbm, 572, rfl⟩
abbrev main_call0_call2_call0_v31 : Ref sig .tc := ⟨.hbm, 573, rfl⟩
abbrev main_call0_call2_call0_v32 : Ref sig .tc := ⟨.hbm, 574, rfl⟩
abbrev main_call0_call2_call0_v33 : Ref sig .tc := ⟨.hbm, 575, rfl⟩
abbrev main_call0_call2_call0_v34 : Ref sig .tc := ⟨.hbm, 576, rfl⟩
abbrev main_call0_call2_call0_v35 : Ref sig .tc := ⟨.hbm, 577, rfl⟩
abbrev main_call0_call2_call0_v36 : Ref sig .tc := ⟨.hbm, 578, rfl⟩
abbrev main_call0_call2_call0_v37 : Ref sig .tc := ⟨.hbm, 579, rfl⟩
abbrev main_call0_call2_call0_c_8 : Ref sig .tc := ⟨.hbm, 580, rfl⟩
abbrev main_call0_call2_call0_v38 : Ref sig .tc := ⟨.hbm, 581, rfl⟩
abbrev main_call0_call2_call0_v39 : Ref sig .tc := ⟨.hbm, 582, rfl⟩
abbrev main_call0_call2_call0_v40 : Ref sig .tc := ⟨.hbm, 583, rfl⟩
abbrev main_call0_call2_call0_c_9 : Ref sig .tc := ⟨.hbm, 584, rfl⟩
abbrev main_call0_call2_call0_v41 : Ref sig .tc := ⟨.hbm, 585, rfl⟩
abbrev main_call0_call2_call0_v42 : Ref sig .tc := ⟨.hbm, 586, rfl⟩
abbrev main_call0_call2_call0_c_10 : Ref sig .tc := ⟨.hbm, 587, rfl⟩
abbrev main_call0_call2_call0_v43 : Ref sig .tc := ⟨.hbm, 588, rfl⟩
abbrev main_call0_call2_call0_v44 : Ref sig .tc := ⟨.hbm, 589, rfl⟩
abbrev main_call0_call2_call0_v45 : Ref sig .tc := ⟨.hbm, 590, rfl⟩
abbrev main_call0_call2_call0_v46 : Ref sig .tc := ⟨.hbm, 591, rfl⟩
abbrev main_call0_call2_call0_v47 : Ref sig .tc := ⟨.hbm, 592, rfl⟩
abbrev main_call0_call2_call0_c_11 : Ref sig .tc := ⟨.hbm, 593, rfl⟩
abbrev main_call0_call2_call0_v48 : Ref sig .tc := ⟨.hbm, 594, rfl⟩
abbrev main_call0_call2_call0_v49 : Ref sig .tc := ⟨.hbm, 595, rfl⟩
abbrev main_call0_call2_call0_c_12 : Ref sig .tc := ⟨.hbm, 596, rfl⟩
abbrev main_call0_call2_call0_v50 : Ref sig .tc := ⟨.hbm, 597, rfl⟩
abbrev main_call0_call2_call0_v51 : Ref sig .tc := ⟨.hbm, 598, rfl⟩
abbrev main_call0_call2_call0_v52 : Ref sig .tc := ⟨.hbm, 599, rfl⟩
abbrev main_call0_call2_call0_v53 : Ref sig .tc := ⟨.hbm, 600, rfl⟩
abbrev main_call0_call2_call0_v54 : Ref sig .tc := ⟨.hbm, 601, rfl⟩
abbrev main_call0_call2_call0_c_13 : Ref sig .tc := ⟨.hbm, 602, rfl⟩
abbrev main_call0_call2_call0_v55 : Ref sig .tc := ⟨.hbm, 603, rfl⟩
abbrev main_call0_call2_call0_v56 : Ref sig .tc := ⟨.hbm, 604, rfl⟩
abbrev main_call0_call2_call0_c_14 : Ref sig .tc := ⟨.hbm, 605, rfl⟩
abbrev main_call0_call2_call0_v57 : Ref sig .tc := ⟨.hbm, 606, rfl⟩
abbrev main_call0_call2_call0_v58 : Ref sig .tc := ⟨.hbm, 607, rfl⟩
abbrev main_call0_call2_call0_v59 : Ref sig .tc := ⟨.hbm, 608, rfl⟩
abbrev main_call0_call2_call0_v60 : Ref sig .tc := ⟨.hbm, 609, rfl⟩
abbrev main_call0_call2_call0_v61 : Ref sig .tc := ⟨.hbm, 610, rfl⟩
abbrev main_call0_call2_call0_c_15 : Ref sig .tc := ⟨.hbm, 611, rfl⟩
abbrev main_call0_call2_call0_v62 : Ref sig .tc := ⟨.hbm, 612, rfl⟩
abbrev main_call0_call2_call0_v63 : Ref sig .tc := ⟨.hbm, 613, rfl⟩
abbrev main_call0_call2_call0_c_16 : Ref sig .tc := ⟨.hbm, 614, rfl⟩
abbrev main_call0_call2_call0_v64 : Ref sig .tc := ⟨.hbm, 615, rfl⟩
abbrev main_call0_call2_call0_v65 : Ref sig .tc := ⟨.hbm, 616, rfl⟩
abbrev main_call0_call2_call0_v66 : Ref sig .tc := ⟨.hbm, 617, rfl⟩
abbrev main_call0_call2_call0_v67 : Ref sig .tc := ⟨.hbm, 618, rfl⟩
abbrev main_call0_call2_call0_v68 : Ref sig .tc := ⟨.hbm, 619, rfl⟩
abbrev main_call0_call2_call0_v69 : Ref sig .tc := ⟨.hbm, 620, rfl⟩
abbrev main_call0_call2_call0_v70 : Ref sig .tc := ⟨.hbm, 621, rfl⟩
abbrev main_call0_call2_call0_v71 : Ref sig .tc := ⟨.hbm, 622, rfl⟩
abbrev main_call0_call2_call0_c_17 : Ref sig .tc := ⟨.hbm, 623, rfl⟩
abbrev main_call0_call2_call0_v72 : Ref sig .tc := ⟨.hbm, 624, rfl⟩
abbrev main_call0_call2_call0_v73 : Ref sig .tc := ⟨.hbm, 625, rfl⟩
abbrev main_call0_call2_call0_v74 : Ref sig .tc := ⟨.hbm, 626, rfl⟩
abbrev main_call0_call2_call0_c_18 : Ref sig .tc := ⟨.hbm, 627, rfl⟩
abbrev main_call0_call2_call0_v75 : Ref sig .tc := ⟨.hbm, 628, rfl⟩
abbrev main_call0_call2_call0_v76 : Ref sig .tc := ⟨.hbm, 629, rfl⟩
abbrev main_call0_call2_call0_c_19 : Ref sig .tc := ⟨.hbm, 630, rfl⟩
abbrev main_call0_call2_call0_v77 : Ref sig .tc := ⟨.hbm, 631, rfl⟩
abbrev main_call0_call2_call0_v78 : Ref sig .tc := ⟨.hbm, 632, rfl⟩
abbrev main_call0_call2_call0_v79 : Ref sig .tc := ⟨.hbm, 633, rfl⟩
abbrev main_call0_call2_call0_v80 : Ref sig .tc := ⟨.hbm, 634, rfl⟩
abbrev main_call0_call2_call0_v81 : Ref sig .tc := ⟨.hbm, 635, rfl⟩
abbrev main_call0_call2_call0_c_20 : Ref sig .tc := ⟨.hbm, 636, rfl⟩
abbrev main_call0_call2_call0_v82 : Ref sig .tc := ⟨.hbm, 637, rfl⟩
abbrev main_call0_call2_call0_v83 : Ref sig .tc := ⟨.hbm, 638, rfl⟩
abbrev main_call0_call2_call0_c_21 : Ref sig .tc := ⟨.hbm, 639, rfl⟩
abbrev main_call0_call2_call0_v84 : Ref sig .tc := ⟨.hbm, 640, rfl⟩
abbrev main_call0_call2_call0_v85 : Ref sig .tc := ⟨.hbm, 641, rfl⟩
abbrev main_call0_call2_call0_v86 : Ref sig .tc := ⟨.hbm, 642, rfl⟩
abbrev main_call0_call2_call0_v87 : Ref sig .tc := ⟨.hbm, 643, rfl⟩
abbrev main_call0_call2_call0_v88 : Ref sig .tc := ⟨.hbm, 644, rfl⟩
abbrev main_call0_call2_call0_c_22 : Ref sig .tc := ⟨.hbm, 645, rfl⟩
abbrev main_call0_call2_call0_v89 : Ref sig .tc := ⟨.hbm, 646, rfl⟩
abbrev main_call0_call2_call0_v90 : Ref sig .tc := ⟨.hbm, 647, rfl⟩
abbrev main_call0_call2_call0_c_23 : Ref sig .tc := ⟨.hbm, 648, rfl⟩
abbrev main_call0_call2_call0_v91 : Ref sig .tc := ⟨.hbm, 649, rfl⟩
abbrev main_call0_call2_call0_v92 : Ref sig .tc := ⟨.hbm, 650, rfl⟩
abbrev main_call0_call2_call0_v93 : Ref sig .tc := ⟨.hbm, 651, rfl⟩
abbrev main_call0_call2_call0_v94 : Ref sig .tc := ⟨.hbm, 652, rfl⟩
abbrev main_call0_call2_call0_v95 : Ref sig .tc := ⟨.hbm, 653, rfl⟩
abbrev main_call0_call2_call0_c_24 : Ref sig .tc := ⟨.hbm, 654, rfl⟩
abbrev main_call0_call2_call0_v96 : Ref sig .tc := ⟨.hbm, 655, rfl⟩
abbrev main_call0_call2_call0_v97 : Ref sig .tc := ⟨.hbm, 656, rfl⟩
abbrev main_call0_call2_call0_c_25 : Ref sig .tc := ⟨.hbm, 657, rfl⟩
abbrev main_call0_call2_call0_v98 : Ref sig .tc := ⟨.hbm, 658, rfl⟩
abbrev main_call0_call2_call0_v99 : Ref sig .tc := ⟨.hbm, 659, rfl⟩
abbrev main_call0_call2_call0_v100 : Ref sig .tc := ⟨.hbm, 660, rfl⟩
abbrev main_call0_call2_call0_v101 : Ref sig .tc := ⟨.hbm, 661, rfl⟩
abbrev main_call0_call2_call0_v102 : Ref sig .tc := ⟨.hbm, 662, rfl⟩
abbrev main_call0_call2_call0_v103 : Ref sig .tc := ⟨.hbm, 663, rfl⟩
abbrev main_call0_call2_call0_v104 : Ref sig .tc := ⟨.hbm, 664, rfl⟩
abbrev main_call0_call2_call0_v105 : Ref sig .tc := ⟨.hbm, 665, rfl⟩
abbrev main_call0_call2_call0_c_26 : Ref sig .tc := ⟨.hbm, 666, rfl⟩
abbrev main_call0_call2_call0_v106 : Ref sig .tc := ⟨.hbm, 667, rfl⟩
abbrev main_call0_call2_call0_v107 : Ref sig .tc := ⟨.hbm, 668, rfl⟩
abbrev main_call0_call2_call0_v108 : Ref sig .tc := ⟨.hbm, 669, rfl⟩
abbrev main_call0_call2_call0_c_27 : Ref sig .tc := ⟨.hbm, 670, rfl⟩
abbrev main_call0_call2_call0_v109 : Ref sig .tc := ⟨.hbm, 671, rfl⟩
abbrev main_call0_call2_call0_v110 : Ref sig .tc := ⟨.hbm, 672, rfl⟩
abbrev main_call0_call2_call0_c_28 : Ref sig .tc := ⟨.hbm, 673, rfl⟩
abbrev main_call0_call2_call0_v111 : Ref sig .tc := ⟨.hbm, 674, rfl⟩
abbrev main_call0_call2_call0_v112 : Ref sig .tc := ⟨.hbm, 675, rfl⟩
abbrev main_call0_call2_call0_v113 : Ref sig .tc := ⟨.hbm, 676, rfl⟩
abbrev main_call0_call2_call0_v114 : Ref sig .tc := ⟨.hbm, 677, rfl⟩
abbrev main_call0_call2_call0_v115 : Ref sig .tc := ⟨.hbm, 678, rfl⟩
abbrev main_call0_call2_call0_c_29 : Ref sig .tc := ⟨.hbm, 679, rfl⟩
abbrev main_call0_call2_call0_v116 : Ref sig .tc := ⟨.hbm, 680, rfl⟩
abbrev main_call0_call2_call0_v117 : Ref sig .tc := ⟨.hbm, 681, rfl⟩
abbrev main_call0_call2_call0_c_30 : Ref sig .tc := ⟨.hbm, 682, rfl⟩
abbrev main_call0_call2_call0_v118 : Ref sig .tc := ⟨.hbm, 683, rfl⟩
abbrev main_call0_call2_call0_v119 : Ref sig .tc := ⟨.hbm, 684, rfl⟩
abbrev main_call0_call2_call0_v120 : Ref sig .tc := ⟨.hbm, 685, rfl⟩
abbrev main_call0_call2_call0_v121 : Ref sig .tc := ⟨.hbm, 686, rfl⟩
abbrev main_call0_call2_call0_v122 : Ref sig .tc := ⟨.hbm, 687, rfl⟩
abbrev main_call0_call2_call0_c_31 : Ref sig .tc := ⟨.hbm, 688, rfl⟩
abbrev main_call0_call2_call0_v123 : Ref sig .tc := ⟨.hbm, 689, rfl⟩
abbrev main_call0_call2_call0_v124 : Ref sig .tc := ⟨.hbm, 690, rfl⟩
abbrev main_call0_call2_call0_c_32 : Ref sig .tc := ⟨.hbm, 691, rfl⟩
abbrev main_call0_call2_call0_v125 : Ref sig .tc := ⟨.hbm, 692, rfl⟩
abbrev main_call0_call2_call0_v126 : Ref sig .tc := ⟨.hbm, 693, rfl⟩
abbrev main_call0_call2_call0_v127 : Ref sig .tc := ⟨.hbm, 694, rfl⟩
abbrev main_call0_call2_call0_v128 : Ref sig .tc := ⟨.hbm, 695, rfl⟩
abbrev main_call0_call2_call0_v129 : Ref sig .tc := ⟨.hbm, 696, rfl⟩
abbrev main_call0_call2_call0_c_33 : Ref sig .tc := ⟨.hbm, 697, rfl⟩
abbrev main_call0_call2_call0_v130 : Ref sig .tc := ⟨.hbm, 698, rfl⟩
abbrev main_call0_call2_call0_v131 : Ref sig .tc := ⟨.hbm, 699, rfl⟩
abbrev main_call0_call2_call0_c_34 : Ref sig .tc := ⟨.hbm, 700, rfl⟩
abbrev main_call0_call2_call0_v132 : Ref sig .tc := ⟨.hbm, 701, rfl⟩
abbrev main_call0_call2_call0_v133 : Ref sig .tc := ⟨.hbm, 702, rfl⟩
abbrev main_call0_call2_call0_v134 : Ref sig .tc := ⟨.hbm, 703, rfl⟩
abbrev main_call0_call2_call0_v135 : Ref sig .tc := ⟨.hbm, 704, rfl⟩
abbrev main_call0_call2_call0_v136 : Ref sig .tc := ⟨.hbm, 705, rfl⟩
abbrev main_call0_call2_call0_v137 : Ref sig .tc := ⟨.hbm, 706, rfl⟩
abbrev main_call0_call2_call0_v138 : Ref sig .tc := ⟨.hbm, 707, rfl⟩
abbrev main_call0_call2_call0_v139 : Ref sig .tc := ⟨.hbm, 708, rfl⟩
abbrev main_call0_call2_call0_c_35 : Ref sig .tc := ⟨.hbm, 709, rfl⟩
abbrev main_call0_call2_call0_v140 : Ref sig .tc := ⟨.hbm, 710, rfl⟩
abbrev main_call0_call2_call0_v141 : Ref sig .tc := ⟨.hbm, 711, rfl⟩
abbrev main_call0_call2_call0_v142 : Ref sig .tc := ⟨.hbm, 712, rfl⟩
abbrev main_call0_call2_call0_c_36 : Ref sig .tc := ⟨.hbm, 713, rfl⟩
abbrev main_call0_call2_call0_v143 : Ref sig .tc := ⟨.hbm, 714, rfl⟩
abbrev main_call0_call2_call0_v144 : Ref sig .tc := ⟨.hbm, 715, rfl⟩
abbrev main_call0_call2_call0_c_37 : Ref sig .tc := ⟨.hbm, 716, rfl⟩
abbrev main_call0_call2_call0_v145 : Ref sig .tc := ⟨.hbm, 717, rfl⟩
abbrev main_call0_call2_call0_v146 : Ref sig .tc := ⟨.hbm, 718, rfl⟩
abbrev main_call0_call2_call0_v147 : Ref sig .tc := ⟨.hbm, 719, rfl⟩
abbrev main_call0_call2_call0_v148 : Ref sig .tc := ⟨.hbm, 720, rfl⟩
abbrev main_call0_call2_call0_v149 : Ref sig .tc := ⟨.hbm, 721, rfl⟩
abbrev main_call0_call2_call0_c_38 : Ref sig .tc := ⟨.hbm, 722, rfl⟩
abbrev main_call0_call2_call0_v150 : Ref sig .tc := ⟨.hbm, 723, rfl⟩
abbrev main_call0_call2_call0_v151 : Ref sig .tc := ⟨.hbm, 724, rfl⟩
abbrev main_call0_call2_call0_c_39 : Ref sig .tc := ⟨.hbm, 725, rfl⟩
abbrev main_call0_call2_call0_v152 : Ref sig .tc := ⟨.hbm, 726, rfl⟩
abbrev main_call0_call2_call0_v153 : Ref sig .tc := ⟨.hbm, 727, rfl⟩
abbrev main_call0_call2_call0_v154 : Ref sig .tc := ⟨.hbm, 728, rfl⟩
abbrev main_call0_call2_call0_v155 : Ref sig .tc := ⟨.hbm, 729, rfl⟩
abbrev main_call0_call2_call0_v156 : Ref sig .tc := ⟨.hbm, 730, rfl⟩
abbrev main_call0_call2_call0_c_40 : Ref sig .tc := ⟨.hbm, 731, rfl⟩
abbrev main_call0_call2_call0_v157 : Ref sig .tc := ⟨.hbm, 732, rfl⟩
abbrev main_call0_call2_call0_v158 : Ref sig .tc := ⟨.hbm, 733, rfl⟩
abbrev main_call0_call2_call0_c_41 : Ref sig .tc := ⟨.hbm, 734, rfl⟩
abbrev main_call0_call2_call0_v159 : Ref sig .tc := ⟨.hbm, 735, rfl⟩
abbrev main_call0_call2_call0_v160 : Ref sig .tc := ⟨.hbm, 736, rfl⟩
abbrev main_call0_call2_call0_v161 : Ref sig .tc := ⟨.hbm, 737, rfl⟩
abbrev main_call0_call2_call0_v162 : Ref sig .tc := ⟨.hbm, 738, rfl⟩
abbrev main_call0_call2_call0_v163 : Ref sig .tc := ⟨.hbm, 739, rfl⟩
abbrev main_call0_call2_call0_c_42 : Ref sig .tc := ⟨.hbm, 740, rfl⟩
abbrev main_call0_call2_call0_v164 : Ref sig .tc := ⟨.hbm, 741, rfl⟩
abbrev main_call0_call2_call0_v165 : Ref sig .tc := ⟨.hbm, 742, rfl⟩
abbrev main_call0_call2_call0_c_43 : Ref sig .tc := ⟨.hbm, 743, rfl⟩
abbrev main_call0_call2_call0_v166 : Ref sig .tc := ⟨.hbm, 744, rfl⟩
abbrev main_call0_call2_call0_v167 : Ref sig .tc := ⟨.hbm, 745, rfl⟩
abbrev main_call0_call2_call0_v168 : Ref sig .tc := ⟨.hbm, 746, rfl⟩
abbrev main_call0_call2_call0_v169 : Ref sig .tc := ⟨.hbm, 747, rfl⟩
abbrev main_call0_call2_call0_v170 : Ref sig .tc := ⟨.hbm, 748, rfl⟩
abbrev main_call0_call2_v11_0 : Ref sig .tc := ⟨.hbm, 749, rfl⟩
abbrev main_call0_call2_call0_v172 : Ref sig .tc := ⟨.hbm, 750, rfl⟩
abbrev main_call0_call2_call0_v173 : Ref sig .tc := ⟨.hbm, 751, rfl⟩
abbrev main_call0_call2_call0_c_44 : Ref sig .tc := ⟨.hbm, 752, rfl⟩
abbrev main_call0_call2_call0_v174 : Ref sig .tc := ⟨.hbm, 753, rfl⟩
abbrev main_call0_call2_v11_1 : Ref sig .tc := ⟨.hbm, 754, rfl⟩
abbrev main_call0_call2_v12 : Ref sig .tc := ⟨.hbm, 755, rfl⟩
abbrev main_call0_call2_v13 : Ref sig .tc := ⟨.hbm, 756, rfl⟩
abbrev main_call0_v19 : Ref sig .tc := ⟨.hbm, 757, rfl⟩
abbrev main_call0_v20 : Ref sig .tc := ⟨.hbm, 758, rfl⟩
abbrev main_call0_v21 : Ref sig .tc := ⟨.hbm, 759, rfl⟩
abbrev main_call0_v22 : Ref sig .tc := ⟨.hbm, 760, rfl⟩
abbrev main_call0_v23 : Ref sig .tc := ⟨.hbm, 761, rfl⟩
abbrev main_call0_v24 : Ref sig .tc := ⟨.hbm, 762, rfl⟩
abbrev main_call0_v25 : Ref sig .tc := ⟨.hbm, 763, rfl⟩
abbrev main_call0_v26 : Ref sig .tc := ⟨.hbm, 764, rfl⟩
abbrev main_call0_v27 : Ref sig .tc := ⟨.hbm, 765, rfl⟩
abbrev main_call0_v28 : Ref sig .tc := ⟨.hbm, 766, rfl⟩
abbrev main_call0_c_1 : Ref sig .tc := ⟨.hbm, 767, rfl⟩
abbrev main_call0_v29 : Ref sig .tc := ⟨.hbm, 768, rfl⟩
abbrev main_call0_v30 : Ref sig .tc := ⟨.hbm, 769, rfl⟩
abbrev main_call0_c_2 : Ref sig .tc := ⟨.hbm, 770, rfl⟩
abbrev main_call0_v31 : Ref sig .tc := ⟨.hbm, 771, rfl⟩
abbrev main_call0_v32 : Ref sig .tc := ⟨.hbm, 772, rfl⟩
abbrev main_call0_v33 : Ref sig .tc := ⟨.hbm, 773, rfl⟩
abbrev main_call0_v34 : Ref sig .tc := ⟨.hbm, 774, rfl⟩
abbrev main_call0_call3_v0 : Ref sig .tc := ⟨.hbm, 775, rfl⟩
abbrev main_call0_call3_c : Ref sig .tc := ⟨.hbm, 776, rfl⟩
abbrev main_call0_call3_v1 : Ref sig .tc := ⟨.hbm, 777, rfl⟩
abbrev main_call0_call3_v2 : Ref sig .tc := ⟨.hbm, 778, rfl⟩
abbrev main_call0_call3_v3 : Ref sig .tc := ⟨.hbm, 779, rfl⟩
abbrev main_call0_call3_v4 : Ref sig .tc := ⟨.hbm, 780, rfl⟩
abbrev main_call0_call3_v5 : Ref sig .tc := ⟨.hbm, 781, rfl⟩
abbrev main_call0_call3_v6 : Ref sig .tc := ⟨.hbm, 782, rfl⟩
abbrev main_call0_call3_c_0 : Ref sig .tc := ⟨.hbm, 783, rfl⟩
abbrev main_call0_call3_v7 : Ref sig .tc := ⟨.hbm, 784, rfl⟩
abbrev main_call0_call3_v8 : Ref sig .tc := ⟨.hbm, 785, rfl⟩
abbrev main_call0_call3_c_1 : Ref sig .tc := ⟨.hbm, 786, rfl⟩
abbrev main_call0_call3_v9 : Ref sig .tc := ⟨.hbm, 787, rfl⟩
abbrev main_call0_call3_v10 : Ref sig .tc := ⟨.hbm, 788, rfl⟩
abbrev main_call0_call3_v11 : Ref sig .tc := ⟨.hbm, 789, rfl⟩
abbrev main_call0_call3_v12 : Ref sig .tc := ⟨.hbm, 790, rfl⟩
abbrev main_call0_call3_v13 : Ref sig .tc := ⟨.hbm, 791, rfl⟩
abbrev main_call0_call3_c_2 : Ref sig .tc := ⟨.hbm, 792, rfl⟩
abbrev main_call0_call3_v14 : Ref sig .tc := ⟨.hbm, 793, rfl⟩
abbrev main_call0_call3_v15 : Ref sig .tc := ⟨.hbm, 794, rfl⟩
abbrev main_call0_call3_c_3 : Ref sig .tc := ⟨.hbm, 795, rfl⟩
abbrev main_call0_call3_v16 : Ref sig .tc := ⟨.hbm, 796, rfl⟩
abbrev main_call0_call3_v17 : Ref sig .tc := ⟨.hbm, 797, rfl⟩
abbrev main_call0_call3_v18 : Ref sig .tc := ⟨.hbm, 798, rfl⟩
abbrev main_call0_call3_v19 : Ref sig .tc := ⟨.hbm, 799, rfl⟩
abbrev main_call0_call3_v20 : Ref sig .tc := ⟨.hbm, 800, rfl⟩
abbrev main_call0_call3_c_4 : Ref sig .tc := ⟨.hbm, 801, rfl⟩
abbrev main_call0_call3_v21 : Ref sig .tc := ⟨.hbm, 802, rfl⟩
abbrev main_call0_call3_v22 : Ref sig .tc := ⟨.hbm, 803, rfl⟩
abbrev main_call0_call3_c_5 : Ref sig .tc := ⟨.hbm, 804, rfl⟩
abbrev main_call0_call3_v23 : Ref sig .tc := ⟨.hbm, 805, rfl⟩
abbrev main_call0_call3_v24 : Ref sig .tc := ⟨.hbm, 806, rfl⟩
abbrev main_call0_call3_v25 : Ref sig .tc := ⟨.hbm, 807, rfl⟩
abbrev main_call0_call3_v26 : Ref sig .tc := ⟨.hbm, 808, rfl⟩
abbrev main_call0_call3_v27 : Ref sig .tc := ⟨.hbm, 809, rfl⟩
abbrev main_call0_call3_c_6 : Ref sig .tc := ⟨.hbm, 810, rfl⟩
abbrev main_call0_call3_v28 : Ref sig .tc := ⟨.hbm, 811, rfl⟩
abbrev main_call0_call3_v29 : Ref sig .tc := ⟨.hbm, 812, rfl⟩
abbrev main_call0_call3_c_7 : Ref sig .tc := ⟨.hbm, 813, rfl⟩
abbrev main_call0_call3_v30 : Ref sig .tc := ⟨.hbm, 814, rfl⟩
abbrev main_call0_call3_v31 : Ref sig .tc := ⟨.hbm, 815, rfl⟩
abbrev main_call0_call3_v32 : Ref sig .tc := ⟨.hbm, 816, rfl⟩
abbrev main_call0_call3_v33 : Ref sig .tc := ⟨.hbm, 817, rfl⟩
abbrev main_call0_call3_v34 : Ref sig .tc := ⟨.hbm, 818, rfl⟩
abbrev main_call0_call3_v35 : Ref sig .tc := ⟨.hbm, 819, rfl⟩
abbrev main_call0_call3_v36 : Ref sig .tc := ⟨.hbm, 820, rfl⟩
abbrev main_call0_call3_v37 : Ref sig .tc := ⟨.hbm, 821, rfl⟩
abbrev main_call0_call3_c_8 : Ref sig .tc := ⟨.hbm, 822, rfl⟩
abbrev main_call0_call3_v38 : Ref sig .tc := ⟨.hbm, 823, rfl⟩
abbrev main_call0_call3_v39 : Ref sig .tc := ⟨.hbm, 824, rfl⟩
abbrev main_call0_call3_v40 : Ref sig .tc := ⟨.hbm, 825, rfl⟩
abbrev main_call0_call3_c_9 : Ref sig .tc := ⟨.hbm, 826, rfl⟩
abbrev main_call0_call3_v41 : Ref sig .tc := ⟨.hbm, 827, rfl⟩
abbrev main_call0_call3_v42 : Ref sig .tc := ⟨.hbm, 828, rfl⟩
abbrev main_call0_call3_c_10 : Ref sig .tc := ⟨.hbm, 829, rfl⟩
abbrev main_call0_call3_v43 : Ref sig .tc := ⟨.hbm, 830, rfl⟩
abbrev main_call0_call3_v44 : Ref sig .tc := ⟨.hbm, 831, rfl⟩
abbrev main_call0_call3_v45 : Ref sig .tc := ⟨.hbm, 832, rfl⟩
abbrev main_call0_call3_v46 : Ref sig .tc := ⟨.hbm, 833, rfl⟩
abbrev main_call0_call3_v47 : Ref sig .tc := ⟨.hbm, 834, rfl⟩
abbrev main_call0_call3_c_11 : Ref sig .tc := ⟨.hbm, 835, rfl⟩
abbrev main_call0_call3_v48 : Ref sig .tc := ⟨.hbm, 836, rfl⟩
abbrev main_call0_call3_v49 : Ref sig .tc := ⟨.hbm, 837, rfl⟩
abbrev main_call0_call3_c_12 : Ref sig .tc := ⟨.hbm, 838, rfl⟩
abbrev main_call0_call3_v50 : Ref sig .tc := ⟨.hbm, 839, rfl⟩
abbrev main_call0_call3_v51 : Ref sig .tc := ⟨.hbm, 840, rfl⟩
abbrev main_call0_call3_v52 : Ref sig .tc := ⟨.hbm, 841, rfl⟩
abbrev main_call0_call3_v53 : Ref sig .tc := ⟨.hbm, 842, rfl⟩
abbrev main_call0_call3_v54 : Ref sig .tc := ⟨.hbm, 843, rfl⟩
abbrev main_call0_call3_c_13 : Ref sig .tc := ⟨.hbm, 844, rfl⟩
abbrev main_call0_call3_v55 : Ref sig .tc := ⟨.hbm, 845, rfl⟩
abbrev main_call0_call3_v56 : Ref sig .tc := ⟨.hbm, 846, rfl⟩
abbrev main_call0_call3_c_14 : Ref sig .tc := ⟨.hbm, 847, rfl⟩
abbrev main_call0_call3_v57 : Ref sig .tc := ⟨.hbm, 848, rfl⟩
abbrev main_call0_call3_v58 : Ref sig .tc := ⟨.hbm, 849, rfl⟩
abbrev main_call0_call3_v59 : Ref sig .tc := ⟨.hbm, 850, rfl⟩
abbrev main_call0_call3_v60 : Ref sig .tc := ⟨.hbm, 851, rfl⟩
abbrev main_call0_call3_v61 : Ref sig .tc := ⟨.hbm, 852, rfl⟩
abbrev main_call0_call3_c_15 : Ref sig .tc := ⟨.hbm, 853, rfl⟩
abbrev main_call0_call3_v62 : Ref sig .tc := ⟨.hbm, 854, rfl⟩
abbrev main_call0_call3_v63 : Ref sig .tc := ⟨.hbm, 855, rfl⟩
abbrev main_call0_call3_c_16 : Ref sig .tc := ⟨.hbm, 856, rfl⟩
abbrev main_call0_call3_v64 : Ref sig .tc := ⟨.hbm, 857, rfl⟩
abbrev main_call0_call3_v65 : Ref sig .tc := ⟨.hbm, 858, rfl⟩
abbrev main_call0_call3_v66 : Ref sig .tc := ⟨.hbm, 859, rfl⟩
abbrev main_call0_call3_v67 : Ref sig .tc := ⟨.hbm, 860, rfl⟩
abbrev main_call0_call3_v68 : Ref sig .tc := ⟨.hbm, 861, rfl⟩
abbrev main_call0_call3_v69 : Ref sig .tc := ⟨.hbm, 862, rfl⟩
abbrev main_call0_call3_v70 : Ref sig .tc := ⟨.hbm, 863, rfl⟩
abbrev main_call0_call3_v71 : Ref sig .tc := ⟨.hbm, 864, rfl⟩
abbrev main_call0_call3_c_17 : Ref sig .tc := ⟨.hbm, 865, rfl⟩
abbrev main_call0_call3_v72 : Ref sig .tc := ⟨.hbm, 866, rfl⟩
abbrev main_call0_call3_v73 : Ref sig .tc := ⟨.hbm, 867, rfl⟩
abbrev main_call0_call3_v74 : Ref sig .tc := ⟨.hbm, 868, rfl⟩
abbrev main_call0_call3_c_18 : Ref sig .tc := ⟨.hbm, 869, rfl⟩
abbrev main_call0_call3_v75 : Ref sig .tc := ⟨.hbm, 870, rfl⟩
abbrev main_call0_call3_v76 : Ref sig .tc := ⟨.hbm, 871, rfl⟩
abbrev main_call0_call3_c_19 : Ref sig .tc := ⟨.hbm, 872, rfl⟩
abbrev main_call0_call3_v77 : Ref sig .tc := ⟨.hbm, 873, rfl⟩
abbrev main_call0_call3_v78 : Ref sig .tc := ⟨.hbm, 874, rfl⟩
abbrev main_call0_call3_v79 : Ref sig .tc := ⟨.hbm, 875, rfl⟩
abbrev main_call0_call3_v80 : Ref sig .tc := ⟨.hbm, 876, rfl⟩
abbrev main_call0_call3_v81 : Ref sig .tc := ⟨.hbm, 877, rfl⟩
abbrev main_call0_call3_c_20 : Ref sig .tc := ⟨.hbm, 878, rfl⟩
abbrev main_call0_call3_v82 : Ref sig .tc := ⟨.hbm, 879, rfl⟩
abbrev main_call0_call3_v83 : Ref sig .tc := ⟨.hbm, 880, rfl⟩
abbrev main_call0_call3_c_21 : Ref sig .tc := ⟨.hbm, 881, rfl⟩
abbrev main_call0_call3_v84 : Ref sig .tc := ⟨.hbm, 882, rfl⟩
abbrev main_call0_call3_v85 : Ref sig .tc := ⟨.hbm, 883, rfl⟩
abbrev main_call0_call3_v86 : Ref sig .tc := ⟨.hbm, 884, rfl⟩
abbrev main_call0_call3_v87 : Ref sig .tc := ⟨.hbm, 885, rfl⟩
abbrev main_call0_call3_v88 : Ref sig .tc := ⟨.hbm, 886, rfl⟩
abbrev main_call0_call3_c_22 : Ref sig .tc := ⟨.hbm, 887, rfl⟩
abbrev main_call0_call3_v89 : Ref sig .tc := ⟨.hbm, 888, rfl⟩
abbrev main_call0_call3_v90 : Ref sig .tc := ⟨.hbm, 889, rfl⟩
abbrev main_call0_call3_c_23 : Ref sig .tc := ⟨.hbm, 890, rfl⟩
abbrev main_call0_call3_v91 : Ref sig .tc := ⟨.hbm, 891, rfl⟩
abbrev main_call0_call3_v92 : Ref sig .tc := ⟨.hbm, 892, rfl⟩
abbrev main_call0_call3_v93 : Ref sig .tc := ⟨.hbm, 893, rfl⟩
abbrev main_call0_call3_v94 : Ref sig .tc := ⟨.hbm, 894, rfl⟩
abbrev main_call0_call3_v95 : Ref sig .tc := ⟨.hbm, 895, rfl⟩
abbrev main_call0_call3_c_24 : Ref sig .tc := ⟨.hbm, 896, rfl⟩
abbrev main_call0_call3_v96 : Ref sig .tc := ⟨.hbm, 897, rfl⟩
abbrev main_call0_call3_v97 : Ref sig .tc := ⟨.hbm, 898, rfl⟩
abbrev main_call0_call3_c_25 : Ref sig .tc := ⟨.hbm, 899, rfl⟩
abbrev main_call0_call3_v98 : Ref sig .tc := ⟨.hbm, 900, rfl⟩
abbrev main_call0_call3_v99 : Ref sig .tc := ⟨.hbm, 901, rfl⟩
abbrev main_call0_call3_v100 : Ref sig .tc := ⟨.hbm, 902, rfl⟩
abbrev main_call0_call3_v101 : Ref sig .tc := ⟨.hbm, 903, rfl⟩
abbrev main_call0_call3_v102 : Ref sig .tc := ⟨.hbm, 904, rfl⟩
abbrev main_call0_call3_v103 : Ref sig .tc := ⟨.hbm, 905, rfl⟩
abbrev main_call0_call3_v104 : Ref sig .tc := ⟨.hbm, 906, rfl⟩
abbrev main_call0_call3_v105 : Ref sig .tc := ⟨.hbm, 907, rfl⟩
abbrev main_call0_call3_c_26 : Ref sig .tc := ⟨.hbm, 908, rfl⟩
abbrev main_call0_call3_v106 : Ref sig .tc := ⟨.hbm, 909, rfl⟩
abbrev main_call0_call3_v107 : Ref sig .tc := ⟨.hbm, 910, rfl⟩
abbrev main_call0_call3_v108 : Ref sig .tc := ⟨.hbm, 911, rfl⟩
abbrev main_call0_call3_c_27 : Ref sig .tc := ⟨.hbm, 912, rfl⟩
abbrev main_call0_call3_v109 : Ref sig .tc := ⟨.hbm, 913, rfl⟩
abbrev main_call0_call3_v110 : Ref sig .tc := ⟨.hbm, 914, rfl⟩
abbrev main_call0_call3_c_28 : Ref sig .tc := ⟨.hbm, 915, rfl⟩
abbrev main_call0_call3_v111 : Ref sig .tc := ⟨.hbm, 916, rfl⟩
abbrev main_call0_call3_v112 : Ref sig .tc := ⟨.hbm, 917, rfl⟩
abbrev main_call0_call3_v113 : Ref sig .tc := ⟨.hbm, 918, rfl⟩
abbrev main_call0_call3_v114 : Ref sig .tc := ⟨.hbm, 919, rfl⟩
abbrev main_call0_call3_v115 : Ref sig .tc := ⟨.hbm, 920, rfl⟩
abbrev main_call0_call3_c_29 : Ref sig .tc := ⟨.hbm, 921, rfl⟩
abbrev main_call0_call3_v116 : Ref sig .tc := ⟨.hbm, 922, rfl⟩
abbrev main_call0_call3_v117 : Ref sig .tc := ⟨.hbm, 923, rfl⟩
abbrev main_call0_call3_c_30 : Ref sig .tc := ⟨.hbm, 924, rfl⟩
abbrev main_call0_call3_v118 : Ref sig .tc := ⟨.hbm, 925, rfl⟩
abbrev main_call0_call3_v119 : Ref sig .tc := ⟨.hbm, 926, rfl⟩
abbrev main_call0_call3_v120 : Ref sig .tc := ⟨.hbm, 927, rfl⟩
abbrev main_call0_call3_v121 : Ref sig .tc := ⟨.hbm, 928, rfl⟩
abbrev main_call0_call3_v122 : Ref sig .tc := ⟨.hbm, 929, rfl⟩
abbrev main_call0_call3_c_31 : Ref sig .tc := ⟨.hbm, 930, rfl⟩
abbrev main_call0_call3_v123 : Ref sig .tc := ⟨.hbm, 931, rfl⟩
abbrev main_call0_call3_v124 : Ref sig .tc := ⟨.hbm, 932, rfl⟩
abbrev main_call0_call3_c_32 : Ref sig .tc := ⟨.hbm, 933, rfl⟩
abbrev main_call0_call3_v125 : Ref sig .tc := ⟨.hbm, 934, rfl⟩
abbrev main_call0_call3_v126 : Ref sig .tc := ⟨.hbm, 935, rfl⟩
abbrev main_call0_call3_v127 : Ref sig .tc := ⟨.hbm, 936, rfl⟩
abbrev main_call0_call3_v128 : Ref sig .tc := ⟨.hbm, 937, rfl⟩
abbrev main_call0_call3_v129 : Ref sig .tc := ⟨.hbm, 938, rfl⟩
abbrev main_call0_call3_c_33 : Ref sig .tc := ⟨.hbm, 939, rfl⟩
abbrev main_call0_call3_v130 : Ref sig .tc := ⟨.hbm, 940, rfl⟩
abbrev main_call0_call3_v131 : Ref sig .tc := ⟨.hbm, 941, rfl⟩
abbrev main_call0_call3_c_34 : Ref sig .tc := ⟨.hbm, 942, rfl⟩
abbrev main_call0_call3_v132 : Ref sig .tc := ⟨.hbm, 943, rfl⟩
abbrev main_call0_call3_v133 : Ref sig .tc := ⟨.hbm, 944, rfl⟩
abbrev main_call0_call3_v134 : Ref sig .tc := ⟨.hbm, 945, rfl⟩
abbrev main_call0_call3_v135 : Ref sig .tc := ⟨.hbm, 946, rfl⟩
abbrev main_call0_call3_v136 : Ref sig .tc := ⟨.hbm, 947, rfl⟩
abbrev main_call0_call3_v137 : Ref sig .tc := ⟨.hbm, 948, rfl⟩
abbrev main_call0_call3_v138 : Ref sig .tc := ⟨.hbm, 949, rfl⟩
abbrev main_call0_call3_v139 : Ref sig .tc := ⟨.hbm, 950, rfl⟩
abbrev main_call0_call3_c_35 : Ref sig .tc := ⟨.hbm, 951, rfl⟩
abbrev main_call0_call3_v140 : Ref sig .tc := ⟨.hbm, 952, rfl⟩
abbrev main_call0_call3_v141 : Ref sig .tc := ⟨.hbm, 953, rfl⟩
abbrev main_call0_call3_v142 : Ref sig .tc := ⟨.hbm, 954, rfl⟩
abbrev main_call0_call3_c_36 : Ref sig .tc := ⟨.hbm, 955, rfl⟩
abbrev main_call0_call3_v143 : Ref sig .tc := ⟨.hbm, 956, rfl⟩
abbrev main_call0_call3_v144 : Ref sig .tc := ⟨.hbm, 957, rfl⟩
abbrev main_call0_call3_c_37 : Ref sig .tc := ⟨.hbm, 958, rfl⟩
abbrev main_call0_call3_v145 : Ref sig .tc := ⟨.hbm, 959, rfl⟩
abbrev main_call0_call3_v146 : Ref sig .tc := ⟨.hbm, 960, rfl⟩
abbrev main_call0_call3_v147 : Ref sig .tc := ⟨.hbm, 961, rfl⟩
abbrev main_call0_call3_v148 : Ref sig .tc := ⟨.hbm, 962, rfl⟩
abbrev main_call0_call3_v149 : Ref sig .tc := ⟨.hbm, 963, rfl⟩
abbrev main_call0_call3_c_38 : Ref sig .tc := ⟨.hbm, 964, rfl⟩
abbrev main_call0_call3_v150 : Ref sig .tc := ⟨.hbm, 965, rfl⟩
abbrev main_call0_call3_v151 : Ref sig .tc := ⟨.hbm, 966, rfl⟩
abbrev main_call0_call3_c_39 : Ref sig .tc := ⟨.hbm, 967, rfl⟩
abbrev main_call0_call3_v152 : Ref sig .tc := ⟨.hbm, 968, rfl⟩
abbrev main_call0_call3_v153 : Ref sig .tc := ⟨.hbm, 969, rfl⟩
abbrev main_call0_call3_v154 : Ref sig .tc := ⟨.hbm, 970, rfl⟩
abbrev main_call0_call3_v155 : Ref sig .tc := ⟨.hbm, 971, rfl⟩
abbrev main_call0_call3_v156 : Ref sig .tc := ⟨.hbm, 972, rfl⟩
abbrev main_call0_call3_c_40 : Ref sig .tc := ⟨.hbm, 973, rfl⟩
abbrev main_call0_call3_v157 : Ref sig .tc := ⟨.hbm, 974, rfl⟩
abbrev main_call0_call3_v158 : Ref sig .tc := ⟨.hbm, 975, rfl⟩
abbrev main_call0_call3_c_41 : Ref sig .tc := ⟨.hbm, 976, rfl⟩
abbrev main_call0_call3_v159 : Ref sig .tc := ⟨.hbm, 977, rfl⟩
abbrev main_call0_call3_v160 : Ref sig .tc := ⟨.hbm, 978, rfl⟩
abbrev main_call0_call3_v161 : Ref sig .tc := ⟨.hbm, 979, rfl⟩
abbrev main_call0_call3_v162 : Ref sig .tc := ⟨.hbm, 980, rfl⟩
abbrev main_call0_call3_v163 : Ref sig .tc := ⟨.hbm, 981, rfl⟩
abbrev main_call0_call3_c_42 : Ref sig .tc := ⟨.hbm, 982, rfl⟩
abbrev main_call0_call3_v164 : Ref sig .tc := ⟨.hbm, 983, rfl⟩
abbrev main_call0_call3_v165 : Ref sig .tc := ⟨.hbm, 984, rfl⟩
abbrev main_call0_call3_c_43 : Ref sig .tc := ⟨.hbm, 985, rfl⟩
abbrev main_call0_call3_v166 : Ref sig .tc := ⟨.hbm, 986, rfl⟩
abbrev main_call0_call3_v167 : Ref sig .tc := ⟨.hbm, 987, rfl⟩
abbrev main_call0_call3_v168 : Ref sig .tc := ⟨.hbm, 988, rfl⟩
abbrev main_call0_call3_v169 : Ref sig .tc := ⟨.hbm, 989, rfl⟩
abbrev main_call0_call3_v170 : Ref sig .tc := ⟨.hbm, 990, rfl⟩
abbrev main_call0_v35_0 : Ref sig .tc := ⟨.hbm, 991, rfl⟩
abbrev main_call0_call3_v172 : Ref sig .tc := ⟨.hbm, 992, rfl⟩
abbrev main_call0_call3_v173 : Ref sig .tc := ⟨.hbm, 993, rfl⟩
abbrev main_call0_call3_c_44 : Ref sig .tc := ⟨.hbm, 994, rfl⟩
abbrev main_call0_call3_v174 : Ref sig .tc := ⟨.hbm, 995, rfl⟩
abbrev main_call0_v35_1 : Ref sig .tc := ⟨.hbm, 996, rfl⟩
abbrev main_call0_v36 : Ref sig .tc := ⟨.hbm, 997, rfl⟩
abbrev main_call0_v37_0 : Ref sig .tc := ⟨.hbm, 998, rfl⟩
abbrev main_v26 : Ref sig .tc := ⟨.hbm, 999, rfl⟩
abbrev main_v27 : Ref sig .tc := ⟨.hbm, 1000, rfl⟩
abbrev main_c_2 : Ref sig .tc := ⟨.hbm, 1001, rfl⟩
abbrev main_v28 : Ref sig .tc := ⟨.hbm, 1002, rfl⟩
abbrev main_v29 : Ref sig .tc := ⟨.hbm, 1003, rfl⟩
abbrev main_c_3 : Ref sig .tc := ⟨.hbm, 1004, rfl⟩
abbrev main_v30 : Ref sig .tc := ⟨.hbm, 1005, rfl⟩
abbrev main_v31 : Ref sig .tc := ⟨.hbm, 1006, rfl⟩
abbrev main_v32 : Ref sig .tc := ⟨.hbm, 1007, rfl⟩
abbrev main_v33 : Ref sig .tc := ⟨.hbm, 1008, rfl⟩
abbrev main_v34 : Ref sig .tc := ⟨.hbm, 1009, rfl⟩
abbrev main_v35 : Ref sig .tc := ⟨.hbm, 1010, rfl⟩
abbrev main_cst : Ref sig .tc := ⟨.hbm, 1011, rfl⟩
abbrev main_v36 : Ref sig .tc := ⟨.hbm, 1012, rfl⟩
abbrev main_cst_4 : Ref sig .tc := ⟨.hbm, 1013, rfl⟩
abbrev main_v37 : Ref sig .tc := ⟨.hbm, 1014, rfl⟩
abbrev main_cst_5 : Ref sig .tc := ⟨.hbm, 1015, rfl⟩
abbrev main_v38 : Ref sig .tc := ⟨.hbm, 1016, rfl⟩
abbrev main_v39 : Ref sig .tc := ⟨.hbm, 1017, rfl⟩
abbrev main_v40 : Ref sig .tc := ⟨.hbm, 1018, rfl⟩
abbrev main_values : Ref sig .tc := ⟨.hbm, 1019, rfl⟩
abbrev main_indices : Ref sig .tc := ⟨.hbm, 1020, rfl⟩
abbrev main_v41 : Ref sig .tc := ⟨.hbm, 1021, rfl⟩
abbrev main_v42 : Ref sig .tc := ⟨.hbm, 1022, rfl⟩
abbrev main_call1_c : Ref sig .tc := ⟨.hbm, 1023, rfl⟩
abbrev main_call1_v0 : Ref sig .tc := ⟨.hbm, 1024, rfl⟩
abbrev main_call1_v1 : Ref sig .tc := ⟨.hbm, 1025, rfl⟩
abbrev main_call1_c_0 : Ref sig .tc := ⟨.hbm, 1026, rfl⟩
abbrev main_call1_v2 : Ref sig .tc := ⟨.hbm, 1027, rfl⟩
abbrev main_call1_v3 : Ref sig .tc := ⟨.hbm, 1028, rfl⟩
abbrev main_call1_v4 : Ref sig .tc := ⟨.hbm, 1029, rfl⟩
abbrev main_call1_c_1 : Ref sig .tc := ⟨.hbm, 1030, rfl⟩
abbrev main_call1_c_2 : Ref sig .tc := ⟨.hbm, 1031, rfl⟩
abbrev main_call1_v5 : Ref sig .tc := ⟨.hbm, 1032, rfl⟩
abbrev main_call1_v6 : Ref sig .tc := ⟨.hbm, 1033, rfl⟩
abbrev main_call1_v7 : Ref sig .tc := ⟨.hbm, 1034, rfl⟩
abbrev main_call1_v8 : Ref sig .tc := ⟨.hbm, 1035, rfl⟩
abbrev main_call1_v9 : Ref sig .tc := ⟨.hbm, 1036, rfl⟩
abbrev main_call1_v10 : Ref sig .tc := ⟨.hbm, 1037, rfl⟩
abbrev main_call1_c_3 : Ref sig .tc := ⟨.hbm, 1038, rfl⟩
abbrev main_call1_v11 : Ref sig .tc := ⟨.hbm, 1039, rfl⟩
abbrev main_call1_v12 : Ref sig .tc := ⟨.hbm, 1040, rfl⟩
abbrev main_call1_v13 : Ref sig .tc := ⟨.hbm, 1041, rfl⟩
abbrev main_call1_cst : Ref sig .tc := ⟨.hbm, 1042, rfl⟩
abbrev main_call1_v14 : Ref sig .tc := ⟨.hbm, 1043, rfl⟩
abbrev main_v43 : Ref sig .tc := ⟨.hbm, 1044, rfl⟩
abbrev main_v44 : Ref sig .tc := ⟨.hbm, 1045, rfl⟩
abbrev main_cst_6 : Ref sig .tc := ⟨.hbm, 1046, rfl⟩
abbrev main_v45 : Ref sig .tc := ⟨.hbm, 1047, rfl⟩
abbrev main_cst_7 : Ref sig .tc := ⟨.hbm, 1048, rfl⟩
abbrev main_v46 : Ref sig .tc := ⟨.hbm, 1049, rfl⟩
abbrev main_v47 : Ref sig .tc := ⟨.hbm, 1050, rfl⟩
abbrev main_v48 : Ref sig .tc := ⟨.hbm, 1051, rfl⟩
abbrev main_v49 : Ref sig .tc := ⟨.hbm, 1052, rfl⟩
abbrev main_v50 : Ref sig .tc := ⟨.hbm, 1053, rfl⟩
abbrev main_v51 : Ref sig .tc := ⟨.hbm, 1054, rfl⟩
abbrev main_cst_8 : Ref sig .tc := ⟨.hbm, 1055, rfl⟩
abbrev main_v52 : Ref sig .tc := ⟨.hbm, 1056, rfl⟩
abbrev main_v53 : Ref sig .tc := ⟨.hbm, 1057, rfl⟩
abbrev main_v54 : Ref sig .tc := ⟨.hbm, 1058, rfl⟩
abbrev main_v55 : Ref sig .tc := ⟨.hbm, 1059, rfl⟩
abbrev main_v56 : Ref sig .tc := ⟨.hbm, 1060, rfl⟩
abbrev main_v57 : Ref sig .tc := ⟨.hbm, 1061, rfl⟩
abbrev main_v58 : Ref sig .tc := ⟨.hbm, 1062, rfl⟩
abbrev main_v59 : Ref sig .tc := ⟨.hbm, 1063, rfl⟩
abbrev main_v60 : Ref sig .tc := ⟨.hbm, 1064, rfl⟩
abbrev main_v61 : Ref sig .tc := ⟨.hbm, 1065, rfl⟩
abbrev main_v62 : Ref sig .tc := ⟨.hbm, 1066, rfl⟩
abbrev main_v63 : Ref sig .tc := ⟨.hbm, 1067, rfl⟩

abbrev nD : Nat := 1
abbrev τ : Topo := Topo.v7x

variable {F : FTy → Type} [FloatOps F]
-- ==== Proof.Math.Spec.lean ====
/- The functions of a row of scores that both programs compute: its maximum, its sparsity measure, its softmax; and the
   place a query takes when the queries are ordered by their measure. -/
module

public import Idealize.ShloMosaic.PureOps.Ideal

@[expose] public section

noncomputable section

namespace Cert.Proof.Math

open Idealize.ShloMosaic

/-- The greatest entry of a row. -/
def smax {n : ℕ} (f : Fin n → EReal) : EReal := Finset.univ.fold max ⊥ f

/-- The sparsity measure of a row of scores: its maximum less its mean. -/
def measure (f : Fin 4096 → EReal) : EReal := smax f - Ideal.div (∑ s, f s) ((4096 : ℝ) : EReal)

/-- The softmax of a row. -/
def softmax {n : ℕ} (f : Fin n → EReal) (s : Fin n) : EReal :=
  Ideal.div (Ideal.exp (f s - smax f)) (∑ t, Ideal.exp (f t - smax f))

/-- Query `c` comes before query `r`: its measure is greater, or equal and its position is earlier. -/
def Beats {n : ℕ} (M : Fin n → EReal) (c r : Fin n) : Prop := M r < M c ∨ (M c = M r ∧ c < r)

open Classical in
/-- How many queries come before `r`. -/
def rank {n : ℕ} (M : Fin n → EReal) (r : Fin n) : ℕ := (Finset.univ.filter fun c => Beats M c r).card

/-- The measures of 45 queries, padded to 48 by the least extended real. -/
def pad48 (M : Fin 45 → EReal) (i : Fin 48) : EReal := if h : i.val < 45 then M ⟨i.val, h⟩ else ⊥

/-- The row of a query among the 48. -/
def up (i : Fin 45) : Fin 48 := ⟨i.val, by omega⟩

end Cert.Proof.Math
-- ==== Proof.Kernel.Payload.lean ====
/- What the kernels' bodies store, element by element, from the blocks they load. -/
module

public import proofs.«01_k».proof.Proof.Gen.KernelIdeal.Skeleton
public import proofs.«01_k».proof.Proof.Math.Spec
public import Idealize.ShloMosaic.Lib.Pointwise
public import Idealize.ShloMosaic.Lib.IndicatorCount

@[expose] public section

set_option maxRecDepth 16384

noncomputable section

namespace Cert.Proof.Kernel

open Idealize.ShloMosaic Idealize.ShloMosaic.TcCoe Idealize.SL.Sem
open Cert.KernelIdeal Cert.KernelIdeal.Gen
open Cert.Proof.Math

/-- The word of minus infinity. -/
theorem word_bot : Ideal.ofBits .f32 4286578688#32 = ⊥ := by simp [Ideal.ofBits, Ideal.ieee]

/-- The word of 4096. -/
theorem word_4096 : Ideal.ofBits .f32 1166016512#32 = ((4096 : ℝ) : EReal) := by
  simp [Ideal.ofBits, Ideal.ieee, -EReal.coe_mul]; norm_num

/-- The masked score. -/
theorem word_mask : Named.named (F := Ideal) κ "mask" (φ := .f32) 4048155338#32 = ⊥ := rfl

/-- The score of row `i` of a query block against key `s`. -/
def score (q : Fin 96 → Fin 64 → EReal) (k : Fin 64 → Fin 4096 → EReal) (i : Fin 96) (s : Fin 4096) : EReal :=
  ∑ d, q i d * k d s

/-- Row `i` of the first half of a query block. -/
def lo (i : Fin 45) : Fin 96 := ⟨i.val, by omega⟩

/-- Row `i` of the second half of a query block. -/
def hi (i : Fin 48) : Fin 96 := ⟨48 + i.val, by omega⟩

/-- The measures of the 45 sampled queries of a block. -/
def measures (q : Fin 96 → Fin 64 → EReal) (k : Fin 64 → Fin 4096 → EReal) (i : Fin 45) : EReal :=
  measure (score q k (lo i))

/-- A Boolean written as a bit is 1 when it is true. -/
theorem bit_one (b : Bool) : BitVec.ofBool b = 1#1 ↔ b = true := by cases b <;> decide

/-- The comparison of a position with 45, as a Boolean. -/
theorem slt_45 : ∀ i : Fin 48, IntOp.cmpi .slt (BitVec.ofNat 32 i.val) 45#32 = BitVec.ofBool (decide (i.val < 45)) := by
  decide

/-- The comparison of two positions, as a Boolean. -/
theorem slt_pos : ∀ a b : Fin 48, IntOp.cmpi .slt (BitVec.ofNat 32 a.val) (BitVec.ofNat 32 b.val)
    = BitVec.ofBool (decide (a < b)) := by
  decide +kernel

/-- The bitwise or of two Booleans. -/
theorem or_bit (a b : Bool) : IntOp.ori (BitVec.ofBool a) (BitVec.ofBool b) = BitVec.ofBool (a || b) := by
  cases a <;> cases b <;> rfl

/-- The bitwise and of two Booleans. -/
theorem and_bit (a b : Bool) : IntOp.andi (BitVec.ofBool a) (BitVec.ofBool b) = BitVec.ofBool (a && b) := by
  cases a <;> cases b <;> rfl

/-- A selection by a Boolean. -/
theorem select_bit {α : Type} (b : Bool) (x y : α) : Scalar.select (BitVec.ofBool b) x y = if b then x else y := by
  cases b <;> rfl

/-- Entry (`r`, `c`) of the 0/1 matrix the attention kernel builds: one where `r` queries come before `c`. -/
theorem perm_at (v0 : Vec Ideal S1x1x96x64 .f32) (v2 : Vec Ideal S1x64x4096 .f32) (r c : Fin 48) :
    k2_pay8 v0 v2 (ix2 r c)
      = if r.val = rank (pad48 (measures (fun i d => v0 (ix4 0 0 i d)) (fun d s => v2 (ix3 0 d s)))) c then 1 else 0 := by
  classical
  set M := measures (fun i d => v0 (ix4 0 0 i d)) (fun d s => v2 (ix3 0 d s)) with hM
  have hm : ∀ i : Fin 48, Scalar.select (IntOp.cmpi .slt (BitVec.ofNat 32 i.val) 45#32)
      (smax (fun s : Fin 4096 => ∑ d, v0 (ix4 0 0 (⟨i.val, by omega⟩ : Fin 96) d) * v2 (ix3 0 d s))
        - Ideal.div (∑ s : Fin 4096, ∑ d, v0 (ix4 0 0 (⟨i.val, by omega⟩ : Fin 96) d) * v2 (ix3 0 d s)) ((4096 : ℝ) : EReal))
      (⊥ : EReal) = pad48 M i := by
    intro i
    rw [slt_45, select_bit, pad48]
    by_cases h : i.val < 45
    · rw [dif_pos h, decide_eq_true h, if_pos rfl]; rfl
    · rw [dif_neg h, decide_eq_false h]; rfl
  pointwise [k2_pay8, k2_pay4, k2_pay5]
  simp only [word_bot, word_4096, word_mask]
  simp only [smax] at hm
  simp only [hm, slt_pos, or_bit, and_bit, IndicatorCount.fold_addi_setWidth_eq_card, bit_one]
  have hr : rank (pad48 M) c ≤ 48 := by
    unfold rank
    exact (Finset.card_le_univ _).trans (by simp)
  have hc : (Finset.univ.filter fun x : Fin 48 => (decide (pad48 M c < pad48 M x)
      || (decide (pad48 M x = pad48 M c) && decide (x < c))) = true).card = rank (pad48 M) c := by
    unfold rank Beats
    congr 1
    ext x
    simp
  rw [hc]
  show (((BitVec.setWidth 32 (BitVec.ofBool (BitVec.ofNat 32 r.val == BitVec.ofNat 32 (rank (pad48 M) c)))).toInt : ℝ) : EReal) = _
  by_cases h : r.val = rank (pad48 M) c
  · rw [if_pos h, ← h, beq_self_eq_true,
      show (BitVec.setWidth 32 (BitVec.ofBool true)).toInt = 1 from by decide]
    norm_num
  · rw [if_neg h]
    have hne : (BitVec.ofNat 32 r.val == BitVec.ofNat 32 (rank (pad48 M) c)) = false := by
      rw [beq_eq_false_iff_ne]
      intro e
      apply h
      have e' := congrArg BitVec.toNat e
      simp only [BitVec.toNat_ofNat] at e'
      have := r.isLt
      omega
    rw [hne]
    norm_num

/-- Row `r` of the attention weights a block gives: the row of the query before which `r` queries come, taken from the
    softmaxes of the second half's rows by the 0/1 matrix. -/
def pickRow (q : Fin 96 → Fin 64 → EReal) (k : Fin 64 → Fin 4096 → EReal) (r : Fin 48) (s : Fin 4096) : EReal :=
  ∑ c : Fin 48, (if r.val = rank (pad48 (measures q k)) c then (1 : EReal) else 0) * softmax (score q k (hi c)) s

/-- The weights before they are stored. -/
theorem weights_at (v0 : Vec Ideal S1x1x96x64 .f32) (v2 : Vec Ideal S1x64x4096 .f32) (r : Fin 48) (s : Fin 4096) :
    k2_pay1 (k2_pay5 v2) (k2_pay7 v0) (k2_pay8 v0 v2) (ix2 r s)
      = pickRow (fun i d => v0 (ix4 0 0 i d)) (fun d s => v2 (ix3 0 d s)) r s := by
  have hp := perm_at v0 v2 r
  generalize k2_pay8 v0 v2 = P at hp ⊢
  pointwise [k2_pay1, k2_pay5, k2_pay7, k2_pay4]
  simp only [word_bot, hp]
  rfl

/-- The attention weights the attention kernel stores. -/
theorem attn_at (v0 : Vec Ideal S1x1x96x64 .f32) (v2 : Vec Ideal S1x64x4096 .f32) (r : Fin 45) (s : Fin 4096) :
    k2_pay2 (k2_pay5 v2) (k2_pay7 v0) (k2_pay8 v0 v2) (ix4 0 0 r s)
      = pickRow (fun i d => v0 (ix4 0 0 i d)) (fun d s => v2 (ix3 0 d s)) (up r) s := by
  have hw := weights_at v0 v2 (up r) s
  unfold k2_pay2
  generalize k2_pay1 (k2_pay5 v2) (k2_pay7 v0) (k2_pay8 v0 v2) = A at hw ⊢
  rw [← hw]
  pointwise
  rfl

/-- The context rows the attention kernel stores. -/
theorem ctx_at (v0 : Vec Ideal S1x1x96x64 .f32) (v2 : Vec Ideal S1x64x4096 .f32) (v4 : Vec Ideal S1x64x4096 .bf16)
    (r : Fin 48) (d : Fin 64) :
    k2_pay3 (k2_pay5 v2) (k2_pay6 v4) (k2_pay7 v0) (k2_pay8 v0 v2) (ix4 0 0 r d)
      = ∑ s, pickRow (fun i d => v0 (ix4 0 0 i d)) (fun d s => v2 (ix3 0 d s)) r s * v4 (ix3 0 d s) := by
  have hw := weights_at v0 v2 r
  unfold k2_pay3
  generalize k2_pay1 (k2_pay5 v2) (k2_pay7 v0) (k2_pay8 v0 v2) = A at hw ⊢
  pointwise [k2_pay6]
  simp only [hw]

/-- The projected queries the first kernel stores. -/
theorem query_at (v0 : Vec Ideal S1x96x1024 .f32) (v2 : Vec Ideal S1024x1024 .f32) (v4 : Vec Ideal S1x1024 .f32)
    (i : Fin 96) (n : Fin 1024) :
    k0_pay1 v0 v2 v4 (ix3 0 i n) = ∑ c, v0 (ix3 0 i c) * v2 (ix2 n c) + v4 (ix2 0 n) := by
  pointwise [k0_pay1]

/-- The projected keys the second kernel stores. -/
theorem keys_at (v0 : Vec Ideal S1024x1024 .f32) (v1 : Vec Ideal S1x1024x1024 .f32) (n s : Fin 1024) :
    k1_pay1 v0 v1 (ix3 0 n s) = ∑ c, v0 (ix2 n c) * v1 (ix3 0 s c) := by
  pointwise [k1_pay1]

/-- The projected values the second kernel stores. -/
theorem values_at (v0 : Vec Ideal S1024x1024 .f32) (v1 : Vec Ideal S1x1024x1024 .f32) (n s : Fin 1024) :
    k1_pay2 v0 v1 (ix3 0 n s) = ∑ c, v0 (ix2 n c) * v1 (ix3 0 s c) := by
  pointwise [k1_pay2]

/-- The output rows the last kernel stores. -/
theorem out_at (v0 : Vec Ideal S1x48x1024 .f32) (v2 : Vec Ideal S1x1024 .f32) (v6 : Vec Ideal S1024x1024 .f32)
    (v8 : Vec Ideal S1x1024 .f32) (r : Fin 48) (n : Fin 1024) :
    k3_pay1 v0 v2 v6 v8 (ix3 0 r n) = ∑ c, (v0 (ix3 0 r c) + v2 (ix2 0 c)) * v6 (ix2 n c) + v8 (ix2 0 n) := by
  pointwise [k3_pay1]

end Cert.Proof.Kernel
-- ==== Proof.Kernel.Regions.lean ====
/- What each of the four kernels leaves in its output arrays, element by element, from the arrays it reads. -/
module

public import proofs.«01_k».proof.Proof.Kernel.Payload
public import proofs.«01_k».proof.Proof.Gen.KernelIdeal.Frame
public import Idealize.ShloMosaic.Lib.Pipeline.ValueKit

@[expose] public section

set_option maxRecDepth 16384

noncomputable section

namespace Cert.Proof.Kernel

open Idealize.ShloMosaic Idealize.ShloMosaic.TcCoe Idealize.SL.Sem
open Idealize.ShloMosaic.Pipeline (Dat)
open Cert.KernelIdeal Cert.KernelIdeal.Gen
open Cert.Proof.Math

variable (V : (c : Dev nD) → (b : Ref sig .tc) → Buf (Elt Ideal) ((c : Thread nD τ).loc b))

/-- Where the first kernel's blocks sit. -/
theorem idx0 : ∀ t : Fin cfg0.N, win0_0.index t = ![t.val, 0, 0] ∧ win0_1.index t = ![0, 0] ∧ win0_2.index t = ![0, 0]
    ∧ win0_3.index t = ![t.val, 0, 0] :=
  (by decide +kernel : ∀ t : Fin grid0.N, _)

/-- The projection of 96 rows of queries. -/
def projQ (X : FVec Ideal S4x96x1024 .f32) (W : FVec Ideal S1024x1024 .f32) (b : FVec Ideal S1x1024 .f32) :
    FVec Ideal S4x96x1024 .f32 :=
  fun j => ∑ c : Fin 1024, X (ix3 (j 0) (j 1) c) * W (ix2 (j 2) c) + b (ix2 0 (j 2))

/-- The first kernel's output. -/
theorem queries (c : Dev nD) :
    (dat0 V c).arrAt 3 cfg0.N = projQ (V c main_v20) (V c main_arg3) (V c main_v21) := by
  refine (dat0 V c).arrAt_eq_of_covers 3 _ (by decide +kernel) fun t _ y => ?_
  blk_simp
  rw [after0_3]; frame_out
  pointwise [k0_pay1, projQ]
  blk_point [iblk0, idx0 t]

/-- Where the second kernel's blocks sit. -/
theorem idx1 : ∀ t : Fin cfg1.N, win1_0.index t = ![t.val / 4, t.val % 4, 0] ∧ win1_1.index t = ![t.val / 4, t.val % 4, 0]
    ∧ win1_2.index t = ![0, 0] ∧ win1_3.index t = ![0, 0] ∧ win1_4.index t = ![t.val / 4, 0, t.val % 4]
    ∧ win1_5.index t = ![t.val / 4, 0, t.val % 4] :=
  (by decide +kernel : ∀ t : Fin grid1.N, _)

/-- The projection of a key or value array, one column per position. -/
def projT {φ : FTy} (X : FVec Ideal S4x4096x1024 .f32) (W : FVec Ideal S1024x1024 .f32) : FVec Ideal S4x1024x4096 φ :=
  fun j => ∑ c : Fin 1024, W (ix2 (j 1) c) * X (ix3 (j 0) (j 2) c)

/-- The second kernel's keys. -/
theorem keys (c : Dev nD) : (dat1 V c).arrAt 4 cfg1.N = projT (φ := .f32) (V c main_arg1) (V c main_arg5) := by
  refine (dat1 V c).arrAt_eq_of_covers 4 _ (by decide +kernel) fun t _ y => ?_
  blk_simp
  rw [after1_4]; frame_out
  pointwise [k1_pay1, projT]
  blk_point [iblk1, idx1 t]

/-- The second kernel's values. -/
theorem vals (c : Dev nD) : (dat1 V c).arrAt 5 cfg1.N = projT (φ := .bf16) (V c main_arg2) (V c main_arg7) := by
  refine (dat1 V c).arrAt_eq_of_covers 5 _ (by decide +kernel) fun t _ y => ?_
  blk_simp
  rw [after1_5]; frame_out
  pointwise [k1_pay2, projT]
  blk_point [iblk1, idx1 t]

end Cert.Proof.Kernel
-- ==== Proof.Math.Feat.lean ====
/- The 1024 features as 16 heads of 64. -/
module

public import proofs.«01_k».proof.Proof.Math.Spec

@[expose] public section

namespace Cert.Proof.Math

/-- Feature `d` of head `h`. -/
def feat (h : Fin 16) (d : Fin 64) : Fin 1024 := ⟨h.val * 64 + d.val, by omega⟩

/-- The head of a feature. -/
def headOf (c : Fin 1024) : Fin 16 := ⟨c.val / 64, by omega⟩

/-- A feature's position in its head. -/
def dimOf (c : Fin 1024) : Fin 64 := ⟨c.val % 64, by omega⟩

/-- A feature is the one its head and its place in the head name. -/
theorem feat_split (c : Fin 1024) : feat (headOf c) (dimOf c) = c :=
  Fin.ext (by show c.val / 64 * 64 + c.val % 64 = c.val; omega)

/-- The head of a feature named by head and place. -/
theorem headOf_feat (h : Fin 16) (d : Fin 64) : headOf (feat h d) = h :=
  Fin.ext (by show (h.val * 64 + d.val) / 64 = h.val; omega)

/-- The place of a feature named by head and place. -/
theorem dimOf_feat (h : Fin 16) (d : Fin 64) : dimOf (feat h d) = d :=
  Fin.ext (by show (h.val * 64 + d.val) % 64 = d.val; omega)

/-- The row of a table of 4096 that a signed word names, clamped to the table. -/
def clampRow (w : BitVec 32) : Fin 4096 := ⟨min w.toInt.toNat 4095, by omega⟩

/-- One of 45 rows as one of 4096. -/
def row45 (k : Fin 45) : Fin 4096 := ⟨k.val, by omega⟩

end Cert.Proof.Math
-- ==== Proof.Kernel.Regions2.lean ====
/- What each of the four kernels leaves in its output arrays, element by element, from the arrays it reads: the last two. -/
module

public import proofs.«01_k».proof.Proof.Kernel.Payload
public import proofs.«01_k».proof.Proof.Math.Feat
public import proofs.«01_k».proof.Proof.Gen.KernelIdeal.Frame
public import Idealize.ShloMosaic.Lib.Pipeline.ValueKit

@[expose] public section

set_option maxRecDepth 16384

noncomputable section

namespace Cert.Proof.Kernel

open Idealize.ShloMosaic Idealize.ShloMosaic.TcCoe Idealize.SL.Sem
open Idealize.ShloMosaic.Pipeline (Dat)
open Cert.KernelIdeal Cert.KernelIdeal.Gen
open Cert.Proof.Math

variable (V : (c : Dev nD) → (b : Ref sig .tc) → Buf (Elt Ideal) ((c : Thread nD τ).loc b))

/-- Where the last kernel's blocks sit. -/
theorem idx3 : ∀ t : Fin cfg3.N, win3_0.index t = ![t.val, 0, 0] ∧ win3_1.index t = ![0, 0] ∧ win3_2.index t = ![0, 0]
    ∧ win3_3.index t = ![0, 0] ∧ win3_4.index t = ![t.val, 0, 0] :=
  (by decide +kernel : ∀ t : Fin grid3.N, _)

/-- The output projection of 48 context rows. -/
def projO (X : FVec Ideal S4x48x1024 .f32) (bv : FVec Ideal S1x1024 .f32) (W : FVec Ideal S1024x1024 .f32)
    (bo : FVec Ideal S1x1024 .f32) : FVec Ideal S4x48x1024 .f32 :=
  fun j => ∑ c : Fin 1024, (X (ix3 (j 0) (j 1) c) + bv (ix2 0 c)) * W (ix2 (j 2) c) + bo (ix2 0 (j 2))

/-- The last kernel's input block, at a point. -/
theorem in3 (c : Dev nD) (t : Fin cfg3.N) (i : Fin 48) (n : Fin 1024) :
    iblk3 V c 0 t (ix3 0 i n) = V c main_v28 (ix3 ⟨t.val, t.isLt⟩ i n) := by
  blk_point [iblk3, idx3 t]

/-- The last kernel's first bias block, at a point. -/
theorem bias3 (c : Dev nD) (t : Fin cfg3.N) (n : Fin 1024) :
    iblk3 V c 2 t (ix2 0 n) = V c main_v29 (ix2 0 n) := by
  blk_point [iblk3, idx3 t]

/-- The last kernel's weight block, at a point. -/
theorem weight3 (c : Dev nD) (t : Fin cfg3.N) (n k : Fin 1024) :
    iblk3 V c 1 t (ix2 n k) = V c main_arg9 (ix2 n k) := by
  blk_point [iblk3, idx3 t]

/-- The last kernel's second bias block, at a point. -/
theorem shift3 (c : Dev nD) (t : Fin cfg3.N) (n : Fin 1024) :
    iblk3 V c 3 t (ix2 0 n) = V c main_v30 (ix2 0 n) := by
  blk_point [iblk3, idx3 t]

/-- Where a point of the last kernel's output block lies. -/
theorem at3 (t : Fin cfg3.N) (i : Fin 48) (n : Fin 1024) :
    ((View.whole main_v31).slice (win3_4.rect t)).emb (ix3 0 i n) = ix3 ⟨t.val, t.isLt⟩ i n := by
  blk_point [idx3 t]

/-- The last kernel's output. -/
theorem outs (c : Dev nD) :
    (dat3 V c).arrAt 4 cfg3.N = projO (V c main_v28) (V c main_v29) (V c main_arg9) (V c main_v30) := by
  refine (dat3 V c).arrAt_eq_of_covers 4 _ (by decide +kernel) fun t _ y => ?_
  blk_simp
  rw [after3_4]; frame_out
  idx_vars y
  obtain rfl : y0 = 0 := Subsingleton.elim _ _
  refine (out_at _ _ _ _ _ _).trans ?_
  rw [at3]
  simp only [in3, bias3, weight3, shift3]
  rfl

/-- Where the attention kernel's blocks sit. -/
theorem idx2 : ∀ t : Fin cfg2.N, win2_0.index t = ![t.val / 16, t.val % 16, 0, 0] ∧ win2_1.index t = ![t.val / 16, t.val % 16, 0]
    ∧ win2_2.index t = ![t.val / 16, t.val % 16, 0] ∧ win2_3.index t = ![t.val / 16, t.val % 16, 0, 0]
    ∧ win2_4.index t = ![t.val / 16, t.val % 16, 0, 0] :=
  (by decide +kernel : ∀ t : Fin grid2.N, _)

/-- Head `h` of batch `b`'s query rows. -/
def headQ (Q : FVec Ideal S4x16x96x64 .f32) (b : Fin 4) (h : Fin 16) (i : Fin 96) (d : Fin 64) : EReal := Q (ix4 b h i d)

/-- Head `h` of batch `b`'s columns. -/
def headT {φ : FTy} (K : FVec Ideal S4x1024x4096 φ) (b : Fin 4) (h : Fin 16) (d : Fin 64) (s : Fin 4096) : EReal :=
  K (ix3 b (feat h d) s)

/-- The attention weights of all heads. -/
def attn (Q : FVec Ideal S4x16x96x64 .f32) (K : FVec Ideal S4x1024x4096 .f32) : FVec Ideal S4x16x45x4096 .f32 :=
  fun j => pickRow (headQ Q (j 0) (j 1)) (headT K (j 0) (j 1)) (up (j 2)) (j 3)

/-- The context rows of all heads. -/
def ctx (Q : FVec Ideal S4x16x96x64 .f32) (K : FVec Ideal S4x1024x4096 .f32) (U : FVec Ideal S4x1024x4096 .bf16) :
    FVec Ideal S4x16x48x64 .f32 :=
  fun j => ∑ s, pickRow (headQ Q (j 0) (j 1)) (headT K (j 0) (j 1)) (j 2) s * headT U (j 0) (j 1) (j 3) s

/-- The batch and head of a grid point. -/
theorem lt2 (t : Fin cfg2.N) : t.val < 64 := t.isLt

/-- The batch of a grid point. -/
def batch2 (t : Fin cfg2.N) : Fin 4 := ⟨t.val / 16, by have := lt2 t; omega⟩

/-- The head of a grid point. -/
def head2 (t : Fin cfg2.N) : Fin 16 := ⟨t.val % 16, by omega⟩

/-- The attention kernel's query block, at a point. -/
theorem queries2 (c : Dev nD) (t : Fin cfg2.N) (i : Fin 96) (d : Fin 64) :
    iblk2 V c 0 t (ix4 0 0 i d) = headQ (V c main_v24) (batch2 t) (head2 t) i d := by
  unfold headQ batch2 head2
  blk_point [iblk2, idx2 t]

/-- The attention kernel's key block, at a point. -/
theorem keys2 (c : Dev nD) (t : Fin cfg2.N) (d : Fin 64) (s : Fin 4096) :
    iblk2 V c 1 t (ix3 0 d s) = headT (φ := .f32) (V c main_v25_0) (batch2 t) (head2 t) d s := by
  unfold headT batch2 head2 feat
  blk_point [iblk2, idx2 t]

/-- The attention kernel's value block, at a point. -/
theorem values2 (c : Dev nD) (t : Fin cfg2.N) (d : Fin 64) (s : Fin 4096) :
    iblk2 V c 2 t (ix3 0 d s) = headT (φ := .bf16) (V c main_v25_1) (batch2 t) (head2 t) d s := by
  unfold headT batch2 head2 feat
  blk_point [iblk2, idx2 t]

/-- Where a point of the weights' block lies. -/
theorem at2_3 (t : Fin cfg2.N) (r : Fin 45) (s : Fin 4096) :
    ((View.whole main_v26_0).slice (win2_3.rect t)).emb (ix4 0 0 r s) = ix4 (batch2 t) (head2 t) r s := by
  unfold batch2 head2
  blk_point [idx2 t]

/-- Where a point of the contexts' block lies. -/
theorem at2_4 (t : Fin cfg2.N) (r : Fin 48) (d : Fin 64) :
    ((View.whole main_v26_1).slice (win2_4.rect t)).emb (ix4 0 0 r d) = ix4 (batch2 t) (head2 t) r d := by
  unfold batch2 head2
  blk_point [idx2 t]

/-- The attention kernel's weights. -/
theorem attns (c : Dev nD) : (dat2 V c).arrAt 3 cfg2.N = attn (V c main_v24) (V c main_v25_0) := by
  refine (dat2 V c).arrAt_eq_of_covers 3 _ (by decide +kernel) fun t _ y => ?_
  blk_simp
  rw [after2_3]
  unfold_out out2_3
  frame_out
  idx_vars y
  obtain rfl : y0 = 0 := Subsingleton.elim _ _
  obtain rfl : y1 = 0 := Subsingleton.elim _ _
  refine (attn_at _ _ _ _).trans ?_
  rw [at2_3]
  simp only [queries2, keys2]
  rfl

/-- The attention kernel's contexts. -/
theorem ctxs (c : Dev nD) :
    (dat2 V c).arrAt 4 cfg2.N = ctx (V c main_v24) (V c main_v25_0) (V c main_v25_1) := by
  refine (dat2 V c).arrAt_eq_of_covers 4 _ (by decide +kernel) fun t _ y => ?_
  blk_simp
  rw [after2_4]
  unfold_out out2_4
  frame_out
  idx_vars y
  obtain rfl : y0 = 0 := Subsingleton.elim _ _
  obtain rfl : y1 = 0 := Subsingleton.elim _ _
  refine (ctx_at _ _ _ _ _).trans ?_
  rw [at2_4]
  simp only [queries2, keys2, values2]
  rfl

end Cert.Proof.Kernel
-- ==== Proof.Kernel.Glue.lean ====
/- The host operations between the kernels, as plain functions of arrays, and element by element. -/
module

public import proofs.«01_k».proof.Proof.Gen.KernelIdeal.Launch
public import proofs.«01_k».proof.Proof.Kernel.Payload
public import proofs.«01_k».proof.Proof.Math.Feat
public import Idealize.ShloMosaic.Lib.Pointwise

@[expose] public section

set_option maxRecDepth 16384
set_option Elab.async false

noncomputable section

namespace Cert.Proof.Kernel

open Idealize.ShloMosaic
open Cert.KernelIdeal Cert.KernelIdeal.Gen
open Cert.Proof.Math

/-- The query rows a list of 45 row numbers names. -/
def taken (X : FVec Ideal S4x4096x1024 .f32) (r : IVec S45x1 32) : FVec Ideal S4x45x1024 .f32 :=
  Host.gather gather_S4x4096x1024_S45x1_S4x45x1024_02_1_n_n_1_1_411024 X r

/-- 45 rows padded to 48. -/
def padded (X : FVec Ideal S4x45x1024 .f32) : FVec Ideal S4x48x1024 .f32 :=
  pad S4x48x1024 ![0, 0, 0] ![0, 3, 0] ![0, 0, 0] X (sitofp (F := Ideal) .f32 (constantI S_ 32 0#32))
    pads_S4x45x1024_S4x48x1024_000_030_000 h_S_

/-- The first 45 query rows. -/
def firsts (X : FVec Ideal S4x4096x1024 .f32) : FVec Ideal S4x45x1024 .f32 :=
  extractStridedSlice S4x45x1024 ![0, 0, 0] X slices_S4x4096x1024_S4x45x1024_0_0_0

/-- Two blocks of 48 rows, one after the other. -/
def stacked (A B : FVec Ideal S4x48x1024 .f32) : FVec Ideal S4x96x1024 .f32 :=
  concatenate S4x96x1024 1 [⟨S4x48x1024, A⟩, ⟨S4x48x1024, B⟩] concatenates_S4x48x1024_S4x48x1024_S4x96x1024_d1

/-- A row of 1024. -/
def asRow (β : FVec Ideal S1024 .f32) : FVec Ideal S1x1024 .f32 := shapeCast S1x1024 β shapeCasts_S1024_S1x1024

/-- Query rows split into heads. -/
def split (Q : FVec Ideal S4x96x1024 .f32) : FVec Ideal S4x16x96x64 .f32 :=
  transpose S4x16x96x64 [0, 2, 1, 3] (shapeCast S4x96x16x64 Q shapeCasts_S4x96x1024_S4x96x16x64)
    transposes_S4x96x16x64_S4x16x96x64_0_2_1_3

/-- Heads put side by side. -/
def joined (C : FVec Ideal S4x16x48x64 .f32) : FVec Ideal S4x48x1024 .f32 :=
  shapeCast S4x48x1024 (transpose S4x48x16x64 [0, 2, 1, 3] C transposes_S4x16x48x64_S4x48x16x64_0_2_1_3)
    shapeCasts_S4x48x16x64_S4x48x1024

/-- The first 45 of 48 output rows. -/
def cut (O : FVec Ideal S4x48x1024 .f32) : FVec Ideal S4x45x1024 .f32 :=
  extractStridedSlice S4x45x1024 ![0, 0, 0] O slices_S4x48x1024_S4x45x1024_0_0_0

/-- The taken rows, at a point. -/
theorem taken_at (X : FVec Ideal S4x4096x1024 .f32) (r : IVec S45x1 32) (b : Fin 4) (i : Fin 45) (n : Fin 1024) :
    taken X r (ix3 b i n) = X (ix3 b (clampRow (r (ix2 i 0))) n) := by
  have hsi : gather_S4x4096x1024_S45x1_S4x45x1024_02_1_n_n_1_1_411024.siIdx (ix3 b i n) ⟨0, Nat.one_pos⟩ = ix2 i 0 := by
    funext a
    match a with
    | ⟨0, _⟩ => rfl
    | ⟨1, _⟩ => rfl
  unfold taken Host.gather
  congr 1
  funext a
  refine Fin.ext ?_
  match a with
  | ⟨0, _⟩ => show 0 + 0 + b.val = b.val; omega
  | ⟨1, _⟩ =>
    show min (r (gather_S4x4096x1024_S45x1_S4x45x1024_02_1_n_n_1_1_411024.siIdx (ix3 b i n) ⟨0, Nat.one_pos⟩)).toInt.toNat 4095 + 0 + 0 = _
    rw [hsi]; rfl
  | ⟨2, _⟩ => show 0 + 0 + n.val = n.val; omega

/-- The padded rows that are not padding. -/
theorem padded_at (X : FVec Ideal S4x45x1024 .f32) (b : Fin 4) (i : Fin 45) (n : Fin 1024) :
    padded X (ix3 b (up i) n) = X (ix3 b i n) := by
  unfold up
  pointwise [padded]

/-- The padding rows. -/
theorem padded_zero (X : FVec Ideal S4x45x1024 .f32) (b : Fin 4) (i : Fin 48) (n : Fin 1024) (hi : 45 ≤ i.val) :
    padded X (ix3 b i n) = ((0 : ℝ) : EReal) := by
  pointwise [padded]
  rw [dif_neg (by omega)]
  show (((0#32).toInt : ℝ) : EReal) = ((0 : ℝ) : EReal)
  norm_num

/-- The first rows, at a point. -/
theorem firsts_at (X : FVec Ideal S4x4096x1024 .f32) (b : Fin 4) (i : Fin 45) (n : Fin 1024) :
    firsts X (ix3 b i n) = X (ix3 b (row45 i) n) := by
  unfold row45
  pointwise [firsts]

/-- The upper block. -/
theorem stacked_lo (A B : FVec Ideal S4x48x1024 .f32) (b : Fin 4) (i : Fin 48) (n : Fin 1024) :
    stacked A B (ix3 b ⟨i.val, by omega⟩ n) = A (ix3 b i n) := by
  pointwise [stacked]

/-- The lower block. -/
theorem stacked_hi (A B : FVec Ideal S4x48x1024 .f32) (b : Fin 4) (i : Fin 48) (n : Fin 1024) :
    stacked A B (ix3 b (hi i) n) = B (ix3 b i n) := by
  unfold hi
  pointwise [stacked]

/-- A row of 1024, at a point. -/
theorem asRow_at (β : FVec Ideal S1024 .f32) (n : Fin 1024) : asRow β (ix2 0 n) = β (ix1 n) := by
  pointwise [asRow]

/-- The split rows, at a point. -/
theorem split_at (Q : FVec Ideal S4x96x1024 .f32) (b : Fin 4) (h : Fin 16) (i : Fin 96) (d : Fin 64) :
    split Q (ix4 b h i d) = Q (ix3 b i (feat h d)) := by
  unfold feat
  pointwise [split]

/-- The joined heads, at a point. -/
theorem joined_at (C : FVec Ideal S4x16x48x64 .f32) (b : Fin 4) (r : Fin 48) (c : Fin 1024) :
    joined C (ix3 b r c) = C (ix4 b (headOf c) r (dimOf c)) := by
  unfold headOf dimOf
  pointwise [joined]

/-- The cut rows, at a point. -/
theorem cut_at (O : FVec Ideal S4x48x1024 .f32) (b : Fin 4) (r : Fin 45) (n : Fin 1024) :
    cut O (ix3 b r n) = O (ix3 b (up r) n) := by
  unfold up
  pointwise [cut]

end Cert.Proof.Kernel
-- ==== Proof.Shuffle.Ssa.lean ====
/- Straight lines of host operations in single-assignment form: every operation writes one buffer, later than all it
   reads, and the written buffers increase along the line. The contents after such a line satisfy every operation's
   equation at once, so a value can be read off without unfolding the line. -/
module

public import Idealize.ShloMosaic.Lib.StableHlo.Run
public import Idealize.ShloMosaic.Lib.StableHlo

@[expose] public section

namespace Cert.Proof.Ssa

open Idealize.ShloMosaic Idealize.ShloMosaic.StableHlo Idealize.SL.Sem

variable {τ : Topo} {sig : RefSig} {Val : EltTy → Type}

/-- `op` writes exactly the buffer `y`, from buffers that come earlier than `y`. -/
structure Step (op : HloOp τ sig Val) (y : Ref sig .tc) : Prop where
  writes : op.writes = {Proc.devRef .tc y}
  bufs : op.bufs ⊆ tcRefs τ sig
  fresh : op.fresh = ∅
  congr : ∀ F G : Valuation τ sig Val, (∀ r : Ref sig .tc, r.idx.val < y.idx.val → F (Proc.devRef .tc r) = G (Proc.devRef .tc r)) →
    op.result F (Proc.devRef .tc y) = op.result G (Proc.devRef .tc y)

/-- The line writes buffers at or after position `n`, before position `k`, in increasing order, each by a `Step`. -/
inductive Mono : ℕ → List (HloOp τ sig Val) → ℕ → Prop
  | nil {n k : ℕ} (h : n ≤ k) : Mono n [] k
  | cons {n k : ℕ} {op : HloOp τ sig Val} {ops : List (HloOp τ sig Val)} (y : Ref sig .tc) (hn : n ≤ y.idx.val)
      (hs : Step op y) (ht : Mono (y.idx.val + 1) ops k) : Mono n (op :: ops) k

/-- The lower bound of a line lies below its upper bound. -/
theorem Mono.le {n k : ℕ} {ops : List (HloOp τ sig Val)} (h : Mono n ops k) : n ≤ k := by
  induction h with
  | nil h => exact h
  | cons y hn hs ht ih => omega

/-- A line in order from `n` on is in order from any smaller bound on. -/
theorem Mono.weaken {n n' k : ℕ} {ops : List (HloOp τ sig Val)} (h : Mono n ops k) (hn : n' ≤ n) : Mono n' ops k := by
  cases h with
  | nil h => exact .nil (by omega)
  | cons y hy hs ht => exact .cons y (by omega) hs ht

/-- Two increasing lines, one after the other. -/
theorem Mono.append {n m k : ℕ} {l₁ l₂ : List (HloOp τ sig Val)} (h₁ : Mono n l₁ m) (h₂ : Mono m l₂ k) :
    Mono n (l₁ ++ l₂) k := by
  induction h₁ with
  | nil h => exact h₂.weaken h
  | cons y hn hs ht ih => exact .cons y hn hs (ih h₂)

/-- Two references at one place of a device are one. -/
theorem devRef_inj {a b : Ref sig .tc} (h : (Proc.devRef .tc a : DevRef τ sig) = Proc.devRef .tc b) : a = b := by
  by_contra hne
  exact devRef_ne_of_ne hne h

/-- A buffer before the line's first position keeps its contents. -/
theorem Mono.after_of_lt {n k : ℕ} {ops : List (HloOp τ sig Val)} (h : Mono n ops k) (V : Valuation τ sig Val)
    (r : Ref sig .tc) (hr : r.idx.val < n) : after ops V (Proc.devRef .tc r) = V (Proc.devRef .tc r) := by
  induction h generalizing V with
  | nil h => rfl
  | cons y hn hs ht ih =>
    rw [after_cons, ih _ (by omega), HloOp.result_of_not_mem]
    rw [hs.writes, Finset.mem_singleton]
    intro e
    have := devRef_inj e
    subst this
    omega

/-- After the line, every operation's equation holds. -/
theorem Mono.fix {n k : ℕ} {ops : List (HloOp τ sig Val)} (h : Mono n ops k) (V : Valuation τ sig Val) :
    ∀ op ∈ ops, op.result (after ops V) = after ops V := by
  induction h generalizing V with
  | nil h => intro op ho; cases ho
  | @cons n k op ops y hn hs ht ih =>
    intro o ho
    rcases List.mem_cons.1 ho with rfl | ho
    · funext b
      by_cases hb : b ∈ o.writes
      · rw [hs.writes, Finset.mem_singleton] at hb
        subst hb
        rw [after_cons, ht.after_of_lt _ y (by omega)]
        refine hs.congr _ _ fun r hr => ?_
        rw [ht.after_of_lt _ r (by omega), HloOp.result_of_not_mem]
        rw [hs.writes, Finset.mem_singleton]
        intro e
        have := devRef_inj e
        subst this
        omega
      · exact HloOp.result_of_not_mem _ _ hb
    · exact ih _ o ho

/-- A line in order touches references of the main processor only. -/
theorem Mono.bufs {n k : ℕ} {ops : List (HloOp τ sig Val)} (h : Mono n ops k) :
    ∀ op ∈ ops, op.bufs ⊆ tcRefs τ sig := by
  induction h with
  | nil h => intro op ho; cases ho
  | cons y hn hs ht ih =>
    intro o ho
    rcases List.mem_cons.1 ho with rfl | ho
    exacts [hs.bufs, ih o ho]

/-- A line in order takes no fresh buffer. -/
theorem Mono.fresh {n k : ℕ} {ops : List (HloOp τ sig Val)} (h : Mono n ops k) :
    ∀ op ∈ ops, op.fresh = ∅ := by
  induction h with
  | nil h => intro op ho; cases ho
  | cons y hn hs ht ih =>
    intro o ho
    rcases List.mem_cons.1 ho with rfl | ho
    exacts [hs.fresh, ih o ho]

/-! ### The builders are steps -/

section Builders

variable {x a b c y : Ref sig .tc} {n k : ℕ} {ops : List (HloOp τ sig Val)}

/-- A constant at the head of a line in order. -/
theorem Mono.nullary (v : y.ty.Contents Val) (hy) (hn : Nat.ble n y.idx.val = true)
    (ht : Mono (y.idx.val + 1) ops k) : Mono n (StableHlo.nullary (τ := τ) y v hy :: ops) k :=
  .cons y (Nat.le_of_ble_eq_true hn) ⟨nullary_writes .., nullary_bufs_sub .., rfl, fun F G _ => by
    rw [nullary_result, nullary_result]⟩ ht

/-- An operation of one operand at the head of a line in order. -/
theorem Mono.unary (f : x.ty.Contents Val → y.ty.Contents Val) (hx hy) (hn : Nat.ble n y.idx.val = true)
    (hl : Nat.ble (x.idx.val + 1) y.idx.val = true)
    (ht : Mono (y.idx.val + 1) ops k) : Mono n (StableHlo.unary (τ := τ) x y f hx hy :: ops) k :=
  .cons y (Nat.le_of_ble_eq_true hn) ⟨unary_writes .., unary_bufs_sub .., rfl, fun F G h => by
    rw [unary_result, unary_result, h x (Nat.le_of_ble_eq_true hl)]⟩ ht

/-- An operation of two operands at the head of a line in order. -/
theorem Mono.binary (f : a.ty.Contents Val → b.ty.Contents Val → y.ty.Contents Val) (ha hb hy)
    (hn : Nat.ble n y.idx.val = true)
    (hl : Nat.ble (a.idx.val + 1) y.idx.val = true) (hl' : Nat.ble (b.idx.val + 1) y.idx.val = true)
    (ht : Mono (y.idx.val + 1) ops k) : Mono n (StableHlo.binary (τ := τ) a b y f ha hb hy :: ops) k :=
  .cons y (Nat.le_of_ble_eq_true hn) ⟨binary_writes .., binary_bufs_sub .., rfl, fun F G h => by
    rw [binary_result, binary_result, h a (Nat.le_of_ble_eq_true hl), h b (Nat.le_of_ble_eq_true hl')]⟩ ht

/-- An operation of three operands at the head of a line in order. -/
theorem Mono.ternary (f : c.ty.Contents Val → a.ty.Contents Val → b.ty.Contents Val → y.ty.Contents Val) (hc ha hb hy)
    (hn : Nat.ble n y.idx.val = true) (hl'' : Nat.ble (c.idx.val + 1) y.idx.val = true)
    (hl : Nat.ble (a.idx.val + 1) y.idx.val = true) (hl' : Nat.ble (b.idx.val + 1) y.idx.val = true)
    (ht : Mono (y.idx.val + 1) ops k) : Mono n (StableHlo.ternary (τ := τ) c a b y f hc ha hb hy :: ops) k :=
  .cons y (Nat.le_of_ble_eq_true hn) ⟨ternary_writes .., ternary_bufs_sub .., rfl, fun F G h => by
    rw [ternary_result, ternary_result, h c (Nat.le_of_ble_eq_true hl''), h a (Nat.le_of_ble_eq_true hl),
      h b (Nat.le_of_ble_eq_true hl')]⟩ ht

/-- A reshape at the head of a line in order. -/
theorem Mono.reshape (he hnn hx hy) (hn : Nat.ble n y.idx.val = true)
    (hl : Nat.ble (x.idx.val + 1) y.idx.val = true)
    (ht : Mono (y.idx.val + 1) ops k) : Mono n (StableHlo.reshape (τ := τ) (Val := Val) x y he hnn hx hy :: ops) k :=
  .cons y (Nat.le_of_ble_eq_true hn) ⟨reshape_writes .., reshape_bufs_sub .., rfl, fun F G h => by
    rw [reshape_result, reshape_result, h x (Nat.le_of_ble_eq_true hl)]⟩ ht

/-- The contents of a typed reference, at its value's type. -/
def val {T : BufTy} (x : TRef sig T) (F : Valuation τ sig Val) : T.Contents Val := x.ofBuf (F (Proc.devRef .tc x.ref))

variable {T Tx Ta Tb Tc Ty : BufTy} {F : Valuation τ sig Val}

/-- What a constant leaves. -/
theorem val_nullary {y : TRef sig Ty} {v : Ty.Contents Val} (h : (TRef.nullary (τ := τ) y v).result F = F) :
    val y F = v := by
  have e := congrFun h (Proc.devRef .tc y.ref)
  rw [nullary_result] at e
  rw [val, ← e]
  simp only [TRef.ofBuf, TRef.toBuf, cast_cast, cast_eq]

/-- What an operation of one operand leaves. -/
theorem val_unary {x : TRef sig Tx} {y : TRef sig Ty} {f : Tx.Contents Val → Ty.Contents Val}
    (h : (TRef.unary (τ := τ) x y f).result F = F) : val y F = f (val x F) := by
  have e := congrFun h (Proc.devRef .tc y.ref)
  rw [unary_result] at e
  rw [val, ← e]
  simp only [val, TRef.ofBuf, TRef.toBuf, cast_cast, cast_eq]

/-- What an operation of two operands leaves. -/
theorem val_binary {a : TRef sig Ta} {b : TRef sig Tb} {y : TRef sig Ty}
    {f : Ta.Contents Val → Tb.Contents Val → Ty.Contents Val}
    (h : (TRef.binary (τ := τ) a b y f).result F = F) : val y F = f (val a F) (val b F) := by
  have e := congrFun h (Proc.devRef .tc y.ref)
  rw [binary_result] at e
  rw [val, ← e]
  simp only [val, TRef.ofBuf, TRef.toBuf, cast_cast, cast_eq]

/-- What an operation of three operands leaves. -/
theorem val_ternary {c : TRef sig Tc} {a : TRef sig Ta} {b : TRef sig Tb} {y : TRef sig Ty}
    {f : Tc.Contents Val → Ta.Contents Val → Tb.Contents Val → Ty.Contents Val}
    (h : (TRef.ternary (τ := τ) c a b y f).result F = F) : val y F = f (val c F) (val a F) (val b F) := by
  have e := congrFun h (Proc.devRef .tc y.ref)
  rw [ternary_result] at e
  rw [val, ← e]
  simp only [val, TRef.ofBuf, TRef.toBuf, cast_cast, cast_eq]

/-- What a reshape leaves. -/
theorem val_reshape {x : TRef sig Tx} {y : TRef sig Ty} {he : Tx.elt = Ty.elt} {hn : Tx.shape.ShapeCasts Ty.shape}
    (h : (TRef.reshape (τ := τ) (Val := Val) x y he hn).result F = F) :
    val y F = fun i => he ▸ shapeCast Ty.shape (val x F) hn i := by
  have e := congrFun h (Proc.devRef .tc y.ref)
  rw [reshape_result] at e
  rw [val, ← e]
  obtain ⟨rx, rfl, _, _⟩ := x
  obtain ⟨ry, rfl, _, _⟩ := y
  rfl

/-! ### Two lines side by side -/

variable {τ' : Topo} {sig' : RefSig} {G : Valuation τ' sig' Val}

/-- One constant in both programs leaves equal results. -/
theorem simN {y : TRef sig Ty} {y' : TRef sig' Ty} {v : Ty.Contents Val}
    (h : (TRef.nullary (τ := τ) y v).result F = F) (h' : (TRef.nullary (τ := τ') y' v).result G = G) :
    val y F = val y' G := (val_nullary h).trans (val_nullary h').symm

/-- One operation of one operand in both programs, equal operands: equal results. -/
theorem simU {x : TRef sig Tx} {y : TRef sig Ty} {x' : TRef sig' Tx} {y' : TRef sig' Ty}
    {f : Tx.Contents Val → Ty.Contents Val}
    (h : (TRef.unary (τ := τ) x y f).result F = F) (h' : (TRef.unary (τ := τ') x' y' f).result G = G)
    (hx : val x F = val x' G) : val y F = val y' G := by
  rw [val_unary h, val_unary h', hx]

/-- One operation of two operands in both programs, equal operands: equal results. -/
theorem simB {a : TRef sig Ta} {b : TRef sig Tb} {y : TRef sig Ty} {a' : TRef sig' Ta} {b' : TRef sig' Tb} {y' : TRef sig' Ty}
    {f : Ta.Contents Val → Tb.Contents Val → Ty.Contents Val}
    (h : (TRef.binary (τ := τ) a b y f).result F = F) (h' : (TRef.binary (τ := τ') a' b' y' f).result G = G)
    (ha : val a F = val a' G) (hb : val b F = val b' G) : val y F = val y' G := by
  rw [val_binary h, val_binary h', ha, hb]

/-- One reshape in both programs, equal operands: equal results. -/
theorem simR {x : TRef sig Tx} {y : TRef sig Ty} {x' : TRef sig' Tx} {y' : TRef sig' Ty}
    {he : Tx.elt = Ty.elt} {hn : Tx.shape.ShapeCasts Ty.shape}
    (h : (TRef.reshape (τ := τ) (Val := Val) x y he hn).result F = F)
    (h' : (TRef.reshape (τ := τ') (Val := Val) x' y' he hn).result G = G)
    (hx : val x F = val x' G) : val y F = val y' G := by
  rw [val_reshape h, val_reshape h', hx]

end Builders

end Cert.Proof.Ssa
-- ==== Proof.Shuffle.Threefry.lean ====
/- The Threefry block cipher as a line of host operations over any program's buffers, and its agreement in two programs. -/
module

public import Idealize.ShloMosaic.PureOps.Ideal

public import proofs.«01_k».proof.Proof.Gen.ReferenceIdeal
public import proofs.«01_k».proof.Proof.Shuffle.Ssa

@[expose] public section

set_option maxRecDepth 16384
set_option Elab.async false

noncomputable section

namespace Cert.Proof.Shuffle

open Idealize.ShloMosaic Idealize.ShloMosaic.StableHlo Idealize.SL.Sem
open Cert.ReferenceIdeal (S_ S1 S2 S4096 S2x1 S2x2 S1x2)
open Cert.ReferenceIdeal.Gen
open Cert.Proof.Ssa

/-- The shape of a vector of `n` words. -/
abbrev S (n : ℕ) : Shape := ⟨1, ![n]⟩

/-- One call's buffers. -/
structure TfBufs (sig : RefSig) (n : ℕ) where
  v0 : TRef sig ⟨S_, .i32⟩
  c : TRef sig ⟨S_, .i32⟩
  v1 : TRef sig ⟨S_, .i32⟩
  v2 : TRef sig ⟨S n, .i32⟩
  v3 : TRef sig ⟨S n, .i32⟩
  v4 : TRef sig ⟨S n, .i32⟩
  v5 : TRef sig ⟨S n, .i32⟩
  v6 : TRef sig ⟨S n, .i32⟩
  c_0 : TRef sig ⟨S_, .i32⟩
  v7 : TRef sig ⟨S n, .i32⟩
  v8 : TRef sig ⟨S n, .i32⟩
  c_1 : TRef sig ⟨S_, .i32⟩
  v9 : TRef sig ⟨S n, .i32⟩
  v10 : TRef sig ⟨S n, .i32⟩
  v11 : TRef sig ⟨S n, .i32⟩
  v12 : TRef sig ⟨S n, .i32⟩
  v13 : TRef sig ⟨S n, .i32⟩
  c_2 : TRef sig ⟨S_, .i32⟩
  v14 : TRef sig ⟨S n, .i32⟩
  v15 : TRef sig ⟨S n, .i32⟩
  c_3 : TRef sig ⟨S_, .i32⟩
  v16 : TRef sig ⟨S n, .i32⟩
  v17 : TRef sig ⟨S n, .i32⟩
  v18 : TRef sig ⟨S n, .i32⟩
  v19 : TRef sig ⟨S n, .i32⟩
  v20 : TRef sig ⟨S n, .i32⟩
  c_4 : TRef sig ⟨S_, .i32⟩
  v21 : TRef sig ⟨S n, .i32⟩
  v22 : TRef sig ⟨S n, .i32⟩
  c_5 : TRef sig ⟨S_, .i32⟩
  v23 : TRef sig ⟨S n, .i32⟩
  v24 : TRef sig ⟨S n, .i32⟩
  v25 : TRef sig ⟨S n, .i32⟩
  v26 : TRef sig ⟨S n, .i32⟩
  v27 : TRef sig ⟨S n, .i32⟩
  c_6 : TRef sig ⟨S_, .i32⟩
  v28 : TRef sig ⟨S n, .i32⟩
  v29 : TRef sig ⟨S n, .i32⟩
  c_7 : TRef sig ⟨S_, .i32⟩
  v30 : TRef sig ⟨S n, .i32⟩
  v31 : TRef sig ⟨S n, .i32⟩
  v32 : TRef sig ⟨S n, .i32⟩
  v33 : TRef sig ⟨S n, .i32⟩
  v34 : TRef sig ⟨S n, .i32⟩
  v35 : TRef sig ⟨S n, .i32⟩
  v36 : TRef sig ⟨S n, .i32⟩
  v37 : TRef sig ⟨S n, .i32⟩
  c_8 : TRef sig ⟨S_, .i32⟩
  v38 : TRef sig ⟨S n, .i32⟩
  v39 : TRef sig ⟨S n, .i32⟩
  v40 : TRef sig ⟨S n, .i32⟩
  c_9 : TRef sig ⟨S_, .i32⟩
  v41 : TRef sig ⟨S n, .i32⟩
  v42 : TRef sig ⟨S n, .i32⟩
  c_10 : TRef sig ⟨S_, .i32⟩
  v43 : TRef sig ⟨S n, .i32⟩
  v44 : TRef sig ⟨S n, .i32⟩
  v45 : TRef sig ⟨S n, .i32⟩
  v46 : TRef sig ⟨S n, .i32⟩
  v47 : TRef sig ⟨S n, .i32⟩
  c_11 : TRef sig ⟨S_, .i32⟩
  v48 : TRef sig ⟨S n, .i32⟩
  v49 : TRef sig ⟨S n, .i32⟩
  c_12 : TRef sig ⟨S_, .i32⟩
  v50 : TRef sig ⟨S n, .i32⟩
  v51 : TRef sig ⟨S n, .i32⟩
  v52 : TRef sig ⟨S n, .i32⟩
  v53 : TRef sig ⟨S n, .i32⟩
  v54 : TRef sig ⟨S n, .i32⟩
  c_13 : TRef sig ⟨S_, .i32⟩
  v55 : TRef sig ⟨S n, .i32⟩
  v56 : TRef sig ⟨S n, .i32⟩
  c_14 : TRef sig ⟨S_, .i32⟩
  v57 : TRef sig ⟨S n, .i32⟩
  v58 : TRef sig ⟨S n, .i32⟩
  v59 : TRef sig ⟨S n, .i32⟩
  v60 : TRef sig ⟨S n, .i32⟩
  v61 : TRef sig ⟨S n, .i32⟩
  c_15 : TRef sig ⟨S_, .i32⟩
  v62 : TRef sig ⟨S n, .i32⟩
  v63 : TRef sig ⟨S n, .i32⟩
  c_16 : TRef sig ⟨S_, .i32⟩
  v64 : TRef sig ⟨S n, .i32⟩
  v65 : TRef sig ⟨S n, .i32⟩
  v66 : TRef sig ⟨S n, .i32⟩
  v67 : TRef sig ⟨S n, .i32⟩
  v68 : TRef sig ⟨S n, .i32⟩
  v69 : TRef sig ⟨S n, .i32⟩
  v70 : TRef sig ⟨S n, .i32⟩
  v71 : TRef sig ⟨S n, .i32⟩
  c_17 : TRef sig ⟨S_, .i32⟩
  v72 : TRef sig ⟨S n, .i32⟩
  v73 : TRef sig ⟨S n, .i32⟩
  v74 : TRef sig ⟨S n, .i32⟩
  c_18 : TRef sig ⟨S_, .i32⟩
  v75 : TRef sig ⟨S n, .i32⟩
  v76 : TRef sig ⟨S n, .i32⟩
  c_19 : TRef sig ⟨S_, .i32⟩
  v77 : TRef sig ⟨S n, .i32⟩
  v78 : TRef sig ⟨S n, .i32⟩
  v79 : TRef sig ⟨S n, .i32⟩
  v80 : TRef sig ⟨S n, .i32⟩
  v81 : TRef sig ⟨S n, .i32⟩
  c_20 : TRef sig ⟨S_, .i32⟩
  v82 : TRef sig ⟨S n, .i32⟩
  v83 : TRef sig ⟨S n, .i32⟩
  c_21 : TRef sig ⟨S_, .i32⟩
  v84 : TRef sig ⟨S n, .i32⟩
  v85 : TRef sig ⟨S n, .i32⟩
  v86 : TRef sig ⟨S n, .i32⟩
  v87 : TRef sig ⟨S n, .i32⟩
  v88 : TRef sig ⟨S n, .i32⟩
  c_22 : TRef sig ⟨S_, .i32⟩
  v89 : TRef sig ⟨S n, .i32⟩
  v90 : TRef sig ⟨S n, .i32⟩
  c_23 : TRef sig ⟨S_, .i32⟩
  v91 : TRef sig ⟨S n, .i32⟩
  v92 : TRef sig ⟨S n, .i32⟩
  v93 : TRef sig ⟨S n, .i32⟩
  v94 : TRef sig ⟨S n, .i32⟩
  v95 : TRef sig ⟨S n, .i32⟩
  c_24 : TRef sig ⟨S_, .i32⟩
  v96 : TRef sig ⟨S n, .i32⟩
  v97 : TRef sig ⟨S n, .i32⟩
  c_25 : TRef sig ⟨S_, .i32⟩
  v98 : TRef sig ⟨S n, .i32⟩
  v99 : TRef sig ⟨S n, .i32⟩
  v100 : TRef sig ⟨S n, .i32⟩
  v101 : TRef sig ⟨S n, .i32⟩
  v102 : TRef sig ⟨S n, .i32⟩
  v103 : TRef sig ⟨S n, .i32⟩
  v104 : TRef sig ⟨S n, .i32⟩
  v105 : TRef sig ⟨S n, .i32⟩
  c_26 : TRef sig ⟨S_, .i32⟩
  v106 : TRef sig ⟨S n, .i32⟩
  v107 : TRef sig ⟨S n, .i32⟩
  v108 : TRef sig ⟨S n, .i32⟩
  c_27 : TRef sig ⟨S_, .i32⟩
  v109 : TRef sig ⟨S n, .i32⟩
  v110 : TRef sig ⟨S n, .i32⟩
  c_28 : TRef sig ⟨S_, .i32⟩
  v111 : TRef sig ⟨S n, .i32⟩
  v112 : TRef sig ⟨S n, .i32⟩
  v113 : TRef sig ⟨S n, .i32⟩
  v114 : TRef sig ⟨S n, .i32⟩
  v115 : TRef sig ⟨S n, .i32⟩
  c_29 : TRef sig ⟨S_, .i32⟩
  v116 : TRef sig ⟨S n, .i32⟩
  v117 : TRef sig ⟨S n, .i32⟩
  c_30 : TRef sig ⟨S_, .i32⟩
  v118 : TRef sig ⟨S n, .i32⟩
  v119 : TRef sig ⟨S n, .i32⟩
  v120 : TRef sig ⟨S n, .i32⟩
  v121 : TRef sig ⟨S n, .i32⟩
  v122 : TRef sig ⟨S n, .i32⟩
  c_31 : TRef sig ⟨S_, .i32⟩
  v123 : TRef sig ⟨S n, .i32⟩
  v124 : TRef sig ⟨S n, .i32⟩
  c_32 : TRef sig ⟨S_, .i32⟩
  v125 : TRef sig ⟨S n, .i32⟩
  v126 : TRef sig ⟨S n, .i32⟩
  v127 : TRef sig ⟨S n, .i32⟩
  v128 : TRef sig ⟨S n, .i32⟩
  v129 : TRef sig ⟨S n, .i32⟩
  c_33 : TRef sig ⟨S_, .i32⟩
  v130 : TRef sig ⟨S n, .i32⟩
  v131 : TRef sig ⟨S n, .i32⟩
  c_34 : TRef sig ⟨S_, .i32⟩
  v132 : TRef sig ⟨S n, .i32⟩
  v133 : TRef sig ⟨S n, .i32⟩
  v134 : TRef sig ⟨S n, .i32⟩
  v135 : TRef sig ⟨S n, .i32⟩
  v136 : TRef sig ⟨S n, .i32⟩
  v137 : TRef sig ⟨S n, .i32⟩
  v138 : TRef sig ⟨S n, .i32⟩
  v139 : TRef sig ⟨S n, .i32⟩
  c_35 : TRef sig ⟨S_, .i32⟩
  v140 : TRef sig ⟨S n, .i32⟩
  v141 : TRef sig ⟨S n, .i32⟩
  v142 : TRef sig ⟨S n, .i32⟩
  c_36 : TRef sig ⟨S_, .i32⟩
  v143 : TRef sig ⟨S n, .i32⟩
  v144 : TRef sig ⟨S n, .i32⟩
  c_37 : TRef sig ⟨S_, .i32⟩
  v145 : TRef sig ⟨S n, .i32⟩
  v146 : TRef sig ⟨S n, .i32⟩
  v147 : TRef sig ⟨S n, .i32⟩
  v148 : TRef sig ⟨S n, .i32⟩
  v149 : TRef sig ⟨S n, .i32⟩
  c_38 : TRef sig ⟨S_, .i32⟩
  v150 : TRef sig ⟨S n, .i32⟩
  v151 : TRef sig ⟨S n, .i32⟩
  c_39 : TRef sig ⟨S_, .i32⟩
  v152 : TRef sig ⟨S n, .i32⟩
  v153 : TRef sig ⟨S n, .i32⟩
  v154 : TRef sig ⟨S n, .i32⟩
  v155 : TRef sig ⟨S n, .i32⟩
  v156 : TRef sig ⟨S n, .i32⟩
  c_40 : TRef sig ⟨S_, .i32⟩
  v157 : TRef sig ⟨S n, .i32⟩
  v158 : TRef sig ⟨S n, .i32⟩
  c_41 : TRef sig ⟨S_, .i32⟩
  v159 : TRef sig ⟨S n, .i32⟩
  v160 : TRef sig ⟨S n, .i32⟩
  v161 : TRef sig ⟨S n, .i32⟩
  v162 : TRef sig ⟨S n, .i32⟩
  v163 : TRef sig ⟨S n, .i32⟩
  c_42 : TRef sig ⟨S_, .i32⟩
  v164 : TRef sig ⟨S n, .i32⟩
  v165 : TRef sig ⟨S n, .i32⟩
  c_43 : TRef sig ⟨S_, .i32⟩
  v166 : TRef sig ⟨S n, .i32⟩
  v167 : TRef sig ⟨S n, .i32⟩
  v168 : TRef sig ⟨S n, .i32⟩
  v169 : TRef sig ⟨S n, .i32⟩
  v170 : TRef sig ⟨S n, .i32⟩
  v171 : TRef sig ⟨S n, .i32⟩
  v172 : TRef sig ⟨S n, .i32⟩
  v173 : TRef sig ⟨S n, .i32⟩
  c_44 : TRef sig ⟨S_, .i32⟩
  v174 : TRef sig ⟨S n, .i32⟩
  v175 : TRef sig ⟨S n, .i32⟩

variable {τ τ' : Topo} {sig sig' : RefSig} {n : ℕ}

/-- The cipher's operations, part 1 of 4. -/
abbrev tfOps0 (hb : S_.BroadcastsInDim (S n) ![]) (arg0 arg1 : TRef sig ⟨S_, .i32⟩) (arg2 arg3 : TRef sig ⟨S n, .i32⟩) (φ : TfBufs sig n) :
    List (HloOp τ sig (Elt Ideal)) :=
  [TRef.binary arg0 arg1 φ.v0 xori,
   TRef.nullary φ.c (constantI S_ 32 466688986#32),
   TRef.binary φ.v0 φ.c φ.v1 xori,
   TRef.unary arg0 φ.v2 (broadcastInDim (S n) ![] hb),
   TRef.binary arg2 φ.v2 φ.v3 addi,
   TRef.unary arg1 φ.v4 (broadcastInDim (S n) ![] hb),
   TRef.binary arg3 φ.v4 φ.v5 addi,
   TRef.binary φ.v3 φ.v5 φ.v6 addi,
   TRef.nullary φ.c_0 (constantI S_ 32 13#32),
   TRef.unary φ.c_0 φ.v7 (broadcastInDim (S n) ![] hb),
   TRef.binary φ.v5 φ.v7 φ.v8 Host.shli,
   TRef.nullary φ.c_1 (constantI S_ 32 19#32),
   TRef.unary φ.c_1 φ.v9 (broadcastInDim (S n) ![] hb),
   TRef.binary φ.v5 φ.v9 φ.v10 Host.shrui,
   TRef.binary φ.v8 φ.v10 φ.v11 ori,
   TRef.binary φ.v6 φ.v11 φ.v12 xori,
   TRef.binary φ.v6 φ.v12 φ.v13 addi,
   TRef.nullary φ.c_2 (constantI S_ 32 15#32),
   TRef.unary φ.c_2 φ.v14 (broadcastInDim (S n) ![] hb),
   TRef.binary φ.v12 φ.v14 φ.v15 Host.shli,
   TRef.nullary φ.c_3 (constantI S_ 32 17#32),
   TRef.unary φ.c_3 φ.v16 (broadcastInDim (S n) ![] hb),
   TRef.binary φ.v12 φ.v16 φ.v17 Host.shrui,
   TRef.binary φ.v15 φ.v17 φ.v18 ori,
   TRef.binary φ.v13 φ.v18 φ.v19 xori,
   TRef.binary φ.v13 φ.v19 φ.v20 addi,
   TRef.nullary φ.c_4 (constantI S_ 32 26#32),
   TRef.unary φ.c_4 φ.v21 (broadcastInDim (S n) ![] hb),
   TRef.binary φ.v19 φ.v21 φ.v22 Host.shli,
   TRef.nullary φ.c_5 (constantI S_ 32 6#32),
   TRef.unary φ.c_5 φ.v23 (broadcastInDim (S n) ![] hb),
   TRef.binary φ.v19 φ.v23 φ.v24 Host.shrui,
   TRef.binary φ.v22 φ.v24 φ.v25 ori,
   TRef.binary φ.v20 φ.v25 φ.v26 xori,
   TRef.binary φ.v20 φ.v26 φ.v27 addi,
   TRef.nullary φ.c_6 (constantI S_ 32 6#32),
   TRef.unary φ.c_6 φ.v28 (broadcastInDim (S n) ![] hb),
   TRef.binary φ.v26 φ.v28 φ.v29 Host.shli,
   TRef.nullary φ.c_7 (constantI S_ 32 26#32),
   TRef.unary φ.c_7 φ.v30 (broadcastInDim (S n) ![] hb),
   TRef.binary φ.v26 φ.v30 φ.v31 Host.shrui,
   TRef.binary φ.v29 φ.v31 φ.v32 ori,
   TRef.binary φ.v27 φ.v32 φ.v33 xori,
   TRef.unary arg1 φ.v34 (broadcastInDim (S n) ![] hb),
   TRef.binary φ.v27 φ.v34 φ.v35 addi,
   TRef.unary φ.v1 φ.v36 (broadcastInDim (S n) ![] hb),
   TRef.binary φ.v33 φ.v36 φ.v37 addi,
   TRef.nullary φ.c_8 (constantI S_ 32 1#32),
   TRef.unary φ.c_8 φ.v38 (broadcastInDim (S n) ![] hb),
   TRef.binary φ.v37 φ.v38 φ.v39 addi,
   TRef.binary φ.v35 φ.v39 φ.v40 addi,
   TRef.nullary φ.c_9 (constantI S_ 32 17#32),
   TRef.unary φ.c_9 φ.v41 (broadcastInDim (S n) ![] hb),
   TRef.binary φ.v39 φ.v41 φ.v42 Host.shli,
   TRef.nullary φ.c_10 (constantI S_ 32 15#32),
   TRef.unary φ.c_10 φ.v43 (broadcastInDim (S n) ![] hb)]

/-- The cipher's operations, part 2 of 4. -/
abbrev tfOps1 (hb : S_.BroadcastsInDim (S n) ![]) (arg0 arg1 : TRef sig ⟨S_, .i32⟩) (arg2 arg3 : TRef sig ⟨S n, .i32⟩) (φ : TfBufs sig n) :
    List (HloOp τ sig (Elt Ideal)) :=
  [TRef.binary φ.v39 φ.v43 φ.v44 Host.shrui,
   TRef.binary φ.v42 φ.v44 φ.v45 ori,
   TRef.binary φ.v40 φ.v45 φ.v46 xori,
   TRef.binary φ.v40 φ.v46 φ.v47 addi,
   TRef.nullary φ.c_11 (constantI S_ 32 29#32),
   TRef.unary φ.c_11 φ.v48 (broadcastInDim (S n) ![] hb),
   TRef.binary φ.v46 φ.v48 φ.v49 Host.shli,
   TRef.nullary φ.c_12 (constantI S_ 32 3#32),
   TRef.unary φ.c_12 φ.v50 (broadcastInDim (S n) ![] hb),
   TRef.binary φ.v46 φ.v50 φ.v51 Host.shrui,
   TRef.binary φ.v49 φ.v51 φ.v52 ori,
   TRef.binary φ.v47 φ.v52 φ.v53 xori,
   TRef.binary φ.v47 φ.v53 φ.v54 addi,
   TRef.nullary φ.c_13 (constantI S_ 32 16#32),
   TRef.unary φ.c_13 φ.v55 (broadcastInDim (S n) ![] hb),
   TRef.binary φ.v53 φ.v55 φ.v56 Host.shli,
   TRef.nullary φ.c_14 (constantI S_ 32 16#32),
   TRef.unary φ.c_14 φ.v57 (broadcastInDim (S n) ![] hb),
   TRef.binary φ.v53 φ.v57 φ.v58 Host.shrui,
   TRef.binary φ.v56 φ.v58 φ.v59 ori,
   TRef.binary φ.v54 φ.v59 φ.v60 xori,
   TRef.binary φ.v54 φ.v60 φ.v61 addi,
   TRef.nullary φ.c_15 (constantI S_ 32 24#32),
   TRef.unary φ.c_15 φ.v62 (broadcastInDim (S n) ![] hb),
   TRef.binary φ.v60 φ.v62 φ.v63 Host.shli,
   TRef.nullary φ.c_16 (constantI S_ 32 8#32),
   TRef.unary φ.c_16 φ.v64 (broadcastInDim (S n) ![] hb),
   TRef.binary φ.v60 φ.v64 φ.v65 Host.shrui,
   TRef.binary φ.v63 φ.v65 φ.v66 ori,
   TRef.binary φ.v61 φ.v66 φ.v67 xori,
   TRef.unary φ.v1 φ.v68 (broadcastInDim (S n) ![] hb),
   TRef.binary φ.v61 φ.v68 φ.v69 addi,
   TRef.unary arg0 φ.v70 (broadcastInDim (S n) ![] hb),
   TRef.binary φ.v67 φ.v70 φ.v71 addi,
   TRef.nullary φ.c_17 (constantI S_ 32 2#32),
   TRef.unary φ.c_17 φ.v72 (broadcastInDim (S n) ![] hb),
   TRef.binary φ.v71 φ.v72 φ.v73 addi,
   TRef.binary φ.v69 φ.v73 φ.v74 addi,
   TRef.nullary φ.c_18 (constantI S_ 32 13#32),
   TRef.unary φ.c_18 φ.v75 (broadcastInDim (S n) ![] hb),
   TRef.binary φ.v73 φ.v75 φ.v76 Host.shli,
   TRef.nullary φ.c_19 (constantI S_ 32 19#32),
   TRef.unary φ.c_19 φ.v77 (broadcastInDim (S n) ![] hb),
   TRef.binary φ.v73 φ.v77 φ.v78 Host.shrui,
   TRef.binary φ.v76 φ.v78 φ.v79 ori,
   TRef.binary φ.v74 φ.v79 φ.v80 xori,
   TRef.binary φ.v74 φ.v80 φ.v81 addi,
   TRef.nullary φ.c_20 (constantI S_ 32 15#32),
   TRef.unary φ.c_20 φ.v82 (broadcastInDim (S n) ![] hb),
   TRef.binary φ.v80 φ.v82 φ.v83 Host.shli,
   TRef.nullary φ.c_21 (constantI S_ 32 17#32),
   TRef.unary φ.c_21 φ.v84 (broadcastInDim (S n) ![] hb),
   TRef.binary φ.v80 φ.v84 φ.v85 Host.shrui,
   TRef.binary φ.v83 φ.v85 φ.v86 ori,
   TRef.binary φ.v81 φ.v86 φ.v87 xori,
   TRef.binary φ.v81 φ.v87 φ.v88 addi]

/-- The cipher's operations, part 3 of 4. -/
abbrev tfOps2 (hb : S_.BroadcastsInDim (S n) ![]) (arg0 arg1 : TRef sig ⟨S_, .i32⟩) (arg2 arg3 : TRef sig ⟨S n, .i32⟩) (φ : TfBufs sig n) :
    List (HloOp τ sig (Elt Ideal)) :=
  [TRef.nullary φ.c_22 (constantI S_ 32 26#32),
   TRef.unary φ.c_22 φ.v89 (broadcastInDim (S n) ![] hb),
   TRef.binary φ.v87 φ.v89 φ.v90 Host.shli,
   TRef.nullary φ.c_23 (constantI S_ 32 6#32),
   TRef.unary φ.c_23 φ.v91 (broadcastInDim (S n) ![] hb),
   TRef.binary φ.v87 φ.v91 φ.v92 Host.shrui,
   TRef.binary φ.v90 φ.v92 φ.v93 ori,
   TRef.binary φ.v88 φ.v93 φ.v94 xori,
   TRef.binary φ.v88 φ.v94 φ.v95 addi,
   TRef.nullary φ.c_24 (constantI S_ 32 6#32),
   TRef.unary φ.c_24 φ.v96 (broadcastInDim (S n) ![] hb),
   TRef.binary φ.v94 φ.v96 φ.v97 Host.shli,
   TRef.nullary φ.c_25 (constantI S_ 32 26#32),
   TRef.unary φ.c_25 φ.v98 (broadcastInDim (S n) ![] hb),
   TRef.binary φ.v94 φ.v98 φ.v99 Host.shrui,
   TRef.binary φ.v97 φ.v99 φ.v100 ori,
   TRef.binary φ.v95 φ.v100 φ.v101 xori,
   TRef.unary arg0 φ.v102 (broadcastInDim (S n) ![] hb),
   TRef.binary φ.v95 φ.v102 φ.v103 addi,
   TRef.unary arg1 φ.v104 (broadcastInDim (S n) ![] hb),
   TRef.binary φ.v101 φ.v104 φ.v105 addi,
   TRef.nullary φ.c_26 (constantI S_ 32 3#32),
   TRef.unary φ.c_26 φ.v106 (broadcastInDim (S n) ![] hb),
   TRef.binary φ.v105 φ.v106 φ.v107 addi,
   TRef.binary φ.v103 φ.v107 φ.v108 addi,
   TRef.nullary φ.c_27 (constantI S_ 32 17#32),
   TRef.unary φ.c_27 φ.v109 (broadcastInDim (S n) ![] hb),
   TRef.binary φ.v107 φ.v109 φ.v110 Host.shli,
   TRef.nullary φ.c_28 (constantI S_ 32 15#32),
   TRef.unary φ.c_28 φ.v111 (broadcastInDim (S n) ![] hb),
   TRef.binary φ.v107 φ.v111 φ.v112 Host.shrui,
   TRef.binary φ.v110 φ.v112 φ.v113 ori,
   TRef.binary φ.v108 φ.v113 φ.v114 xori,
   TRef.binary φ.v108 φ.v114 φ.v115 addi,
   TRef.nullary φ.c_29 (constantI S_ 32 29#32),
   TRef.unary φ.c_29 φ.v116 (broadcastInDim (S n) ![] hb),
   TRef.binary φ.v114 φ.v116 φ.v117 Host.shli,
   TRef.nullary φ.c_30 (constantI S_ 32 3#32),
   TRef.unary φ.c_30 φ.v118 (broadcastInDim (S n) ![] hb),
   TRef.binary φ.v114 φ.v118 φ.v119 Host.shrui,
   TRef.binary φ.v117 φ.v119 φ.v120 ori,
   TRef.binary φ.v115 φ.v120 φ.v121 xori,
   TRef.binary φ.v115 φ.v121 φ.v122 addi,
   TRef.nullary φ.c_31 (constantI S_ 32 16#32),
   TRef.unary φ.c_31 φ.v123 (broadcastInDim (S n) ![] hb),
   TRef.binary φ.v121 φ.v123 φ.v124 Host.shli,
   TRef.nullary φ.c_32 (constantI S_ 32 16#32),
   TRef.unary φ.c_32 φ.v125 (broadcastInDim (S n) ![] hb),
   TRef.binary φ.v121 φ.v125 φ.v126 Host.shrui,
   TRef.binary φ.v124 φ.v126 φ.v127 ori,
   TRef.binary φ.v122 φ.v127 φ.v128 xori,
   TRef.binary φ.v122 φ.v128 φ.v129 addi,
   TRef.nullary φ.c_33 (constantI S_ 32 24#32),
   TRef.unary φ.c_33 φ.v130 (broadcastInDim (S n) ![] hb),
   TRef.binary φ.v128 φ.v130 φ.v131 Host.shli,
   TRef.nullary φ.c_34 (constantI S_ 32 8#32)]

/-- The cipher's operations, part 4 of 4. -/
abbrev tfOps3 (hb : S_.BroadcastsInDim (S n) ![]) (arg0 arg1 : TRef sig ⟨S_, .i32⟩) (arg2 arg3 : TRef sig ⟨S n, .i32⟩) (φ : TfBufs sig n) :
    List (HloOp τ sig (Elt Ideal)) :=
  [TRef.unary φ.c_34 φ.v132 (broadcastInDim (S n) ![] hb),
   TRef.binary φ.v128 φ.v132 φ.v133 Host.shrui,
   TRef.binary φ.v131 φ.v133 φ.v134 ori,
   TRef.binary φ.v129 φ.v134 φ.v135 xori,
   TRef.unary arg1 φ.v136 (broadcastInDim (S n) ![] hb),
   TRef.binary φ.v129 φ.v136 φ.v137 addi,
   TRef.unary φ.v1 φ.v138 (broadcastInDim (S n) ![] hb),
   TRef.binary φ.v135 φ.v138 φ.v139 addi,
   TRef.nullary φ.c_35 (constantI S_ 32 4#32),
   TRef.unary φ.c_35 φ.v140 (broadcastInDim (S n) ![] hb),
   TRef.binary φ.v139 φ.v140 φ.v141 addi,
   TRef.binary φ.v137 φ.v141 φ.v142 addi,
   TRef.nullary φ.c_36 (constantI S_ 32 13#32),
   TRef.unary φ.c_36 φ.v143 (broadcastInDim (S n) ![] hb),
   TRef.binary φ.v141 φ.v143 φ.v144 Host.shli,
   TRef.nullary φ.c_37 (constantI S_ 32 19#32),
   TRef.unary φ.c_37 φ.v145 (broadcastInDim (S n) ![] hb),
   TRef.binary φ.v141 φ.v145 φ.v146 Host.shrui,
   TRef.binary φ.v144 φ.v146 φ.v147 ori,
   TRef.binary φ.v142 φ.v147 φ.v148 xori,
   TRef.binary φ.v142 φ.v148 φ.v149 addi,
   TRef.nullary φ.c_38 (constantI S_ 32 15#32),
   TRef.unary φ.c_38 φ.v150 (broadcastInDim (S n) ![] hb),
   TRef.binary φ.v148 φ.v150 φ.v151 Host.shli,
   TRef.nullary φ.c_39 (constantI S_ 32 17#32),
   TRef.unary φ.c_39 φ.v152 (broadcastInDim (S n) ![] hb),
   TRef.binary φ.v148 φ.v152 φ.v153 Host.shrui,
   TRef.binary φ.v151 φ.v153 φ.v154 ori,
   TRef.binary φ.v149 φ.v154 φ.v155 xori,
   TRef.binary φ.v149 φ.v155 φ.v156 addi,
   TRef.nullary φ.c_40 (constantI S_ 32 26#32),
   TRef.unary φ.c_40 φ.v157 (broadcastInDim (S n) ![] hb),
   TRef.binary φ.v155 φ.v157 φ.v158 Host.shli,
   TRef.nullary φ.c_41 (constantI S_ 32 6#32),
   TRef.unary φ.c_41 φ.v159 (broadcastInDim (S n) ![] hb),
   TRef.binary φ.v155 φ.v159 φ.v160 Host.shrui,
   TRef.binary φ.v158 φ.v160 φ.v161 ori,
   TRef.binary φ.v156 φ.v161 φ.v162 xori,
   TRef.binary φ.v156 φ.v162 φ.v163 addi,
   TRef.nullary φ.c_42 (constantI S_ 32 6#32),
   TRef.unary φ.c_42 φ.v164 (broadcastInDim (S n) ![] hb),
   TRef.binary φ.v162 φ.v164 φ.v165 Host.shli,
   TRef.nullary φ.c_43 (constantI S_ 32 26#32),
   TRef.unary φ.c_43 φ.v166 (broadcastInDim (S n) ![] hb),
   TRef.binary φ.v162 φ.v166 φ.v167 Host.shrui,
   TRef.binary φ.v165 φ.v167 φ.v168 ori,
   TRef.binary φ.v163 φ.v168 φ.v169 xori,
   TRef.unary φ.v1 φ.v170 (broadcastInDim (S n) ![] hb),
   TRef.binary φ.v163 φ.v170 φ.v171 addi,
   TRef.unary arg0 φ.v172 (broadcastInDim (S n) ![] hb),
   TRef.binary φ.v169 φ.v172 φ.v173 addi,
   TRef.nullary φ.c_44 (constantI S_ 32 5#32),
   TRef.unary φ.c_44 φ.v174 (broadcastInDim (S n) ![] hb),
   TRef.binary φ.v173 φ.v174 φ.v175 addi]

/-- The cipher's operations, in order. -/
abbrev tfOps (hb : S_.BroadcastsInDim (S n) ![]) (arg0 arg1 : TRef sig ⟨S_, .i32⟩) (arg2 arg3 : TRef sig ⟨S n, .i32⟩) (φ : TfBufs sig n) :
    List (HloOp τ sig (Elt Ideal)) :=
  tfOps0 hb arg0 arg1 arg2 arg3 φ ++ (tfOps1 hb arg0 arg1 arg2 arg3 φ ++ (tfOps2 hb arg0 arg1 arg2 arg3 φ ++ (tfOps3 hb arg0 arg1 arg2 arg3 φ)))

set_option maxHeartbeats 4000000 in
/-- Two programs running the cipher on equal words get equal words. -/
theorem tf_sim (hb : S_.BroadcastsInDim (S n) ![]) {arg0 arg1 : TRef sig ⟨S_, .i32⟩} {arg2 arg3 : TRef sig ⟨S n, .i32⟩} {φ : TfBufs sig n}
    {brg0 brg1 : TRef sig' ⟨S_, .i32⟩} {brg2 brg3 : TRef sig' ⟨S n, .i32⟩} {ψ : TfBufs sig' n}
    {F : Valuation τ sig (Elt Ideal)} {G : Valuation τ' sig' (Elt Ideal)}
    (hF : ∀ op ∈ tfOps hb arg0 arg1 arg2 arg3 φ, op.result F = F) (hG : ∀ op ∈ tfOps hb brg0 brg1 brg2 brg3 ψ, op.result G = G)
    (e_arg0 : val arg0 F = val brg0 G) (e_arg1 : val arg1 F = val brg1 G) (e_arg2 : val arg2 F = val brg2 G) (e_arg3 : val arg3 F = val brg3 G) :
    val φ.v171 F = val ψ.v171 G ∧ val φ.v175 F = val ψ.v175 G := by
  obtain ⟨hFq, hF1⟩ := List.forall_mem_append.1 hF
  simp only [List.forall_mem_cons, List.not_mem_nil, false_imp_iff, implies_true, and_true] at hFq
  obtain ⟨k0, k1, k2, k3, k4, k5, k6, k7, k8, k9, k10, k11, k12, k13, k14, k15, k16, k17, k18, k19,
    k20, k21, k22, k23, k24, k25, k26, k27, k28, k29, k30, k31, k32, k33, k34, k35, k36, k37, k38, k39,
    k40, k41, k42, k43, k44, k45, k46, k47, k48, k49, k50, k51, k52, k53, k54, k55⟩ := hFq
  obtain ⟨hGq, hG1⟩ := List.forall_mem_append.1 hG
  simp only [List.forall_mem_cons, List.not_mem_nil, false_imp_iff, implies_true, and_true] at hGq
  obtain ⟨k'0, k'1, k'2, k'3, k'4, k'5, k'6, k'7, k'8, k'9, k'10, k'11, k'12, k'13, k'14, k'15, k'16, k'17, k'18, k'19,
    k'20, k'21, k'22, k'23, k'24, k'25, k'26, k'27, k'28, k'29, k'30, k'31, k'32, k'33, k'34, k'35, k'36, k'37, k'38, k'39,
    k'40, k'41, k'42, k'43, k'44, k'45, k'46, k'47, k'48, k'49, k'50, k'51, k'52, k'53, k'54, k'55⟩ := hGq
  have e_v0 : val φ.v0 F = val ψ.v0 G := simB k0 k'0 e_arg0 e_arg1
  have e_c : val φ.c F = val ψ.c G := simN k1 k'1
  have e_v1 : val φ.v1 F = val ψ.v1 G := simB k2 k'2 e_v0 e_c
  have e_v2 : val φ.v2 F = val ψ.v2 G := simU k3 k'3 e_arg0
  have e_v3 : val φ.v3 F = val ψ.v3 G := simB k4 k'4 e_arg2 e_v2
  have e_v4 : val φ.v4 F = val ψ.v4 G := simU k5 k'5 e_arg1
  have e_v5 : val φ.v5 F = val ψ.v5 G := simB k6 k'6 e_arg3 e_v4
  have e_v6 : val φ.v6 F = val ψ.v6 G := simB k7 k'7 e_v3 e_v5
  have e_c_0 : val φ.c_0 F = val ψ.c_0 G := simN k8 k'8
  have e_v7 : val φ.v7 F = val ψ.v7 G := simU k9 k'9 e_c_0
  have e_v8 : val φ.v8 F = val ψ.v8 G := simB k10 k'10 e_v5 e_v7
  have e_c_1 : val φ.c_1 F = val ψ.c_1 G := simN k11 k'11
  have e_v9 : val φ.v9 F = val ψ.v9 G := simU k12 k'12 e_c_1
  have e_v10 : val φ.v10 F = val ψ.v10 G := simB k13 k'13 e_v5 e_v9
  have e_v11 : val φ.v11 F = val ψ.v11 G := simB k14 k'14 e_v8 e_v10
  have e_v12 : val φ.v12 F = val ψ.v12 G := simB k15 k'15 e_v6 e_v11
  have e_v13 : val φ.v13 F = val ψ.v13 G := simB k16 k'16 e_v6 e_v12
  have e_c_2 : val φ.c_2 F = val ψ.c_2 G := simN k17 k'17
  have e_v14 : val φ.v14 F = val ψ.v14 G := simU k18 k'18 e_c_2
  have e_v15 : val φ.v15 F = val ψ.v15 G := simB k19 k'19 e_v12 e_v14
  have e_c_3 : val φ.c_3 F = val ψ.c_3 G := simN k20 k'20
  have e_v16 : val φ.v16 F = val ψ.v16 G := simU k21 k'21 e_c_3
  have e_v17 : val φ.v17 F = val ψ.v17 G := simB k22 k'22 e_v12 e_v16
  have e_v18 : val φ.v18 F = val ψ.v18 G := simB k23 k'23 e_v15 e_v17
  have e_v19 : val φ.v19 F = val ψ.v19 G := simB k24 k'24 e_v13 e_v18
  have e_v20 : val φ.v20 F = val ψ.v20 G := simB k25 k'25 e_v13 e_v19
  have e_c_4 : val φ.c_4 F = val ψ.c_4 G := simN k26 k'26
  have e_v21 : val φ.v21 F = val ψ.v21 G := simU k27 k'27 e_c_4
  have e_v22 : val φ.v22 F = val ψ.v22 G := simB k28 k'28 e_v19 e_v21
  have e_c_5 : val φ.c_5 F = val ψ.c_5 G := simN k29 k'29
  have e_v23 : val φ.v23 F = val ψ.v23 G := simU k30 k'30 e_c_5
  have e_v24 : val φ.v24 F = val ψ.v24 G := simB k31 k'31 e_v19 e_v23
  have e_v25 : val φ.v25 F = val ψ.v25 G := simB k32 k'32 e_v22 e_v24
  have e_v26 : val φ.v26 F = val ψ.v26 G := simB k33 k'33 e_v20 e_v25
  have e_v27 : val φ.v27 F = val ψ.v27 G := simB k34 k'34 e_v20 e_v26
  have e_c_6 : val φ.c_6 F = val ψ.c_6 G := simN k35 k'35
  have e_v28 : val φ.v28 F = val ψ.v28 G := simU k36 k'36 e_c_6
  have e_v29 : val φ.v29 F = val ψ.v29 G := simB k37 k'37 e_v26 e_v28
  have e_c_7 : val φ.c_7 F = val ψ.c_7 G := simN k38 k'38
  have e_v30 : val φ.v30 F = val ψ.v30 G := simU k39 k'39 e_c_7
  have e_v31 : val φ.v31 F = val ψ.v31 G := simB k40 k'40 e_v26 e_v30
  have e_v32 : val φ.v32 F = val ψ.v32 G := simB k41 k'41 e_v29 e_v31
  have e_v33 : val φ.v33 F = val ψ.v33 G := simB k42 k'42 e_v27 e_v32
  have e_v34 : val φ.v34 F = val ψ.v34 G := simU k43 k'43 e_arg1
  have e_v35 : val φ.v35 F = val ψ.v35 G := simB k44 k'44 e_v27 e_v34
  have e_v36 : val φ.v36 F = val ψ.v36 G := simU k45 k'45 e_v1
  have e_v37 : val φ.v37 F = val ψ.v37 G := simB k46 k'46 e_v33 e_v36
  have e_c_8 : val φ.c_8 F = val ψ.c_8 G := simN k47 k'47
  have e_v38 : val φ.v38 F = val ψ.v38 G := simU k48 k'48 e_c_8
  have e_v39 : val φ.v39 F = val ψ.v39 G := simB k49 k'49 e_v37 e_v38
  have e_v40 : val φ.v40 F = val ψ.v40 G := simB k50 k'50 e_v35 e_v39
  have e_c_9 : val φ.c_9 F = val ψ.c_9 G := simN k51 k'51
  have e_v41 : val φ.v41 F = val ψ.v41 G := simU k52 k'52 e_c_9
  have e_v42 : val φ.v42 F = val ψ.v42 G := simB k53 k'53 e_v39 e_v41
  have e_c_10 : val φ.c_10 F = val ψ.c_10 G := simN k54 k'54
  have e_v43 : val φ.v43 F = val ψ.v43 G := simU k55 k'55 e_c_10
  obtain ⟨hFq, hF2⟩ := List.forall_mem_append.1 hF1
  simp only [List.forall_mem_cons, List.not_mem_nil, false_imp_iff, implies_true, and_true] at hFq
  obtain ⟨k56, k57, k58, k59, k60, k61, k62, k63, k64, k65, k66, k67, k68, k69, k70, k71, k72, k73, k74, k75,
    k76, k77, k78, k79, k80, k81, k82, k83, k84, k85, k86, k87, k88, k89, k90, k91, k92, k93, k94, k95,
    k96, k97, k98, k99, k100, k101, k102, k103, k104, k105, k106, k107, k108, k109, k110, k111⟩ := hFq
  obtain ⟨hGq, hG2⟩ := List.forall_mem_append.1 hG1
  simp only [List.forall_mem_cons, List.not_mem_nil, false_imp_iff, implies_true, and_true] at hGq
  obtain ⟨k'56, k'57, k'58, k'59, k'60, k'61, k'62, k'63, k'64, k'65, k'66, k'67, k'68, k'69, k'70, k'71, k'72, k'73, k'74, k'75,
    k'76, k'77, k'78, k'79, k'80, k'81, k'82, k'83, k'84, k'85, k'86, k'87, k'88, k'89, k'90, k'91, k'92, k'93, k'94, k'95,
    k'96, k'97, k'98, k'99, k'100, k'101, k'102, k'103, k'104, k'105, k'106, k'107, k'108, k'109, k'110, k'111⟩ := hGq
  have e_v44 : val φ.v44 F = val ψ.v44 G := simB k56 k'56 e_v39 e_v43
  have e_v45 : val φ.v45 F = val ψ.v45 G := simB k57 k'57 e_v42 e_v44
  have e_v46 : val φ.v46 F = val ψ.v46 G := simB k58 k'58 e_v40 e_v45
  have e_v47 : val φ.v47 F = val ψ.v47 G := simB k59 k'59 e_v40 e_v46
  have e_c_11 : val φ.c_11 F = val ψ.c_11 G := simN k60 k'60
  have e_v48 : val φ.v48 F = val ψ.v48 G := simU k61 k'61 e_c_11
  have e_v49 : val φ.v49 F = val ψ.v49 G := simB k62 k'62 e_v46 e_v48
  have e_c_12 : val φ.c_12 F = val ψ.c_12 G := simN k63 k'63
  have e_v50 : val φ.v50 F = val ψ.v50 G := simU k64 k'64 e_c_12
  have e_v51 : val φ.v51 F = val ψ.v51 G := simB k65 k'65 e_v46 e_v50
  have e_v52 : val φ.v52 F = val ψ.v52 G := simB k66 k'66 e_v49 e_v51
  have e_v53 : val φ.v53 F = val ψ.v53 G := simB k67 k'67 e_v47 e_v52
  have e_v54 : val φ.v54 F = val ψ.v54 G := simB k68 k'68 e_v47 e_v53
  have e_c_13 : val φ.c_13 F = val ψ.c_13 G := simN k69 k'69
  have e_v55 : val φ.v55 F = val ψ.v55 G := simU k70 k'70 e_c_13
  have e_v56 : val φ.v56 F = val ψ.v56 G := simB k71 k'71 e_v53 e_v55
  have e_c_14 : val φ.c_14 F = val ψ.c_14 G := simN k72 k'72
  have e_v57 : val φ.v57 F = val ψ.v57 G := simU k73 k'73 e_c_14
  have e_v58 : val φ.v58 F = val ψ.v58 G := simB k74 k'74 e_v53 e_v57
  have e_v59 : val φ.v59 F = val ψ.v59 G := simB k75 k'75 e_v56 e_v58
  have e_v60 : val φ.v60 F = val ψ.v60 G := simB k76 k'76 e_v54 e_v59
  have e_v61 : val φ.v61 F = val ψ.v61 G := simB k77 k'77 e_v54 e_v60
  have e_c_15 : val φ.c_15 F = val ψ.c_15 G := simN k78 k'78
  have e_v62 : val φ.v62 F = val ψ.v62 G := simU k79 k'79 e_c_15
  have e_v63 : val φ.v63 F = val ψ.v63 G := simB k80 k'80 e_v60 e_v62
  have e_c_16 : val φ.c_16 F = val ψ.c_16 G := simN k81 k'81
  have e_v64 : val φ.v64 F = val ψ.v64 G := simU k82 k'82 e_c_16
  have e_v65 : val φ.v65 F = val ψ.v65 G := simB k83 k'83 e_v60 e_v64
  have e_v66 : val φ.v66 F = val ψ.v66 G := simB k84 k'84 e_v63 e_v65
  have e_v67 : val φ.v67 F = val ψ.v67 G := simB k85 k'85 e_v61 e_v66
  have e_v68 : val φ.v68 F = val ψ.v68 G := simU k86 k'86 e_v1
  have e_v69 : val φ.v69 F = val ψ.v69 G := simB k87 k'87 e_v61 e_v68
  have e_v70 : val φ.v70 F = val ψ.v70 G := simU k88 k'88 e_arg0
  have e_v71 : val φ.v71 F = val ψ.v71 G := simB k89 k'89 e_v67 e_v70
  have e_c_17 : val φ.c_17 F = val ψ.c_17 G := simN k90 k'90
  have e_v72 : val φ.v72 F = val ψ.v72 G := simU k91 k'91 e_c_17
  have e_v73 : val φ.v73 F = val ψ.v73 G := simB k92 k'92 e_v71 e_v72
  have e_v74 : val φ.v74 F = val ψ.v74 G := simB k93 k'93 e_v69 e_v73
  have e_c_18 : val φ.c_18 F = val ψ.c_18 G := simN k94 k'94
  have e_v75 : val φ.v75 F = val ψ.v75 G := simU k95 k'95 e_c_18
  have e_v76 : val φ.v76 F = val ψ.v76 G := simB k96 k'96 e_v73 e_v75
  have e_c_19 : val φ.c_19 F = val ψ.c_19 G := simN k97 k'97
  have e_v77 : val φ.v77 F = val ψ.v77 G := simU k98 k'98 e_c_19
  have e_v78 : val φ.v78 F = val ψ.v78 G := simB k99 k'99 e_v73 e_v77
  have e_v79 : val φ.v79 F = val ψ.v79 G := simB k100 k'100 e_v76 e_v78
  have e_v80 : val φ.v80 F = val ψ.v80 G := simB k101 k'101 e_v74 e_v79
  have e_v81 : val φ.v81 F = val ψ.v81 G := simB k102 k'102 e_v74 e_v80
  have e_c_20 : val φ.c_20 F = val ψ.c_20 G := simN k103 k'103
  have e_v82 : val φ.v82 F = val ψ.v82 G := simU k104 k'104 e_c_20
  have e_v83 : val φ.v83 F = val ψ.v83 G := simB k105 k'105 e_v80 e_v82
  have e_c_21 : val φ.c_21 F = val ψ.c_21 G := simN k106 k'106
  have e_v84 : val φ.v84 F = val ψ.v84 G := simU k107 k'107 e_c_21
  have e_v85 : val φ.v85 F = val ψ.v85 G := simB k108 k'108 e_v80 e_v84
  have e_v86 : val φ.v86 F = val ψ.v86 G := simB k109 k'109 e_v83 e_v85
  have e_v87 : val φ.v87 F = val ψ.v87 G := simB k110 k'110 e_v81 e_v86
  have e_v88 : val φ.v88 F = val ψ.v88 G := simB k111 k'111 e_v81 e_v87
  obtain ⟨hFq, hF3⟩ := List.forall_mem_append.1 hF2
  simp only [List.forall_mem_cons, List.not_mem_nil, false_imp_iff, implies_true, and_true] at hFq
  obtain ⟨k112, k113, k114, k115, k116, k117, k118, k119, k120, k121, k122, k123, k124, k125, k126, k127, k128, k129, k130, k131,
    k132, k133, k134, k135, k136, k137, k138, k139, k140, k141, k142, k143, k144, k145, k146, k147, k148, k149, k150, k151,
    k152, k153, k154, k155, k156, k157, k158, k159, k160, k161, k162, k163, k164, k165, k166, k167⟩ := hFq
  obtain ⟨hGq, hG3⟩ := List.forall_mem_append.1 hG2
  simp only [List.forall_mem_cons, List.not_mem_nil, false_imp_iff, implies_true, and_true] at hGq
  obtain ⟨k'112, k'113, k'114, k'115, k'116, k'117, k'118, k'119, k'120, k'121, k'122, k'123, k'124, k'125, k'126, k'127, k'128, k'129, k'130, k'131,
    k'132, k'133, k'134, k'135, k'136, k'137, k'138, k'139, k'140, k'141, k'142, k'143, k'144, k'145, k'146, k'147, k'148, k'149, k'150, k'151,
    k'152, k'153, k'154, k'155, k'156, k'157, k'158, k'159, k'160, k'161, k'162, k'163, k'164, k'165, k'166, k'167⟩ := hGq
  have e_c_22 : val φ.c_22 F = val ψ.c_22 G := simN k112 k'112
  have e_v89 : val φ.v89 F = val ψ.v89 G := simU k113 k'113 e_c_22
  have e_v90 : val φ.v90 F = val ψ.v90 G := simB k114 k'114 e_v87 e_v89
  have e_c_23 : val φ.c_23 F = val ψ.c_23 G := simN k115 k'115
  have e_v91 : val φ.v91 F = val ψ.v91 G := simU k116 k'116 e_c_23
  have e_v92 : val φ.v92 F = val ψ.v92 G := simB k117 k'117 e_v87 e_v91
  have e_v93 : val φ.v93 F = val ψ.v93 G := simB k118 k'118 e_v90 e_v92
  have e_v94 : val φ.v94 F = val ψ.v94 G := simB k119 k'119 e_v88 e_v93
  have e_v95 : val φ.v95 F = val ψ.v95 G := simB k120 k'120 e_v88 e_v94
  have e_c_24 : val φ.c_24 F = val ψ.c_24 G := simN k121 k'121
  have e_v96 : val φ.v96 F = val ψ.v96 G := simU k122 k'122 e_c_24
  have e_v97 : val φ.v97 F = val ψ.v97 G := simB k123 k'123 e_v94 e_v96
  have e_c_25 : val φ.c_25 F = val ψ.c_25 G := simN k124 k'124
  have e_v98 : val φ.v98 F = val ψ.v98 G := simU k125 k'125 e_c_25
  have e_v99 : val φ.v99 F = val ψ.v99 G := simB k126 k'126 e_v94 e_v98
  have e_v100 : val φ.v100 F = val ψ.v100 G := simB k127 k'127 e_v97 e_v99
  have e_v101 : val φ.v101 F = val ψ.v101 G := simB k128 k'128 e_v95 e_v100
  have e_v102 : val φ.v102 F = val ψ.v102 G := simU k129 k'129 e_arg0
  have e_v103 : val φ.v103 F = val ψ.v103 G := simB k130 k'130 e_v95 e_v102
  have e_v104 : val φ.v104 F = val ψ.v104 G := simU k131 k'131 e_arg1
  have e_v105 : val φ.v105 F = val ψ.v105 G := simB k132 k'132 e_v101 e_v104
  have e_c_26 : val φ.c_26 F = val ψ.c_26 G := simN k133 k'133
  have e_v106 : val φ.v106 F = val ψ.v106 G := simU k134 k'134 e_c_26
  have e_v107 : val φ.v107 F = val ψ.v107 G := simB k135 k'135 e_v105 e_v106
  have e_v108 : val φ.v108 F = val ψ.v108 G := simB k136 k'136 e_v103 e_v107
  have e_c_27 : val φ.c_27 F = val ψ.c_27 G := simN k137 k'137
  have e_v109 : val φ.v109 F = val ψ.v109 G := simU k138 k'138 e_c_27
  have e_v110 : val φ.v110 F = val ψ.v110 G := simB k139 k'139 e_v107 e_v109
  have e_c_28 : val φ.c_28 F = val ψ.c_28 G := simN k140 k'140
  have e_v111 : val φ.v111 F = val ψ.v111 G := simU k141 k'141 e_c_28
  have e_v112 : val φ.v112 F = val ψ.v112 G := simB k142 k'142 e_v107 e_v111
  have e_v113 : val φ.v113 F = val ψ.v113 G := simB k143 k'143 e_v110 e_v112
  have e_v114 : val φ.v114 F = val ψ.v114 G := simB k144 k'144 e_v108 e_v113
  have e_v115 : val φ.v115 F = val ψ.v115 G := simB k145 k'145 e_v108 e_v114
  have e_c_29 : val φ.c_29 F = val ψ.c_29 G := simN k146 k'146
  have e_v116 : val φ.v116 F = val ψ.v116 G := simU k147 k'147 e_c_29
  have e_v117 : val φ.v117 F = val ψ.v117 G := simB k148 k'148 e_v114 e_v116
  have e_c_30 : val φ.c_30 F = val ψ.c_30 G := simN k149 k'149
  have e_v118 : val φ.v118 F = val ψ.v118 G := simU k150 k'150 e_c_30
  have e_v119 : val φ.v119 F = val ψ.v119 G := simB k151 k'151 e_v114 e_v118
  have e_v120 : val φ.v120 F = val ψ.v120 G := simB k152 k'152 e_v117 e_v119
  have e_v121 : val φ.v121 F = val ψ.v121 G := simB k153 k'153 e_v115 e_v120
  have e_v122 : val φ.v122 F = val ψ.v122 G := simB k154 k'154 e_v115 e_v121
  have e_c_31 : val φ.c_31 F = val ψ.c_31 G := simN k155 k'155
  have e_v123 : val φ.v123 F = val ψ.v123 G := simU k156 k'156 e_c_31
  have e_v124 : val φ.v124 F = val ψ.v124 G := simB k157 k'157 e_v121 e_v123
  have e_c_32 : val φ.c_32 F = val ψ.c_32 G := simN k158 k'158
  have e_v125 : val φ.v125 F = val ψ.v125 G := simU k159 k'159 e_c_32
  have e_v126 : val φ.v126 F = val ψ.v126 G := simB k160 k'160 e_v121 e_v125
  have e_v127 : val φ.v127 F = val ψ.v127 G := simB k161 k'161 e_v124 e_v126
  have e_v128 : val φ.v128 F = val ψ.v128 G := simB k162 k'162 e_v122 e_v127
  have e_v129 : val φ.v129 F = val ψ.v129 G := simB k163 k'163 e_v122 e_v128
  have e_c_33 : val φ.c_33 F = val ψ.c_33 G := simN k164 k'164
  have e_v130 : val φ.v130 F = val ψ.v130 G := simU k165 k'165 e_c_33
  have e_v131 : val φ.v131 F = val ψ.v131 G := simB k166 k'166 e_v128 e_v130
  have e_c_34 : val φ.c_34 F = val ψ.c_34 G := simN k167 k'167
  have hFq := hF3
  simp only [List.forall_mem_cons, List.not_mem_nil, false_imp_iff, implies_true, and_true] at hFq
  obtain ⟨k168, k169, k170, k171, k172, k173, k174, k175, k176, k177, k178, k179, k180, k181, k182, k183, k184, k185, k186, k187,
    k188, k189, k190, k191, k192, k193, k194, k195, k196, k197, k198, k199, k200, k201, k202, k203, k204, k205, k206, k207,
    k208, k209, k210, k211, k212, k213, k214, k215, k216, k217, k218, k219, k220, k221⟩ := hFq
  have hGq := hG3
  simp only [List.forall_mem_cons, List.not_mem_nil, false_imp_iff, implies_true, and_true] at hGq
  obtain ⟨k'168, k'169, k'170, k'171, k'172, k'173, k'174, k'175, k'176, k'177, k'178, k'179, k'180, k'181, k'182, k'183, k'184, k'185, k'186, k'187,
    k'188, k'189, k'190, k'191, k'192, k'193, k'194, k'195, k'196, k'197, k'198, k'199, k'200, k'201, k'202, k'203, k'204, k'205, k'206, k'207,
    k'208, k'209, k'210, k'211, k'212, k'213, k'214, k'215, k'216, k'217, k'218, k'219, k'220, k'221⟩ := hGq
  have e_v132 : val φ.v132 F = val ψ.v132 G := simU k168 k'168 e_c_34
  have e_v133 : val φ.v133 F = val ψ.v133 G := simB k169 k'169 e_v128 e_v132
  have e_v134 : val φ.v134 F = val ψ.v134 G := simB k170 k'170 e_v131 e_v133
  have e_v135 : val φ.v135 F = val ψ.v135 G := simB k171 k'171 e_v129 e_v134
  have e_v136 : val φ.v136 F = val ψ.v136 G := simU k172 k'172 e_arg1
  have e_v137 : val φ.v137 F = val ψ.v137 G := simB k173 k'173 e_v129 e_v136
  have e_v138 : val φ.v138 F = val ψ.v138 G := simU k174 k'174 e_v1
  have e_v139 : val φ.v139 F = val ψ.v139 G := simB k175 k'175 e_v135 e_v138
  have e_c_35 : val φ.c_35 F = val ψ.c_35 G := simN k176 k'176
  have e_v140 : val φ.v140 F = val ψ.v140 G := simU k177 k'177 e_c_35
  have e_v141 : val φ.v141 F = val ψ.v141 G := simB k178 k'178 e_v139 e_v140
  have e_v142 : val φ.v142 F = val ψ.v142 G := simB k179 k'179 e_v137 e_v141
  have e_c_36 : val φ.c_36 F = val ψ.c_36 G := simN k180 k'180
  have e_v143 : val φ.v143 F = val ψ.v143 G := simU k181 k'181 e_c_36
  have e_v144 : val φ.v144 F = val ψ.v144 G := simB k182 k'182 e_v141 e_v143
  have e_c_37 : val φ.c_37 F = val ψ.c_37 G := simN k183 k'183
  have e_v145 : val φ.v145 F = val ψ.v145 G := simU k184 k'184 e_c_37
  have e_v146 : val φ.v146 F = val ψ.v146 G := simB k185 k'185 e_v141 e_v145
  have e_v147 : val φ.v147 F = val ψ.v147 G := simB k186 k'186 e_v144 e_v146
  have e_v148 : val φ.v148 F = val ψ.v148 G := simB k187 k'187 e_v142 e_v147
  have e_v149 : val φ.v149 F = val ψ.v149 G := simB k188 k'188 e_v142 e_v148
  have e_c_38 : val φ.c_38 F = val ψ.c_38 G := simN k189 k'189
  have e_v150 : val φ.v150 F = val ψ.v150 G := simU k190 k'190 e_c_38
  have e_v151 : val φ.v151 F = val ψ.v151 G := simB k191 k'191 e_v148 e_v150
  have e_c_39 : val φ.c_39 F = val ψ.c_39 G := simN k192 k'192
  have e_v152 : val φ.v152 F = val ψ.v152 G := simU k193 k'193 e_c_39
  have e_v153 : val φ.v153 F = val ψ.v153 G := simB k194 k'194 e_v148 e_v152
  have e_v154 : val φ.v154 F = val ψ.v154 G := simB k195 k'195 e_v151 e_v153
  have e_v155 : val φ.v155 F = val ψ.v155 G := simB k196 k'196 e_v149 e_v154
  have e_v156 : val φ.v156 F = val ψ.v156 G := simB k197 k'197 e_v149 e_v155
  have e_c_40 : val φ.c_40 F = val ψ.c_40 G := simN k198 k'198
  have e_v157 : val φ.v157 F = val ψ.v157 G := simU k199 k'199 e_c_40
  have e_v158 : val φ.v158 F = val ψ.v158 G := simB k200 k'200 e_v155 e_v157
  have e_c_41 : val φ.c_41 F = val ψ.c_41 G := simN k201 k'201
  have e_v159 : val φ.v159 F = val ψ.v159 G := simU k202 k'202 e_c_41
  have e_v160 : val φ.v160 F = val ψ.v160 G := simB k203 k'203 e_v155 e_v159
  have e_v161 : val φ.v161 F = val ψ.v161 G := simB k204 k'204 e_v158 e_v160
  have e_v162 : val φ.v162 F = val ψ.v162 G := simB k205 k'205 e_v156 e_v161
  have e_v163 : val φ.v163 F = val ψ.v163 G := simB k206 k'206 e_v156 e_v162
  have e_c_42 : val φ.c_42 F = val ψ.c_42 G := simN k207 k'207
  have e_v164 : val φ.v164 F = val ψ.v164 G := simU k208 k'208 e_c_42
  have e_v165 : val φ.v165 F = val ψ.v165 G := simB k209 k'209 e_v162 e_v164
  have e_c_43 : val φ.c_43 F = val ψ.c_43 G := simN k210 k'210
  have e_v166 : val φ.v166 F = val ψ.v166 G := simU k211 k'211 e_c_43
  have e_v167 : val φ.v167 F = val ψ.v167 G := simB k212 k'212 e_v162 e_v166
  have e_v168 : val φ.v168 F = val ψ.v168 G := simB k213 k'213 e_v165 e_v167
  have e_v169 : val φ.v169 F = val ψ.v169 G := simB k214 k'214 e_v163 e_v168
  have e_v170 : val φ.v170 F = val ψ.v170 G := simU k215 k'215 e_v1
  have e_v171 : val φ.v171 F = val ψ.v171 G := simB k216 k'216 e_v163 e_v170
  have e_v172 : val φ.v172 F = val ψ.v172 G := simU k217 k'217 e_arg0
  have e_v173 : val φ.v173 F = val ψ.v173 G := simB k218 k'218 e_v169 e_v172
  have e_c_44 : val φ.c_44 F = val ψ.c_44 G := simN k219 k'219
  have e_v174 : val φ.v174 F = val ψ.v174 G := simU k220 k'220 e_c_44
  have e_v175 : val φ.v175 F = val ψ.v175 G := simB k221 k'221 e_v173 e_v174
  exact ⟨e_v171, e_v175⟩

end Cert.Proof.Shuffle
-- ==== Proof.Shuffle.Permute.lean ====
/- The key split and the random permutation built on the cipher, as lines of host operations over any program's buffers,
   and their agreement in two programs. -/
module

public import Idealize.ShloMosaic.PureOps.Ideal

public import proofs.«01_k».proof.Proof.Gen.ReferenceIdeal
public import proofs.«01_k».proof.Proof.Shuffle.Ssa
public import proofs.«01_k».proof.Proof.Shuffle.Threefry

@[expose] public section

set_option maxRecDepth 16384
set_option Elab.async false

noncomputable section

namespace Cert.Proof.Shuffle

open Idealize.ShloMosaic Idealize.ShloMosaic.StableHlo Idealize.SL.Sem
open Cert.ReferenceIdeal (S_ S1 S2 S4096 S2x1 S2x2 S1x2)
open Cert.ReferenceIdeal.Gen
open Cert.Proof.Ssa

/-- One call's buffers. -/
structure SplitBufs (sig : RefSig) where
  v0 : TRef sig ⟨S1, .i32⟩
  v1 : TRef sig ⟨S_, .i32⟩
  v2 : TRef sig ⟨S1, .i32⟩
  v3 : TRef sig ⟨S_, .i32⟩
  v4 : TRef sig ⟨S2, .i64⟩
  c : TRef sig ⟨S_, .i64⟩
  v5 : TRef sig ⟨S2, .i64⟩
  v6 : TRef sig ⟨S2, .i64⟩
  c_0 : TRef sig ⟨S_, .i64⟩
  v7 : TRef sig ⟨S2, .i64⟩
  v8 : TRef sig ⟨S2, .i64⟩
  v9 : TRef sig ⟨S2, .i32⟩
  v10 : TRef sig ⟨S2, .i32⟩
  call0 : TfBufs sig 2
  v12 : TRef sig ⟨S2x1, .i32⟩
  v13 : TRef sig ⟨S2x1, .i32⟩
  v14 : TRef sig ⟨S2x2, .i32⟩

variable {τ τ' : Topo} {sig sig' : RefSig}

/-- Part 1 of the operations. -/
abbrev splitOps0 (arg0 : TRef sig ⟨S2, .i32⟩) (φ : SplitBufs sig) : List (HloOp τ sig (Elt Ideal)) :=
  [TRef.unary arg0 φ.v0 (extractStridedSlice S1 ![0] · slices_S2_S1_0),
   TRef.reshape φ.v0 φ.v1 (rfl : (.i32 : EltTy) = .i32) shapeCasts_S1_S_,
   TRef.unary arg0 φ.v2 (extractStridedSlice S1 ![1] · slices_S2_S1_1),
   TRef.reshape φ.v2 φ.v3 (rfl : (.i32 : EltTy) = .i32) shapeCasts_S1_S_,
   TRef.nullary φ.v4 (iotaInDim S2 64 0),
   TRef.nullary φ.c (constantI S_ 64 1#64),
   TRef.unary φ.c φ.v5 (broadcastInDim S2 ![] bcast_S_S2),
   TRef.binary φ.v5 φ.v4 φ.v6 muli,
   TRef.nullary φ.c_0 (constantI S_ 64 32#64),
   TRef.unary φ.c_0 φ.v7 (broadcastInDim S2 ![] bcast_S_S2),
   TRef.binary φ.v6 φ.v7 φ.v8 Host.shrui,
   TRef.unary φ.v6 φ.v9 (trunci 32 · natLt_32_64),
   TRef.unary φ.v8 φ.v10 (trunci 32 · natLt_32_64)]

/-- Part 3 of the operations. -/
abbrev splitOps2 (arg0 : TRef sig ⟨S2, .i32⟩) (φ : SplitBufs sig) : List (HloOp τ sig (Elt Ideal)) :=
  [TRef.unary φ.call0.v171 φ.v12 (broadcastInDim S2x1 ![0] bcast_S2_S2x1_0),
   TRef.unary φ.call0.v175 φ.v13 (broadcastInDim S2x1 ![0] bcast_S2_S2x1_0),
   TRef.binary φ.v12 φ.v13 φ.v14 (fun a b => concatenate S2x2 1 [⟨S2x1, a⟩, ⟨S2x1, b⟩] concatenates_S2x1_S2x1_S2x2_d1)]

/-- The split of a key, in order. -/
abbrev splitOps (arg0 : TRef sig ⟨S2, .i32⟩) (φ : SplitBufs sig) : List (HloOp τ sig (Elt Ideal)) :=
  splitOps0 arg0 φ ++ (tfOps bcast_S_S2 φ.v1 φ.v3 φ.v10 φ.v9 φ.call0 ++ (splitOps2 arg0 φ))

/-- Two programs splitting one key get one split. -/
theorem split_sim {arg0 : TRef sig ⟨S2, .i32⟩} {brg0 : TRef sig' ⟨S2, .i32⟩} {φ : SplitBufs sig} {ψ : SplitBufs sig'}
    {F : Valuation τ sig (Elt Ideal)} {G : Valuation τ' sig' (Elt Ideal)}
    (hF : ∀ op ∈ splitOps arg0 φ, op.result F = F) (hG : ∀ op ∈ splitOps brg0 ψ, op.result G = G)
    (e_arg0 : val arg0 F = val brg0 G) :
    val φ.v14 F = val ψ.v14 G := by
  obtain ⟨hFq0, hF1⟩ := List.forall_mem_append.1 hF
  simp only [List.forall_mem_cons, List.not_mem_nil, false_imp_iff, implies_true, and_true] at hFq0
  obtain ⟨k0, k1, k2, k3, k4, k5, k6, k7, k8, k9, k10, k11, k12⟩ := hFq0
  obtain ⟨hGq0, hG1⟩ := List.forall_mem_append.1 hG
  simp only [List.forall_mem_cons, List.not_mem_nil, false_imp_iff, implies_true, and_true] at hGq0
  obtain ⟨k'0, k'1, k'2, k'3, k'4, k'5, k'6, k'7, k'8, k'9, k'10, k'11, k'12⟩ := hGq0
  have e_v0 : val φ.v0 F = val ψ.v0 G := simU k0 k'0 e_arg0
  have e_v1 : val φ.v1 F = val ψ.v1 G := simR k1 k'1 e_v0
  have e_v2 : val φ.v2 F = val ψ.v2 G := simU k2 k'2 e_arg0
  have e_v3 : val φ.v3 F = val ψ.v3 G := simR k3 k'3 e_v2
  have e_v4 : val φ.v4 F = val ψ.v4 G := simN k4 k'4
  have e_c : val φ.c F = val ψ.c G := simN k5 k'5
  have e_v5 : val φ.v5 F = val ψ.v5 G := simU k6 k'6 e_c
  have e_v6 : val φ.v6 F = val ψ.v6 G := simB k7 k'7 e_v5 e_v4
  have e_c_0 : val φ.c_0 F = val ψ.c_0 G := simN k8 k'8
  have e_v7 : val φ.v7 F = val ψ.v7 G := simU k9 k'9 e_c_0
  have e_v8 : val φ.v8 F = val ψ.v8 G := simB k10 k'10 e_v6 e_v7
  have e_v9 : val φ.v9 F = val ψ.v9 G := simU k11 k'11 e_v6
  have e_v10 : val φ.v10 F = val ψ.v10 G := simU k12 k'12 e_v8
  obtain ⟨hFq1, hF2⟩ := List.forall_mem_append.1 hF1
  obtain ⟨hGq1, hG2⟩ := List.forall_mem_append.1 hG1
  obtain ⟨e_call0_v171, e_call0_v175⟩ := tf_sim _ hFq1 hGq1 e_v1 e_v3 e_v10 e_v9
  have hFq2 := hF2
  simp only [List.forall_mem_cons, List.not_mem_nil, false_imp_iff, implies_true, and_true] at hFq2
  obtain ⟨k13, k14, k15⟩ := hFq2
  have hGq2 := hG2
  simp only [List.forall_mem_cons, List.not_mem_nil, false_imp_iff, implies_true, and_true] at hGq2
  obtain ⟨k'13, k'14, k'15⟩ := hGq2
  have e_v12 : val φ.v12 F = val ψ.v12 G := simU k13 k'13 e_call0_v171
  have e_v13 : val φ.v13 F = val ψ.v13 G := simU k14 k'14 e_call0_v175
  have e_v14 : val φ.v14 F = val ψ.v14 G := simB k15 k'15 e_v12 e_v13
  exact e_v14

/-- One call's buffers. -/
structure ShBufs (sig : RefSig) where
  call0 : SplitBufs sig
  v1 : TRef sig ⟨S1x2, .i32⟩
  v2 : TRef sig ⟨S2, .i32⟩
  v3 : TRef sig ⟨S1x2, .i32⟩
  v4 : TRef sig ⟨S2, .i32⟩
  v5 : TRef sig ⟨S1, .i32⟩
  v6 : TRef sig ⟨S_, .i32⟩
  v7 : TRef sig ⟨S1, .i32⟩
  v8 : TRef sig ⟨S_, .i32⟩
  v9 : TRef sig ⟨S4096, .i64⟩
  c : TRef sig ⟨S_, .i64⟩
  v10 : TRef sig ⟨S4096, .i64⟩
  v11 : TRef sig ⟨S4096, .i64⟩
  c_0 : TRef sig ⟨S_, .i64⟩
  v12 : TRef sig ⟨S4096, .i64⟩
  v13 : TRef sig ⟨S4096, .i64⟩
  v14 : TRef sig ⟨S4096, .i32⟩
  v15 : TRef sig ⟨S4096, .i32⟩
  call1 : TfBufs sig 4096
  v17 : TRef sig ⟨S4096, .i32⟩
  v18_0 : TRef sig ⟨S4096, .i32⟩
  v18_1 : TRef sig ⟨S4096, .i32⟩
  call2 : SplitBufs sig
  v20 : TRef sig ⟨S1x2, .i32⟩
  v21 : TRef sig ⟨S2, .i32⟩
  v22 : TRef sig ⟨S1x2, .i32⟩
  v23 : TRef sig ⟨S2, .i32⟩
  v24 : TRef sig ⟨S1, .i32⟩
  v25 : TRef sig ⟨S_, .i32⟩
  v26 : TRef sig ⟨S1, .i32⟩
  v27 : TRef sig ⟨S_, .i32⟩
  v28 : TRef sig ⟨S4096, .i64⟩
  c_1 : TRef sig ⟨S_, .i64⟩
  v29 : TRef sig ⟨S4096, .i64⟩
  v30 : TRef sig ⟨S4096, .i64⟩
  c_2 : TRef sig ⟨S_, .i64⟩
  v31 : TRef sig ⟨S4096, .i64⟩
  v32 : TRef sig ⟨S4096, .i64⟩
  v33 : TRef sig ⟨S4096, .i32⟩
  v34 : TRef sig ⟨S4096, .i32⟩
  call3 : TfBufs sig 4096
  v36 : TRef sig ⟨S4096, .i32⟩
  v37_0 : TRef sig ⟨S4096, .i32⟩
  v37_1 : TRef sig ⟨S4096, .i32⟩

/-- Part 2 of the operations. -/
abbrev shOps1 (arg0 : TRef sig ⟨S2, .i32⟩) (arg1 : TRef sig ⟨S4096, .i32⟩) (φ : ShBufs sig) : List (HloOp τ sig (Elt Ideal)) :=
  [TRef.unary φ.call0.v14 φ.v1 (extractStridedSlice S1x2 ![0, 0] · slices_S2x2_S1x2_0_0),
   TRef.reshape φ.v1 φ.v2 (rfl : (.i32 : EltTy) = .i32) shapeCasts_S1x2_S2,
   TRef.unary φ.call0.v14 φ.v3 (extractStridedSlice S1x2 ![1, 0] · slices_S2x2_S1x2_1_0),
   TRef.reshape φ.v3 φ.v4 (rfl : (.i32 : EltTy) = .i32) shapeCasts_S1x2_S2,
   TRef.unary φ.v4 φ.v5 (extractStridedSlice S1 ![0] · slices_S2_S1_0),
   TRef.reshape φ.v5 φ.v6 (rfl : (.i32 : EltTy) = .i32) shapeCasts_S1_S_,
   TRef.unary φ.v4 φ.v7 (extractStridedSlice S1 ![1] · slices_S2_S1_1),
   TRef.reshape φ.v7 φ.v8 (rfl : (.i32 : EltTy) = .i32) shapeCasts_S1_S_,
   TRef.nullary φ.v9 (iotaInDim S4096 64 0),
   TRef.nullary φ.c (constantI S_ 64 1#64),
   TRef.unary φ.c φ.v10 (broadcastInDim S4096 ![] bcast_S_S4096),
   TRef.binary φ.v10 φ.v9 φ.v11 muli,
   TRef.nullary φ.c_0 (constantI S_ 64 32#64),
   TRef.unary φ.c_0 φ.v12 (broadcastInDim S4096 ![] bcast_S_S4096),
   TRef.binary φ.v11 φ.v12 φ.v13 Host.shrui,
   TRef.unary φ.v11 φ.v14 (trunci 32 · natLt_32_64),
   TRef.unary φ.v13 φ.v15 (trunci 32 · natLt_32_64)]

/-- Part 4 of the operations. -/
abbrev shOps3 (arg0 : TRef sig ⟨S2, .i32⟩) (arg1 : TRef sig ⟨S4096, .i32⟩) (φ : ShBufs sig) : List (HloOp τ sig (Elt Ideal)) :=
  [TRef.binary φ.call1.v171 φ.call1.v175 φ.v17 xori,
   TRef.binary φ.v17 arg1 φ.v18_0 (fun x y => (Host.sort2 S4096 0 Cert.ReferenceIdeal.comparator_i32_i32_d0 x y).1),
   TRef.binary φ.v17 arg1 φ.v18_1 (fun x y => (Host.sort2 S4096 0 Cert.ReferenceIdeal.comparator_i32_i32_d0 x y).2)]

/-- Part 6 of the operations. -/
abbrev shOps5 (arg0 : TRef sig ⟨S2, .i32⟩) (arg1 : TRef sig ⟨S4096, .i32⟩) (φ : ShBufs sig) : List (HloOp τ sig (Elt Ideal)) :=
  [TRef.unary φ.call2.v14 φ.v20 (extractStridedSlice S1x2 ![0, 0] · slices_S2x2_S1x2_0_0),
   TRef.reshape φ.v20 φ.v21 (rfl : (.i32 : EltTy) = .i32) shapeCasts_S1x2_S2,
   TRef.unary φ.call2.v14 φ.v22 (extractStridedSlice S1x2 ![1, 0] · slices_S2x2_S1x2_1_0),
   TRef.reshape φ.v22 φ.v23 (rfl : (.i32 : EltTy) = .i32) shapeCasts_S1x2_S2,
   TRef.unary φ.v23 φ.v24 (extractStridedSlice S1 ![0] · slices_S2_S1_0),
   TRef.reshape φ.v24 φ.v25 (rfl : (.i32 : EltTy) = .i32) shapeCasts_S1_S_,
   TRef.unary φ.v23 φ.v26 (extractStridedSlice S1 ![1] · slices_S2_S1_1),
   TRef.reshape φ.v26 φ.v27 (rfl : (.i32 : EltTy) = .i32) shapeCasts_S1_S_,
   TRef.nullary φ.v28 (iotaInDim S4096 64 0),
   TRef.nullary φ.c_1 (constantI S_ 64 1#64),
   TRef.unary φ.c_1 φ.v29 (broadcastInDim S4096 ![] bcast_S_S4096),
   TRef.binary φ.v29 φ.v28 φ.v30 muli,
   TRef.nullary φ.c_2 (constantI S_ 64 32#64),
   TRef.unary φ.c_2 φ.v31 (broadcastInDim S4096 ![] bcast_S_S4096),
   TRef.binary φ.v30 φ.v31 φ.v32 Host.shrui,
   TRef.unary φ.v30 φ.v33 (trunci 32 · natLt_32_64),
   TRef.unary φ.v32 φ.v34 (trunci 32 · natLt_32_64)]

/-- Part 8 of the operations. -/
abbrev shOps7 (arg0 : TRef sig ⟨S2, .i32⟩) (arg1 : TRef sig ⟨S4096, .i32⟩) (φ : ShBufs sig) : List (HloOp τ sig (Elt Ideal)) :=
  [TRef.binary φ.call3.v171 φ.call3.v175 φ.v36 xori,
   TRef.binary φ.v36 φ.v18_1 φ.v37_0 (fun x y => (Host.sort2 S4096 0 Cert.ReferenceIdeal.comparator_i32_i32_d0 x y).1),
   TRef.binary φ.v36 φ.v18_1 φ.v37_1 (fun x y => (Host.sort2 S4096 0 Cert.ReferenceIdeal.comparator_i32_i32_d0 x y).2)]

/-- The random permutation, in order. -/
abbrev shOps (arg0 : TRef sig ⟨S2, .i32⟩) (arg1 : TRef sig ⟨S4096, .i32⟩) (φ : ShBufs sig) : List (HloOp τ sig (Elt Ideal)) :=
  splitOps arg0 φ.call0 ++ (shOps1 arg0 arg1 φ ++ (tfOps bcast_S_S4096 φ.v6 φ.v8 φ.v15 φ.v14 φ.call1 ++ (shOps3 arg0 arg1 φ ++ (splitOps φ.v2 φ.call2 ++ (shOps5 arg0 arg1 φ ++ (tfOps bcast_S_S4096 φ.v25 φ.v27 φ.v34 φ.v33 φ.call3 ++ (shOps7 arg0 arg1 φ)))))))

/-- Two programs permuting one vector under one key get one permutation. -/
theorem sh_sim {arg0 : TRef sig ⟨S2, .i32⟩} {brg0 : TRef sig' ⟨S2, .i32⟩} {arg1 : TRef sig ⟨S4096, .i32⟩} {brg1 : TRef sig' ⟨S4096, .i32⟩} {φ : ShBufs sig} {ψ : ShBufs sig'}
    {F : Valuation τ sig (Elt Ideal)} {G : Valuation τ' sig' (Elt Ideal)}
    (hF : ∀ op ∈ shOps arg0 arg1 φ, op.result F = F) (hG : ∀ op ∈ shOps brg0 brg1 ψ, op.result G = G)
    (e_arg0 : val arg0 F = val brg0 G) (e_arg1 : val arg1 F = val brg1 G) :
    val φ.v37_1 F = val ψ.v37_1 G := by
  obtain ⟨hFq0, hF1⟩ := List.forall_mem_append.1 hF
  obtain ⟨hGq0, hG1⟩ := List.forall_mem_append.1 hG
  have e_call0_v14 : val φ.call0.v14 F = val ψ.call0.v14 G := split_sim hFq0 hGq0 e_arg0
  obtain ⟨hFq1, hF2⟩ := List.forall_mem_append.1 hF1
  simp only [List.forall_mem_cons, List.not_mem_nil, false_imp_iff, implies_true, and_true] at hFq1
  obtain ⟨k0, k1, k2, k3, k4, k5, k6, k7, k8, k9, k10, k11, k12, k13, k14, k15, k16⟩ := hFq1
  obtain ⟨hGq1, hG2⟩ := List.forall_mem_append.1 hG1
  simp only [List.forall_mem_cons, List.not_mem_nil, false_imp_iff, implies_true, and_true] at hGq1
  obtain ⟨k'0, k'1, k'2, k'3, k'4, k'5, k'6, k'7, k'8, k'9, k'10, k'11, k'12, k'13, k'14, k'15, k'16⟩ := hGq1
  have e_v1 : val φ.v1 F = val ψ.v1 G := simU k0 k'0 e_call0_v14
  have e_v2 : val φ.v2 F = val ψ.v2 G := simR k1 k'1 e_v1
  have e_v3 : val φ.v3 F = val ψ.v3 G := simU k2 k'2 e_call0_v14
  have e_v4 : val φ.v4 F = val ψ.v4 G := simR k3 k'3 e_v3
  have e_v5 : val φ.v5 F = val ψ.v5 G := simU k4 k'4 e_v4
  have e_v6 : val φ.v6 F = val ψ.v6 G := simR k5 k'5 e_v5
  have e_v7 : val φ.v7 F = val ψ.v7 G := simU k6 k'6 e_v4
  have e_v8 : val φ.v8 F = val ψ.v8 G := simR k7 k'7 e_v7
  have e_v9 : val φ.v9 F = val ψ.v9 G := simN k8 k'8
  have e_c : val φ.c F = val ψ.c G := simN k9 k'9
  have e_v10 : val φ.v10 F = val ψ.v10 G := simU k10 k'10 e_c
  have e_v11 : val φ.v11 F = val ψ.v11 G := simB k11 k'11 e_v10 e_v9
  have e_c_0 : val φ.c_0 F = val ψ.c_0 G := simN k12 k'12
  have e_v12 : val φ.v12 F = val ψ.v12 G := simU k13 k'13 e_c_0
  have e_v13 : val φ.v13 F = val ψ.v13 G := simB k14 k'14 e_v11 e_v12
  have e_v14 : val φ.v14 F = val ψ.v14 G := simU k15 k'15 e_v11
  have e_v15 : val φ.v15 F = val ψ.v15 G := simU k16 k'16 e_v13
  obtain ⟨hFq2, hF3⟩ := List.forall_mem_append.1 hF2
  obtain ⟨hGq2, hG3⟩ := List.forall_mem_append.1 hG2
  obtain ⟨e_call1_v171, e_call1_v175⟩ := tf_sim _ hFq2 hGq2 e_v6 e_v8 e_v15 e_v14
  obtain ⟨hFq3, hF4⟩ := List.forall_mem_append.1 hF3
  simp only [List.forall_mem_cons, List.not_mem_nil, false_imp_iff, implies_true, and_true] at hFq3
  obtain ⟨k17, k18, k19⟩ := hFq3
  obtain ⟨hGq3, hG4⟩ := List.forall_mem_append.1 hG3
  simp only [List.forall_mem_cons, List.not_mem_nil, false_imp_iff, implies_true, and_true] at hGq3
  obtain ⟨k'17, k'18, k'19⟩ := hGq3
  have e_v17 : val φ.v17 F = val ψ.v17 G := simB k17 k'17 e_call1_v171 e_call1_v175
  have e_v18_0 : val φ.v18_0 F = val ψ.v18_0 G := simB k18 k'18 e_v17 e_arg1
  have e_v18_1 : val φ.v18_1 F = val ψ.v18_1 G := simB k19 k'19 e_v17 e_arg1
  obtain ⟨hFq4, hF5⟩ := List.forall_mem_append.1 hF4
  obtain ⟨hGq4, hG5⟩ := List.forall_mem_append.1 hG4
  have e_call2_v14 : val φ.call2.v14 F = val ψ.call2.v14 G := split_sim hFq4 hGq4 e_v2
  obtain ⟨hFq5, hF6⟩ := List.forall_mem_append.1 hF5
  simp only [List.forall_mem_cons, List.not_mem_nil, false_imp_iff, implies_true, and_true] at hFq5
  obtain ⟨k20, k21, k22, k23, k24, k25, k26, k27, k28, k29, k30, k31, k32, k33, k34, k35, k36⟩ := hFq5
  obtain ⟨hGq5, hG6⟩ := List.forall_mem_append.1 hG5
  simp only [List.forall_mem_cons, List.not_mem_nil, false_imp_iff, implies_true, and_true] at hGq5
  obtain ⟨k'20, k'21, k'22, k'23, k'24, k'25, k'26, k'27, k'28, k'29, k'30, k'31, k'32, k'33, k'34, k'35, k'36⟩ := hGq5
  have e_v20 : val φ.v20 F = val ψ.v20 G := simU k20 k'20 e_call2_v14
  have e_v21 : val φ.v21 F = val ψ.v21 G := simR k21 k'21 e_v20
  have e_v22 : val φ.v22 F = val ψ.v22 G := simU k22 k'22 e_call2_v14
  have e_v23 : val φ.v23 F = val ψ.v23 G := simR k23 k'23 e_v22
  have e_v24 : val φ.v24 F = val ψ.v24 G := simU k24 k'24 e_v23
  have e_v25 : val φ.v25 F = val ψ.v25 G := simR k25 k'25 e_v24
  have e_v26 : val φ.v26 F = val ψ.v26 G := simU k26 k'26 e_v23
  have e_v27 : val φ.v27 F = val ψ.v27 G := simR k27 k'27 e_v26
  have e_v28 : val φ.v28 F = val ψ.v28 G := simN k28 k'28
  have e_c_1 : val φ.c_1 F = val ψ.c_1 G := simN k29 k'29
  have e_v29 : val φ.v29 F = val ψ.v29 G := simU k30 k'30 e_c_1
  have e_v30 : val φ.v30 F = val ψ.v30 G := simB k31 k'31 e_v29 e_v28
  have e_c_2 : val φ.c_2 F = val ψ.c_2 G := simN k32 k'32
  have e_v31 : val φ.v31 F = val ψ.v31 G := simU k33 k'33 e_c_2
  have e_v32 : val φ.v32 F = val ψ.v32 G := simB k34 k'34 e_v30 e_v31
  have e_v33 : val φ.v33 F = val ψ.v33 G := simU k35 k'35 e_v30
  have e_v34 : val φ.v34 F = val ψ.v34 G := simU k36 k'36 e_v32
  obtain ⟨hFq6, hF7⟩ := List.forall_mem_append.1 hF6
  obtain ⟨hGq6, hG7⟩ := List.forall_mem_append.1 hG6
  obtain ⟨e_call3_v171, e_call3_v175⟩ := tf_sim _ hFq6 hGq6 e_v25 e_v27 e_v34 e_v33
  have hFq7 := hF7
  simp only [List.forall_mem_cons, List.not_mem_nil, false_imp_iff, implies_true, and_true] at hFq7
  obtain ⟨k37, k38, k39⟩ := hFq7
  have hGq7 := hG7
  simp only [List.forall_mem_cons, List.not_mem_nil, false_imp_iff, implies_true, and_true] at hGq7
  obtain ⟨k'37, k'38, k'39⟩ := hGq7
  have e_v36 : val φ.v36 F = val ψ.v36 G := simB k37 k'37 e_call3_v171 e_call3_v175
  have e_v37_0 : val φ.v37_0 F = val ψ.v37_0 G := simB k38 k'38 e_v36 e_v18_1
  have e_v37_1 : val φ.v37_1 F = val ψ.v37_1 G := simB k39 k'39 e_v36 e_v18_1
  exact e_v37_1

end Cert.Proof.Shuffle
-- ==== Proof.Shuffle.Records.lean ====
/- The two programs' buffers of the random permutation, as the records `Permute.lean` is stated over. -/
module

public import proofs.«01_k».proof.Proof.Shuffle.Permute
public import proofs.«01_k».proof.KernelIdeal

@[expose] public section

set_option maxRecDepth 16384

noncomputable section

namespace Cert.Proof.Shuffle

open Idealize.ShloMosaic Idealize.ShloMosaic.StableHlo

/-- A call's record, read generically. -/
abbrev tfR2 (φ : Cert.ReferenceIdeal.fn_threefry2x32.Bufs) : TfBufs Cert.ReferenceIdeal.sig 2 :=
  ⟨φ.v0, φ.c, φ.v1, φ.v2, φ.v3, φ.v4, φ.v5, φ.v6, φ.c_0, φ.v7, φ.v8, φ.c_1, φ.v9, φ.v10, φ.v11, φ.v12, φ.v13, φ.c_2, φ.v14, φ.v15,
    φ.c_3, φ.v16, φ.v17, φ.v18, φ.v19, φ.v20, φ.c_4, φ.v21, φ.v22, φ.c_5, φ.v23, φ.v24, φ.v25, φ.v26, φ.v27, φ.c_6, φ.v28, φ.v29, φ.c_7, φ.v30,
    φ.v31, φ.v32, φ.v33, φ.v34, φ.v35, φ.v36, φ.v37, φ.c_8, φ.v38, φ.v39, φ.v40, φ.c_9, φ.v41, φ.v42, φ.c_10, φ.v43, φ.v44, φ.v45, φ.v46, φ.v47,
    φ.c_11, φ.v48, φ.v49, φ.c_12, φ.v50, φ.v51, φ.v52, φ.v53, φ.v54, φ.c_13, φ.v55, φ.v56, φ.c_14, φ.v57, φ.v58, φ.v59, φ.v60, φ.v61, φ.c_15, φ.v62,
    φ.v63, φ.c_16, φ.v64, φ.v65, φ.v66, φ.v67, φ.v68, φ.v69, φ.v70, φ.v71, φ.c_17, φ.v72, φ.v73, φ.v74, φ.c_18, φ.v75, φ.v76, φ.c_19, φ.v77, φ.v78,
    φ.v79, φ.v80, φ.v81, φ.c_20, φ.v82, φ.v83, φ.c_21, φ.v84, φ.v85, φ.v86, φ.v87, φ.v88, φ.c_22, φ.v89, φ.v90, φ.c_23, φ.v91, φ.v92, φ.v93, φ.v94,
    φ.v95, φ.c_24, φ.v96, φ.v97, φ.c_25, φ.v98, φ.v99, φ.v100, φ.v101, φ.v102, φ.v103, φ.v104, φ.v105, φ.c_26, φ.v106, φ.v107, φ.v108, φ.c_27, φ.v109, φ.v110,
    φ.c_28, φ.v111, φ.v112, φ.v113, φ.v114, φ.v115, φ.c_29, φ.v116, φ.v117, φ.c_30, φ.v118, φ.v119, φ.v120, φ.v121, φ.v122, φ.c_31, φ.v123, φ.v124, φ.c_32, φ.v125,
    φ.v126, φ.v127, φ.v128, φ.v129, φ.c_33, φ.v130, φ.v131, φ.c_34, φ.v132, φ.v133, φ.v134, φ.v135, φ.v136, φ.v137, φ.v138, φ.v139, φ.c_35, φ.v140, φ.v141, φ.v142,
    φ.c_36, φ.v143, φ.v144, φ.c_37, φ.v145, φ.v146, φ.v147, φ.v148, φ.v149, φ.c_38, φ.v150, φ.v151, φ.c_39, φ.v152, φ.v153, φ.v154, φ.v155, φ.v156, φ.c_40, φ.v157,
    φ.v158, φ.c_41, φ.v159, φ.v160, φ.v161, φ.v162, φ.v163, φ.c_42, φ.v164, φ.v165, φ.c_43, φ.v166, φ.v167, φ.v168, φ.v169, φ.v170, φ.v171, φ.v172, φ.v173, φ.c_44,
    φ.v174, φ.v175⟩

/-- A call's record, read generically. -/
abbrev tfR4096 (φ : Cert.ReferenceIdeal.fn_threefry2x32_0.Bufs) : TfBufs Cert.ReferenceIdeal.sig 4096 :=
  ⟨φ.v0, φ.c, φ.v1, φ.v2, φ.v3, φ.v4, φ.v5, φ.v6, φ.c_0, φ.v7, φ.v8, φ.c_1, φ.v9, φ.v10, φ.v11, φ.v12, φ.v13, φ.c_2, φ.v14, φ.v15,
    φ.c_3, φ.v16, φ.v17, φ.v18, φ.v19, φ.v20, φ.c_4, φ.v21, φ.v22, φ.c_5, φ.v23, φ.v24, φ.v25, φ.v26, φ.v27, φ.c_6, φ.v28, φ.v29, φ.c_7, φ.v30,
    φ.v31, φ.v32, φ.v33, φ.v34, φ.v35, φ.v36, φ.v37, φ.c_8, φ.v38, φ.v39, φ.v40, φ.c_9, φ.v41, φ.v42, φ.c_10, φ.v43, φ.v44, φ.v45, φ.v46, φ.v47,
    φ.c_11, φ.v48, φ.v49, φ.c_12, φ.v50, φ.v51, φ.v52, φ.v53, φ.v54, φ.c_13, φ.v55, φ.v56, φ.c_14, φ.v57, φ.v58, φ.v59, φ.v60, φ.v61, φ.c_15, φ.v62,
    φ.v63, φ.c_16, φ.v64, φ.v65, φ.v66, φ.v67, φ.v68, φ.v69, φ.v70, φ.v71, φ.c_17, φ.v72, φ.v73, φ.v74, φ.c_18, φ.v75, φ.v76, φ.c_19, φ.v77, φ.v78,
    φ.v79, φ.v80, φ.v81, φ.c_20, φ.v82, φ.v83, φ.c_21, φ.v84, φ.v85, φ.v86, φ.v87, φ.v88, φ.c_22, φ.v89, φ.v90, φ.c_23, φ.v91, φ.v92, φ.v93, φ.v94,
    φ.v95, φ.c_24, φ.v96, φ.v97, φ.c_25, φ.v98, φ.v99, φ.v100, φ.v101, φ.v102, φ.v103, φ.v104, φ.v105, φ.c_26, φ.v106, φ.v107, φ.v108, φ.c_27, φ.v109, φ.v110,
    φ.c_28, φ.v111, φ.v112, φ.v113, φ.v114, φ.v115, φ.c_29, φ.v116, φ.v117, φ.c_30, φ.v118, φ.v119, φ.v120, φ.v121, φ.v122, φ.c_31, φ.v123, φ.v124, φ.c_32, φ.v125,
    φ.v126, φ.v127, φ.v128, φ.v129, φ.c_33, φ.v130, φ.v131, φ.c_34, φ.v132, φ.v133, φ.v134, φ.v135, φ.v136, φ.v137, φ.v138, φ.v139, φ.c_35, φ.v140, φ.v141, φ.v142,
    φ.c_36, φ.v143, φ.v144, φ.c_37, φ.v145, φ.v146, φ.v147, φ.v148, φ.v149, φ.c_38, φ.v150, φ.v151, φ.c_39, φ.v152, φ.v153, φ.v154, φ.v155, φ.v156, φ.c_40, φ.v157,
    φ.v158, φ.c_41, φ.v159, φ.v160, φ.v161, φ.v162, φ.v163, φ.c_42, φ.v164, φ.v165, φ.c_43, φ.v166, φ.v167, φ.v168, φ.v169, φ.v170, φ.v171, φ.v172, φ.v173, φ.c_44,
    φ.v174, φ.v175⟩

/-- A call's record, read generically. -/
abbrev splitR (φ : Cert.ReferenceIdeal.fn_threefry_split.Bufs) : SplitBufs Cert.ReferenceIdeal.sig :=
  ⟨φ.v0, φ.v1, φ.v2, φ.v3, φ.v4, φ.c, φ.v5, φ.v6, φ.c_0, φ.v7, φ.v8, φ.v9, φ.v10, tfR2 φ.call0, φ.v12, φ.v13, φ.v14⟩

/-- A call's record, read generically. -/
abbrev split1R (φ : Cert.ReferenceIdeal.fn_threefry_split_1.Bufs) : SplitBufs Cert.ReferenceIdeal.sig :=
  ⟨φ.v0, φ.v1, φ.v2, φ.v3, φ.v4, φ.c, φ.v5, φ.v6, φ.c_0, φ.v7, φ.v8, φ.v9, φ.v10, tfR2 φ.call0, φ.v12, φ.v13, φ.v14⟩

/-- A call's record, read generically. -/
abbrev shR (φ : Cert.ReferenceIdeal.fn_shuffle.Bufs) : ShBufs Cert.ReferenceIdeal.sig :=
  ⟨splitR φ.call0, φ.v1, φ.v2, φ.v3, φ.v4, φ.v5, φ.v6, φ.v7, φ.v8, φ.v9, φ.c, φ.v10, φ.v11, φ.c_0, φ.v12, φ.v13, φ.v14, φ.v15, tfR4096 φ.call1, φ.v17,
    φ.v18_0, φ.v18_1, split1R φ.call2, φ.v20, φ.v21, φ.v22, φ.v23, φ.v24, φ.v25, φ.v26, φ.v27, φ.v28, φ.c_1, φ.v29, φ.v30, φ.c_2, φ.v31, φ.v32, φ.v33, φ.v34,
    tfR4096 φ.call3, φ.v36, φ.v37_0, φ.v37_1⟩

/-- A call's record, read generically. -/
abbrev tfK2 (φ : Cert.KernelIdeal.fn_threefry2x32.Bufs) : TfBufs Cert.KernelIdeal.sig 2 :=
  ⟨φ.v0, φ.c, φ.v1, φ.v2, φ.v3, φ.v4, φ.v5, φ.v6, φ.c_0, φ.v7, φ.v8, φ.c_1, φ.v9, φ.v10, φ.v11, φ.v12, φ.v13, φ.c_2, φ.v14, φ.v15,
    φ.c_3, φ.v16, φ.v17, φ.v18, φ.v19, φ.v20, φ.c_4, φ.v21, φ.v22, φ.c_5, φ.v23, φ.v24, φ.v25, φ.v26, φ.v27, φ.c_6, φ.v28, φ.v29, φ.c_7, φ.v30,
    φ.v31, φ.v32, φ.v33, φ.v34, φ.v35, φ.v36, φ.v37, φ.c_8, φ.v38, φ.v39, φ.v40, φ.c_9, φ.v41, φ.v42, φ.c_10, φ.v43, φ.v44, φ.v45, φ.v46, φ.v47,
    φ.c_11, φ.v48, φ.v49, φ.c_12, φ.v50, φ.v51, φ.v52, φ.v53, φ.v54, φ.c_13, φ.v55, φ.v56, φ.c_14, φ.v57, φ.v58, φ.v59, φ.v60, φ.v61, φ.c_15, φ.v62,
    φ.v63, φ.c_16, φ.v64, φ.v65, φ.v66, φ.v67, φ.v68, φ.v69, φ.v70, φ.v71, φ.c_17, φ.v72, φ.v73, φ.v74, φ.c_18, φ.v75, φ.v76, φ.c_19, φ.v77, φ.v78,
    φ.v79, φ.v80, φ.v81, φ.c_20, φ.v82, φ.v83, φ.c_21, φ.v84, φ.v85, φ.v86, φ.v87, φ.v88, φ.c_22, φ.v89, φ.v90, φ.c_23, φ.v91, φ.v92, φ.v93, φ.v94,
    φ.v95, φ.c_24, φ.v96, φ.v97, φ.c_25, φ.v98, φ.v99, φ.v100, φ.v101, φ.v102, φ.v103, φ.v104, φ.v105, φ.c_26, φ.v106, φ.v107, φ.v108, φ.c_27, φ.v109, φ.v110,
    φ.c_28, φ.v111, φ.v112, φ.v113, φ.v114, φ.v115, φ.c_29, φ.v116, φ.v117, φ.c_30, φ.v118, φ.v119, φ.v120, φ.v121, φ.v122, φ.c_31, φ.v123, φ.v124, φ.c_32, φ.v125,
    φ.v126, φ.v127, φ.v128, φ.v129, φ.c_33, φ.v130, φ.v131, φ.c_34, φ.v132, φ.v133, φ.v134, φ.v135, φ.v136, φ.v137, φ.v138, φ.v139, φ.c_35, φ.v140, φ.v141, φ.v142,
    φ.c_36, φ.v143, φ.v144, φ.c_37, φ.v145, φ.v146, φ.v147, φ.v148, φ.v149, φ.c_38, φ.v150, φ.v151, φ.c_39, φ.v152, φ.v153, φ.v154, φ.v155, φ.v156, φ.c_40, φ.v157,
    φ.v158, φ.c_41, φ.v159, φ.v160, φ.v161, φ.v162, φ.v163, φ.c_42, φ.v164, φ.v165, φ.c_43, φ.v166, φ.v167, φ.v168, φ.v169, φ.v170, φ.v171, φ.v172, φ.v173, φ.c_44,
    φ.v174, φ.v175⟩

/-- A call's record, read generically. -/
abbrev tfK4096 (φ : Cert.KernelIdeal.fn_threefry2x32_0.Bufs) : TfBufs Cert.KernelIdeal.sig 4096 :=
  ⟨φ.v0, φ.c, φ.v1, φ.v2, φ.v3, φ.v4, φ.v5, φ.v6, φ.c_0, φ.v7, φ.v8, φ.c_1, φ.v9, φ.v10, φ.v11, φ.v12, φ.v13, φ.c_2, φ.v14, φ.v15,
    φ.c_3, φ.v16, φ.v17, φ.v18, φ.v19, φ.v20, φ.c_4, φ.v21, φ.v22, φ.c_5, φ.v23, φ.v24, φ.v25, φ.v26, φ.v27, φ.c_6, φ.v28, φ.v29, φ.c_7, φ.v30,
    φ.v31, φ.v32, φ.v33, φ.v34, φ.v35, φ.v36, φ.v37, φ.c_8, φ.v38, φ.v39, φ.v40, φ.c_9, φ.v41, φ.v42, φ.c_10, φ.v43, φ.v44, φ.v45, φ.v46, φ.v47,
    φ.c_11, φ.v48, φ.v49, φ.c_12, φ.v50, φ.v51, φ.v52, φ.v53, φ.v54, φ.c_13, φ.v55, φ.v56, φ.c_14, φ.v57, φ.v58, φ.v59, φ.v60, φ.v61, φ.c_15, φ.v62,
    φ.v63, φ.c_16, φ.v64, φ.v65, φ.v66, φ.v67, φ.v68, φ.v69, φ.v70, φ.v71, φ.c_17, φ.v72, φ.v73, φ.v74, φ.c_18, φ.v75, φ.v76, φ.c_19, φ.v77, φ.v78,
    φ.v79, φ.v80, φ.v81, φ.c_20, φ.v82, φ.v83, φ.c_21, φ.v84, φ.v85, φ.v86, φ.v87, φ.v88, φ.c_22, φ.v89, φ.v90, φ.c_23, φ.v91, φ.v92, φ.v93, φ.v94,
    φ.v95, φ.c_24, φ.v96, φ.v97, φ.c_25, φ.v98, φ.v99, φ.v100, φ.v101, φ.v102, φ.v103, φ.v104, φ.v105, φ.c_26, φ.v106, φ.v107, φ.v108, φ.c_27, φ.v109, φ.v110,
    φ.c_28, φ.v111, φ.v112, φ.v113, φ.v114, φ.v115, φ.c_29, φ.v116, φ.v117, φ.c_30, φ.v118, φ.v119, φ.v120, φ.v121, φ.v122, φ.c_31, φ.v123, φ.v124, φ.c_32, φ.v125,
    φ.v126, φ.v127, φ.v128, φ.v129, φ.c_33, φ.v130, φ.v131, φ.c_34, φ.v132, φ.v133, φ.v134, φ.v135, φ.v136, φ.v137, φ.v138, φ.v139, φ.c_35, φ.v140, φ.v141, φ.v142,
    φ.c_36, φ.v143, φ.v144, φ.c_37, φ.v145, φ.v146, φ.v147, φ.v148, φ.v149, φ.c_38, φ.v150, φ.v151, φ.c_39, φ.v152, φ.v153, φ.v154, φ.v155, φ.v156, φ.c_40, φ.v157,
    φ.v158, φ.c_41, φ.v159, φ.v160, φ.v161, φ.v162, φ.v163, φ.c_42, φ.v164, φ.v165, φ.c_43, φ.v166, φ.v167, φ.v168, φ.v169, φ.v170, φ.v171, φ.v172, φ.v173, φ.c_44,
    φ.v174, φ.v175⟩

/-- A call's record, read generically. -/
abbrev splitK (φ : Cert.KernelIdeal.fn_threefry_split.Bufs) : SplitBufs Cert.KernelIdeal.sig :=
  ⟨φ.v0, φ.v1, φ.v2, φ.v3, φ.v4, φ.c, φ.v5, φ.v6, φ.c_0, φ.v7, φ.v8, φ.v9, φ.v10, tfK2 φ.call0, φ.v12, φ.v13, φ.v14⟩

/-- A call's record, read generically. -/
abbrev split1K (φ : Cert.KernelIdeal.fn_threefry_split_1.Bufs) : SplitBufs Cert.KernelIdeal.sig :=
  ⟨φ.v0, φ.v1, φ.v2, φ.v3, φ.v4, φ.c, φ.v5, φ.v6, φ.c_0, φ.v7, φ.v8, φ.v9, φ.v10, tfK2 φ.call0, φ.v12, φ.v13, φ.v14⟩

/-- A call's record, read generically. -/
abbrev shK (φ : Cert.KernelIdeal.fn_shuffle.Bufs) : ShBufs Cert.KernelIdeal.sig :=
  ⟨splitK φ.call0, φ.v1, φ.v2, φ.v3, φ.v4, φ.v5, φ.v6, φ.v7, φ.v8, φ.v9, φ.c, φ.v10, φ.v11, φ.c_0, φ.v12, φ.v13, φ.v14, φ.v15, tfK4096 φ.call1, φ.v17,
    φ.v18_0, φ.v18_1, split1K φ.call2, φ.v20, φ.v21, φ.v22, φ.v23, φ.v24, φ.v25, φ.v26, φ.v27, φ.v28, φ.c_1, φ.v29, φ.v30, φ.c_2, φ.v31, φ.v32, φ.v33, φ.v34,
    tfK4096 φ.call3, φ.v36, φ.v37_0, φ.v37_1⟩

end Cert.Proof.Shuffle
-- ==== Proof.Ref.Ops.lean ====
/- The reference's host operations, in order, and its run: after it every buffer holds what the line leaves there. -/
module

public import proofs.«01_k».proof.Proof.Shuffle.Records
public import proofs.«01_k».proof.Proof.Gen.ReferenceIdeal
public import Idealize.ShloMosaic.Lib.Pipeline.Regions

@[expose] public section

set_option maxRecDepth 16384
set_option Elab.async false

noncomputable section

namespace Cert.Proof.Ref

open Idealize.ShloMosaic Idealize.ShloMosaic.StableHlo Idealize.ShloMosaic.TcCoe Idealize.SL.Sem
open Cert.ReferenceIdeal Cert.ReferenceIdeal.Gen
open Cert.Proof.Ssa Cert.Proof.Shuffle

variable {F : FTy → Type} [FloatOps F]

/-- The projections and the random key. -/
abbrev opsA : List (HloOp τ sig (Elt F)) :=
  [StableHlo.unary main_arg3 main_v0 ((transpose S1024x1024 [1, 0] · transposes_S1024x1024_S1024x1024_1_0) : (⟨S1024x1024, .f32⟩ : BufTy).Contents (Elt F) → (⟨S1024x1024, .f32⟩ : BufTy).Contents (Elt F)),
   StableHlo.binary main_arg0 main_v0 main_v1 ((fun l r => Host.dotGeneral dot_S4x4096x1024_S1024x1024_S4x4096x1024_2_0_01_1_n_n none l r) : (⟨S4x4096x1024, .f32⟩ : BufTy).Contents (Elt F) → (⟨S1024x1024, .f32⟩ : BufTy).Contents (Elt F) → (⟨S4x4096x1024, .f32⟩ : BufTy).Contents (Elt F)),
   StableHlo.unary main_arg4 main_v2 (broadcastInDim S1x1x1024 ![2] bcast_S1024_S1x1x1024_2 : (⟨S1024, .f32⟩ : BufTy).Contents (Elt F) → (⟨S1x1x1024, .f32⟩ : BufTy).Contents (Elt F)),
   StableHlo.unary main_v2 main_v3 (broadcastInDim S4x4096x1024 ![0, 1, 2] bcast_S1x1x1024_S4x4096x1024_0_1_2 : (⟨S1x1x1024, .f32⟩ : BufTy).Contents (Elt F) → (⟨S4x4096x1024, .f32⟩ : BufTy).Contents (Elt F)),
   StableHlo.binary main_v1 main_v3 main_v4 (addf : (⟨S4x4096x1024, .f32⟩ : BufTy).Contents (Elt F) → (⟨S4x4096x1024, .f32⟩ : BufTy).Contents (Elt F) → (⟨S4x4096x1024, .f32⟩ : BufTy).Contents (Elt F)),
   StableHlo.reshape main_v4 main_v5 (rfl : (.f32 : EltTy) = .f32) shapeCasts_S4x4096x1024_S4x4096x16x64,
   StableHlo.unary main_arg5 main_v6 ((transpose S1024x1024 [1, 0] · transposes_S1024x1024_S1024x1024_1_0) : (⟨S1024x1024, .f32⟩ : BufTy).Contents (Elt F) → (⟨S1024x1024, .f32⟩ : BufTy).Contents (Elt F)),
   StableHlo.binary main_arg1 main_v6 main_v7 ((fun l r => Host.dotGeneral dot_S4x4096x1024_S1024x1024_S4x4096x1024_2_0_01_1_n_n none l r) : (⟨S4x4096x1024, .f32⟩ : BufTy).Contents (Elt F) → (⟨S1024x1024, .f32⟩ : BufTy).Contents (Elt F) → (⟨S4x4096x1024, .f32⟩ : BufTy).Contents (Elt F)),
   StableHlo.unary main_arg6 main_v8 (broadcastInDim S1x1x1024 ![2] bcast_S1024_S1x1x1024_2 : (⟨S1024, .f32⟩ : BufTy).Contents (Elt F) → (⟨S1x1x1024, .f32⟩ : BufTy).Contents (Elt F)),
   StableHlo.unary main_v8 main_v9 (broadcastInDim S4x4096x1024 ![0, 1, 2] bcast_S1x1x1024_S4x4096x1024_0_1_2 : (⟨S1x1x1024, .f32⟩ : BufTy).Contents (Elt F) → (⟨S4x4096x1024, .f32⟩ : BufTy).Contents (Elt F)),
   StableHlo.binary main_v7 main_v9 main_v10 (addf : (⟨S4x4096x1024, .f32⟩ : BufTy).Contents (Elt F) → (⟨S4x4096x1024, .f32⟩ : BufTy).Contents (Elt F) → (⟨S4x4096x1024, .f32⟩ : BufTy).Contents (Elt F)),
   StableHlo.reshape main_v10 main_v11 (rfl : (.f32 : EltTy) = .f32) shapeCasts_S4x4096x1024_S4x4096x16x64,
   StableHlo.unary main_arg7 main_v12 ((transpose S1024x1024 [1, 0] · transposes_S1024x1024_S1024x1024_1_0) : (⟨S1024x1024, .f32⟩ : BufTy).Contents (Elt F) → (⟨S1024x1024, .f32⟩ : BufTy).Contents (Elt F)),
   StableHlo.binary main_arg2 main_v12 main_v13 ((fun l r => Host.dotGeneral dot_S4x4096x1024_S1024x1024_S4x4096x1024_2_0_01_1_n_n none l r) : (⟨S4x4096x1024, .f32⟩ : BufTy).Contents (Elt F) → (⟨S1024x1024, .f32⟩ : BufTy).Contents (Elt F) → (⟨S4x4096x1024, .f32⟩ : BufTy).Contents (Elt F)),
   StableHlo.unary main_arg8 main_v14 (broadcastInDim S1x1x1024 ![2] bcast_S1024_S1x1x1024_2 : (⟨S1024, .f32⟩ : BufTy).Contents (Elt F) → (⟨S1x1x1024, .f32⟩ : BufTy).Contents (Elt F)),
   StableHlo.unary main_v14 main_v15 (broadcastInDim S4x4096x1024 ![0, 1, 2] bcast_S1x1x1024_S4x4096x1024_0_1_2 : (⟨S1x1x1024, .f32⟩ : BufTy).Contents (Elt F) → (⟨S4x4096x1024, .f32⟩ : BufTy).Contents (Elt F)),
   StableHlo.binary main_v13 main_v15 main_v16 (addf : (⟨S4x4096x1024, .f32⟩ : BufTy).Contents (Elt F) → (⟨S4x4096x1024, .f32⟩ : BufTy).Contents (Elt F) → (⟨S4x4096x1024, .f32⟩ : BufTy).Contents (Elt F)),
   StableHlo.reshape main_v16 main_v17 (rfl : (.f32 : EltTy) = .f32) shapeCasts_S4x4096x1024_S4x4096x16x64,
   StableHlo.nullary main_c (constantI S_ 32 42#32),
   StableHlo.nullary main_c_0 (constantI S_ 32 32#32),
   StableHlo.binary main_c main_c_0 main_v18 (Host.shrui : (⟨S_, .i32⟩ : BufTy).Contents (Elt F) → (⟨S_, .i32⟩ : BufTy).Contents (Elt F) → (⟨S_, .i32⟩ : BufTy).Contents (Elt F)),
   StableHlo.unary main_v18 main_v19 (id : (⟨S_, .i32⟩ : BufTy).Contents (Elt F) → (⟨S_, .i32⟩ : BufTy).Contents (Elt F)),
   StableHlo.unary main_v19 main_v20 (broadcastInDim S1 ![] bcast_S_S1 : (⟨S_, .i32⟩ : BufTy).Contents (Elt F) → (⟨S1, .i32⟩ : BufTy).Contents (Elt F)),
   StableHlo.nullary main_c_1 (constantI S_ 32 4294967295#32),
   StableHlo.binary main_c main_c_1 main_v21 (andi : (⟨S_, .i32⟩ : BufTy).Contents (Elt F) → (⟨S_, .i32⟩ : BufTy).Contents (Elt F) → (⟨S_, .i32⟩ : BufTy).Contents (Elt F)),
   StableHlo.unary main_v21 main_v22 (id : (⟨S_, .i32⟩ : BufTy).Contents (Elt F) → (⟨S_, .i32⟩ : BufTy).Contents (Elt F)),
   StableHlo.unary main_v22 main_v23 (broadcastInDim S1 ![] bcast_S_S1 : (⟨S_, .i32⟩ : BufTy).Contents (Elt F) → (⟨S1, .i32⟩ : BufTy).Contents (Elt F)),
   StableHlo.binary main_v20 main_v23 main_v24 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
   StableHlo.nullary main_v25 (iotaInDim S4096 32 0)]

/-- The sampled queries, their scores, the sparsity measure and the top queries. -/
abbrev opsB : List (HloOp τ sig (Elt F)) :=
  [StableHlo.unary main_v26 main_v27 ((extractStridedSlice S45 ![0] · slices_S4096_S45_0) : (⟨S4096, .i32⟩ : BufTy).Contents (Elt F) → (⟨S45, .i32⟩ : BufTy).Contents (Elt F)),
   StableHlo.nullary main_c_2 (constantI S_ 32 0#32),
   StableHlo.unary main_c_2 main_v28 (broadcastInDim S45 ![] bcast_S_S45 : (⟨S_, .i32⟩ : BufTy).Contents (Elt F) → (⟨S45, .i32⟩ : BufTy).Contents (Elt F)),
   StableHlo.binary main_v27 main_v28 main_v29 (cmpi .slt : (⟨S45, .i32⟩ : BufTy).Contents (Elt F) → (⟨S45, .i32⟩ : BufTy).Contents (Elt F) → (⟨S45, .i1⟩ : BufTy).Contents (Elt F)),
   StableHlo.nullary main_c_3 (constantI S_ 32 4096#32),
   StableHlo.unary main_c_3 main_v30 (broadcastInDim S45 ![] bcast_S_S45 : (⟨S_, .i32⟩ : BufTy).Contents (Elt F) → (⟨S45, .i32⟩ : BufTy).Contents (Elt F)),
   StableHlo.binary main_v27 main_v30 main_v31 (addi : (⟨S45, .i32⟩ : BufTy).Contents (Elt F) → (⟨S45, .i32⟩ : BufTy).Contents (Elt F) → (⟨S45, .i32⟩ : BufTy).Contents (Elt F)),
   StableHlo.ternary main_v29 main_v31 main_v27 main_v32 (select : (⟨S45, .i1⟩ : BufTy).Contents (Elt F) → (⟨S45, .i32⟩ : BufTy).Contents (Elt F) → (⟨S45, .i32⟩ : BufTy).Contents (Elt F) → (⟨S45, .i32⟩ : BufTy).Contents (Elt F)),
   StableHlo.unary main_v32 main_v33 (broadcastInDim S45x1 ![0] bcast_S45_S45x1_0 : (⟨S45, .i32⟩ : BufTy).Contents (Elt F) → (⟨S45x1, .i32⟩ : BufTy).Contents (Elt F)),
   StableHlo.binary main_v5 main_v33 main_v34 ((fun x i => Host.gather gather_S4x4096x16x64_S45x1_S4x45x16x64_023_1_n_n_1_1_411664 x i) : (⟨S4x4096x16x64, .f32⟩ : BufTy).Contents (Elt F) → (⟨S45x1, .i32⟩ : BufTy).Contents (Elt F) → (⟨S4x45x16x64, .f32⟩ : BufTy).Contents (Elt F)),
   StableHlo.binary main_v34 main_v11 main_v35 ((fun l r => Host.dotGeneral dot_S4x45x16x64_S4x4096x16x64_S4x16x45x4096_3_3_1_1_02_02 none l r) : (⟨S4x45x16x64, .f32⟩ : BufTy).Contents (Elt F) → (⟨S4x4096x16x64, .f32⟩ : BufTy).Contents (Elt F) → (⟨S4x16x45x4096, .f32⟩ : BufTy).Contents (Elt F)),
   StableHlo.nullary main_cst (constant S_ .f32 0xFF800000#32),
   StableHlo.binary main_v35 main_cst main_v36 ((fun x v => Host.reduce FloatOps.maximumf x v reducesTo_S4x16x45x4096_S4x16x45_d3 h_S_) : (⟨S4x16x45x4096, .f32⟩ : BufTy).Contents (Elt F) → (⟨S_, .f32⟩ : BufTy).Contents (Elt F) → (⟨S4x16x45, .f32⟩ : BufTy).Contents (Elt F)),
   StableHlo.nullary main_cst_4 (constant S_ .f32 0x00000000#32),
   StableHlo.binary main_v35 main_cst_4 main_v37 ((fun x v => Host.reduceAdd x v reducesTo_S4x16x45x4096_S4x16x45_d3 h_S_) : (⟨S4x16x45x4096, .f32⟩ : BufTy).Contents (Elt F) → (⟨S_, .f32⟩ : BufTy).Contents (Elt F) → (⟨S4x16x45, .f32⟩ : BufTy).Contents (Elt F)),
   StableHlo.nullary main_cst_5 (constant S_ .f32 0x45800000#32),
   StableHlo.unary main_cst_5 main_v38 (broadcastInDim S4x16x45 ![] bcast_S_S4x16x45 : (⟨S_, .f32⟩ : BufTy).Contents (Elt F) → (⟨S4x16x45, .f32⟩ : BufTy).Contents (Elt F)),
   StableHlo.binary main_v37 main_v38 main_v39 (Host.divf : (⟨S4x16x45, .f32⟩ : BufTy).Contents (Elt F) → (⟨S4x16x45, .f32⟩ : BufTy).Contents (Elt F) → (⟨S4x16x45, .f32⟩ : BufTy).Contents (Elt F)),
   StableHlo.binary main_v36 main_v39 main_v40 (subf : (⟨S4x16x45, .f32⟩ : BufTy).Contents (Elt F) → (⟨S4x16x45, .f32⟩ : BufTy).Contents (Elt F) → (⟨S4x16x45, .f32⟩ : BufTy).Contents (Elt F)),
   StableHlo.unary main_v40 main_values ((fun x => (Host.topK S4x16x45 2 (FloatOps.cmpfTotal .gt) x sliceFits_S4x16x45_S4x16x45).1) : (⟨S4x16x45, .f32⟩ : BufTy).Contents (Elt F) → (⟨S4x16x45, .f32⟩ : BufTy).Contents (Elt F)),
   StableHlo.unary main_v40 main_indices ((fun x => (Host.topK S4x16x45 2 (FloatOps.cmpfTotal .gt) x sliceFits_S4x16x45_S4x16x45).2) : (⟨S4x16x45, .f32⟩ : BufTy).Contents (Elt F) → (⟨S4x16x45, .i32⟩ : BufTy).Contents (Elt F)),
   StableHlo.unary main_v5 main_v41 ((transpose S4x16x4096x64 [0, 2, 1, 3] · transposes_S4x4096x16x64_S4x16x4096x64_0_2_1_3) : (⟨S4x4096x16x64, .f32⟩ : BufTy).Contents (Elt F) → (⟨S4x16x4096x64, .f32⟩ : BufTy).Contents (Elt F)),
   StableHlo.unary main_indices main_v42 (broadcastInDim S4x16x45x1 ![0, 1, 2] bcast_S4x16x45_S4x16x45x1_0_1_2 : (⟨S4x16x45, .i32⟩ : BufTy).Contents (Elt F) → (⟨S4x16x45x1, .i32⟩ : BufTy).Contents (Elt F))]

/-- Attention, the context and the output projection. -/
abbrev opsC : List (HloOp τ sig (Elt F)) :=
  [StableHlo.binary main_v43 main_v11 main_v44 ((fun l r => Host.dotGeneral dot_S4x16x45x64_S4x4096x16x64_S4x16x45x4096_3_3_2_1_01_02 none l r) : (⟨S4x16x45x64, .f32⟩ : BufTy).Contents (Elt F) → (⟨S4x4096x16x64, .f32⟩ : BufTy).Contents (Elt F) → (⟨S4x16x45x4096, .f32⟩ : BufTy).Contents (Elt F)),
   StableHlo.nullary main_cst_6 (constant S_ .f32 0xFF800000#32),
   StableHlo.binary main_v44 main_cst_6 main_v45 ((fun x v => Host.reduce FloatOps.maximumf x v reducesTo_S4x16x45x4096_S4x16x45_d3 h_S_) : (⟨S4x16x45x4096, .f32⟩ : BufTy).Contents (Elt F) → (⟨S_, .f32⟩ : BufTy).Contents (Elt F) → (⟨S4x16x45, .f32⟩ : BufTy).Contents (Elt F)),
   StableHlo.nullary main_cst_7 (constant S_ .f32 0xFF800000#32),
   StableHlo.unary main_cst_7 main_v46 (broadcastInDim S4x16x45 ![] bcast_S_S4x16x45 : (⟨S_, .f32⟩ : BufTy).Contents (Elt F) → (⟨S4x16x45, .f32⟩ : BufTy).Contents (Elt F)),
   StableHlo.binary main_v46 main_v45 main_v47 (maximumf : (⟨S4x16x45, .f32⟩ : BufTy).Contents (Elt F) → (⟨S4x16x45, .f32⟩ : BufTy).Contents (Elt F) → (⟨S4x16x45, .f32⟩ : BufTy).Contents (Elt F)),
   StableHlo.unary main_v47 main_v48 (broadcastInDim S4x16x45x1 ![0, 1, 2] bcast_S4x16x45_S4x16x45x1_0_1_2 : (⟨S4x16x45, .f32⟩ : BufTy).Contents (Elt F) → (⟨S4x16x45x1, .f32⟩ : BufTy).Contents (Elt F)),
   StableHlo.unary main_v48 main_v49 (broadcastInDim S4x16x45x4096 ![0, 1, 2, 3] bcast_S4x16x45x1_S4x16x45x4096_0_1_2_3 : (⟨S4x16x45x1, .f32⟩ : BufTy).Contents (Elt F) → (⟨S4x16x45x4096, .f32⟩ : BufTy).Contents (Elt F)),
   StableHlo.binary main_v44 main_v49 main_v50 (subf : (⟨S4x16x45x4096, .f32⟩ : BufTy).Contents (Elt F) → (⟨S4x16x45x4096, .f32⟩ : BufTy).Contents (Elt F) → (⟨S4x16x45x4096, .f32⟩ : BufTy).Contents (Elt F)),
   StableHlo.unary main_v50 main_v51 (Host.exp : (⟨S4x16x45x4096, .f32⟩ : BufTy).Contents (Elt F) → (⟨S4x16x45x4096, .f32⟩ : BufTy).Contents (Elt F)),
   StableHlo.nullary main_cst_8 (constant S_ .f32 0x00000000#32),
   StableHlo.binary main_v51 main_cst_8 main_v52 ((fun x v => Host.reduceAdd x v reducesTo_S4x16x45x4096_S4x16x45_d3 h_S_) : (⟨S4x16x45x4096, .f32⟩ : BufTy).Contents (Elt F) → (⟨S_, .f32⟩ : BufTy).Contents (Elt F) → (⟨S4x16x45, .f32⟩ : BufTy).Contents (Elt F)),
   StableHlo.unary main_v52 main_v53 (broadcastInDim S4x16x45x1 ![0, 1, 2] bcast_S4x16x45_S4x16x45x1_0_1_2 : (⟨S4x16x45, .f32⟩ : BufTy).Contents (Elt F) → (⟨S4x16x45x1, .f32⟩ : BufTy).Contents (Elt F)),
   StableHlo.unary main_v53 main_v54 (broadcastInDim S4x16x45x4096 ![0, 1, 2, 3] bcast_S4x16x45x1_S4x16x45x4096_0_1_2_3 : (⟨S4x16x45x1, .f32⟩ : BufTy).Contents (Elt F) → (⟨S4x16x45x4096, .f32⟩ : BufTy).Contents (Elt F)),
   StableHlo.binary main_v51 main_v54 main_v55 (Host.divf : (⟨S4x16x45x4096, .f32⟩ : BufTy).Contents (Elt F) → (⟨S4x16x45x4096, .f32⟩ : BufTy).Contents (Elt F) → (⟨S4x16x45x4096, .f32⟩ : BufTy).Contents (Elt F)),
   StableHlo.binary main_v17 main_v55 main_v56 ((fun l r => Host.dotGeneral dot_S4x4096x16x64_S4x16x45x4096_S4x16x64x45_1_3_3_2_02_01 none l r) : (⟨S4x4096x16x64, .f32⟩ : BufTy).Contents (Elt F) → (⟨S4x16x45x4096, .f32⟩ : BufTy).Contents (Elt F) → (⟨S4x16x64x45, .f32⟩ : BufTy).Contents (Elt F)),
   StableHlo.unary main_v56 main_v57 ((transpose S4x45x16x64 [0, 3, 1, 2] · transposes_S4x16x64x45_S4x45x16x64_0_3_1_2) : (⟨S4x16x64x45, .f32⟩ : BufTy).Contents (Elt F) → (⟨S4x45x16x64, .f32⟩ : BufTy).Contents (Elt F)),
   StableHlo.reshape main_v57 main_v58 (rfl : (.f32 : EltTy) = .f32) shapeCasts_S4x45x16x64_S4x45x1024,
   StableHlo.unary main_arg9 main_v59 ((transpose S1024x1024 [1, 0] · transposes_S1024x1024_S1024x1024_1_0) : (⟨S1024x1024, .f32⟩ : BufTy).Contents (Elt F) → (⟨S1024x1024, .f32⟩ : BufTy).Contents (Elt F)),
   StableHlo.binary main_v58 main_v59 main_v60 ((fun l r => Host.dotGeneral dot_S4x45x1024_S1024x1024_S4x45x1024_2_0_01_1_n_n none l r) : (⟨S4x45x1024, .f32⟩ : BufTy).Contents (Elt F) → (⟨S1024x1024, .f32⟩ : BufTy).Contents (Elt F) → (⟨S4x45x1024, .f32⟩ : BufTy).Contents (Elt F)),
   StableHlo.unary main_arg10 main_v61 (broadcastInDim S1x1x1024 ![2] bcast_S1024_S1x1x1024_2 : (⟨S1024, .f32⟩ : BufTy).Contents (Elt F) → (⟨S1x1x1024, .f32⟩ : BufTy).Contents (Elt F)),
   StableHlo.unary main_v61 main_v62 (broadcastInDim S4x45x1024 ![0, 1, 2] bcast_S1x1x1024_S4x45x1024_0_1_2 : (⟨S1x1x1024, .f32⟩ : BufTy).Contents (Elt F) → (⟨S4x45x1024, .f32⟩ : BufTy).Contents (Elt F)),
   StableHlo.binary main_v60 main_v62 main_v63 (addf : (⟨S4x45x1024, .f32⟩ : BufTy).Contents (Elt F) → (⟨S4x45x1024, .f32⟩ : BufTy).Contents (Elt F) → (⟨S4x45x1024, .f32⟩ : BufTy).Contents (Elt F))]

/-- The rows of the queries the sparsity measure picked. -/
abbrev opsT (arg0 : StableHlo.TRef sig ⟨S4x16x4096x64, .f32⟩) (arg1 : StableHlo.TRef sig ⟨S4x16x45x1, .i32⟩) (φ : fn_take_along_axis.Bufs) : List (HloOp τ sig (Elt F)) :=
  [StableHlo.TRef.nullary φ.c (constantI S_ 32 0#32),
   StableHlo.TRef.unary φ.c φ.v0 (broadcastInDim S4x16x45x1 ![] bcast_S_S4x16x45x1),
   StableHlo.TRef.binary arg1 φ.v0 φ.v1 (cmpi .slt),
   StableHlo.TRef.nullary φ.c_0 (constantI S_ 32 4096#32),
   StableHlo.TRef.unary φ.c_0 φ.v2 (broadcastInDim S4x16x45x1 ![] bcast_S_S4x16x45x1),
   StableHlo.TRef.binary arg1 φ.v2 φ.v3 addi,
   StableHlo.TRef.ternary φ.v1 φ.v3 arg1 φ.v4 select,
   StableHlo.TRef.nullary φ.c_1 (constantI S1 32 4095#32),
   StableHlo.TRef.nullary φ.c_2 (constantI S_ 32 0#32),
   StableHlo.TRef.unary φ.c_2 φ.v5 (broadcastInDim S4x16x45x1 ![] bcast_S_S4x16x45x1),
   StableHlo.TRef.binary φ.v4 φ.v5 φ.v6 (cmpi .sge),
   StableHlo.TRef.unary φ.c_1 φ.v7 (broadcastInDim S1x1x1x1 ![3] bcast_S1_S1x1x1x1_3),
   StableHlo.TRef.unary φ.v7 φ.v8 (broadcastInDim S4x16x45x1 ![0, 1, 2, 3] bcast_S1x1x1x1_S4x16x45x1_0_1_2_3),
   StableHlo.TRef.binary φ.v4 φ.v8 φ.v9 (cmpi .sle),
   StableHlo.TRef.binary φ.v6 φ.v9 φ.v10 andi,
   StableHlo.TRef.nullary φ.c_3 (constantI S_ 1 1#1),
   StableHlo.TRef.binary φ.v10 φ.c_3 φ.v11 (fun x v => Host.reduce IntOp.andi x v reducesTo_S4x16x45x1_S4x16x45_d3 h_S_),
   StableHlo.TRef.binary arg0 φ.v4 φ.v12 (fun x i => Host.gather gather_S4x16x4096x64_S4x16x45x1_S4x16x45x64_3_2_01_01_2_3_11164 x i),
   StableHlo.TRef.unary φ.v11 φ.v13 (broadcastInDim S4x16x45x64 ![0, 1, 2] bcast_S4x16x45_S4x16x45x64_0_1_2),
   StableHlo.TRef.nullary φ.cst (constant S_ .f32 0x7FC00000#32),
   StableHlo.TRef.unary φ.cst φ.v14 (broadcastInDim S4x16x45x64 ![] bcast_S_S4x16x45x64),
   StableHlo.TRef.ternary φ.v13 φ.v12 φ.v14 φ.v15 select]

/-- The permutation's operations at the reference's buffers. -/
abbrev opsS : List (HloOp τ sig (Elt Ideal)) := shOps (.of main_v24) (.of main_v25) (shR main_call0)

/-- All of the reference's operations, in order. -/
abbrev opsR : List (HloOp τ sig (Elt Ideal)) :=
  opsA ++ (opsS ++ (opsB ++ (opsT (.of main_v41) (.of main_v42) main_call1 ++ opsC)))

/-- The reference is this line. -/
theorem main_eq (d : Dev nD) : main (F := Ideal) d = seq opsR := by
  chain_rfl

end Cert.Proof.Ref
-- ==== Proof.Ref.Mono.lean ====
/- The reference writes its buffers in order, so that after it every operation's equation holds at once. -/
module

public import proofs.«01_k».proof.Proof.Ref.Ops

@[expose] public section

set_option maxRecDepth 16384
set_option Elab.async false

noncomputable section

namespace Cert.Proof.Ref

open Idealize.ShloMosaic Idealize.ShloMosaic.StableHlo Idealize.ShloMosaic.TcCoe Idealize.SL.Sem
open Cert.ReferenceIdeal Cert.ReferenceIdeal.Gen
open Cert.Proof.Ssa Cert.Proof.Shuffle

variable {F : FTy → Type} [FloatOps F]

/-- The first stretch writes buffers 11 … 39. -/
theorem monoA : Mono 11 (opsA (F := F)) 40 := by
  unfold opsA
  repeat (first | refine Mono.nullary _ _ rfl ?_ | refine Mono.unary _ _ _ rfl rfl ?_ | refine Mono.reshape _ _ _ _ rfl rfl ?_ | refine Mono.binary _ _ _ _ rfl rfl rfl ?_ | refine Mono.ternary _ _ _ _ _ rfl rfl rfl rfl ?_)
  exact .nil (by decide)

/-- The selection writes its buffers in order. -/
theorem monoB : Mono 1000 (opsB (F := F)) 1023 := by
  unfold opsB
  repeat (first | refine Mono.nullary _ _ rfl ?_ | refine Mono.unary _ _ _ rfl rfl ?_ | refine Mono.reshape _ _ _ _ rfl rfl ?_ | refine Mono.binary _ _ _ _ rfl rfl rfl ?_ | refine Mono.ternary _ _ _ _ _ rfl rfl rfl rfl ?_)
  exact .nil (by decide)

/-- The row lookup writes its buffers in order. -/
theorem monoT : Mono 1023 (opsT (F := F) (.of main_v41) (.of main_v42) main_call1) 1045 := by
  unfold opsT
  repeat (first | refine Mono.nullary _ _ rfl ?_ | refine Mono.unary _ _ _ rfl rfl ?_ | refine Mono.reshape _ _ _ _ rfl rfl ?_ | refine Mono.binary _ _ _ _ rfl rfl rfl ?_ | refine Mono.ternary _ _ _ _ _ rfl rfl rfl rfl ?_)
  exact .nil (by decide)

/-- The last stretch writes its buffers in order. -/
theorem monoC : Mono 1045 (opsC (F := F)) 1068 := by
  unfold opsC
  repeat (first | refine Mono.nullary _ _ rfl ?_ | refine Mono.unary _ _ _ rfl rfl ?_ | refine Mono.reshape _ _ _ _ rfl rfl ?_ | refine Mono.binary _ _ _ _ rfl rfl rfl ?_ | refine Mono.ternary _ _ _ _ _ rfl rfl rfl rfl ?_)
  exact .nil (by decide)

set_option maxHeartbeats 4000000 in
/-- The permutation writes buffers 40 … 999. -/
theorem monoS : Mono 40 opsS 1000 := by
  unfold opsS shOps splitOps tfOps
  simp only [List.append_assoc]
  repeat (first | refine Mono.nullary _ _ rfl ?_ | refine Mono.unary _ _ _ rfl rfl ?_ | refine Mono.reshape _ _ _ _ rfl rfl ?_ | refine Mono.binary _ _ _ _ rfl rfl rfl ?_ | refine Mono.ternary _ _ _ _ _ rfl rfl rfl rfl ?_)
  exact .nil (by decide)

end Cert.Proof.Ref
-- ==== Proof.Ref.Run.lean ====
/- The reference's run: it writes its buffers in order, so that after it every operation's equation holds at once. -/
module

public import proofs.«01_k».proof.Proof.Ref.Mono
public import Idealize.ShloMosaic.Lib.Quiescent
public import Idealize.ShloMosaic.Lib.StableHlo.RunHlo

@[expose] public section

set_option maxRecDepth 16384
set_option Elab.async false

noncomputable section

namespace Cert.Proof.Ref

open Idealize.ShloMosaic Idealize.ShloMosaic.StableHlo Idealize.ShloMosaic.TcCoe Idealize.SL.Sem
open Cert.ReferenceIdeal Cert.ReferenceIdeal.Gen
open Cert.Proof.Ssa Cert.Proof.Shuffle

/-- The whole line writes buffers 11 … 1067, in order. -/
theorem monoR : Mono 11 opsR 1068 :=
  monoA.append (monoS.append (monoB.append (monoT.append monoC)))

/-- The reference runs to the fold of its operations over the launch contents, every semaphore at zero. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ (d : Dev nD) (b : Ref sig .tc),
        r.2.mem ((d.tc : Thread nD τ).loc b) = after opsR (launchContents m d) (Proc.devRef .tc b))
      ∧ r.2.sem = fun _ => 0 :=
  θ_run_mono (run_seq (by decide) (by decide) _ _ (fun _ => opsR) main_eq
    (fun _ => List.forall_iff_forall_mem.2 monoR.bufs) m ρ fun _ => monoR.fresh)
    fun r h => ⟨h, sem_eq_zero_of_no_sems rfl _⟩

/-- An argument's buffer keeps its contents. -/
theorem arg_eq (V : Valuation τ sig (Elt Ideal)) (b : Ref sig .tc) (hb : b.idx.val < 11) :
    after opsR V (Proc.devRef .tc b) = V (Proc.devRef .tc b) :=
  monoR.after_of_lt V b hb

/-- The reference ends with its arguments as launched and every semaphore at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_mono (run m ρ) fun r h => ⟨fun c => ⟨(h.1 c main_arg0).trans (arg_eq _ _ (by decide)), (h.1 c main_arg1).trans (arg_eq _ _ (by decide)), (h.1 c main_arg2).trans (arg_eq _ _ (by decide)), (h.1 c main_arg3).trans (arg_eq _ _ (by decide)), (h.1 c main_arg4).trans (arg_eq _ _ (by decide)), (h.1 c main_arg5).trans (arg_eq _ _ (by decide)), (h.1 c main_arg6).trans (arg_eq _ _ (by decide)), (h.1 c main_arg7).trans (arg_eq _ _ (by decide)), (h.1 c main_arg8).trans (arg_eq _ _ (by decide)), (h.1 c main_arg9).trans (arg_eq _ _ (by decide)), (h.1 c main_arg10).trans (arg_eq _ _ (by decide))⟩, h.2⟩

end Cert.Proof.Ref
-- ==== Proof.Ref.Stages.lean ====
/- The reference's stages as plain functions of arrays, and its two results as these functions of the arguments. -/
module

public import proofs.«01_k».proof.Proof.Ref.Run

@[expose] public section

set_option maxRecDepth 16384
set_option Elab.async false

noncomputable section

namespace Cert.Proof.Ref

open Idealize.ShloMosaic Idealize.ShloMosaic.StableHlo Idealize.ShloMosaic.TcCoe Idealize.SL.Sem
open Cert.ReferenceIdeal Cert.ReferenceIdeal.Gen
open Cert.Proof.Ssa Cert.Proof.Shuffle

/-- A linear layer, its 1024 features as 16 heads of 64. -/
def heads (X : FVec Ideal S4x4096x1024 .f32) (W : FVec Ideal S1024x1024 .f32) (β : FVec Ideal S1024 .f32) :
    FVec Ideal S4x4096x16x64 .f32 :=
  shapeCast S4x4096x16x64
    (addf (Host.dotGeneral dot_S4x4096x1024_S1024x1024_S4x4096x1024_2_0_01_1_n_n none X
        (transpose S1024x1024 [1, 0] W transposes_S1024x1024_S1024x1024_1_0))
      (broadcastInDim S4x4096x1024 ![0, 1, 2] bcast_S1x1x1024_S4x4096x1024_0_1_2
        (broadcastInDim S1x1x1024 ![2] bcast_S1024_S1x1x1024_2 β)))
    shapeCasts_S4x4096x1024_S4x4096x16x64

/-- The first 45 entries of the permutation, as row numbers. -/
def rows (p : IVec S4096 32) : IVec S45x1 32 :=
  broadcastInDim S45x1 ![0] bcast_S45_S45x1_0
    (select (cmpi .slt (extractStridedSlice S45 ![0] p slices_S4096_S45_0) (broadcastInDim S45 ![] bcast_S_S45 (constantI S_ 32 0#32)))
      (addi (extractStridedSlice S45 ![0] p slices_S4096_S45_0) (broadcastInDim S45 ![] bcast_S_S45 (constantI S_ 32 4096#32)))
      (extractStridedSlice S45 ![0] p slices_S4096_S45_0))

/-- The sampled queries. -/
def sampled (Q : FVec Ideal S4x4096x16x64 .f32) (r : IVec S45x1 32) : FVec Ideal S4x45x16x64 .f32 :=
  Host.gather gather_S4x4096x16x64_S45x1_S4x45x16x64_023_1_n_n_1_1_411664 Q r

/-- The sampled queries' scores against every key. -/
def scoresS (Q : FVec Ideal S4x45x16x64 .f32) (K : FVec Ideal S4x4096x16x64 .f32) : FVec Ideal S4x16x45x4096 .f32 :=
  Host.dotGeneral dot_S4x45x16x64_S4x4096x16x64_S4x16x45x4096_3_3_1_1_02_02 none Q K

/-- The maximum of each row of scores. -/
def rowMax (S : FVec Ideal S4x16x45x4096 .f32) : FVec Ideal S4x16x45 .f32 :=
  Host.reduce FloatOps.maximumf S (constant (F := Ideal) S_ .f32 0xFF800000#32) reducesTo_S4x16x45x4096_S4x16x45_d3 h_S_

/-- The sum of each row. -/
def rowSum (S : FVec Ideal S4x16x45x4096 .f32) : FVec Ideal S4x16x45 .f32 :=
  Host.reduceAdd S (constant (F := Ideal) S_ .f32 0x00000000#32) reducesTo_S4x16x45x4096_S4x16x45_d3 h_S_

/-- Maxima less means, from maxima and sums. -/
def lessMean (A B : FVec Ideal S4x16x45 .f32) : FVec Ideal S4x16x45 .f32 :=
  subf A (Host.divf B (broadcastInDim S4x16x45 ![] bcast_S_S4x16x45 (constant (F := Ideal) S_ .f32 0x45800000#32)))

/-- The sparsity measure of each row of scores: its maximum less its mean. -/
def sparsity (S : FVec Ideal S4x16x45x4096 .f32) : FVec Ideal S4x16x45 .f32 := lessMean (rowMax S) (rowSum S)

/-- The 45 largest measures' positions. -/
def tops (M : FVec Ideal S4x16x45 .f32) : IVec S4x16x45x1 32 :=
  broadcastInDim S4x16x45x1 ![0, 1, 2] bcast_S4x16x45_S4x16x45x1_0_1_2
    (Host.topK S4x16x45 2 (FloatOps.cmpfTotal .gt) M sliceFits_S4x16x45_S4x16x45).2

/-- Negative positions counted from the end. -/
def wrapped (i : IVec S4x16x45x1 32) : IVec S4x16x45x1 32 :=
  select (cmpi .slt i (broadcastInDim S4x16x45x1 ![] bcast_S_S4x16x45x1 (constantI S_ 32 0#32)))
    (addi i (broadcastInDim S4x16x45x1 ![] bcast_S_S4x16x45x1 (constantI S_ 32 4096#32))) i

/-- The query rows at the given positions, with not-a-number where a position is out of range. -/
def picked (Q : FVec Ideal S4x4096x16x64 .f32) (i : IVec S4x16x45x1 32) : FVec Ideal S4x16x45x64 .f32 :=
  select
    (broadcastInDim S4x16x45x64 ![0, 1, 2] bcast_S4x16x45_S4x16x45x64_0_1_2
      (Host.reduce IntOp.andi
        (andi (cmpi .sge (wrapped i) (broadcastInDim S4x16x45x1 ![] bcast_S_S4x16x45x1 (constantI S_ 32 0#32)))
          (cmpi .sle (wrapped i) (broadcastInDim S4x16x45x1 ![0, 1, 2, 3] bcast_S1x1x1x1_S4x16x45x1_0_1_2_3
            (broadcastInDim S1x1x1x1 ![3] bcast_S1_S1x1x1x1_3 (constantI S1 32 4095#32)))))
        (constantI S_ 1 1#1) reducesTo_S4x16x45x1_S4x16x45_d3 h_S_))
    (Host.gather gather_S4x16x4096x64_S4x16x45x1_S4x16x45x64_3_2_01_01_2_3_11164
      (transpose S4x16x4096x64 [0, 2, 1, 3] Q transposes_S4x4096x16x64_S4x16x4096x64_0_2_1_3) (wrapped i))
    (broadcastInDim S4x16x45x64 ![] bcast_S_S4x16x45x64 (constant (F := Ideal) S_ .f32 0x7FC00000#32))

/-- The picked queries' scores against every key. -/
def scoresT (Q : FVec Ideal S4x16x45x64 .f32) (K : FVec Ideal S4x4096x16x64 .f32) : FVec Ideal S4x16x45x4096 .f32 :=
  Host.dotGeneral dot_S4x16x45x64_S4x4096x16x64_S4x16x45x4096_3_3_2_1_01_02 none Q K

/-- Exponentials of the scores less the given row values. -/
def expLess (S : FVec Ideal S4x16x45x4096 .f32) (A : FVec Ideal S4x16x45 .f32) : FVec Ideal S4x16x45x4096 .f32 :=
  Host.exp (subf S (broadcastInDim S4x16x45x4096 ![0, 1, 2, 3] bcast_S4x16x45x1_S4x16x45x4096_0_1_2_3
    (broadcastInDim S4x16x45x1 ![0, 1, 2] bcast_S4x16x45_S4x16x45x1_0_1_2
      (maximumf (broadcastInDim S4x16x45 ![] bcast_S_S4x16x45 (constant (F := Ideal) S_ .f32 0xFF800000#32)) A))))

/-- Exponentials of the scores less their maximum. -/
def expd (S : FVec Ideal S4x16x45x4096 .f32) : FVec Ideal S4x16x45x4096 .f32 := expLess S (rowMax S)

/-- Rows divided by the given row values. -/
def rowDiv (E : FVec Ideal S4x16x45x4096 .f32) (A : FVec Ideal S4x16x45 .f32) : FVec Ideal S4x16x45x4096 .f32 :=
  Host.divf E (broadcastInDim S4x16x45x4096 ![0, 1, 2, 3] bcast_S4x16x45x1_S4x16x45x4096_0_1_2_3
    (broadcastInDim S4x16x45x1 ![0, 1, 2] bcast_S4x16x45_S4x16x45x1_0_1_2 A))

/-- Exponentials divided by their sums. -/
def normed (E : FVec Ideal S4x16x45x4096 .f32) : FVec Ideal S4x16x45x4096 .f32 := rowDiv E (rowSum E)

/-- The context: attention-weighted values, the heads side by side. -/
def context (U : FVec Ideal S4x4096x16x64 .f32) (A : FVec Ideal S4x16x45x4096 .f32) : FVec Ideal S4x45x1024 .f32 :=
  shapeCast S4x45x1024
    (transpose S4x45x16x64 [0, 3, 1, 2]
      (Host.dotGeneral dot_S4x4096x16x64_S4x16x45x4096_S4x16x64x45_1_3_3_2_02_01 none U A : FVec Ideal S4x16x64x45 .f32)
      transposes_S4x16x64x45_S4x45x16x64_0_3_1_2)
    shapeCasts_S4x45x16x64_S4x45x1024

/-- The output layer. -/
def output (C : FVec Ideal S4x45x1024 .f32) (W : FVec Ideal S1024x1024 .f32) (β : FVec Ideal S1024 .f32) :
    FVec Ideal S4x45x1024 .f32 :=
  addf (Host.dotGeneral dot_S4x45x1024_S1024x1024_S4x45x1024_2_0_01_1_n_n none C
      (transpose S1024x1024 [1, 0] W transposes_S1024x1024_S1024x1024_1_0))
    (broadcastInDim S4x45x1024 ![0, 1, 2] bcast_S1x1x1024_S4x45x1024_0_1_2
      (broadcastInDim S1x1x1024 ![2] bcast_S1024_S1x1x1024_2 β))

section Equations

variable {τ : Topo} {sig : RefSig} {Val : EltTy → Type} {x a b c y : Ref sig .tc} {F : Valuation τ sig Val}

/-- What a constant operation leaves. -/
theorem eqN {v : y.ty.Contents Val} {hy} (h : (StableHlo.nullary (τ := τ) y v hy).result F = F) :
    F (Proc.devRef .tc y) = v := by
  have e := congrFun h (Proc.devRef .tc y)
  rw [nullary_result] at e
  exact e.symm

/-- What a one-argument operation leaves. -/
theorem eqU {f : x.ty.Contents Val → y.ty.Contents Val} {hx hy}
    (h : (StableHlo.unary (τ := τ) x y f hx hy).result F = F) : F (Proc.devRef .tc y) = f (F (Proc.devRef .tc x)) := by
  have e := congrFun h (Proc.devRef .tc y)
  rw [unary_result] at e
  exact e.symm

/-- What a two-argument operation leaves. -/
theorem eqB {f : a.ty.Contents Val → b.ty.Contents Val → y.ty.Contents Val} {ha hb hy}
    (h : (StableHlo.binary (τ := τ) a b y f ha hb hy).result F = F) :
    F (Proc.devRef .tc y) = f (F (Proc.devRef .tc a)) (F (Proc.devRef .tc b)) := by
  have e := congrFun h (Proc.devRef .tc y)
  rw [binary_result] at e
  exact e.symm

/-- What a three-argument operation leaves. -/
theorem eqT {f : c.ty.Contents Val → a.ty.Contents Val → b.ty.Contents Val → y.ty.Contents Val} {hc ha hb hy}
    (h : (StableHlo.ternary (τ := τ) c a b y f hc ha hb hy).result F = F) :
    F (Proc.devRef .tc y) = f (F (Proc.devRef .tc c)) (F (Proc.devRef .tc a)) (F (Proc.devRef .tc b)) := by
  have e := congrFun h (Proc.devRef .tc y)
  rw [ternary_result] at e
  exact e.symm

/-- What a reshape leaves. -/
theorem eqR {he hn hx hy} (h : (StableHlo.reshape (τ := τ) (Val := Val) x y he hn hx hy).result F = F) :
    F (Proc.devRef .tc y) = fun i => he ▸ shapeCast y.ty.shape (F (Proc.devRef .tc x)) hn i := by
  have e := congrFun h (Proc.devRef .tc y)
  rw [reshape_result] at e
  exact e.symm

end Equations

variable {G : Valuation τ sig (Elt Ideal)}

/-- A buffer of the reference, by its reference. -/
abbrev at' (G : Valuation τ sig (Elt Ideal)) (b : Ref sig .tc) := G (Proc.devRef .tc b)

/-- The queries, keys and values are linear layers of the arguments. -/
theorem queries_eq (h : ∀ op ∈ (opsA : List (HloOp τ sig (Elt Ideal))), op.result G = G) :
    at' G main_v5 = heads (at' G main_arg0) (at' G main_arg3) (at' G main_arg4)
    ∧ at' G main_v11 = heads (at' G main_arg1) (at' G main_arg5) (at' G main_arg6)
    ∧ at' G main_v17 = heads (at' G main_arg2) (at' G main_arg7) (at' G main_arg8) := by
  unfold opsA at h
  simp only [List.forall_mem_cons, List.not_mem_nil, false_imp_iff, implies_true, and_true] at h
  obtain ⟨k0, k1, k2, k3, k4, k5, k6, k7, k8, k9, k10, k11, k12, k13, k14, k15, k16, k17, -⟩ := h
  refine ⟨?_, ?_, ?_⟩
  · refine (eqR k5).trans ?_
    rw [eqB k4, eqB k1, eqU k3, eqU k2, eqU k0]
    rfl
  · refine (eqR k11).trans ?_
    rw [eqB k10, eqB k7, eqU k9, eqU k8, eqU k6]
    rfl
  · refine (eqR k17).trans ?_
    rw [eqB k16, eqB k13, eqU k15, eqU k14, eqU k12]
    rfl

/-- The sampled rows and the picked positions. -/
theorem picks_eq (h : ∀ op ∈ (opsB : List (HloOp τ sig (Elt Ideal))), op.result G = G) :
    at' G main_v33 = rows (at' G main_v26)
    ∧ at' G main_v42 = tops (sparsity (scoresS (sampled (at' G main_v5) (at' G main_v33)) (at' G main_v11)))
    ∧ at' G main_v41 = transpose S4x16x4096x64 [0, 2, 1, 3] (at' G main_v5) transposes_S4x4096x16x64_S4x16x4096x64_0_2_1_3 := by
  unfold opsB at h
  simp only [List.forall_mem_cons, List.not_mem_nil, false_imp_iff, implies_true, and_true] at h
  obtain ⟨k0, k1, k2, k3, k4, k5, k6, k7, k8, k9, k10, k11, k12, k13, k14, k15, k16, k17, k18, k19, k20, k21, k22⟩ := h
  refine ⟨?_, ?_, ?_⟩
  · refine (eqU k8).trans ?_
    rw [eqT k7, eqB k3, eqB k6, eqU k2, eqU k5, eqU k0, eqN k1, eqN k4]
    rfl
  · refine (eqU k22).trans ?_
    rw [eqU k20, eqB k18, eqB k17, eqB k12, eqB k14, eqU k16, eqN k15, eqN k13, eqN k11, eqB k10, eqB k9]
    rfl
  · exact eqU k21

/-- The picked query rows. -/
theorem rows_eq (h : ∀ op ∈ (opsT (.of main_v41) (.of main_v42) main_call1 : List (HloOp τ sig (Elt Ideal))), op.result G = G)
    (e : at' G main_v41 = transpose S4x16x4096x64 [0, 2, 1, 3] (at' G main_v5) transposes_S4x4096x16x64_S4x16x4096x64_0_2_1_3) :
    at' G main_v43 = picked (at' G main_v5) (at' G main_v42) := by
  unfold opsT at h
  simp only [List.forall_mem_cons, List.not_mem_nil, false_imp_iff, implies_true, and_true] at h
  obtain ⟨k0, k1, k2, k3, k4, k5, k6, k7, k8, k9, k10, k11, k12, k13, k14, k15, k16, k17, k18, k19, k20, k21⟩ := h
  have w : val main_call1.v4 G = wrapped (at' G main_v42) := by
    rw [val_ternary k6, val_binary k2, val_binary k5, val_unary k1, val_unary k4, val_nullary k0, val_nullary k3]
    rfl
  have o : val main_call1.v15 G = picked (at' G main_v5) (at' G main_v42) := by
    rw [val_ternary k21, val_unary k18, val_unary k20, val_nullary k19, val_binary k17, val_binary k16, val_nullary k15,
      val_binary k14, val_binary k13, val_binary k10, val_unary k12, val_unary k11, val_unary k9, val_nullary k8,
      val_nullary k7, w]
    have e' : val (.of main_v41 : TRef sig ⟨S4x16x4096x64, .f32⟩) G = _ := e
    rw [e']
    rfl
  exact o

/-- The two results. -/
theorem results_eq (h : ∀ op ∈ (opsC : List (HloOp τ sig (Elt Ideal))), op.result G = G) :
    at' G main_v55 = normed (expd (scoresT (at' G main_v43) (at' G main_v11)))
    ∧ at' G main_v63 = output (context (at' G main_v17) (at' G main_v55)) (at' G main_arg9) (at' G main_arg10) := by
  unfold opsC at h
  simp only [List.forall_mem_cons, List.not_mem_nil, false_imp_iff, implies_true, and_true] at h
  obtain ⟨k0, k1, k2, k3, k4, k5, k6, k7, k8, k9, k10, k11, k12, k13, k14, k15, k16, k17, k18, k19, k20, k21, k22⟩ := h
  refine ⟨?_, ?_⟩
  · refine (eqB k14).trans ?_
    rw [eqU k13, eqU k12, eqB k11, eqN k10, eqU k9, eqB k8, eqU k7, eqU k6, eqB k5, eqU k4, eqN k3, eqB k2, eqN k1, eqB k0]
    rfl
  · refine (eqB k22).trans ?_
    rw [eqU k21, eqU k20, eqB k19, eqU k18, eqR k17, eqU k16, eqB k15]
    rfl

end Cert.Proof.Ref
-- ==== Proof.Kernel.Host.lean ====
/- What the kernel's two results are, as functions of the arguments and of the permutation. -/
module

public import proofs.«01_k».proof.Proof.Kernel.Regions
public import proofs.«01_k».proof.Proof.Kernel.Regions2
public import proofs.«01_k».proof.Proof.Kernel.Glue
public import proofs.«01_k».proof.Proof.Ref.Stages

@[expose] public section

set_option maxRecDepth 16384
set_option Elab.async false

noncomputable section

namespace Cert.Proof.Kernel

open Idealize.ShloMosaic Idealize.ShloMosaic.StableHlo Idealize.ShloMosaic.TcCoe Idealize.SL.Sem
open Cert.KernelIdeal Cert.KernelIdeal.Gen
open Cert.Proof.Math Cert.Proof.Ssa
open Cert.Proof.Ref (eqN eqU eqB eqT eqR)

/-- The first stretch after the permutation writes in order. -/
theorem mono2 : Mono 0 (hostOps0_2 : List (HloOp τ sig (Elt Ideal))) 5000 := by
  unfold hostOps0_2
  repeat (first | refine Mono.nullary _ _ rfl ?_ | refine Mono.unary _ _ _ rfl rfl ?_ | refine Mono.reshape _ _ _ _ rfl rfl ?_ | refine Mono.binary _ _ _ _ rfl rfl rfl ?_ | refine Mono.ternary _ _ _ _ _ rfl rfl rfl rfl ?_)
  exact .nil (by decide)

/-- The first padding writes in order. -/
theorem mono3 : Mono 0 (hostOps0_3 : List (HloOp τ sig (Elt Ideal))) 5000 := by
  unfold hostOps0_3
  repeat (first | refine Mono.unary _ _ _ rfl rfl ?_ | refine Mono.binary _ _ _ _ rfl rfl rfl ?_)
  exact .nil (by decide)

/-- The slice of the first rows writes in order. -/
theorem mono4 : Mono 0 (hostOps0_4 : List (HloOp τ sig (Elt Ideal))) 5000 := by
  unfold hostOps0_4
  repeat (first | refine Mono.nullary _ _ rfl ?_ | refine Mono.unary _ _ _ rfl rfl ?_)
  exact .nil (by decide)

/-- The second padding writes in order. -/
theorem mono5 : Mono 0 (hostOps0_5 : List (HloOp τ sig (Elt Ideal))) 5000 := by
  unfold hostOps0_5
  repeat (first | refine Mono.unary _ _ _ rfl rfl ?_ | refine Mono.binary _ _ _ _ rfl rfl rfl ?_)
  exact .nil (by decide)

/-- The stacking writes in order. -/
theorem mono6 : Mono 0 (hostOps0_6 : List (HloOp τ sig (Elt Ideal))) 5000 := by
  unfold hostOps0_6
  repeat (first | refine Mono.reshape _ _ _ _ rfl rfl ?_ | refine Mono.binary _ _ _ _ rfl rfl rfl ?_)
  exact .nil (by decide)

/-- The split into heads writes in order. -/
theorem mono7 : Mono 0 (hostOps1 : List (HloOp τ sig (Elt Ideal))) 5000 := by
  unfold hostOps1
  repeat (first | refine Mono.reshape _ _ _ _ rfl rfl ?_ | refine Mono.unary _ _ _ rfl rfl ?_)
  exact .nil (by decide)

/-- The joining of the heads writes in order. -/
theorem mono8 : Mono 0 (hostOps3 : List (HloOp τ sig (Elt Ideal))) 5000 := by
  unfold hostOps3
  repeat (first | refine Mono.reshape _ _ _ _ rfl rfl ?_ | refine Mono.unary _ _ _ rfl rfl ?_)
  exact .nil (by decide)

/-- The last cut writes in order. -/
theorem mono9 : Mono 0 (hostOps4 : List (HloOp τ sig (Elt Ideal))) 5000 := by
  unfold hostOps4
  repeat (first | refine Mono.reshape _ _ _ _ rfl rfl ?_ | refine Mono.unary _ _ _ rfl rfl ?_)
  exact .nil (by decide)

variable {G : Valuation τ sig (Elt Ideal)}

/-- A buffer of the kernel's program, by its reference. -/
abbrev at' (G : Valuation τ sig (Elt Ideal)) (b : Ref sig .tc) := G (Proc.devRef .tc b)

/-- The sampled query rows, after their stretch. -/
theorem eq2 (h : ∀ op ∈ (hostOps0_2 : List (HloOp τ sig (Elt Ideal))), op.result G = G) :
    at' G main_v16 = taken (at' G main_arg0) (Ref.rows (at' G main_v8)) ∧ at' G main_c_4 = constantI S_ 32 0#32 := by
  unfold hostOps0_2 at h
  simp only [List.forall_mem_cons, List.not_mem_nil, false_imp_iff, implies_true, and_true] at h
  obtain ⟨k0, k1, k2, k3, k4, k5, k6, k7, k8, k9, k10⟩ := h
  refine ⟨?_, eqN k10⟩
  refine (eqB k9).trans ?_
  rw [eqU k8, eqT k7, eqB k3, eqB k6, eqU k2, eqU k5, eqU k0, eqN k1, eqN k4]
  rfl

/-- The sampled rows, padded. -/
theorem eq3 (h : ∀ op ∈ (hostOps0_3 : List (HloOp τ sig (Elt Ideal))), op.result G = G)
    (e : at' G main_c_4 = constantI S_ 32 0#32) : at' G main_v17 = padded (at' G main_v16) := by
  unfold hostOps0_3 at h
  simp only [List.forall_mem_cons, List.not_mem_nil, false_imp_iff, implies_true, and_true] at h
  obtain ⟨k0, k1⟩ := h
  have o := val_binary k1
  rw [val_unary k0] at o
  have e' : val (.of main_c_4 : TRef sig ⟨S_, .i32⟩) G = _ := e
  rw [e'] at o
  exact o

/-- The first query rows, after their stretch. -/
theorem eq4 (h : ∀ op ∈ (hostOps0_4 : List (HloOp τ sig (Elt Ideal))), op.result G = G) :
    at' G main_v18 = firsts (at' G main_arg0) ∧ at' G main_c_5 = constantI S_ 32 0#32 := by
  unfold hostOps0_4 at h
  simp only [List.forall_mem_cons, List.not_mem_nil, false_imp_iff, implies_true, and_true] at h
  obtain ⟨k0, k1⟩ := h
  exact ⟨eqU k0, eqN k1⟩

/-- The first rows, padded. -/
theorem eq5 (h : ∀ op ∈ (hostOps0_5 : List (HloOp τ sig (Elt Ideal))), op.result G = G)
    (e : at' G main_c_5 = constantI S_ 32 0#32) : at' G main_v19 = padded (at' G main_v18) := by
  unfold hostOps0_5 at h
  simp only [List.forall_mem_cons, List.not_mem_nil, false_imp_iff, implies_true, and_true] at h
  obtain ⟨k0, k1⟩ := h
  have o := val_binary k1
  rw [val_unary k0] at o
  have e' : val (.of main_c_5 : TRef sig ⟨S_, .i32⟩) G = _ := e
  rw [e'] at o
  exact o

/-- The two blocks of rows stacked, and the bias as a row. -/
theorem eq6 (h : ∀ op ∈ (hostOps0_6 : List (HloOp τ sig (Elt Ideal))), op.result G = G) :
    at' G main_v20 = stacked (at' G main_v17) (at' G main_v19) ∧ at' G main_v21 = asRow (at' G main_arg4) := by
  unfold hostOps0_6 at h
  simp only [List.forall_mem_cons, List.not_mem_nil, false_imp_iff, implies_true, and_true] at h
  obtain ⟨k0, k1⟩ := h
  exact ⟨eqB k0, eqR k1⟩

/-- The projected queries split into heads. -/
theorem eq7 (h : ∀ op ∈ (hostOps1 : List (HloOp τ sig (Elt Ideal))), op.result G = G) :
    at' G main_v24 = split (at' G main_v22) := by
  unfold hostOps1 at h
  simp only [List.forall_mem_cons, List.not_mem_nil, false_imp_iff, implies_true, and_true] at h
  obtain ⟨k0, k1⟩ := h
  refine (eqU k1).trans ?_
  rw [eqR k0]
  rfl

/-- The averages with the heads joined, and the two biases as rows. -/
theorem eq8 (h : ∀ op ∈ (hostOps3 : List (HloOp τ sig (Elt Ideal))), op.result G = G) :
    at' G main_v28 = joined (at' G main_v26_1) ∧ at' G main_v29 = asRow (at' G main_arg8)
      ∧ at' G main_v30 = asRow (at' G main_arg10) := by
  unfold hostOps3 at h
  simp only [List.forall_mem_cons, List.not_mem_nil, false_imp_iff, implies_true, and_true] at h
  obtain ⟨k0, k1, k2, k3⟩ := h
  refine ⟨?_, eqR k2, eqR k3⟩
  refine (eqR k1).trans ?_
  rw [eqU k0]
  rfl

/-- The output rows without the padding. -/
theorem eq9 (h : ∀ op ∈ (hostOps4 : List (HloOp τ sig (Elt Ideal))), op.result G = G) :
    at' G main_v32 = cut (at' G main_v31) := by
  unfold hostOps4 at h
  simp only [List.forall_mem_cons, List.not_mem_nil, false_imp_iff, implies_true, and_true] at h
  exact eqU h

variable (m : (ℓ : Loc nD τ sig) → Buf (Elt Ideal) ℓ) (ρ : Dev nD → PrngReg) (c : Dev nD)

/-- An argument's launch contents. -/
abbrev arg (b : Ref sig .tc) := m ((c : Thread nD τ).loc b)

/-- An argument keeps its contents up to the first kernel. -/
theorem args7 : ∀ a ∈ argRefs, W7 m ρ c (Proc.devRef .tc a) = arg m c a := by
  intro a ha
  rw [W7_of m ρ c a (hostOps0_6_args a ha), W6_of m ρ c a (hostOps0_5_args a ha), W5_of m ρ c a (hostOps0_4_args a ha),
    W4_of m ρ c a (hostOps0_3_args a ha), W3_of m ρ c a (hostOps0_2_args a ha), W2_of m ρ c a (hostOps0_1_args a ha),
    W1_of m ρ c a (hostOps0_args a ha)]

/-- The stacked query rows: 45 sampled ones, padded, then the first 45, padded. -/
def rowsIn (X : FVec Ideal S4x4096x1024 .f32) (p : IVec S4096 32) : FVec Ideal S4x96x1024 .f32 :=
  stacked (padded (taken X (Ref.rows p))) (padded (firsts X))

/-- What the first kernel reads. -/
theorem entry0 : W7 m ρ c (Proc.devRef .tc main_v20) = rowsIn (arg m c main_arg0) (W2 m ρ c (Proc.devRef .tc main_v8))
    ∧ W7 m ρ c (Proc.devRef .tc main_v21) = asRow (arg m c main_arg4) := by
  have a0 : W3 m ρ c (Proc.devRef .tc main_arg0) = arg m c main_arg0 := by
    rw [W3_of m ρ c _ (by decide +kernel), W2_of m ρ c _ (by decide +kernel), W1_of m ρ c _ (by decide +kernel)]
  have a0' : W5 m ρ c (Proc.devRef .tc main_arg0) = arg m c main_arg0 := by
    rw [W5_of m ρ c _ (by decide +kernel), W4_of m ρ c _ (by decide +kernel), a0]
  have h2 := eq2 (mono2.fix (W2 m ρ c))
  have h3 := eq3 (mono3.fix (W3 m ρ c)) ((W4_of m ρ c main_c_4 (by decide +kernel)).trans h2.2)
  have h4 := eq4 (mono4.fix (W4 m ρ c))
  have h5 := eq5 (mono5.fix (W5 m ρ c)) ((W6_of m ρ c main_c_5 (by decide +kernel)).trans h4.2)
  have h6 := eq6 (mono6.fix (W6 m ρ c))
  have e16 : W4 m ρ c (Proc.devRef .tc main_v16) = taken (arg m c main_arg0) (Ref.rows (W2 m ρ c (Proc.devRef .tc main_v8))) := by
    rw [W4_of m ρ c _ (by decide +kernel)]
    refine h2.1.trans ?_
    show taken (W3 m ρ c (Proc.devRef .tc main_arg0)) (Ref.rows (W3 m ρ c (Proc.devRef .tc main_v8))) = _
    rw [a0, W3_of m ρ c main_v8 (by decide +kernel)]
  have e17 : W7 m ρ c (Proc.devRef .tc main_v17) = padded (taken (arg m c main_arg0) (Ref.rows (W2 m ρ c (Proc.devRef .tc main_v8)))) := by
    rw [W7_of m ρ c _ (by decide +kernel), W6_of m ρ c _ (by decide +kernel), W5_of m ρ c _ (by decide +kernel)]
    exact h3.trans (congrArg padded e16)
  have e18 : W6 m ρ c (Proc.devRef .tc main_v18) = firsts (arg m c main_arg0) := by
    rw [W6_of m ρ c _ (by decide +kernel)]
    exact h4.1.trans (congrArg firsts a0')
  have e19 : W7 m ρ c (Proc.devRef .tc main_v19) = padded (firsts (arg m c main_arg0)) := by
    rw [W7_of m ρ c _ (by decide +kernel)]
    exact h5.trans (congrArg padded e18)
  refine ⟨h6.1.trans (congr_arg₂ stacked e17 e19), h6.2.trans (congrArg asRow ?_)⟩
  exact args7 m ρ c main_arg4 (by decide +kernel)

end Cert.Proof.Kernel
-- ==== Proof.Kernel.Results.lean ====
/- The kernel's two results, as functions of the arguments and of the permutation. -/
module

public import proofs.«01_k».proof.Proof.Kernel.Host

@[expose] public section

set_option maxRecDepth 16384
set_option Elab.async false

noncomputable section

namespace Cert.Proof.Kernel

open Idealize.ShloMosaic Idealize.ShloMosaic.StableHlo Idealize.ShloMosaic.TcCoe Idealize.SL.Sem
open Cert.KernelIdeal Cert.KernelIdeal.Gen
open Cert.Proof.Math Cert.Proof.Ssa

/-- The projected query rows, split into heads. -/
def queryHeads (X : FVec Ideal S4x4096x1024 .f32) (p : IVec S4096 32) (W : FVec Ideal S1024x1024 .f32)
    (β : FVec Ideal S1024 .f32) : FVec Ideal S4x16x96x64 .f32 :=
  split (projQ (rowsIn X p) W (asRow β))

variable (m : (ℓ : Loc nD τ sig) → Buf (Elt Ideal) ℓ) (ρ : Dev nD → PrngReg) (c : Dev nD)

/-- The permutation the kernel's program draws. -/
abbrev perm := W2 m ρ c (Proc.devRef .tc main_v8)

/-- The queries the attention kernel reads. -/
theorem entry_queries : W10 m ρ c (Proc.devRef .tc main_v24)
    = queryHeads (arg m c main_arg0) (perm m ρ c) (arg m c main_arg3) (arg m c main_arg4) := by
  have e22 : W8 m ρ c (Proc.devRef .tc main_v22)
      = projQ (W7 m ρ c (Proc.devRef .tc main_v20)) (W7 m ρ c (Proc.devRef .tc main_arg3)) (W7 m ρ c (Proc.devRef .tc main_v21)) :=
    (W8_arr m ρ c (3 : Fin 4)).trans (queries (V7 m ρ) c)
  rw [(entry0 m ρ c).1, (entry0 m ρ c).2, W7_args m ρ c main_arg3 (by decide +kernel)] at e22
  have e24 : W9 m ρ c (Proc.devRef .tc main_v24) = split (W9 m ρ c (Proc.devRef .tc main_v22)) :=
    eq7 (mono7.fix (W8 m ρ c))
  rw [W10_of m ρ c main_v24 (by decide +kernel), e24, W9_of m ρ c main_v22 (by decide +kernel), e22]
  rfl

/-- The keys the attention kernel reads. -/
theorem entry_keys : W10 m ρ c (Proc.devRef .tc main_v25_0) = projT (φ := .f32) (arg m c main_arg1) (arg m c main_arg5) := by
  refine ((W10_arr m ρ c (4 : Fin 6)).trans (keys (V9 m ρ) c)).trans ?_
  show projT (φ := .f32) (W9 m ρ c (Proc.devRef .tc main_arg1)) (W9 m ρ c (Proc.devRef .tc main_arg5)) = _
  rw [W9_args m ρ c main_arg1 (by decide +kernel), W9_args m ρ c main_arg5 (by decide +kernel)]

/-- The values the attention kernel reads. -/
theorem entry_vals : W10 m ρ c (Proc.devRef .tc main_v25_1) = projT (φ := .bf16) (arg m c main_arg2) (arg m c main_arg7) := by
  refine ((W10_arr m ρ c (5 : Fin 6)).trans (vals (V9 m ρ) c)).trans ?_
  show projT (φ := .bf16) (W9 m ρ c (Proc.devRef .tc main_arg2)) (W9 m ρ c (Proc.devRef .tc main_arg7)) = _
  rw [W9_args m ρ c main_arg2 (by decide +kernel), W9_args m ρ c main_arg7 (by decide +kernel)]

/-- The second result: the attention weights. -/
theorem result_weights : W14 m ρ c (Proc.devRef .tc main_v26_0)
    = attn (queryHeads (arg m c main_arg0) (perm m ρ c) (arg m c main_arg3) (arg m c main_arg4))
        (projT (φ := .f32) (arg m c main_arg1) (arg m c main_arg5)) := by
  rw [W14_of m ρ c main_v26_0 (by decide +kernel), W13_of m ρ c main_v26_0 (by decide +kernel),
    W12_of m ρ c main_v26_0 (by decide +kernel)]
  refine ((W11_arr m ρ c (3 : Fin 5)).trans (attns (V10 m ρ) c)).trans ?_
  exact congr_arg₂ attn (entry_queries m ρ c) (entry_keys m ρ c)

/-- The attention kernel's averages. -/
theorem entry_ctx : W11 m ρ c (Proc.devRef .tc main_v26_1)
    = ctx (queryHeads (arg m c main_arg0) (perm m ρ c) (arg m c main_arg3) (arg m c main_arg4))
        (projT (φ := .f32) (arg m c main_arg1) (arg m c main_arg5)) (projT (φ := .bf16) (arg m c main_arg2) (arg m c main_arg7)) := by
  refine ((W11_arr m ρ c (4 : Fin 5)).trans (ctxs (V10 m ρ) c)).trans ?_
  show ctx (W10 m ρ c (Proc.devRef .tc main_v24)) (W10 m ρ c (Proc.devRef .tc main_v25_0)) (W10 m ρ c (Proc.devRef .tc main_v25_1)) = _
  rw [entry_queries, entry_keys, entry_vals]

/-- The first result: the output rows. -/
theorem result_output : W14 m ρ c (Proc.devRef .tc main_v32)
    = cut (projO (joined (ctx (queryHeads (arg m c main_arg0) (perm m ρ c) (arg m c main_arg3) (arg m c main_arg4))
        (projT (φ := .f32) (arg m c main_arg1) (arg m c main_arg5)) (projT (φ := .bf16) (arg m c main_arg2) (arg m c main_arg7))))
        (asRow (arg m c main_arg8)) (arg m c main_arg9) (asRow (arg m c main_arg10))) := by
  have h8 := eq8 (mono8.fix (W11 m ρ c))
  have e28 : W12 m ρ c (Proc.devRef .tc main_v28) = joined (W11 m ρ c (Proc.devRef .tc main_v26_1)) :=
    h8.1.trans (congrArg joined (W12_of m ρ c main_v26_1 (by decide +kernel)))
  have e29 : W12 m ρ c (Proc.devRef .tc main_v29) = asRow (arg m c main_arg8) :=
    h8.2.1.trans (congrArg asRow (W12_args m ρ c main_arg8 (by decide +kernel)))
  have e30 : W12 m ρ c (Proc.devRef .tc main_v30) = asRow (arg m c main_arg10) :=
    h8.2.2.trans (congrArg asRow (W12_args m ρ c main_arg10 (by decide +kernel)))
  have e31 : W13 m ρ c (Proc.devRef .tc main_v31)
      = projO (W12 m ρ c (Proc.devRef .tc main_v28)) (W12 m ρ c (Proc.devRef .tc main_v29)) (W12 m ρ c (Proc.devRef .tc main_arg9))
          (W12 m ρ c (Proc.devRef .tc main_v30)) :=
    (W13_arr m ρ c (4 : Fin 5)).trans (outs (V12 m ρ) c)
  rw [e28, e29, e30, entry_ctx, W12_args m ρ c main_arg9 (by decide +kernel)] at e31
  refine (eq9 (mono9.fix (W13 m ρ c))).trans (congrArg cut ?_)
  exact (W14_of m ρ c main_v31 (by decide +kernel)).trans e31

end Cert.Proof.Kernel
-- ==== Proof.Math.Rank.lean ====
/- A stable sort by decreasing measure and the count of the queries that come before one are the same ordering: the query
   the sort puts at place `r` is the one before which exactly `r` queries come. -/
module

public import proofs.«01_k».proof.Proof.Math.Spec
public import Idealize.ShloMosaic.Lib.SortPrefix

@[expose] public section

noncomputable section

namespace Cert.Proof.Math

open Idealize.ShloMosaic

/-- Two relations that agree whenever a later element of the list is compared with an earlier one sort it alike. -/
theorem stableSort_eq {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- So the sort of positions depends only on how a relation compares a later position with an earlier one. -/
theorem sortedFrom_eq {n : ℕ} (R R' : Fin n → Fin n → Bool) (h : ∀ a b : Fin n, a < b → R b a = R' b a) :
    sortedFrom R = sortedFrom R' := by
  have e : sortPositions n R = sortPositions n R' :=
    stableSort_eq R R' _ ((List.pairwise_lt_finRange n).imp fun {a b} hab => h a b hab)
  funext k
  unfold sortedFrom
  rw [List.get_of_eq e]
  rfl

open Classical in
/-- "Comes before", as a decision. -/
def beatsB {n : ℕ} (M : Fin n → EReal) (c r : Fin n) : Bool := decide (Beats M c r)

/-- The Boolean test of `Beats` decides it. -/
theorem beatsB_iff {n : ℕ} (M : Fin n → EReal) (c r : Fin n) : beatsB M c r = true ↔ Beats M c r := by
  simp [beatsB]

/-- "Comes before" orders the queries strictly and totally. -/
theorem beats_order {n : ℕ} (M : Fin n → EReal) : StrictTotalBefore (beatsB M) where
  irrefl a := by
    rw [← Bool.not_eq_true, beatsB_iff]
    simp [Beats]
  trans a b c hab hbc := by
    rw [beatsB_iff] at *
    rcases hab with h | ⟨h, h'⟩ <;> rcases hbc with k | ⟨k, k'⟩
    · exact Or.inl (k.trans h)
    · exact Or.inl (k ▸ h)
    · exact Or.inl (h ▸ k)
    · exact Or.inr ⟨h.trans k, h'.trans k'⟩
  total a b hne := by
    rw [beatsB_iff, beatsB_iff]
    rcases lt_trichotomy (M a) (M b) with h | h | h
    · exact Or.inr (Or.inl h)
    · rcases lt_or_gt_of_ne hne with k | k
      · exact Or.inl (Or.inr ⟨h, k⟩)
      · exact Or.inr (Or.inr ⟨h.symm, k⟩)
    · exact Or.inl (Or.inl h)

/-- The stable sort by decreasing measure sorts by "comes before". -/
theorem sortedFrom_gt {n : ℕ} (M : Fin n → EReal) :
    sortedFrom (fun k k' => Ideal.cmpTotal .gt (M k) (M k') == 1#1) = sortedFrom (beatsB M) := by
  refine sortedFrom_eq _ _ fun a b hab => ?_
  have e : (Ideal.cmpTotal .gt (M b) (M a) == 1#1) = decide (M a < M b) := by
    show (BitVec.ofBool (decide (M a < M b)) == 1#1) = _
    cases decide (M a < M b) <;> rfl
  rw [e, Bool.eq_iff_iff, beatsB_iff, decide_eq_true_eq]
  constructor
  · exact Or.inl
  · rintro (h | ⟨-, h⟩)
    · exact h
    · exact absurd hab (not_lt.2 h.le)

/-- Exactly `r` queries come before the one at place `r`. -/
theorem rank_sortedFrom {n : ℕ} (M : Fin n → EReal) (r : Fin n) : rank M (sortedFrom (beatsB M) r) = r.val := by
  classical
  set π := sortedFrom (beatsB M) with hπ
  have inj : Function.Injective π := sortedFrom_injective _
  have surj : Function.Surjective π := sortedFrom_surjective _
  have hord : ∀ i j : Fin n, i < j → beatsB M (π j) (π i) = false := fun i j hij =>
    sortedFrom_noInversion (beatsB M) (beatsB M) (fun a b h => (beats_order M).asymm a b h) (fun _ _ h => h)
      (beats_order M).negTrans i j hij
  have key : ∀ j : Fin n, Beats M (π j) (π r) ↔ j < r := by
    intro j
    rw [← beatsB_iff]
    constructor
    · intro h
      by_contra hn
      rcases lt_or_eq_of_le (not_lt.1 hn) with hlt | heq
      · rw [hord r j hlt] at h; exact absurd h (by decide)
      · subst heq; rw [(beats_order M).irrefl] at h; exact absurd h (by decide)
    · intro h
      rcases (beats_order M).total (π j) (π r) (fun e => h.ne (inj e)) with k | k
      · exact k
      · rw [hord j r h] at k; exact absurd k (by decide)
  have e : (Finset.univ.filter fun c => Beats M c (π r)) = (Finset.univ.filter fun j : Fin n => j < r).map ⟨π, inj⟩ := by
    ext c
    obtain ⟨j, rfl⟩ := surj c
    simp only [Finset.mem_filter, Finset.mem_univ, true_and, Finset.mem_map, Function.Embedding.coeFn_mk]
    rw [key]
    exact ⟨fun h => ⟨j, h, rfl⟩, fun ⟨i, hi, hij⟩ => inj hij ▸ hi⟩
  have e2 : rank M (π r) = (Finset.univ.filter fun j : Fin n => j < r).card := by
    unfold rank
    rw [← Finset.card_map ⟨π, inj⟩ (s := Finset.univ.filter fun j : Fin n => j < r), ← e]
  rw [e2]
  have : (Finset.univ.filter fun j : Fin n => j < r) = Finset.Iio r := by ext; simp
  rw [this, Fin.card_Iio]

/-- A query comes before as many of the padded 48 as of the 45. -/
theorem rank_up (M : Fin 45 → EReal) (hM : ∀ i, M i ≠ ⊥) (r : Fin 45) : rank (pad48 M) (up r) = rank M r := by
  classical
  have hup : Function.Injective up := fun a b h => Fin.ext (by simpa [up] using h)
  have hv : ∀ i, pad48 M (up i) = M i := fun i => by unfold pad48 up; rw [dif_pos i.isLt]
  unfold rank
  rw [← Finset.card_map ⟨up, hup⟩]
  congr 1
  ext c
  simp only [Finset.mem_filter, Finset.mem_univ, true_and, Finset.mem_map, Function.Embedding.coeFn_mk]
  constructor
  · intro h
    have hc : c.val < 45 := by
      by_contra hc
      have e : pad48 M c = ⊥ := by unfold pad48; rw [dif_neg hc]
      rcases h with h | ⟨h, h'⟩
      · rw [e] at h; exact not_lt_bot h
      · have := h'; have h2 : c.val < r.val := h'; omega
    refine ⟨⟨c.val, hc⟩, ?_, Fin.ext rfl⟩
    have ec : c = up ⟨c.val, hc⟩ := Fin.ext rfl
    rw [ec] at h
    rcases h with h | ⟨h, h'⟩
    · exact Or.inl (by rwa [hv, hv] at h)
    · exact Or.inr ⟨by rwa [hv, hv] at h, h'⟩
  · rintro ⟨i, h, rfl⟩
    rcases h with h | ⟨h, h'⟩
    · exact Or.inl (by rwa [hv, hv])
    · exact Or.inr ⟨by rwa [hv, hv], h'⟩

/-- A padded row comes after all 45 queries. -/
theorem rank_pad (M : Fin 45 → EReal) (hM : ∀ i, M i ≠ ⊥) (c : Fin 48) (hc : ¬ c.val < 45) : 45 ≤ rank (pad48 M) c := by
  classical
  have hup : Function.Injective up := fun a b h => Fin.ext (by simpa [up] using h)
  unfold rank
  calc 45 = (Finset.univ.map (⟨up, hup⟩ : Fin 45 ↪ Fin 48)).card := by simp
    _ ≤ _ := by
      refine Finset.card_le_card fun x hx => ?_
      obtain ⟨i, -, rfl⟩ := Finset.mem_map.1 hx
      refine Finset.mem_filter.2 ⟨Finset.mem_univ _, Or.inl ?_⟩
      have e : pad48 M c = ⊥ := by unfold pad48; rw [dif_neg hc]
      have e' : pad48 M (up i) = M i := by unfold pad48 up; rw [dif_pos i.isLt]
      show pad48 M c < pad48 M (up i)
      rw [e, e']
      exact bot_lt_iff_ne_bot.2 (hM i)

/-- The 0/1 row that marks the query of rank `r` picks, from any 48 values, that of the query the sort puts at place `r`. -/
theorem pick_eq (M : Fin 45 → EReal) (hM : ∀ i, M i ≠ ⊥) (r : Fin 45) (f : Fin 48 → EReal) :
    ∑ c : Fin 48, (if r.val = rank (pad48 M) c then (1 : EReal) else 0) * f c
      = f (up (sortedFrom (fun k k' => Ideal.cmpTotal .gt (M k) (M k') == 1#1) r)) := by
  rw [sortedFrom_gt]
  set p := sortedFrom (beatsB M) r with hp
  have h1 : ∀ c : Fin 48, r.val = rank (pad48 M) c ↔ c = up p := by
    intro c
    constructor
    · intro h
      by_cases hc : c.val < 45
      · obtain ⟨q, hq⟩ := sortedFrom_surjective (beatsB M) ⟨c.val, hc⟩
        have ec : c = up ⟨c.val, hc⟩ := Fin.ext rfl
        rw [ec, rank_up M hM, ← hq, rank_sortedFrom] at h
        have : r = q := Fin.ext h
        rw [ec, ← hq, hp, this]
      · have := rank_pad M hM c hc
        omega
    · rintro rfl
      rw [rank_up M hM, hp, rank_sortedFrom]
  rw [Finset.sum_eq_single (up p)]
  · rw [if_pos ((h1 _).2 rfl), one_mul]
  · intro c _ hc
    rw [if_neg (fun h => hc ((h1 c).1 h)), zero_mul]
  · intro h; exact absurd (Finset.mem_univ _) h

end Cert.Proof.Math
-- ==== Proof.Math.Shift.lean ====
/- Finite rows of scores: neither the sparsity measure nor the softmax sees a constant added to a row, and a softmax row
   averages, so a constant added to the values comes out of the weighted sum. -/
module

public import proofs.«01_k».proof.Proof.Math.Spec

@[expose] public section

noncomputable section

namespace Cert.Proof.Math

open Idealize.ShloMosaic

/-- A finite extended real. -/
def IsReal (x : EReal) : Prop := ∃ r : ℝ, x = (r : EReal)

/-- A sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- A product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of reals, read in the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of reals is real. -/
theorem IsReal.sum {ι : Type} (s : Finset ι) (f : ι → EReal) (h : ∀ i, IsReal (f i)) : IsReal (∑ i ∈ s, f i) := by
  choose g hg using h
  exact ⟨∑ i ∈ s, g i, by rw [← coe_sum]; exact Finset.sum_congr rfl fun i _ => hg i⟩

/-- The maximum of a row is its value at any place where it is greatest. -/
theorem smax_eq {n : ℕ} {f : Fin n → EReal} {s₀ : Fin n} (h : ∀ s, f s ≤ f s₀) : smax f = f s₀ := by
  have e : smax f = Finset.univ.sup f := rfl
  rw [e]
  exact le_antisymm (Finset.sup_le fun s _ => h s) (Finset.le_sup (f := f) (Finset.mem_univ s₀))

/-- Some place of a row is greatest. -/
theorem exists_top {n : ℕ} [NeZero n] (g : Fin n → ℝ) : ∃ s₀, ∀ s, g s ≤ g s₀ := by
  obtain ⟨s₀, -, h⟩ := Finset.exists_max_image Finset.univ g ⟨0, Finset.mem_univ _⟩
  exact ⟨s₀, fun s => h s (Finset.mem_univ s)⟩

/-- Division of reals by a nonzero real, read in the extended reals. -/
theorem div_coe (a b : ℝ) (hb : b ≠ 0) : Ideal.div (a : EReal) (b : EReal) = ((a / b : ℝ) : EReal) := by
  unfold Ideal.div
  rw [if_neg (by simpa using hb), ← EReal.coe_inv, ← EReal.coe_mul, div_eq_mul_inv]

/-- The largest of finitely many reals, read in the extended reals. -/
theorem smax_coe {n : ℕ} {g : Fin n → ℝ} {s₀ : Fin n} (h : ∀ s, g s ≤ g s₀) :
    smax (fun s => (g s : EReal)) = (g s₀ : EReal) :=
  smax_eq (f := fun s => (g s : EReal)) fun s => EReal.coe_le_coe_iff.2 (h s)

/-- The measure of a row of reals. -/
theorem measure_coe {g : Fin 4096 → ℝ} {s₀ : Fin 4096} (h : ∀ s, g s ≤ g s₀) :
    Math.measure (fun s => (g s : EReal)) = ((g s₀ - (∑ s, g s) / 4096 : ℝ) : EReal) := by
  unfold Math.measure
  rw [smax_coe h, coe_sum, div_coe _ _ (by norm_num), EReal.coe_sub]

/-- The softmax of a row of reals. -/
theorem softmax_coe {g : Fin 4096 → ℝ} {s₀ : Fin 4096} (h : ∀ s, g s ≤ g s₀) (s : Fin 4096) :
    softmax (fun s => (g s : EReal)) s = ((Real.exp (g s - g s₀) / ∑ t, Real.exp (g t - g s₀) : ℝ) : EReal) := by
  have e : ∀ t, Ideal.exp ((g t : EReal) - (g s₀ : EReal)) = ((Real.exp (g t - g s₀) : ℝ) : EReal) := fun t => by
    rw [← EReal.coe_sub]; rfl
  unfold softmax
  simp only [smax_coe h, e]
  rw [coe_sum, div_coe _ _ (ne_of_gt (Finset.sum_pos (fun t _ => Real.exp_pos _) ⟨0, Finset.mem_univ _⟩))]

/-- The measure does not see a constant added to the row. -/
theorem measure_shift {f : Fin 4096 → EReal} {t : EReal} (hf : ∀ s, IsReal (f s)) (ht : IsReal t) :
    Math.measure (fun s => f s + t) = Math.measure f := by
  choose g hg using hf
  obtain ⟨τ, rfl⟩ := ht
  obtain rfl : f = fun s => (g s : EReal) := funext hg
  obtain ⟨s₀, h⟩ := exists_top g
  have h' : ∀ s, g s + τ ≤ g s₀ + τ := fun s => add_le_add_left (h s) τ
  simp only [← EReal.coe_add]
  rw [measure_coe h, measure_coe (g := fun s => g s + τ) h', Finset.sum_add_distrib]
  congr 1
  rw [Finset.sum_const, Finset.card_univ, Fintype.card_fin, nsmul_eq_mul]
  push_cast
  ring

/-- Nor does the softmax. -/
theorem softmax_shift {f : Fin 4096 → EReal} {t : EReal} (hf : ∀ s, IsReal (f s)) (ht : IsReal t) (s : Fin 4096) :
    softmax (fun s => f s + t) s = softmax f s := by
  choose g hg using hf
  obtain ⟨τ, rfl⟩ := ht
  obtain rfl : f = fun s => (g s : EReal) := funext hg
  obtain ⟨s₀, h⟩ := exists_top g
  have h' : ∀ s, g s + τ ≤ g s₀ + τ := fun s => add_le_add_left (h s) τ
  simp only [← EReal.coe_add]
  rw [softmax_coe h, softmax_coe (g := fun s => g s + τ) h']
  simp only [add_sub_add_right_eq_sub]

/-- The measure of a finite row is finite. -/
theorem measure_ne_bot {f : Fin 4096 → EReal} (hf : ∀ s, IsReal (f s)) : Math.measure f ≠ ⊥ := by
  choose g hg using hf
  obtain rfl : f = fun s => (g s : EReal) := funext hg
  obtain ⟨s₀, h⟩ := exists_top g
  rw [measure_coe h]
  exact EReal.coe_ne_bot _

/-- A nonnegative real factor distributes over the sum of any two extended reals. -/
theorem coe_mul_add {a : ℝ} (ha : 0 ≤ a) (x y : EReal) : (a : EReal) * (x + y) = a * x + a * y :=
  EReal.left_distrib_of_nonneg_of_ne_top (by exact_mod_cast ha) (EReal.coe_ne_top a) x y

/-- A number times a finite sum of weights that are not negative, in the extended reals. -/
theorem sum_coe_mul {ι : Type} (s : Finset ι) (a : ι → ℝ) (ha : ∀ i, 0 ≤ a i) (c : EReal) :
    ∑ i ∈ s, (a i : EReal) * c = ((∑ i ∈ s, a i : ℝ) : EReal) * c := by
  classical
  induction s using Finset.induction_on with
  | empty => simp
  | insert i s hi ih =>
    rw [Finset.sum_insert hi, Finset.sum_insert hi, ih, EReal.coe_add,
      EReal.right_distrib_of_nonneg (by exact_mod_cast ha i) (by exact_mod_cast Finset.sum_nonneg fun j _ => ha j)]

/-- A softmax row averages: a constant added to the values is added to the weighted sum. -/
theorem softmax_average {f : Fin 4096 → EReal} (hf : ∀ s, IsReal (f s)) (v : Fin 4096 → EReal) (c : EReal) :
    ∑ s, (v s + c) * softmax f s = ∑ s, softmax f s * v s + c := by
  choose g hg using hf
  obtain rfl : f = fun s => (g s : EReal) := funext hg
  obtain ⟨s₀, h⟩ := exists_top g
  have hpos : 0 < ∑ t, Real.exp (g t - g s₀) := Finset.sum_pos (fun t _ => Real.exp_pos _) ⟨0, Finset.mem_univ _⟩
  set a : Fin 4096 → ℝ := fun s => Real.exp (g s - g s₀) / ∑ t, Real.exp (g t - g s₀) with ha
  have e : ∀ s, softmax (fun s => (g s : EReal)) s = (a s : EReal) := fun s => softmax_coe h s
  have h0 : ∀ s, 0 ≤ a s := fun s => div_nonneg (Real.exp_pos _).le hpos.le
  have h1 : ∑ s, a s = 1 := by
    simp only [ha]
    rw [← Finset.sum_div, div_self hpos.ne']
  simp only [e]
  simp only [mul_comm (_ + c), coe_mul_add (h0 _)]
  rw [Finset.sum_add_distrib, sum_coe_mul _ _ h0, h1, EReal.coe_one, one_mul]

end Cert.Proof.Math
-- ==== Proof.Math.Head.lean ====
/- One head: the kernel's weights and contexts, from keys and values without their biases, are the reference's, with them. -/
module

public import proofs.«01_k».proof.Proof.Kernel.Payload
public import proofs.«01_k».proof.Proof.Math.Rank
public import proofs.«01_k».proof.Proof.Math.Shift

@[expose] public section

noncomputable section

namespace Cert.Proof.Math

open Idealize.ShloMosaic
open Cert.Proof.Kernel

/-- A bias on the keys adds the same amount to a query's score against every key. -/
theorem score_bias (q k β : Fin 64 → EReal) (hq : ∀ d, IsReal (q d)) (hk : ∀ d, IsReal (k d)) (hβ : ∀ d, IsReal (β d)) :
    ∑ d, q d * (k d + β d) = ∑ d, q d * k d + ∑ d, q d * β d := by
  choose a ha using hq
  choose b hb using hk
  choose c hc using hβ
  rw [← Finset.sum_add_distrib]
  refine Finset.sum_congr rfl fun d _ => ?_
  rw [ha, hb, hc, ← EReal.coe_add, ← EReal.coe_mul, ← EReal.coe_mul, ← EReal.coe_mul, ← EReal.coe_add, mul_add]

variable {q : Fin 96 → Fin 64 → EReal} {k : Fin 64 → Fin 4096 → EReal} {β : Fin 64 → EReal}

/-- The reference's score of row `i`: the keys with their bias. -/
def biased (q : Fin 96 → Fin 64 → EReal) (k : Fin 64 → Fin 4096 → EReal) (β : Fin 64 → EReal) (i : Fin 96) (s : Fin 4096) : EReal :=
  ∑ d, q i d * (k d s + β d)

/-- Scores against the biased keys are the scores against the plain keys plus one number per query. -/
theorem biased_eq (hq : ∀ i d, IsReal (q i d)) (hk : ∀ d s, IsReal (k d s)) (hβ : ∀ d, IsReal (β d)) (i : Fin 96) :
    biased q k β i = fun s => score q k i s + ∑ d, q i d * β d :=
  funext fun s => score_bias (q i) (fun d => k d s) β (hq i) (fun d => hk d s) hβ

/-- A score of real queries and real keys is real. -/
theorem score_real (hq : ∀ i d, IsReal (q i d)) (hk : ∀ d s, IsReal (k d s)) (i : Fin 96) (s : Fin 4096) :
    IsReal (score q k i s) :=
  IsReal.sum _ _ fun d => (hq i d).mul (hk d s)

/-- The place the reference's sort gives to rank `r`. -/
def place (q : Fin 96 → Fin 64 → EReal) (k : Fin 64 → Fin 4096 → EReal) (β : Fin 64 → EReal) (r : Fin 45) : Fin 45 :=
  sortedFrom (fun i j => Ideal.cmpTotal .gt (Math.measure (biased q k β (lo i))) (Math.measure (biased q k β (lo j))) == 1#1) r

/-- One head's weights. -/
theorem head_weights (hq : ∀ i d, IsReal (q i d)) (hk : ∀ d s, IsReal (k d s)) (hβ : ∀ d, IsReal (β d)) (r : Fin 45)
    (s : Fin 4096) :
    pickRow q k (up r) s = softmax (biased q k β (hi (up (place q k β r)))) s := by
  have ht : ∀ i, IsReal (∑ d, q i d * β d) := fun i => IsReal.sum _ _ fun d => (hq i d).mul (hβ d)
  have hM : ∀ i, Math.measure (biased q k β (lo i)) = measures q k i := fun i => by
    rw [biased_eq hq hk hβ]
    exact measure_shift (score_real hq hk _) (ht _)
  unfold place
  simp only [hM]
  rw [biased_eq hq hk hβ, softmax_shift (score_real hq hk _) (ht _)]
  exact pick_eq (measures q k) (fun i => measure_ne_bot (score_real hq hk _)) r (fun c => softmax (score q k (hi c)) s)

/-- One head's context: the bias of the values comes out of the average. -/
theorem head_context (hq : ∀ i d, IsReal (q i d)) (hk : ∀ d s, IsReal (k d s)) (hβ : ∀ d, IsReal (β d)) (r : Fin 45)
    (v : Fin 4096 → EReal) (c : EReal) :
    ∑ s, pickRow q k (up r) s * v s + c = ∑ s, (v s + c) * softmax (biased q k β (hi (up (place q k β r)))) s := by
  have ht : ∀ i, IsReal (∑ d, q i d * β d) := fun i => IsReal.sum _ _ fun d => (hq i d).mul (hβ d)
  rw [softmax_average (fun s => by rw [biased_eq hq hk hβ]; exact (score_real hq hk _ s).add (ht _))]
  simp only [head_weights hq hk hβ]

end Cert.Proof.Math
-- ==== Proof.Ref.Read.lean ====
/- The reference's stages, element by element. -/
module

public import proofs.«01_k».proof.Proof.Ref.Stages
public import proofs.«01_k».proof.Proof.Math.Feat
public import Idealize.ShloMosaic.Lib.Pointwise

@[expose] public section

set_option maxRecDepth 16384
set_option Elab.async false

noncomputable section

namespace Cert.Proof.Ref

open Idealize.ShloMosaic
open Cert.ReferenceIdeal Cert.ReferenceIdeal.Gen
open Cert.Proof.Math

/-- A linear layer, at a point. -/
theorem heads_at (X : FVec Ideal S4x4096x1024 .f32) (W : FVec Ideal S1024x1024 .f32) (β : FVec Ideal S1024 .f32)
    (b : Fin 4) (s : Fin 4096) (h : Fin 16) (d : Fin 64) :
    heads X W β (ix4 b s h d) = ∑ c : Fin 1024, X (ix3 b s c) * W (ix2 (feat h d) c) + β (ix1 (feat h d)) := by
  unfold feat
  pointwise [heads]

/-- The sampled queries' scores, at a point. -/
theorem scoresS_at (Q : FVec Ideal S4x45x16x64 .f32) (K : FVec Ideal S4x4096x16x64 .f32)
    (b : Fin 4) (h : Fin 16) (i : Fin 45) (s : Fin 4096) :
    scoresS Q K (ix4 b h i s) = ∑ d : Fin 64, Q (ix4 b i h d) * K (ix4 b s h d) := by
  pointwise [scoresS]

/-- The picked queries' scores, at a point. -/
theorem scoresT_at (Q : FVec Ideal S4x16x45x64 .f32) (K : FVec Ideal S4x4096x16x64 .f32)
    (b : Fin 4) (h : Fin 16) (r : Fin 45) (s : Fin 4096) :
    scoresT Q K (ix4 b h r s) = ∑ d : Fin 64, Q (ix4 b h r d) * K (ix4 b s h d) := by
  pointwise [scoresT]

/-- The output layer, at a point. -/
theorem output_at (C : FVec Ideal S4x45x1024 .f32) (W : FVec Ideal S1024x1024 .f32) (β : FVec Ideal S1024 .f32)
    (b : Fin 4) (r : Fin 45) (n : Fin 1024) :
    output C W β (ix3 b r n) = ∑ c : Fin 1024, C (ix3 b r c) * W (ix2 n c) + β (ix1 n) := by
  pointwise [output]

/-- The context, at a point. -/
theorem context_at (U : FVec Ideal S4x4096x16x64 .f32) (A : FVec Ideal S4x16x45x4096 .f32)
    (b : Fin 4) (r : Fin 45) (c : Fin 1024) :
    context U A (ix3 b r c) = ∑ s : Fin 4096, U (ix4 b s (headOf c) (dimOf c)) * A (ix4 b (headOf c) r s) := by
  unfold headOf dimOf
  pointwise [context]

end Cert.Proof.Ref
-- ==== Proof.Math.Words.lean ====
/- The float words the programs name, as extended reals. -/
module

public import Idealize.ShloMosaic.PureOps.Ideal
public import Idealize.ShloMosaic.Lib.Pointwise

@[expose] public section

namespace Cert.Proof.Math

open Idealize.ShloMosaic

/-- The word of minus infinity. -/
theorem word_bot : Ideal.ofBits .f32 4286578688#32 = ⊥ := by simp [Ideal.ofBits, Ideal.ieee]

/-- The word of 4096. -/
theorem word_4096 : Ideal.ofBits .f32 1166016512#32 = ((4096 : ℝ) : EReal) := by
  simp [Ideal.ofBits, Ideal.ieee, -EReal.coe_mul]; norm_num

end Cert.Proof.Math
-- ==== Proof.Ref.ReadSoft.lean ====
/- The reference's stages, element by element: maxima, sums and weights. -/
module

public import proofs.«01_k».proof.Proof.Ref.Stages
public import proofs.«01_k».proof.Proof.Math.Feat
public import proofs.«01_k».proof.Proof.Math.Words
public import Idealize.ShloMosaic.Lib.Pointwise

@[expose] public section

set_option maxRecDepth 16384
set_option Elab.async false

noncomputable section

namespace Cert.Proof.Ref

open Idealize.ShloMosaic
open Cert.ReferenceIdeal Cert.ReferenceIdeal.Gen
open Cert.Proof.Math

/-- The row maximum, at a point. -/
theorem rowMax_at (S : FVec Ideal S4x16x45x4096 .f32) (b : Fin 4) (h : Fin 16) (i : Fin 45) :
    rowMax S (ix3 b h i) = Finset.univ.fold max (Ideal.ofBits .f32 4286578688#32) (fun s : Fin 4096 => S (ix4 b h i s)) := by
  pointwise [rowMax]

/-- The row sum, at a point. -/
theorem rowSum_at (S : FVec Ideal S4x16x45x4096 .f32) (b : Fin 4) (h : Fin 16) (i : Fin 45) :
    rowSum S (ix3 b h i) = ∑ s : Fin 4096, S (ix4 b h i s) := by
  pointwise [rowSum]

/-- Maxima less means, at a point. -/
theorem lessMean_at (A B : FVec Ideal S4x16x45 .f32) (b : Fin 4) (h : Fin 16) (i : Fin 45) :
    lessMean A B (ix3 b h i) = A (ix3 b h i) - Ideal.div (B (ix3 b h i)) (Ideal.ofBits .f32 1166016512#32) := by
  pointwise [lessMean]

/-- The exponentials, at a point. -/
theorem expLess_at (S : FVec Ideal S4x16x45x4096 .f32) (A : FVec Ideal S4x16x45 .f32) (b : Fin 4) (h : Fin 16) (i : Fin 45)
    (s : Fin 4096) :
    expLess S A (ix4 b h i s) = Ideal.exp (S (ix4 b h i s) - max (Ideal.ofBits .f32 4286578688#32) (A (ix3 b h i))) := by
  pointwise [expLess]

/-- Divided rows, at a point. -/
theorem rowDiv_at (E : FVec Ideal S4x16x45x4096 .f32) (A : FVec Ideal S4x16x45 .f32) (b : Fin 4) (h : Fin 16) (i : Fin 45)
    (s : Fin 4096) :
    rowDiv E A (ix4 b h i s) = Ideal.div (E (ix4 b h i s)) (A (ix3 b h i)) := by
  pointwise [rowDiv]

/-- The row maximum is the greatest score. -/
theorem rowMax_smax (S : FVec Ideal S4x16x45x4096 .f32) (b : Fin 4) (h : Fin 16) (i : Fin 45) :
    rowMax S (ix3 b h i) = smax (fun s => S (ix4 b h i s)) :=
  (rowMax_at S b h i).trans (congrArg (fun z => Finset.univ.fold max z (fun s : Fin 4096 => S (ix4 b h i s))) word_bot)

/-- The sparsity measure, at a point. -/
theorem sparsity_at (S : FVec Ideal S4x16x45x4096 .f32) (b : Fin 4) (h : Fin 16) (i : Fin 45) :
    sparsity S (ix3 b h i) = Math.measure (fun s => S (ix4 b h i s)) :=
  (lessMean_at _ _ b h i).trans
    (congr_arg₂ (fun x y => x - y) (rowMax_smax S b h i) (congr_arg₂ Ideal.div (rowSum_at S b h i) word_4096))

/-- The exponentials, at a point. -/
theorem expd_at (S : FVec Ideal S4x16x45x4096 .f32) (b : Fin 4) (h : Fin 16) (i : Fin 45) (s : Fin 4096) :
    expd S (ix4 b h i s) = Ideal.exp (S (ix4 b h i s) - smax (fun s => S (ix4 b h i s))) :=
  (expLess_at _ _ b h i s).trans (congrArg (fun z => Ideal.exp (S (ix4 b h i s) - z))
    ((congr_arg₂ max word_bot (rowMax_smax S b h i)).trans (max_eq_right bot_le)))

/-- The attention weights, at a point. -/
theorem normed_at (E : FVec Ideal S4x16x45x4096 .f32) (b : Fin 4) (h : Fin 16) (i : Fin 45) (s : Fin 4096) :
    normed E (ix4 b h i s) = Ideal.div (E (ix4 b h i s)) (∑ t : Fin 4096, E (ix4 b h i t)) :=
  (rowDiv_at _ _ b h i s).trans (congrArg (Ideal.div _) (rowSum_at E b h i))

/-- The attention weights are the softmax of the scores. -/
theorem softmax_at (S : FVec Ideal S4x16x45x4096 .f32) (b : Fin 4) (h : Fin 16) (i : Fin 45) (s : Fin 4096) :
    normed (expd S) (ix4 b h i s) = softmax (fun s => S (ix4 b h i s)) s :=
  (normed_at _ b h i s).trans
    (congr_arg₂ Ideal.div (expd_at S b h i s) (Finset.sum_congr (rfl : (Finset.univ : Finset (Fin 4096)) = _) fun t _ => expd_at S b h i t))

end Cert.Proof.Ref
-- ==== Proof.Ref.ReadRows.lean ====
/- The reference's stages, element by element: the rows they take. -/
module

public import proofs.«01_k».proof.Proof.Ref.Stages
public import proofs.«01_k».proof.Proof.Math.Feat
public import Idealize.ShloMosaic.Lib.Pointwise

@[expose] public section

set_option maxRecDepth 16384
set_option Elab.async false

noncomputable section

namespace Cert.Proof.Ref

open Idealize.ShloMosaic
open Cert.ReferenceIdeal Cert.ReferenceIdeal.Gen
open Cert.Proof.Math

/-- The sampled queries, at a point. -/
theorem sampled_at (Q : FVec Ideal S4x4096x16x64 .f32) (r : IVec S45x1 32) (b : Fin 4) (i : Fin 45) (h : Fin 16) (d : Fin 64) :
    sampled Q r (ix4 b i h d) = Q (ix4 b (clampRow (r (ix2 i 0))) h d) := by
  have hsi : gather_S4x4096x16x64_S45x1_S4x45x16x64_023_1_n_n_1_1_411664.siIdx (ix4 b i h d) ⟨0, Nat.one_pos⟩ = ix2 i 0 := by
    funext a
    match a with
    | ⟨0, _⟩ => rfl
    | ⟨1, _⟩ => rfl
  unfold sampled Host.gather
  congr 1
  funext a
  refine Fin.ext ?_
  match a with
  | ⟨0, _⟩ => show 0 + 0 + b.val = b.val; omega
  | ⟨1, _⟩ =>
    show min (r (gather_S4x4096x16x64_S45x1_S4x45x16x64_023_1_n_n_1_1_411664.siIdx (ix4 b i h d) ⟨0, Nat.one_pos⟩)).toInt.toNat 4095 + 0 + 0 = _
    rw [hsi]; rfl
  | ⟨2, _⟩ => show 0 + 0 + h.val = h.val; omega
  | ⟨3, _⟩ => show 0 + 0 + d.val = d.val; omega

/-- The positions of the largest measures, at a point. -/
theorem tops_at (M : FVec Ideal S4x16x45 .f32) (b : Fin 4) (h : Fin 16) (r : Fin 45) :
    tops M (ix4 b h r 0)
      = BitVec.ofNat 32 (sortedFrom (fun k k' => Ideal.cmpTotal .gt (M (ix3 b h k)) (M (ix3 b h k')) == 1#1) r).val := by
  have hal : ∀ k : Fin 45, Shape.Idx.along (s := S4x16x45) (ix3 b h r) 2 k = ix3 b h k := fun k => by
    funext a
    match a with
    | ⟨0, _⟩ => rfl
    | ⟨1, _⟩ => rfl
    | ⟨2, _⟩ => rfl
  unfold tops Host.topK
  pointwise []
  unfold Host.sort2
  rw [dif_pos (show 2 < S4x16x45.rank by decide)]
  dsimp only
  refine congrArg (BitVec.ofNat 32) ?_
  have hval : ∀ k : Fin 45, (Shape.Idx.along (s := S4x16x45) (ix3 b h r) 2 k 2).val = k.val := fun k => rfl
  refine (hval _).trans ?_
  refine congrArg (fun f : Fin 45 → Fin 45 → Bool => (sortedFrom f r).val) ?_
  funext k k'
  exact congr_arg₂ (fun x y => Ideal.cmpTotal .gt (M x) (M y) == 1#1) (hal k) (hal k')

/-- A small position read as a signed word is not negative. -/
theorem slt_small (k : Fin 45) : IntOp.cmpi .slt (BitVec.ofNat 32 k.val) 0#32 = 0#1 := by
  revert k; decide

/-- A small position is at least zero. -/
theorem sge_small (k : Fin 45) : IntOp.cmpi .sge (BitVec.ofNat 32 k.val) 0#32 = 1#1 := by
  revert k; decide

/-- A small position is in range. -/
theorem sle_small (k : Fin 45) : IntOp.cmpi .sle (BitVec.ofNat 32 k.val) 4095#32 = 1#1 := by
  revert k; decide

/-- A small position names its own row. -/
theorem clamp_small (k : Fin 45) : clampRow (BitVec.ofNat 32 k.val) = row45 k := by
  revert k; decide

/-- Small positions are not wrapped. -/
theorem wrapped_at (i : IVec S4x16x45x1 32) (b : Fin 4) (h : Fin 16) (r : Fin 45)
    (k : Fin 45) (hk : i (ix4 b h r 0) = BitVec.ofNat 32 k.val) : wrapped i (ix4 b h r 0) = BitVec.ofNat 32 k.val := by
  pointwise [wrapped]
  rw [hk, slt_small]
  rfl

/-- The gathered rows, at a point. -/
theorem gathered_at (T : FVec Ideal S4x16x4096x64 .f32) (i : IVec S4x16x45x1 32) (b : Fin 4) (h : Fin 16) (r : Fin 45) (d : Fin 64) :
    Host.gather gather_S4x16x4096x64_S4x16x45x1_S4x16x45x64_3_2_01_01_2_3_11164 T i (ix4 b h r d)
      = T (ix4 b h (clampRow (i (ix4 b h r 0))) d) := by
  have hsi : gather_S4x16x4096x64_S4x16x45x1_S4x16x45x64_3_2_01_01_2_3_11164.siIdx (ix4 b h r d) ⟨0, Nat.one_pos⟩ = ix4 b h r 0 := by
    funext a
    match a with
    | ⟨0, _⟩ => rfl
    | ⟨1, _⟩ => rfl
    | ⟨2, _⟩ => rfl
    | ⟨3, _⟩ => rfl
  unfold Host.gather
  congr 1
  funext a
  refine Fin.ext ?_
  match a with
  | ⟨0, _⟩ => show 0 + b.val + 0 = b.val; omega
  | ⟨1, _⟩ => show 0 + h.val + 0 = h.val; omega
  | ⟨2, _⟩ =>
    show min (i (gather_S4x16x4096x64_S4x16x45x1_S4x16x45x64_3_2_01_01_2_3_11164.siIdx (ix4 b h r d) ⟨0, Nat.one_pos⟩)).toInt.toNat 4095 + 0 + 0 = _
    rw [hsi]; rfl
  | ⟨3, _⟩ => show 0 + 0 + d.val = d.val; omega

/-- The picked queries, at a point. -/
theorem picked_at (Q : FVec Ideal S4x4096x16x64 .f32) (i : IVec S4x16x45x1 32) (b : Fin 4) (h : Fin 16) (r : Fin 45) (d : Fin 64)
    (k : Fin 45) (hk : i (ix4 b h r 0) = BitVec.ofNat 32 k.val) :
    picked Q i (ix4 b h r d) = Q (ix4 b (row45 k) h d) := by
  have hw := wrapped_at i b h r k hk
  unfold picked
  pointwise []
  rw [gathered_at, hw, clamp_small, Finset.univ_unique, Finset.fold_singleton]
  rw [show (default : Fin 1) = 0 from rfl, hw, sge_small, sle_small]
  pointwise []
  rfl

end Cert.Proof.Ref
-- ==== Proof.Agree.lean ====
/- The two programs' results are the same functions of the arguments, where the queries' and the keys' inputs are finite. -/
module

public import proofs.«01_k».proof.Proof.Kernel.Results
public import proofs.«01_k».proof.Proof.Math.Head
public import proofs.«01_k».proof.Proof.Ref.Read
public import proofs.«01_k».proof.Proof.Ref.ReadSoft
public import proofs.«01_k».proof.Proof.Ref.ReadRows

@[expose] public section

set_option maxRecDepth 16384
set_option Elab.async false

noncomputable section

namespace Cert.Proof.Agree

open Idealize.ShloMosaic
open Cert.KernelIdeal Cert.KernelIdeal.Gen
open Cert.Proof.Math Cert.Proof.Kernel

variable {X0 X1 X2 : FVec Ideal S4x4096x1024 .f32} {p : IVec S4096 32}
  {Wq Wk Wv Wo : FVec Ideal S1024x1024 .f32} {bq bk bv bo : FVec Ideal S1024 .f32}

/-- A stacked row is finite. -/
theorem rowsIn_real (hX : ∀ i, IsReal (X0 i)) (b : Fin 4) (i : Fin 96) (c : Fin 1024) :
    IsReal (rowsIn X0 p (ix3 b i c)) := by
  have key : ∀ (Y : FVec Ideal S4x45x1024 .f32), (∀ j, IsReal (Y j)) → ∀ i : Fin 48, IsReal (padded Y (ix3 b i c)) := by
    intro Y hY i
    by_cases h : i.val < 45
    · rw [show i = up ⟨i.val, h⟩ from rfl, padded_at]
      exact hY _
    · exact ⟨0, padded_zero Y b i c (by omega)⟩
  unfold rowsIn
  by_cases h : i.val < 48
  · rw [show i = ⟨(⟨i.val, h⟩ : Fin 48).val, by omega⟩ from rfl, stacked_lo]
    refine key _ (fun j => ?_) _
    idx_vars j
    rw [taken_at]
    exact hX _
  · rw [show i = hi ⟨i.val - 48, by omega⟩ from Fin.ext (show i.val = 48 + (i.val - 48) by omega), stacked_hi]
    refine key _ (fun j => ?_) _
    idx_vars j
    rw [firsts_at]
    exact hX _

/-- A query of the kernel, at a point. -/
theorem q_at (b : Fin 4) (h : Fin 16) (i : Fin 96) (d : Fin 64) :
    headQ (queryHeads X0 p Wq bq) b h i d
      = ∑ c : Fin 1024, rowsIn X0 p (ix3 b i c) * Wq (ix2 (feat h d) c) + bq (ix1 (feat h d)) := by
  unfold headQ queryHeads
  rw [split_at]
  exact congrArg (_ + ·) (asRow_at bq (feat h d))

/-- The kernel's sampled queries are the reference's. -/
theorem q_lo (b : Fin 4) (h : Fin 16) (i : Fin 45) (d : Fin 64) :
    headQ (queryHeads X0 p Wq bq) b h (lo i) d = Ref.heads X0 Wq bq (ix4 b (clampRow (Ref.rows p (ix2 i 0))) h d) := by
  rw [q_at, Ref.heads_at]
  refine congrArg (· + _) (Finset.sum_congr rfl fun c _ => congrArg (· * _) ?_)
  unfold rowsIn
  rw [show lo i = ⟨(up i).val, by have := (up i).isLt; omega⟩ from rfl, stacked_lo, padded_at, taken_at]

/-- The kernel's first queries are the reference's. -/
theorem q_hi (b : Fin 4) (h : Fin 16) (i : Fin 45) (d : Fin 64) :
    headQ (queryHeads X0 p Wq bq) b h (hi (up i)) d = Ref.heads X0 Wq bq (ix4 b (row45 i) h d) := by
  rw [q_at, Ref.heads_at]
  refine congrArg (· + _) (Finset.sum_congr rfl fun c _ => congrArg (· * _) ?_)
  unfold rowsIn
  rw [stacked_hi, padded_at, firsts_at]

/-- A key (or value) of the kernel plus its bias is the reference's. -/
theorem k_at {φ : FTy} (b : Fin 4) (h : Fin 16) (d : Fin 64) (s : Fin 4096) :
    headT (projT (φ := φ) X1 Wk) b h d s + bk (ix1 (feat h d)) = Ref.heads X1 Wk bk (ix4 b s h d) := by
  rw [Ref.heads_at]
  refine congrArg (· + _) ?_
  show ∑ c : Fin 1024, Wk (ix2 (feat h d) c) * X1 (ix3 b s c) = _
  exact Finset.sum_congr rfl fun c _ => mul_comm (G := EReal) (Wk (ix2 (feat h d) c)) (X1 (ix3 b s c))

/-- The kernel's queries are finite. -/
theorem q_real (hX : ∀ i, IsReal (X0 i)) (hW : ∀ i, IsReal (Wq i)) (hb : ∀ i, IsReal (bq i)) (b : Fin 4) (h : Fin 16)
    (i : Fin 96) (d : Fin 64) : IsReal (headQ (queryHeads X0 p Wq bq) b h i d) := by
  rw [q_at]
  exact (IsReal.sum _ _ fun c => (rowsIn_real hX b i c).mul (hW _)).add (hb _)

/-- The kernel's keys are finite. -/
theorem k_real (hX : ∀ i, IsReal (X1 i)) (hW : ∀ i, IsReal (Wk i)) (b : Fin 4) (h : Fin 16) (d : Fin 64) (s : Fin 4096) :
    IsReal (headT (projT (φ := .f32) X1 Wk) b h d s) := by
  show IsReal (∑ c : Fin 1024, Wk (ix2 (feat h d) c) * X1 (ix3 b s c))
  exact IsReal.sum _ _ fun c => (hW _).mul (hX _)

/-- The reference's sampled scores. -/
def refScores (X0 X1 : FVec Ideal S4x4096x1024 .f32) (p : IVec S4096 32) (Wq : FVec Ideal S1024x1024 .f32)
    (bq : FVec Ideal S1024 .f32) (Wk : FVec Ideal S1024x1024 .f32) (bk : FVec Ideal S1024 .f32) :=
  Ref.scoresS (Ref.sampled (Ref.heads X0 Wq bq) (Ref.rows p)) (Ref.heads X1 Wk bk)

/-- The reference's selected places. -/
def refTops (X0 X1 : FVec Ideal S4x4096x1024 .f32) (p : IVec S4096 32) (Wq : FVec Ideal S1024x1024 .f32)
    (bq : FVec Ideal S1024 .f32) (Wk : FVec Ideal S1024x1024 .f32) (bk : FVec Ideal S1024 .f32) :=
  Ref.tops (Ref.sparsity (refScores X0 X1 p Wq bq Wk bk))

/-- The reference's scores of the selected queries. -/
def refPicked (X0 X1 : FVec Ideal S4x4096x1024 .f32) (p : IVec S4096 32) (Wq : FVec Ideal S1024x1024 .f32)
    (bq : FVec Ideal S1024 .f32) (Wk : FVec Ideal S1024x1024 .f32) (bk : FVec Ideal S1024 .f32) :=
  Ref.scoresT (Ref.picked (Ref.heads X0 Wq bq) (refTops X0 X1 p Wq bq Wk bk)) (Ref.heads X1 Wk bk)

/-- The reference's weights. -/
def refWeights (X0 X1 : FVec Ideal S4x4096x1024 .f32) (p : IVec S4096 32) (Wq : FVec Ideal S1024x1024 .f32)
    (bq : FVec Ideal S1024 .f32) (Wk : FVec Ideal S1024x1024 .f32) (bk : FVec Ideal S1024 .f32) :=
  Ref.normed (Ref.expd (refPicked X0 X1 p Wq bq Wk bk))

/-- The kernel's queries of head `h` of batch `b`. -/
abbrev qs (X0 : FVec Ideal S4x4096x1024 .f32) (p : IVec S4096 32) (Wq : FVec Ideal S1024x1024 .f32)
    (bq : FVec Ideal S1024 .f32) (b : Fin 4) (h : Fin 16) := headQ (queryHeads X0 p Wq bq) b h

/-- The kernel's keys of head `h` of batch `b`. -/
abbrev ks (X1 : FVec Ideal S4x4096x1024 .f32) (Wk : FVec Ideal S1024x1024 .f32) (b : Fin 4) (h : Fin 16) :=
  headT (projT (φ := .f32) X1 Wk) b h

/-- The keys' bias of head `h`. -/
abbrev bs (bk : FVec Ideal S1024 .f32) (h : Fin 16) := fun d : Fin 64 => bk (ix1 (feat h d))

/-- The reference's sampled scores are the kernel's with the keys' bias put back. -/
theorem scores_lo (b : Fin 4) (h : Fin 16) (i : Fin 45) :
    (fun s => refScores X0 X1 p Wq bq Wk bk (ix4 b h i s)) = biased (qs X0 p Wq bq b h) (ks X1 Wk b h) (bs bk h) (lo i) := by
  funext s
  unfold refScores biased
  rw [Ref.scoresS_at]
  refine Finset.sum_congr rfl fun d _ => ?_
  rw [Ref.sampled_at]
  exact congr_arg₂ (· * ·) (q_lo b h i d).symm (k_at b h d s).symm

/-- The place the reference selects at rank `r`. -/
theorem tops_eq (b : Fin 4) (h : Fin 16) (r : Fin 45) :
    refTops X0 X1 p Wq bq Wk bk (ix4 b h r 0)
      = BitVec.ofNat 32 (place (qs X0 p Wq bq b h) (ks X1 Wk b h) (bs bk h) r).val := by
  unfold refTops place
  rw [Ref.tops_at]
  simp only [Ref.sparsity_at, scores_lo]

/-- The reference's scores of the selected queries are the kernel's with the keys' bias put back. -/
theorem scores_hi (b : Fin 4) (h : Fin 16) (r : Fin 45) :
    (fun s => refPicked X0 X1 p Wq bq Wk bk (ix4 b h r s))
      = biased (qs X0 p Wq bq b h) (ks X1 Wk b h) (bs bk h) (hi (up (place (qs X0 p Wq bq b h) (ks X1 Wk b h) (bs bk h) r))) := by
  funext s
  unfold refPicked biased
  rw [Ref.scoresT_at]
  refine Finset.sum_congr rfl fun d _ => ?_
  rw [Ref.picked_at _ _ _ _ _ _ _ (tops_eq b h r)]
  exact congr_arg₂ (· * ·) (q_hi b h _ d).symm (k_at b h d s).symm

/-- The reference's weights, by head. -/
theorem weights_at (b : Fin 4) (h : Fin 16) (r : Fin 45) (s : Fin 4096) :
    refWeights X0 X1 p Wq bq Wk bk (ix4 b h r s)
      = softmax (biased (qs X0 p Wq bq b h) (ks X1 Wk b h) (bs bk h)
          (hi (up (place (qs X0 p Wq bq b h) (ks X1 Wk b h) (bs bk h) r)))) s := by
  unfold refWeights
  rw [Ref.softmax_at, scores_hi]

section
variable (h0 : ∀ i, IsReal (X0 i)) (h1 : ∀ i, IsReal (X1 i)) (h3 : ∀ i, IsReal (Wq i)) (h4 : ∀ i, IsReal (bq i))
  (h5 : ∀ i, IsReal (Wk i)) (h6 : ∀ i, IsReal (bk i))
include h0 h1 h3 h4 h5 h6

/-- The kernel's weights are the reference's. -/
theorem weights_eq : attn (queryHeads X0 p Wq bq) (projT (φ := .f32) X1 Wk) = refWeights X0 X1 p Wq bq Wk bk := by
  funext y
  idx_vars y
  rw [weights_at]
  exact head_weights (q_real h0 h3 h4 y0 y1) (k_real h1 h5 y0 y1) (fun d => h6 _) y2 y3

/-- The kernel's output rows are the reference's. -/
theorem output_eq :
    cut (projO (joined (ctx (queryHeads X0 p Wq bq) (projT (φ := .f32) X1 Wk) (projT (φ := .bf16) X2 Wv))) (asRow bv) Wo (asRow bo))
      = Ref.output (Ref.context (Ref.heads X2 Wv bv) (refWeights X0 X1 p Wq bq Wk bk)) Wo bo := by
  funext y
  idx_vars y
  rw [cut_at, Ref.output_at]
  refine congr_arg₂ (· + ·) (Finset.sum_congr rfl fun c _ => congrArg (· * _) ?_) (asRow_at bo y2)
  rw [Ref.context_at]
  simp only [weights_at]
  refine (congr_arg₂ (· + ·) (joined_at _ y0 (up y1) c) (asRow_at bv c)).trans ?_
  refine (head_context (q_real h0 h3 h4 y0 (headOf c)) (k_real h1 h5 y0 (headOf c)) (β := bs bk (headOf c)) (fun d => h6 (ix1 (feat (headOf c) d))) y1
    (fun s => headT (projT (φ := .bf16) X2 Wv) y0 (headOf c) (dimOf c) s) (bv (ix1 c))).trans ?_
  refine Finset.sum_congr rfl fun s _ => congrArg (· * _) ?_
  rw [← k_at (φ := .bf16), feat_split]
end

end Cert.Proof.Agree
-- ==== Proof.Finite.lean ====
/- What the precondition says: the six arrays the queries and the keys are made of hold real numbers only. -/
module

public import proofs.«01_k».proof.Defs
public import proofs.«01_k».proof.Proof.Gen.Pre_finite
public import proofs.«01_k».proof.Proof.Math.Shift
public import Idealize.ShloMosaic.Lib.ReduceAll

@[expose] public section

set_option maxRecDepth 16384
set_option Elab.async false

noncomputable section

namespace Cert.Proof.Finite

open Idealize.ShloMosaic
open Cert.Pre_finite Cert.Pre_finite.Gen
open Cert.Proof.Math

/-- An extended real whose absolute value lies below infinity is real. -/
theorem real_of_abs (x : EReal) (h : max x (-x) < (⊤ : EReal)) : IsReal x := by
  induction x with
  | bot => simp at h
  | top => simp at h
  | coe r => exact ⟨r, rfl⟩

/-- The word of infinity. -/
theorem word_top : Ideal.ofBits .f32 0x7F800000#32 = ⊤ := by simp [Ideal.ofBits, Ideal.ieee]

/-- A comparison below infinity, read back. -/
theorem real_of_cmp {s : Shape} (x : FVec Ideal s .f32) (h : S_.BroadcastsInDim s (![] : Fin 0 → Fin s.rank)) (i : s.Idx)
    (e : cmpf .olt (Host.absf x) (broadcastInDim s ![] h (constant S_ .f32 0x7F800000#32)) i = 1#1) : IsReal (x i) := by
  apply real_of_abs
  have e' : BitVec.ofBool (decide (max (x i) (-(x i)) < Ideal.ofBits .f32 0x7F800000#32)) = 1#1 := e
  rw [word_top] at e'
  by_contra hn
  rw [decide_eq_false hn] at e'
  exact absurd e' (by decide)

/-- A scalar has one index. -/
instance : Subsingleton S_.Idx := ⟨fun a b => funext fun k => k.elim0⟩

/-- The precondition, read back. -/
theorem finite {x0 x1 x2 : FVec Ideal S4x4096x1024 .f32} {x3 x5 x7 x9 : FVec Ideal S1024x1024 .f32}
    {x4 x6 x8 x10 : FVec Ideal S1024 .f32} (j : S_.Idx)
    (h : Cert.Pre_finite.fn (F := Ideal) x0 x1 x2 x3 x4 x5 x6 x7 x8 x9 x10 j = 1#1) :
    (∀ i, IsReal (x0 i)) ∧ (∀ i, IsReal (x1 i)) ∧ (∀ i, IsReal (x3 i)) ∧ (∀ i, IsReal (x4 i)) ∧ (∀ i, IsReal (x5 i))
      ∧ ∀ i, IsReal (x6 i) := by
  obtain ⟨h', h6⟩ := IntOp.andi_eq_one.1 h
  obtain ⟨h', h5⟩ := IntOp.andi_eq_one.1 h'
  obtain ⟨h', h4⟩ := IntOp.andi_eq_one.1 h'
  obtain ⟨h', h3⟩ := IntOp.andi_eq_one.1 h'
  obtain ⟨h0, h1⟩ := IntOp.andi_eq_one.1 h'
  exact ⟨fun i => real_of_cmp _ _ i (Host.reduce_andi_all _ _ _ _ j h0 i), fun i => real_of_cmp _ _ i (Host.reduce_andi_all _ _ _ _ j h1 i),
    fun i => real_of_cmp _ _ i (Host.reduce_andi_all _ _ _ _ j h3 i), fun i => real_of_cmp _ _ i (Host.reduce_andi_all _ _ _ _ j h4 i),
    fun i => real_of_cmp _ _ i (Host.reduce_andi_all _ _ _ _ j h5 i), fun i => real_of_cmp _ _ i (Host.reduce_andi_all _ _ _ _ j h6 i)⟩

end Cert.Proof.Finite
-- ==== Proof.Kernel.Perm.lean ====
/- The kernel's random permutation is the reference's: the two programs draw it by the same operations from the same key. -/
module

public import proofs.«01_k».proof.Proof.Shuffle.Records
public import proofs.«01_k».proof.Proof.Gen.KernelIdeal.Launch

@[expose] public section

set_option maxRecDepth 16384
set_option Elab.async false

noncomputable section

namespace Cert.Proof.Kernel

open Idealize.ShloMosaic Idealize.ShloMosaic.StableHlo Idealize.ShloMosaic.TcCoe Idealize.SL.Sem
open Cert.KernelIdeal Cert.KernelIdeal.Gen
open Cert.Proof.Ssa Cert.Proof.Shuffle

/-- The shared list at the kernel's buffers. -/
abbrev opsK : List (HloOp τ sig (Elt Ideal)) := shOps (.of main_v6) (.of main_v7) (shK main_call0)

/-- The kernel's stretch of operations that draws the permutation is the shared list. -/
theorem shuffle_eq : (hostOps0_1 : List (HloOp τ sig (Elt Ideal))) = opsK := by
  chain_rfl

set_option maxHeartbeats 4000000 in
/-- It writes its buffers in order. -/
theorem mono_shuffle : Mono 22 opsK 982 := by
  unfold opsK shOps splitOps tfOps
  simp only [List.append_assoc]
  repeat (first | refine Mono.nullary _ _ rfl ?_ | refine Mono.unary _ _ _ rfl rfl ?_ | refine Mono.reshape _ _ _ _ rfl rfl ?_ | refine Mono.binary _ _ _ _ rfl rfl rfl ?_ | refine Mono.ternary _ _ _ _ _ rfl rfl rfl rfl ?_)
  exact .nil (by decide)

end Cert.Proof.Kernel
-- ==== Proof.Kernel.Link.lean ====
/- The kernel's program and the reference draw the same permutation: the same operations from the same key. -/
module

public import proofs.«01_k».proof.Proof.Kernel.Results
public import proofs.«01_k».proof.Proof.Kernel.Perm

@[expose] public section

set_option maxRecDepth 16384
set_option Elab.async false

noncomputable section

namespace Cert.Proof.Kernel

open Idealize.ShloMosaic Idealize.ShloMosaic.StableHlo Idealize.ShloMosaic.TcCoe Idealize.SL.Sem
open Cert.KernelIdeal Cert.KernelIdeal.Gen
open Cert.Proof.Ssa Cert.Proof.Shuffle
open Cert.Proof.Ref (eqN eqU eqB eqT eqR)

/-- The words of the random key. -/
def keyWords : IVec S2 32 :=
  concatenate S2 0
    [⟨S1, broadcastInDim S1 ![] bcast_S_S1 (Host.shrui (constantI S_ 32 42#32) (constantI S_ 32 32#32))⟩,
      ⟨S1, broadcastInDim S1 ![] bcast_S_S1 (andi (constantI S_ 32 42#32) (constantI S_ 32 4294967295#32))⟩]
    concatenates_S1_S1_S2_d0

/-- The stretch before the permutation writes in order. -/
theorem mono0 : Mono 0 (hostOps0 : List (HloOp τ sig (Elt Ideal))) 5000 := by
  unfold hostOps0
  repeat (first | refine Mono.nullary _ _ rfl ?_ | refine Mono.unary _ _ _ rfl rfl ?_ | refine Mono.binary _ _ _ _ rfl rfl rfl ?_)
  exact .nil (by decide)

/-- The kernel's key, and the numbers it permutes. -/
theorem key_kernel {G : Valuation τ sig (Elt Ideal)} (h : ∀ op ∈ (hostOps0 : List (HloOp τ sig (Elt Ideal))), op.result G = G) :
    at' G main_v6 = keyWords ∧ at' G main_v7 = iotaInDim S4096 32 0 := by
  unfold hostOps0 at h
  simp only [List.forall_mem_cons, List.not_mem_nil, false_imp_iff, implies_true, and_true] at h
  obtain ⟨k0, k1, k2, k3, k4, k5, k6, k7, k8, k9, k10⟩ := h
  refine ⟨?_, eqN k10⟩
  refine (eqB k9).trans ?_
  rw [eqU k4, eqU k8, eqU k3, eqU k7, eqB k2, eqB k6, eqN k0, eqN k1, eqN k5]
  rfl

variable (m : (ℓ : Loc nD τ sig) → Buf (Elt Ideal) ℓ) (ρ : Dev nD → PrngReg) (c : Dev nD)

/-- The state after the permutation, by the shared list. -/
theorem W2_eq : W2 m ρ c = after opsK (W1 m ρ c) := by
  show after hostOps0_1 (W1 m ρ c) = _
  rw [shuffle_eq]

/-- Two states that hold the same key and the same numbers, one after each program's shared list, hold the same permutation. -/
theorem shuffle_sim {F : Valuation τ sig (Elt Ideal)} {G : Valuation Cert.ReferenceIdeal.τ Cert.ReferenceIdeal.sig (Elt Ideal)}
    (hK : ∀ op ∈ opsK, op.result F = F)
    (hS : ∀ op ∈ (Ref.opsS : List (HloOp Cert.ReferenceIdeal.τ Cert.ReferenceIdeal.sig (Elt Ideal))), op.result G = G)
    (e6 : at' F main_v6 = Ref.at' G Cert.ReferenceIdeal.main_v24) (e7 : at' F main_v7 = Ref.at' G Cert.ReferenceIdeal.main_v25) :
    at' F main_v8 = Ref.at' G Cert.ReferenceIdeal.main_v26 := by
  have s := @sh_sim _ _ _ _ (.of main_v6) (.of Cert.ReferenceIdeal.main_v24) (.of main_v7) (.of Cert.ReferenceIdeal.main_v25)
    (shK main_call0) (shR Cert.ReferenceIdeal.main_call0) F G hK hS e6 e7
  exact s

/-- The permutation of the kernel's program is that of any run of the reference. -/
theorem perm_eq {G : Valuation Cert.ReferenceIdeal.τ Cert.ReferenceIdeal.sig (Elt Ideal)}
    (hS : ∀ op ∈ (Ref.opsS : List (HloOp Cert.ReferenceIdeal.τ Cert.ReferenceIdeal.sig (Elt Ideal))), op.result G = G)
    (e24 : Ref.at' G Cert.ReferenceIdeal.main_v24 = keyWords)
    (e25 : Ref.at' G Cert.ReferenceIdeal.main_v25 = iotaInDim S4096 32 0) :
    perm m ρ c = Ref.at' G Cert.ReferenceIdeal.main_v26 := by
  have k := key_kernel (mono0.fix (W0 m ρ c))
  have a6 : after opsK (W1 m ρ c) (Proc.devRef .tc main_v6) = keyWords :=
    (mono_shuffle.after_of_lt (W1 m ρ c) main_v6 (by decide)).trans k.1
  have a7 : after opsK (W1 m ρ c) (Proc.devRef .tc main_v7) = iotaInDim S4096 32 0 :=
    (mono_shuffle.after_of_lt (W1 m ρ c) main_v7 (by decide)).trans k.2
  exact (congrFun (W2_eq m ρ c) (Proc.devRef .tc main_v8)).trans
    (shuffle_sim (mono_shuffle.fix (W1 m ρ c)) hS (a6.trans e24.symm) (a7.trans e25.symm))

end Cert.Proof.Kernel
-- ==== Proof.Kernel.Run.lean ====
/- The kernel's run with its two results: the frame's launch, read back at the result buffers too. -/
module

public import proofs.«01_k».proof.Proof.Gen.KernelIdeal.Frame

@[expose] public section

set_option maxRecDepth 16384

noncomputable section

namespace Cert.Proof.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel runs to the end: both results hold what the last boundary `W14` of the fold through @main says, the
    arguments are as launched, every semaphore is at zero. -/
theorem run : θ_run defs (onTc (τ := τ) (main (F := F))) ⟨m, fun _ => 0, ρ⟩ (fun r => (∀ c : Dev nD,
      r.2.mem ((c.tc : Thread nD τ).loc main_v32) = W14 m ρ c (Proc.devRef .tc main_v32)
      ∧ r.2.mem ((c.tc : Thread nD τ).loc main_v26_0) = W14 m ρ c (Proc.devRef .tc main_v26_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h hz => ⟨(fun c =>
      ⟨h c _ (mem_uc main_v32 (by decide)), h c _ (mem_uc main_v26_0 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c)⟩), funext fun g => hz g (.inr (no_unscoped g.2))⟩)

end Cert.Proof.Kernel
-- ==== Proof.Ref.Key.lean ====
/- The reference's random key and the numbers it permutes. -/
module

public import proofs.«01_k».proof.Proof.Ref.Stages

@[expose] public section

set_option maxRecDepth 16384
set_option Elab.async false

noncomputable section

namespace Cert.Proof.Ref

open Idealize.ShloMosaic Idealize.ShloMosaic.StableHlo Idealize.ShloMosaic.TcCoe Idealize.SL.Sem
open Cert.ReferenceIdeal Cert.ReferenceIdeal.Gen
open Cert.Proof.Ssa Cert.Proof.Shuffle

variable {G : Valuation τ sig (Elt Ideal)}

/-- The words of the random key. -/
def keyWords : IVec S2 32 :=
  concatenate S2 0
    [⟨S1, broadcastInDim S1 ![] bcast_S_S1 (Host.shrui (constantI S_ 32 42#32) (constantI S_ 32 32#32))⟩,
      ⟨S1, broadcastInDim S1 ![] bcast_S_S1 (andi (constantI S_ 32 42#32) (constantI S_ 32 4294967295#32))⟩]
    concatenates_S1_S1_S2_d0

/-- The reference's key, and the numbers it permutes. -/
theorem key_eq (h : ∀ op ∈ (opsA : List (HloOp τ sig (Elt Ideal))), op.result G = G) :
    at' G main_v24 = keyWords ∧ at' G main_v25 = iotaInDim S4096 32 0 := by
  unfold opsA at h
  simp only [List.forall_mem_cons, List.not_mem_nil, false_imp_iff, implies_true, and_true] at h
  obtain ⟨-, -, -, -, -, -, -, -, -, -, -, -, -, -, -, -, -, -, k0, k1, k2, k3, k4, k5, k6, k7, k8, k9, k10⟩ := h
  refine ⟨?_, eqN k10⟩
  refine (eqB k9).trans ?_
  rw [eqU k4, eqU k8, eqU k3, eqU k7, eqB k2, eqB k6, eqN k0, eqN k1, eqN k5]
  rfl

end Cert.Proof.Ref
-- ==== Proof.Ref.Results.lean ====
/- The reference's two results, as functions of the arguments and of the permutation. -/
module

public import proofs.«01_k».proof.Proof.Ref.Key

@[expose] public section

set_option maxRecDepth 16384
set_option Elab.async false

noncomputable section

namespace Cert.Proof.Ref

open Idealize.ShloMosaic Idealize.ShloMosaic.StableHlo Idealize.ShloMosaic.TcCoe Idealize.SL.Sem
open Cert.ReferenceIdeal Cert.ReferenceIdeal.Gen
open Cert.Proof.Ssa Cert.Proof.Shuffle

/-- The reference's weights, from its arguments and its permutation. -/
def weights (X0 X1 : FVec Ideal S4x4096x1024 .f32) (p : IVec S4096 32) (Wq : FVec Ideal S1024x1024 .f32)
    (bq : FVec Ideal S1024 .f32) (Wk : FVec Ideal S1024x1024 .f32) (bk : FVec Ideal S1024 .f32) :=
  normed (expd (scoresT (picked (heads X0 Wq bq)
    (tops (sparsity (scoresS (sampled (heads X0 Wq bq) (rows p)) (heads X1 Wk bk))))) (heads X1 Wk bk)))

variable (V : Valuation τ sig (Elt Ideal))

/-- The state after the whole reference. -/
abbrev final : Valuation τ sig (Elt Ideal) := after opsR V

/-- An operation of the first stretch has run. -/
theorem fixA : ∀ op ∈ (opsA : List (HloOp τ sig (Elt Ideal))), op.result (final V) = final V :=
  fun op h => monoR.fix V op (List.mem_append_left _ h)

/-- An operation of the permutation has run. -/
theorem fixS : ∀ op ∈ opsS, op.result (final V) = final V :=
  fun op h => monoR.fix V op (List.mem_append_right _ (List.mem_append_left _ h))

/-- An operation of the selection has run. -/
theorem fixB : ∀ op ∈ (opsB : List (HloOp τ sig (Elt Ideal))), op.result (final V) = final V :=
  fun op h => monoR.fix V op (List.mem_append_right _ (List.mem_append_right _ (List.mem_append_left _ h)))

/-- An operation of the row lookup has run. -/
theorem fixT : ∀ op ∈ (opsT (.of main_v41) (.of main_v42) main_call1 : List (HloOp τ sig (Elt Ideal))), op.result (final V) = final V :=
  fun op h => monoR.fix V op
    (List.mem_append_right _ (List.mem_append_right _ (List.mem_append_right _ (List.mem_append_left _ h))))

/-- An operation of the last stretch has run. -/
theorem fixC : ∀ op ∈ (opsC : List (HloOp τ sig (Elt Ideal))), op.result (final V) = final V :=
  fun op h => monoR.fix V op
    (List.mem_append_right _ (List.mem_append_right _ (List.mem_append_right _ (List.mem_append_right _ h))))

/-- The reference's second result. -/
theorem weights_eq : at' (final V) main_v55
    = weights (at' V main_arg0) (at' V main_arg1) (at' (final V) main_v26) (at' V main_arg3) (at' V main_arg4)
        (at' V main_arg5) (at' V main_arg6) := by
  obtain ⟨a5, a11, -⟩ := queries_eq (fixA V)
  obtain ⟨b33, b42, b41⟩ := picks_eq (fixB V)
  have t43 := rows_eq (fixT V) b41
  have c55 := (results_eq (fixC V)).1
  have g0 : at' (final V) main_arg0 = at' V main_arg0 := arg_eq V main_arg0 (by decide)
  have g1 : at' (final V) main_arg1 = at' V main_arg1 := arg_eq V main_arg1 (by decide)
  have g3 : at' (final V) main_arg3 = at' V main_arg3 := arg_eq V main_arg3 (by decide)
  have g4 : at' (final V) main_arg4 = at' V main_arg4 := arg_eq V main_arg4 (by decide)
  have g5 : at' (final V) main_arg5 = at' V main_arg5 := arg_eq V main_arg5 (by decide)
  have g6 : at' (final V) main_arg6 = at' V main_arg6 := arg_eq V main_arg6 (by decide)
  rw [g0, g3, g4] at a5
  rw [g1, g5, g6] at a11
  rw [a5, b33, a11] at b42
  rw [a5, b42] at t43
  rw [t43, a11] at c55
  exact c55

/-- The reference's first result. -/
theorem output_eq : at' (final V) main_v63
    = output (context (heads (at' V main_arg2) (at' V main_arg7) (at' V main_arg8)) (at' (final V) main_v55))
        (at' V main_arg9) (at' V main_arg10) := by
  obtain ⟨-, -, a17⟩ := queries_eq (fixA V)
  have c63 := (results_eq (fixC V)).2
  have g2 : at' (final V) main_arg2 = at' V main_arg2 := arg_eq V main_arg2 (by decide)
  have g7 : at' (final V) main_arg7 = at' V main_arg7 := arg_eq V main_arg7 (by decide)
  have g8 : at' (final V) main_arg8 = at' V main_arg8 := arg_eq V main_arg8 (by decide)
  have g9 : at' (final V) main_arg9 = at' V main_arg9 := arg_eq V main_arg9 (by decide)
  have g10 : at' (final V) main_arg10 = at' V main_arg10 := arg_eq V main_arg10 (by decide)
  rw [g2, g7, g8] at a17
  rw [a17, g9, g10] at c63
  exact c63

end Cert.Proof.Ref
-- ==== Proof.Value.lean ====
/- The two programs end with the same two results. -/
module

public import proofs.«01_k».proof.Proof.Agree
public import proofs.«01_k».proof.Proof.Finite
public import proofs.«01_k».proof.Proof.Kernel.Link
public import proofs.«01_k».proof.Proof.Kernel.Run
public import proofs.«01_k».proof.Proof.Ref.Results

@[expose] public section

set_option maxRecDepth 16384
set_option Elab.async false

noncomputable section

namespace Cert.Proof.Value

open Idealize.ShloMosaic Idealize.ShloMosaic.StableHlo Idealize.ShloMosaic.TcCoe Idealize.SL.Sem
open Cert.Proof.Math

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)
  (V : Valuation Cert.ReferenceIdeal.τ Cert.ReferenceIdeal.sig (Elt Ideal))

/-- The permutations agree. -/
theorem perms : Kernel.perm m ρ c = Ref.at' (Ref.final V) Cert.ReferenceIdeal.main_v26 :=
  Kernel.perm_eq m ρ c (Ref.fixS V) (Ref.key_eq (Ref.fixA V)).1 (Ref.key_eq (Ref.fixA V)).2

variable
  (a0 : Ref.at' V Cert.ReferenceIdeal.main_arg0 = Kernel.arg m c Cert.KernelIdeal.main_arg0)
  (a1 : Ref.at' V Cert.ReferenceIdeal.main_arg1 = Kernel.arg m c Cert.KernelIdeal.main_arg1)
  (a2 : Ref.at' V Cert.ReferenceIdeal.main_arg2 = Kernel.arg m c Cert.KernelIdeal.main_arg2)
  (a3 : Ref.at' V Cert.ReferenceIdeal.main_arg3 = Kernel.arg m c Cert.KernelIdeal.main_arg3)
  (a4 : Ref.at' V Cert.ReferenceIdeal.main_arg4 = Kernel.arg m c Cert.KernelIdeal.main_arg4)
  (a5 : Ref.at' V Cert.ReferenceIdeal.main_arg5 = Kernel.arg m c Cert.KernelIdeal.main_arg5)
  (a6 : Ref.at' V Cert.ReferenceIdeal.main_arg6 = Kernel.arg m c Cert.KernelIdeal.main_arg6)
  (a7 : Ref.at' V Cert.ReferenceIdeal.main_arg7 = Kernel.arg m c Cert.KernelIdeal.main_arg7)
  (a8 : Ref.at' V Cert.ReferenceIdeal.main_arg8 = Kernel.arg m c Cert.KernelIdeal.main_arg8)
  (a9 : Ref.at' V Cert.ReferenceIdeal.main_arg9 = Kernel.arg m c Cert.KernelIdeal.main_arg9)
  (a10 : Ref.at' V Cert.ReferenceIdeal.main_arg10 = Kernel.arg m c Cert.KernelIdeal.main_arg10)
  (h0 : ∀ i, IsReal (Kernel.arg m c Cert.KernelIdeal.main_arg0 i)) (h1 : ∀ i, IsReal (Kernel.arg m c Cert.KernelIdeal.main_arg1 i))
  (h3 : ∀ i, IsReal (Kernel.arg m c Cert.KernelIdeal.main_arg3 i)) (h4 : ∀ i, IsReal (Kernel.arg m c Cert.KernelIdeal.main_arg4 i))
  (h5 : ∀ i, IsReal (Kernel.arg m c Cert.KernelIdeal.main_arg5 i)) (h6 : ∀ i, IsReal (Kernel.arg m c Cert.KernelIdeal.main_arg6 i))

include a0 a1 a3 a4 a5 a6 in
/-- The reference's weights at the kernel's arguments. -/
theorem ref_weights : Ref.at' (Ref.final V) Cert.ReferenceIdeal.main_v55
    = Agree.refWeights (Kernel.arg m c Cert.KernelIdeal.main_arg0) (Kernel.arg m c Cert.KernelIdeal.main_arg1) (Kernel.perm m ρ c)
        (Kernel.arg m c Cert.KernelIdeal.main_arg3) (Kernel.arg m c Cert.KernelIdeal.main_arg4)
        (Kernel.arg m c Cert.KernelIdeal.main_arg5) (Kernel.arg m c Cert.KernelIdeal.main_arg6) := by
  refine (Ref.weights_eq V).trans ?_
  rw [perms m ρ c V, a0, a1, a3, a4, a5, a6]
  rfl

include a0 a1 a3 a4 a5 a6 h0 h1 h3 h4 h5 h6 in
/-- The second results agree. -/
theorem weights : Ref.at' (Ref.final V) Cert.ReferenceIdeal.main_v55
    = Cert.KernelIdeal.Gen.W14 m ρ c (Proc.devRef .tc Cert.KernelIdeal.main_v26_0) :=
  (ref_weights m ρ c V a0 a1 a3 a4 a5 a6).trans
    ((Kernel.result_weights m ρ c).trans (Agree.weights_eq h0 h1 h3 h4 h5 h6)).symm

include a0 a1 a2 a3 a4 a5 a6 a7 a8 a9 a10 h0 h1 h3 h4 h5 h6 in
/-- The first results agree. -/
theorem output : Ref.at' (Ref.final V) Cert.ReferenceIdeal.main_v63
    = Cert.KernelIdeal.Gen.W14 m ρ c (Proc.devRef .tc Cert.KernelIdeal.main_v32) := by
  refine (Ref.output_eq V).trans ?_
  rw [ref_weights m ρ c V a0 a1 a3 a4 a5 a6, a2, a7, a8, a9, a10]
  exact ((Kernel.result_output m ρ c).trans (Agree.output_eq h0 h1 h3 h4 h5 h6)).symm

end Cert.Proof.Value
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_finite
public import proofs.«01_k».proof.Proof.Value

@[expose] public section

set_option maxRecDepth 16384

noncomputable section

namespace Cert.Proof

open Idealize.ShloMosaic Idealize.ShloMosaic.StableHlo Idealize.SL.Sem

/-- Where the six arrays are finite, both programs end with the same output rows and the same attention weights. -/
theorem algebraic : algebraic_KernelIdeal_ReferenceIdeal_pre_finite := by
  intro m g m' g' hpre hagree
  have hfin := fun c => Finite.finite (fun k => k.elim0) (congrFun (hpre c) _)
  refine ⟨fun c => KernelIdeal.Gen.W14 m g c (Proc.devRef .tc KernelIdeal.main_v32),
    fun c => KernelIdeal.Gen.W14 m g c (Proc.devRef .tc KernelIdeal.main_v26_0), ?_, ?_⟩
  · exact θ_run_mono (Kernel.run m g) fun r h => h.1
  · refine θ_run_mono (Ref.run m' g') fun r h c => ?_
    obtain ⟨a0, a1, a2, a3, a4, a5, a6, a7, a8, a9, a10⟩ := hagree c
    obtain ⟨h0, h1, h3, h4, h5, h6⟩ := hfin c
    have w := Value.weights m g c (launchContents m' c) a0 a1 a3 a4 a5 a6 h0 h1 h3 h4 h5 h6
    have o := Value.output m g c (launchContents m' c) a0 a1 a2 a3 a4 a5 a6 a7 a8 a9 a10 h0 h1 h3 h4 h5 h6
    exact ⟨(h.1 c ReferenceIdeal.main_v63).trans o, (h.1 c ReferenceIdeal.main_v55).trans w,
      (h.1 c ReferenceIdeal.main_arg0).trans (Ref.arg_eq _ _ (by decide)),
      (h.1 c ReferenceIdeal.main_arg1).trans (Ref.arg_eq _ _ (by decide)),
      (h.1 c ReferenceIdeal.main_arg2).trans (Ref.arg_eq _ _ (by decide)),
      (h.1 c ReferenceIdeal.main_arg3).trans (Ref.arg_eq _ _ (by decide)),
      (h.1 c ReferenceIdeal.main_arg4).trans (Ref.arg_eq _ _ (by decide)),
      (h.1 c ReferenceIdeal.main_arg5).trans (Ref.arg_eq _ _ (by decide)),
      (h.1 c ReferenceIdeal.main_arg6).trans (Ref.arg_eq _ _ (by decide)),
      (h.1 c ReferenceIdeal.main_arg7).trans (Ref.arg_eq _ _ (by decide)),
      (h.1 c ReferenceIdeal.main_arg8).trans (Ref.arg_eq _ _ (by decide)),
      (h.1 c ReferenceIdeal.main_arg9).trans (Ref.arg_eq _ _ (by decide)),
      (h.1 c ReferenceIdeal.main_arg10).trans (Ref.arg_eq _ _ (by decide))⟩

/-- Everything claimed. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ,
    fun m ρ _ => Cert.KernelIdeal.Gen.frame m ρ,
    fun m ρ _ => Cert.Proof.Ref.frame m ρ, fun m ρ _ => Cert.Proof.Ref.frame m ρ,
    Idealize.ShloMosaic.IdealRules.named_const.statement _ _ _ _ _ rfl,
    algebraic⟩

end Cert.Proof

end
